-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)) (v4 : (c : Dev Cert.Kernel4Ideal.nD) → Buf (Elt Ideal) ((c.tc : Thread Cert.Kernel4Ideal.nD Cert.Kernel4Ideal.τ).loc Cert.Kernel4Ideal.main_v13_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_v13_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v88) = v1 c
          ∧ r.2.mem ((c.tc : Thread Cert.Reference4Ideal.nD Cert.Reference4Ideal.τ).loc Cert.Reference4Ideal.main_v89) = v2 c
          ∧ r.2.mem ((c.tc : Thread Cert.Reference4Ideal.nD Cert.Reference4Ideal.τ).loc Cert.Reference4Ideal.main_v91) = v3 c
          ∧ r.2.mem ((c.tc : Thread Cert.Reference4Ideal.nD Cert.Reference4Ideal.τ).loc Cert.Reference4Ideal.main_v93) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v29_0)) (v1 : (c : Dev Cert.Kernel5Ideal.nD) → Buf (Elt Ideal) ((c.tc : Thread Cert.Kernel5Ideal.nD Cert.Kernel5Ideal.τ).loc Cert.Kernel5Ideal.main_v29_1)) (v2 : (c : Dev Cert.Kernel5Ideal.nD) → Buf (Elt Ideal) ((c.tc : Thread Cert.Kernel5Ideal.nD Cert.Kernel5Ideal.τ).loc Cert.Kernel5Ideal.main_v29_2)) (v3 : (c : Dev Cert.Kernel5Ideal.nD) → Buf (Elt Ideal) ((c.tc : Thread Cert.Kernel5Ideal.nD Cert.Kernel5Ideal.τ).loc Cert.Kernel5Ideal.main_v29_3)) (v4 : (c : Dev Cert.Kernel5Ideal.nD) → Buf (Elt Ideal) ((c.tc : Thread Cert.Kernel5Ideal.nD Cert.Kernel5Ideal.τ).loc Cert.Kernel5Ideal.main_v29_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29_0) = v0 c
          ∧ r.2.mem ((c.tc : Thread Cert.Kernel5Ideal.nD Cert.Kernel5Ideal.τ).loc Cert.Kernel5Ideal.main_v29_1) = v1 c
          ∧ r.2.mem ((c.tc : Thread Cert.Kernel5Ideal.nD Cert.Kernel5Ideal.τ).loc Cert.Kernel5Ideal.main_v29_2) = v2 c
          ∧ r.2.mem ((c.tc : Thread Cert.Kernel5Ideal.nD Cert.Kernel5Ideal.τ).loc Cert.Kernel5Ideal.main_v29_3) = v3 c
          ∧ r.2.mem ((c.tc : Thread Cert.Kernel5Ideal.nD Cert.Kernel5Ideal.τ).loc Cert.Kernel5Ideal.main_v29_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v181) = v0 c
          ∧ r.2.mem ((c.tc : Thread Cert.Reference5Ideal.nD Cert.Reference5Ideal.τ).loc Cert.Reference5Ideal.main_v184) = v1 c
          ∧ r.2.mem ((c.tc : Thread Cert.Reference5Ideal.nD Cert.Reference5Ideal.τ).loc Cert.Reference5Ideal.main_v185) = v2 c
          ∧ r.2.mem ((c.tc : Thread Cert.Reference5Ideal.nD Cert.Reference5Ideal.τ).loc Cert.Reference5Ideal.main_v187) = v3 c
          ∧ r.2.mem ((c.tc : Thread Cert.Reference5Ideal.nD Cert.Reference5Ideal.τ).loc Cert.Reference5Ideal.main_v190) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x8192x2x4x128 : Shape := ⟨5, ![4, 8192, 2, 4, 128]⟩
abbrev S4x8192x2x128 : Shape := ⟨4, ![4, 8192, 2, 128]⟩
abbrev S4x256x2x4x128 : Shape := ⟨5, ![4, 256, 2, 4, 128]⟩
abbrev S4x256x2x128 : Shape := ⟨4, ![4, 256, 2, 128]⟩
abbrev S128 : Shape := ⟨1, ![128]⟩
abbrev S_ : Shape := ⟨0, ![]⟩

class Facts : Prop where
  bcast_S_S4x8192x2x4x128 : S_.BroadcastsInDim S4x8192x2x4x128 (![] : Fin 0 → Fin S4x8192x2x4x128.rank)
  reducesTo_S4x8192x2x4x128_S_d0_1_2_3_4 : S4x8192x2x4x128.ReducesTo [0, 1, 2, 3, 4] S_
  h_S_ : 0 < S_.numel
  bcast_S_S4x8192x2x128 : S_.BroadcastsInDim S4x8192x2x128 (![] : Fin 0 → Fin S4x8192x2x128.rank)
  reducesTo_S4x8192x2x128_S_d0_1_2_3 : S4x8192x2x128.ReducesTo [0, 1, 2, 3] S_
  bcast_S_S4x256x2x128 : S_.BroadcastsInDim S4x256x2x128 (![] : Fin 0 → Fin S4x256x2x128.rank)
  reducesTo_S4x256x2x128_S_d0_1_2_3 : S4x256x2x128.ReducesTo [0, 1, 2, 3] S_
  bcast_S_S128 : S_.BroadcastsInDim S128 (![] : Fin 0 → Fin S128.rank)
  reducesTo_S128_S_d0 : S128.ReducesTo [0] S_

variable [Facts]

def fn_part1 {F : FTy → Type} [FloatOps F] (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x8192x2x4x128 .f32) (main_arg1 : FVec F S4x8192x2x128 .f32) (main_arg2 : FVec F S4x8192x2x128 .f32) (main_arg3 : FVec F S4x256x2x4x128 .f32) (main_arg4 : FVec F S4x256x2x128 .f32) (main_arg5 : FVec F S4x256x2x128 .f32) (main_arg6 : FVec F S128 .f32) (main_arg7 : FVec F S128 .f32) : IVec S_ 1 :=
  let main_v0 : FVec F S4x8192x2x4x128 .f32 := Host.absf main_arg0
  let main_cst : FVec F S_ .f32 := constant S_ .f32 0x7F800000#32
  let main_v1 : FVec F S4x8192x2x4x128 .f32 := broadcastInDim S4x8192x2x4x128 ![] bcast_S_S4x8192x2x4x128 main_cst
  let main_v2 : IVec S4x8192x2x4x128 1 := cmpf .olt main_v0 main_v1
  let main_c : IVec S_ 1 := constantI S_ 1 1#1
  let main_v3 : IVec S_ 1 := (fun x v => Host.reduce IntOp.andi x v reducesTo_S4x8192x2x4x128_S_d0_1_2_3_4 h_S_) main_v2 main_c
  let main_v4 : FVec F S4x8192x2x128 .f32 := Host.absf main_arg1
  let main_cst_0 : FVec F S_ .f32 := constant S_ .f32 0x7F800000#32
  let main_v5 : FVec F S4x8192x2x128 .f32 := broadcastInDim S4x8192x2x128 ![] bcast_S_S4x8192x2x128 main_cst_0
  let main_v6 : IVec S4x8192x2x128 1 := cmpf .olt main_v4 main_v5
  let main_c_1 : IVec S_ 1 := constantI S_ 1 1#1
  let main_v7 : IVec S_ 1 := (fun x v => Host.reduce IntOp.andi x v reducesTo_S4x8192x2x128_S_d0_1_2_3 h_S_) main_v6 main_c_1
  let main_v8 : IVec S_ 1 := andi main_v3 main_v7
  let main_v9 : FVec F S4x256x2x128 .f32 := Host.absf main_arg4
  let main_cst_2 : FVec F S_ .f32 := constant S_ .f32 0x7F800000#32
  let main_v10 : FVec F S4x256x2x128 .f32 := broadcastInDim S4x256x2x128 ![] bcast_S_S4x256x2x128 main_cst_2
  let main_v11 : IVec S4x256x2x128 1 := cmpf .olt main_v9 main_v10
  let main_c_3 : IVec S_ 1 := constantI S_ 1 1#1
  let main_v12 : IVec S_ 1 := (fun x v => Host.reduce IntOp.andi x v reducesTo_S4x256x2x128_S_d0_1_2_3 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_v13 main_v16
-- ==== Pre_finite2.lean ====
abbrev S4x8192x8x192 : Shape := ⟨4, ![4, 8192, 8, 192]⟩
abbrev S4x8192x8x128 : Shape := ⟨4, ![4, 8192, 8, 128]⟩
abbrev S4x256x8x192 : Shape := ⟨4, ![4, 256, 8, 192]⟩
abbrev S4x256x8x128 : Shape := ⟨4, ![4, 256, 8, 128]⟩
abbrev S_ : Shape := ⟨0, ![]⟩

class Facts : Prop where
  bcast_S_S4x8192x8x192 : S_.BroadcastsInDim S4x8192x8x192 (![] : Fin 0 → Fin S4x8192x8x192.rank)
  reducesTo_S4x8192x8x192_S_d0_1_2_3 : S4x8192x8x192.ReducesTo [0, 1, 2, 3] S_
  h_S_ : 0 < S_.numel
  bcast_S_S4x256x8x192 : S_.BroadcastsInDim S4x256x8x192 (![] : Fin 0 → Fin S4x256x8x192.rank)
  reducesTo_S4x256x8x192_S_d0_1_2_3 : S4x256x8x192.ReducesTo [0, 1, 2, 3] S_

variable [Facts]

def fn_part1 {F : FTy → Type} [FloatOps F] (main_v13 : IVec S_ 1) (main_v16 : IVec S4x256x8x192 1) : IVec S_ 1 :=
  let main_c_5 : IVec S_ 1 := constantI S_ 1 1#1
  let main_v17 : IVec S_ 1 := (fun x v => Host.reduce IntOp.andi x v reducesTo_S4x256x8x192_S_d0_1_2_3 h_S_) main_v16 main_c_5
  let main_v18 : IVec S_ 1 := andi main_v13 main_v17
  main_v18

def fn {F : FTy → Type} [FloatOps F] (main_arg0 : FVec F S4x8192x8x192 .f32) (main_arg1 : FVec F S4x8192x8x192 .f32) (main_arg2 : FVec F S4x8192x8x128 .f32) (main_arg3 : FVec F S4x256x8x192 .f32) (main_arg4 : FVec F S4x256x8x192 .f32) (main_arg5 : FVec F S4x256x8x128 .f32) : IVec S_ 1 :=
  let main_v0 : FVec F S4x8192x8x192 .f32 := Host.absf main_arg0
  let main_cst : FVec F S_ .f32 := constant S_ .f32 0x7F800000#32
  let main_v1 : FVec F S4x8192x8x192 .f32 := broadcastInDim S4x8192x8x192 ![] bcast_S_S4x8192x8x192 main_cst
  let main_v2 : IVec S4x8192x8x192 1 := cmpf .olt main_v0 main_v1
  let main_c : IVec S_ 1 := constantI S_ 1 1#1
  let main_v3 : IVec S_ 1 := (fun x v => Host.reduce IntOp.andi x v reducesTo_S4x8192x8x192_S_d0_1_2_3 h_S_) main_v2 main_c
  let main_v4 : FVec F S4x8192x8x192 .f32 := Host.absf main_arg1
  let main_cst_0 : FVec F S_ .f32 := constant S_ .f32 0x7F800000#32
  let main_v5 : FVec F S4x8192x8x192 .f32 := broadcastInDim S4x8192x8x192 ![] bcast_S_S4x8192x8x192 main_cst_0
  let main_v6 : IVec S4x8192x8x192 1 := cmpf .olt main_v4 main_v5
  let main_c_1 : IVec S_ 1 := constantI S_ 1 1#1
  let main_v7 : IVec S_ 1 := (fun x v => Host.reduce IntOp.andi x v reducesTo_S4x8192x8x192_S_d0_1_2_3 h_S_) main_v6 main_c_1
  let main_v8 : IVec S_ 1 := andi main_v3 main_v7
  let main_v9 : FVec F S4x256x8x192 .f32 := Host.absf main_arg3
  let main_cst_2 : FVec F S_ .f32 := constant S_ .f32 0x7F800000#32
  let main_v10 : FVec F S4x256x8x192 .f32 := broadcastInDim S4x256x8x192 ![] bcast_S_S4x256x8x192 main_cst_2
  let main_v11 : IVec S4x256x8x192 1 := cmpf .olt main_v9 main_v10
  let main_c_3 : IVec S_ 1 := constantI S_ 1 1#1
  let main_v12 : IVec S_ 1 := (fun x v => Host.reduce IntOp.andi x v reducesTo_S4x256x8x192_S_d0_1_2_3 h_S_) main_v11 main_c_3
  let main_v13 : IVec S_ 1 := andi main_v8 main_v12
  let main_v14 : FVec F S4x256x8x192 .f32 := Host.absf main_arg4
  let main_cst_4 : FVec F S_ .f32 := constant S_ .f32 0x7F800000#32
  let main_v15 : FVec F S4x256x8x192 .f32 := broadcastInDim S4x256x8x192 ![] bcast_S_S4x256x8x192 main_cst_4
  let main_v16 : IVec S4x256x8x192 1 := cmpf .olt main_v14 main_v15
  fn_part1 (F := F) main_v13 main_v16
-- ==== Kernel.lean ====
abbrev S4x8192x2x4x128 : Shape := ⟨5, ![4, 8192, 2, 4, 128]⟩
abbrev S4x8192x2x128 : Shape := ⟨4, ![4, 8192, 2, 128]⟩
abbrev S4x256x2x4x128 : Shape := ⟨5, ![4, 256, 2, 4, 128]⟩
abbrev S4x256x2x128 : Shape := ⟨4, ![4, 256, 2, 128]⟩
abbrev S128 : Shape := ⟨1, ![128]⟩
abbrev S_ : Shape := ⟨0, ![]⟩
abbrev S4x8448x2x4x128 : Shape := ⟨5, ![4, 8448, 2, 4, 128]⟩
abbrev S4x8448x1024 : Shape := ⟨3, ![4, 8448, 1024]⟩
abbrev S4x8448x2x128 : Shape := ⟨4, ![4, 8448, 2, 128]⟩
abbrev S4x8448x256 : Shape := ⟨3, ![4, 8448, 256]⟩
abbrev S4x33x256x256 : Shape := ⟨4, ![4, 33, 256, 256]⟩
abbrev S1x128 : Shape := ⟨2, ![1, 128]⟩
abbrev S4x8192x1024 : Shape := ⟨3, ![4, 8192, 1024]⟩
abbrev S1x1024x512 : Shape := ⟨3, ![1, 1024, 512]⟩
abbrev S1x8448x128 : Shape := ⟨3, ![1, 8448, 128]⟩
abbrev S1x33x128x256 : Shape := ⟨4, ![1, 33, 128, 256]⟩
abbrev S136x4096 : Shape := ⟨2, ![136, 4096]⟩
abbrev S1x1024x128 : Shape := ⟨3, ![1, 1024, 128]⟩
abbrev S1024x128 : Shape := ⟨2, ![1024, 128]⟩
abbrev S4096x128 : Shape := ⟨2, ![4096, 128]⟩
abbrev S1x1 : Shape := ⟨2, ![1, 1]⟩
abbrev S1x768x128 : Shape := ⟨3, ![1, 768, 128]⟩
abbrev S768x128 : Shape := ⟨2, ![768, 128]⟩
abbrev S768x4096 : Shape := ⟨2, ![768, 4096]⟩
abbrev S128x4096 : Shape := ⟨2, ![128, 4096]⟩
abbrev S1x1x128x256 : Shape := ⟨4, ![1, 1, 128, 256]⟩
abbrev S128x256 : Shape := ⟨2, ![128, 256]⟩
abbrev S256x4096 : Shape := ⟨2, ![256, 4096]⟩
abbrev S8x4096 : Shape := ⟨2, ![8, 4096]⟩
abbrev S96x8x4096 : Shape := ⟨3, ![96, 8, 4096]⟩
abbrev S4096 : Shape := ⟨1, ![4096]⟩
abbrev S1x4096 : Shape := ⟨2, ![1, 4096]⟩
abbrev S128x1024 : Shape := ⟨2, ![128, 1024]⟩

abbrev nBuf : Space → Nat
  | .hbm => 38
  | .vmem => 10
  | .smem => 0
  | _ => 0

abbrev bufTy : (tb : Table) → Fin (tcTables nBuf tb) → BufTy
  | .hbm, ⟨0, _⟩ => ⟨S4x8192x2x4x128, .f32⟩
  | .hbm, ⟨1, _⟩ => ⟨S4x8192x2x128, .f32⟩
  | .hbm, ⟨2, _⟩ => ⟨S4x8192x2x128, .f32⟩
  | .hbm, ⟨3, _⟩ => ⟨S4x256x2x4x128, .f32⟩
  | .hbm, ⟨4, _⟩ => ⟨S4x256x2x128, .f32⟩
  | .hbm, ⟨5, _⟩ => ⟨S4x256x2x128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x8448x2x4x128, .f32⟩
  | .hbm, ⟨16, _⟩ => ⟨S4x8448x1024, .f32⟩
  | .hbm, ⟨17, _⟩ => ⟨S4x8448x1024, .f32⟩
  | .hbm, ⟨18, _⟩ => ⟨S4x8448x1024, .f32⟩
  | .hbm, ⟨19, _⟩ => ⟨S4x8448x1024, .bf16⟩
  | .hbm, ⟨20, _⟩ => ⟨S4x8448x2x128, .f32⟩
  | .hbm, ⟨21, _⟩ => ⟨S4x8448x256, .f32⟩
  | .hbm, ⟨22, _⟩ => ⟨S4x8448x256, .bf16⟩
  | .hbm, ⟨23, _⟩ => ⟨S4x8448x2x128, .f32⟩
  | .hbm, ⟨24, _⟩ => ⟨S4x33x256x256, .f32⟩
  | .hbm, ⟨25, _⟩ => ⟨S4x33x256x256, .f32⟩
  | .hbm, ⟨26, _⟩ => ⟨S4x33x256x256, .bf16⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x128, .f32⟩
  | .hbm, ⟨37, _⟩ => ⟨S4x8192x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x33x128x256, .bf16⟩
  | .local _ .vmem, ⟨5, _⟩ => ⟨S1x33x128x256, .bf16⟩
  | .local _ .vmem, ⟨6, _⟩ => ⟨S1x128, .f32⟩
  | .local _ .vmem, ⟨7, _⟩ => ⟨S1x1024x512, .bf16⟩
  | .local _ .vmem, ⟨8, _⟩ => ⟨S1x1024x512, .bf16⟩
  | .local _ .vmem, ⟨9, _⟩ => ⟨S136x4096, .f32⟩
  | _, _ => ⟨S4x8192x2x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 8], ![false, false, false]⟩

@[reducible] def k0_t1_loop : Scf.Loop 32 :=
  let c0_i32 : BitVec 32 := 0#32
  let c2_i32 : BitVec 32 := 2#32
  let v15 : BitVec 32 := Scalar.addi c0_i32 c2_i32
  let c1_i32 : BitVec 32 := 1#32
  ⟨c0_i32, v15, c1_i32⟩
def k0_mult1 (k0_t1 : Fin k0_t1_loop.trips) : BitVec 32 :=
  let c5_i32 : BitVec 32 := 5#32
  let c0_i32 : BitVec 32 := 0#32
  let c1_i32 : BitVec 32 := 1#32
  let arg9 : BitVec 32 := Scf.iv c0_i32 c1_i32 k0_t1
  let v83 : BitVec 32 := Scalar.muli c5_i32 arg9
  let c0_i32_55 : BitVec 32 := 0#32
  let v84 : BitVec 32 := Scalar.addi v83 c0_i32_55
  let c768_i32 : BitVec 32 := 768#32
  let v85 : BitVec 32 := Scalar.muli v84 c768_i32
  v85
def k0_off1 (k0_t1 : Fin k0_t1_loop.trips) (c0_i32_55 : BitVec 32) : Fin 3 → Nat :=
  let c0_56 : Index := 0#32
  let c5_i32 : BitVec 32 := 5#32
  let c0_i32 : BitVec 32 := 0#32
  let c1_i32 : BitVec 32 := 1#32
  let arg9 : BitVec 32 := Scf.iv c0_i32 c1_i32 k0_t1
  let v83 : BitVec 32 := Scalar.muli c5_i32 arg9
  let v84 : BitVec 32 := Scalar.addi v83 c0_i32_55
  let c768_i32 : BitVec 32 := 768#32
  let v85 : BitVec 32 := Scalar.muli v84 c768_i32
  let v86 : BitVec 32 := v85
  let v87 : Index := Scalar.indexCast v86
  let c0_57 : Index := 0#32
  ![0, v87.toNat, 0]
def k0_off2 (k0_t1 : Fin k0_t1_loop.trips) (c0_i32_55 : BitVec 32) (c0_i32_61 : BitVec 32) : Fin 4 → Nat :=
  let c0_62 : Index := 0#32
  let c5_i32 : BitVec 32 := 5#32
  let c0_i32 : BitVec 32 := 0#32
  let c1_i32 : BitVec 32 := 1#32
  let arg9 : BitVec 32 := Scf.iv c0_i32 c1_i32 k0_t1
  let v83 : BitVec 32 := Scalar.muli c5_i32 arg9
  let v84 : BitVec 32 := Scalar.addi v83 c0_i32_55
  let c3_i32 : BitVec 32 := 3#32
  let v95 : BitVec 32 := Scalar.muli v84 c3_i32
  let v97 : BitVec 32 := Scalar.addi v95 c0_i32_61
  let v98 : Index := Scalar.indexCast v97
  let c0_63 : Index := 0#32
  let c0_64 : Index := 0#32
  ![0, v98.toNat, 0, 0]
def k0_mult2 (k0_t1 : Fin k0_t1_loop.trips) : BitVec 32 :=
  let c5_i32_83 : BitVec 32 := 5#32
  let c0_i32 : BitVec 32 := 0#32
  let c1_i32 : BitVec 32 := 1#32
  let arg9 : BitVec 32 := Scf.iv c0_i32 c1_i32 k0_t1
  let v128 : BitVec 32 := Scalar.muli c5_i32_83 arg9
  let c1_i32_84 : BitVec 32 := 1#32
  let v129 : BitVec 32 := Scalar.addi v128 c1_i32_84
  let c768_i32_85 : BitVec 32 := 768#32
  let v130 : BitVec 32 := Scalar.muli v129 c768_i32_85
  v130
def k0_mult3 (k0_t1 : Fin k0_t1_loop.trips) : BitVec 32 :=
  let c5_i32_114 : BitVec 32 := 5#32
  let c0_i32 : BitVec 32 := 0#32
  let c1_i32 : BitVec 32 := 1#32
  let arg9 : BitVec 32 := Scf.iv c0_i32 c1_i32 k0_t1
  let v173 : BitVec 32 := Scalar.muli c5_i32_114 arg9
  let c2_i32_115 : BitVec 32 := 2#32
  let v174 : BitVec 32 := Scalar.addi v173 c2_i32_115
  let c768_i32_116 : BitVec 32 := 768#32
  let v175 : BitVec 32 := Scalar.muli v174 c768_i32_116
  v175
def k0_mult4 (k0_t1 : Fin k0_t1_loop.trips) : BitVec 32 :=
  let c5_i32_145 : BitVec 32 := 5#32
  let c0_i32 : BitVec 32 := 0#32
  let c1_i32 : BitVec 32 := 1#32
  let arg9 : BitVec 32 := Scf.iv c0_i32 c1_i32 k0_t1
  let v218 : BitVec 32 := Scalar.muli c5_i32_145 arg9
  let c3_i32_146 : BitVec 32 := 3#32
  let v219 : BitVec 32 := Scalar.addi v218 c3_i32_146
  let c768_i32_147 : BitVec 32 := 768#32
  let v220 : BitVec 32 := Scalar.muli v219 c768_i32_147
  v220
def k0_mult5 (k0_t1 : Fin k0_t1_loop.trips) : BitVec 32 :=
  let c5_i32_176 : BitVec 32 := 5#32
  let c0_i32 : BitVec 32 := 0#32
  let c1_i32 : BitVec 32 := 1#32
  let arg9 : BitVec 32 := Scf.iv c0_i32 c1_i32 k0_t1
  let v263 : BitVec 32 := Scalar.muli c5_i32_176 arg9
  let c4_i32 : BitVec 32 := 4#32
  let v264 : BitVec 32 := Scalar.addi v263 c4_i32
  let c768_i32_177 : BitVec 32 := 768#32
  let v265 : BitVec 32 := Scalar.muli v264 c768_i32_177
  v265
def k0_mult6 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x8192x2x4x128 : Shape := ⟨5, ![4, 8192, 2, 4, 128]⟩
abbrev S4x8192x2x128 : Shape := ⟨4, ![4, 8192, 2, 128]⟩
abbrev S4x256x2x4x128 : Shape := ⟨5, ![4, 256, 2, 4, 128]⟩
abbrev S4x256x2x128 : Shape := ⟨4, ![4, 256, 2, 128]⟩
abbrev S128 : Shape := ⟨1, ![128]⟩
abbrev S4x8448x2x128 : Shape := ⟨4, ![4, 8448, 2, 128]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩
abbrev S4x8192x1024 : Shape := ⟨3, ![4, 8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x2x4x128, .f32⟩
  | .hbm, ⟨1, _⟩ => ⟨S4x8192x2x128, .f32⟩
  | .hbm, ⟨2, _⟩ => ⟨S4x8192x2x128, .f32⟩
  | .hbm, ⟨3, _⟩ => ⟨S4x256x2x4x128, .f32⟩
  | .hbm, ⟨4, _⟩ => ⟨S4x256x2x128, .f32⟩
  | .hbm, ⟨5, _⟩ => ⟨S4x256x2x128, .f32⟩
  | .hbm, ⟨6, _⟩ => ⟨S128, .f32⟩
  | .hbm, ⟨7, _⟩ => ⟨S128, .f32⟩
  | .hbm, ⟨8, _⟩ => ⟨S4x8448x2x128, .f32⟩
  | .hbm, ⟨9, _⟩ => ⟨S4x8448x2x128, .f32⟩
  | .hbm, ⟨10, _⟩ => ⟨S4x2x8448x8192x4, .f32⟩
  | .hbm, ⟨11, _⟩ => ⟨S4x2x4x8192x8448, .f32⟩
  | .hbm, ⟨12, _⟩ => ⟨S_, .f32⟩
  | .hbm, ⟨13, _⟩ => ⟨S_, .f32⟩
  | .hbm, ⟨14, _⟩ => ⟨S4x2x4x8192x8448, .f32⟩
  | .hbm, ⟨15, _⟩ => ⟨S4x2x4x8192x8448, .f32⟩
  | .hbm, ⟨16, _⟩ => ⟨S_, .f32⟩
  | .hbm, ⟨17, _⟩ => ⟨S4x2x4x8192, .f32⟩
  | .hbm, ⟨18, _⟩ => ⟨S_, .f32⟩
  | .hbm, ⟨19, _⟩ => ⟨S4x2x4x8192, .f32⟩
  | .hbm, ⟨20, _⟩ => ⟨S4x2x4x8192, .f32⟩
  | .hbm, ⟨21, _⟩ => ⟨S4x2x4x8192x1, .f32⟩
  | .hbm, ⟨22, _⟩ => ⟨S4x2x4x8192x8448, .f32⟩
  | .hbm, ⟨23, _⟩ => ⟨S4x2x4x8192x8448, .f32⟩
  | .hbm, ⟨24, _⟩ => ⟨S4x2x4x8192x8448, .f32⟩
  | .hbm, ⟨25, _⟩ => ⟨S_, .f32⟩
  | .hbm, ⟨26, _⟩ => ⟨S4x2x4x8192, .f32⟩
  | .hbm, ⟨27, _⟩ => ⟨S4x2x4x8192x1, .f32⟩
  | .hbm, ⟨28, _⟩ => ⟨S4x2x4x8192x8448, .f32⟩
  | .hbm, ⟨29, _⟩ => ⟨S4x2x4x8192x8448, .f32⟩
  | .hbm, ⟨30, _⟩ => ⟨S4x2x128x4x8192, .f32⟩
  | .hbm, ⟨31, _⟩ => ⟨S4x8192x2x4x128, .f32⟩
  | .hbm, ⟨32, _⟩ => ⟨S4x8192x1024, .f32⟩
  | .hbm, ⟨33, _⟩ => ⟨S4x8192x1024, .bf16⟩
  | _, _ => ⟨S4x8192x2x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel2.lean ====
abbrev S4x8192x8x192 : Shape := ⟨4, ![4, 8192, 8, 192]⟩
abbrev S4x8192x8x128 : Shape := ⟨4, ![4, 8192, 8, 128]⟩
abbrev S4x256x8x192 : Shape := ⟨4, ![4, 256, 8, 192]⟩
abbrev S4x256x8x128 : Shape := ⟨4, ![4, 256, 8, 128]⟩
abbrev S_ : Shape := ⟨0, ![]⟩
abbrev S4x8448x8x192 : Shape := ⟨4, ![4, 8448, 8, 192]⟩
abbrev S4x8448x8x256 : Shape := ⟨4, ![4, 8448, 8, 256]⟩
abbrev S4x8448x8x128 : Shape := ⟨4, ![4, 8448, 8, 128]⟩
abbrev S4x33x256x1024 : Shape := ⟨4, ![4, 33, 256, 1024]⟩
abbrev S4x33x1024x256 : Shape := ⟨4, ![4, 33, 1024, 256]⟩
abbrev S4x8448x8 : Shape := ⟨3, ![4, 8448, 8]⟩
abbrev S4x8448x2048 : Shape := ⟨3, ![4, 8448, 2048]⟩
abbrev S1x128 : Shape := ⟨2, ![1, 128]⟩
abbrev S4x8192x1024 : Shape := ⟨3, ![4, 8192, 1024]⟩
abbrev S1x4096x256 : Shape := ⟨3, ![1, 4096, 256]⟩
abbrev S1x8448x256 : Shape := ⟨3, ![1, 8448, 256]⟩
abbrev S1x33x128x256 : Shape := ⟨4, ![1, 33, 128, 256]⟩
abbrev S1x4096x128 : Shape := ⟨3, ![1, 4096, 128]⟩
abbrev S136x4096 : Shape := ⟨2, ![136, 4096]⟩
abbrev S4096x256 : Shape := ⟨2, ![4096, 256]⟩
abbrev S1x1 : Shape := ⟨2, ![1, 1]⟩
abbrev S1x768x256 : Shape := ⟨3, ![1, 768, 256]⟩
abbrev S768x256 : Shape := ⟨2, ![768, 256]⟩
abbrev S768x4096 : Shape := ⟨2, ![768, 4096]⟩
abbrev S128x4096 : Shape := ⟨2, ![128, 4096]⟩
abbrev S1x1x128x256 : Shape := ⟨4, ![1, 1, 128, 256]⟩
abbrev S128x256 : Shape := ⟨2, ![128, 256]⟩
abbrev S256x4096 : Shape := ⟨2, ![256, 4096]⟩
abbrev S8x4096 : Shape := ⟨2, ![8, 4096]⟩
abbrev S96x8x4096 : Shape := ⟨3, ![96, 8, 4096]⟩
abbrev S4096 : Shape := ⟨1, ![4096]⟩
abbrev S1x4096 : Shape := ⟨2, ![1, 4096]⟩
abbrev S4096x128 : Shape := ⟨2, ![4096, 128]⟩

abbrev nBuf : Space → Nat
  | .hbm => 47
  | .vmem => 10
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S4x256x8x192, .f32⟩
  | .hbm, ⟨4, _⟩ => ⟨S4x256x8x192, .f32⟩
  | .hbm, ⟨5, _⟩ => ⟨S4x256x8x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8448x8x192, .f32⟩
  | .hbm, ⟨14, _⟩ => ⟨S4x8448x8x192, .f32⟩
  | .hbm, ⟨15, _⟩ => ⟨S4x8448x8x192, .f32⟩
  | .hbm, ⟨16, _⟩ => ⟨S_, .i32⟩
  | .hbm, ⟨17, _⟩ => ⟨S_, .f32⟩
  | .hbm, ⟨18, _⟩ => ⟨S4x8448x8x256, .f32⟩
  | .hbm, ⟨19, _⟩ => ⟨S4x8448x8x192, .f32⟩
  | .hbm, ⟨20, _⟩ => ⟨S_, .i32⟩
  | .hbm, ⟨21, _⟩ => ⟨S_, .f32⟩
  | .hbm, ⟨22, _⟩ => ⟨S4x8448x8x256, .f32⟩
  | .hbm, ⟨23, _⟩ => ⟨S4x8448x8x128, .f32⟩
  | .hbm, ⟨24, _⟩ => ⟨S4x33x256x1024, .f32⟩
  | .hbm, ⟨25, _⟩ => ⟨S4x33x1024x256, .f32⟩
  | .hbm, ⟨26, _⟩ => ⟨S4x33x1024x256, .bf16⟩
  | .hbm, ⟨27, _⟩ => ⟨S4x8448x8x256, .f32⟩
  | .hbm, ⟨28, _⟩ => ⟨S_, .f32⟩
  | .hbm, ⟨29, _⟩ => ⟨S4x8448x8, .f32⟩
  | .hbm, ⟨30, _⟩ => ⟨S_, .f32⟩
  | .hbm, ⟨31, _⟩ => ⟨S_, .f32⟩
  | .hbm, ⟨32, _⟩ => ⟨S4x8448x8x256, .f32⟩
  | .hbm, ⟨33, _⟩ => ⟨S_, .f32⟩
  | .hbm, ⟨34, _⟩ => ⟨S4x8448x8, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x8448x2048, .f32⟩
  | .hbm, ⟨42, _⟩ => ⟨S4x8448x2048, .bf16⟩
  | .hbm, ⟨43, _⟩ => ⟨S4x8448x2048, .f32⟩
  | .hbm, ⟨44, _⟩ => ⟨S4x8448x2048, .bf16⟩
  | .hbm, ⟨45, _⟩ => ⟨S1x128, .f32⟩
  | .hbm, ⟨46, _⟩ => ⟨S4x8192x1024, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x33x128x256, .bf16⟩
  | .local _ .vmem, ⟨5, _⟩ => ⟨S1x33x128x256, .bf16⟩
  | .local _ .vmem, ⟨6, _⟩ => ⟨S1x128, .f32⟩
  | .local _ .vmem, ⟨7, _⟩ => ⟨S1x4096x128, .bf16⟩
  | .local _ .vmem, ⟨8, _⟩ => ⟨S1x4096x128, .bf16⟩
  | .local _ .vmem, ⟨9, _⟩ => ⟨S136x4096, .f32⟩
  | _, _ => ⟨S4x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 2], ![false, false, false]⟩

@[reducible] def k0_t1_loop : Scf.Loop 32 :=
  let c0_i32 : BitVec 32 := 0#32
  let c2_i32 : BitVec 32 := 2#32
  let v8 : BitVec 32 := Scalar.addi c0_i32 c2_i32
  let c1_i32 : BitVec 32 := 1#32
  ⟨c0_i32, v8, c1_i32⟩
def k0_mult1 (k0_t1 : Fin k0_t1_loop.trips) : BitVec 32 :=
  let c5_i32 : BitVec 32 := 5#32
  let c0_i32 : BitVec 32 := 0#32
  let c1_i32 : BitVec 32 := 1#32
  let arg9 : BitVec 32 := Scf.iv c0_i32 c1_i32 k0_t1
  let v57 : BitVec 32 := Scalar.muli c5_i32 arg9
  let c0_i32_39 : BitVec 32 := 0#32
  let v58 : BitVec 32 := Scalar.addi v57 c0_i32_39
  let c768_i32 : BitVec 32 := 768#32
  let v59 : BitVec 32 := Scalar.muli v58 c768_i32
  v59
def k0_off1 (k0_t1 : Fin k0_t1_loop.trips) (c0_i32_39 : BitVec 32) : Fin 3 → Nat :=
  let c0_40 : Index := 0#32
  let c5_i32 : BitVec 32 := 5#32
  let c0_i32 : BitVec 32 := 0#32
  let c1_i32 : BitVec 32 := 1#32
  let arg9 : BitVec 32 := Scf.iv c0_i32 c1_i32 k0_t1
  let v57 : BitVec 32 := Scalar.muli c5_i32 arg9
  let v58 : BitVec 32 := Scalar.addi v57 c0_i32_39
  let c768_i32 : BitVec 32 := 768#32
  let v59 : BitVec 32 := Scalar.muli v58 c768_i32
  let v60 : BitVec 32 := v59
  let v61 : Index := Scalar.indexCast v60
  let c0_41 : Index := 0#32
  ![0, v61.toNat, 0]
def k0_off2 (k0_t1 : Fin k0_t1_loop.trips) (c0_i32_39 : BitVec 32) (c0_i32_45 : BitVec 32) : Fin 4 → Nat :=
  let c0_46 : Index := 0#32
  let c5_i32 : BitVec 32 := 5#32
  let c0_i32 : BitVec 32 := 0#32
  let c1_i32 : BitVec 32 := 1#32
  let arg9 : BitVec 32 := Scf.iv c0_i32 c1_i32 k0_t1
  let v57 : BitVec 32 := Scalar.muli c5_i32 arg9
  let v58 : BitVec 32 := Scalar.addi v57 c0_i32_39
  let c3_i32 : BitVec 32 := 3#32
  let v69 : BitVec 32 := Scalar.muli v58 c3_i32
  let v71 : BitVec 32 := Scalar.addi v69 c0_i32_45
  let v72 : Index := Scalar.indexCast v71
  let c0_47 : Index := 0#32
  let c0_48 : Index := 0#32
  ![0, v72.toNat, 0, 0]
def k0_mult2 (k0_t1 : Fin k0_t1_loop.trips) : BitVec 32 :=
  let c5_i32_67 : BitVec 32 := 5#32
  let c0_i32 : BitVec 32 := 0#32
  let c1_i32 : BitVec 32 := 1#32
  let arg9 : BitVec 32 := Scf.iv c0_i32 c1_i32 k0_t1
  let v102 : BitVec 32 := Scalar.muli c5_i32_67 arg9
  let c1_i32_68 : BitVec 32 := 1#32
  let v103 : BitVec 32 := Scalar.addi v102 c1_i32_68
  let c768_i32_69 : BitVec 32 := 768#32
  let v104 : BitVec 32 := Scalar.muli v103 c768_i32_69
  v104
def k0_mult3 (k0_t1 : Fin k0_t1_loop.trips) : BitVec 32 :=
  let c5_i32_98 : BitVec 32 := 5#32
  let c0_i32 : BitVec 32 := 0#32
  let c1_i32 : BitVec 32 := 1#32
  let arg9 : BitVec 32 := Scf.iv c0_i32 c1_i32 k0_t1
  let v147 : BitVec 32 := Scalar.muli c5_i32_98 arg9
  let c2_i32_99 : BitVec 32 := 2#32
  let v148 : BitVec 32 := Scalar.addi v147 c2_i32_99
  let c768_i32_100 : BitVec 32 := 768#32
  let v149 : BitVec 32 := Scalar.muli v148 c768_i32_100
  v149
def k0_mult4 (k0_t1 : Fin k0_t1_loop.trips) : BitVec 32 :=
  let c5_i32_129 : BitVec 32 := 5#32
  let c0_i32 : BitVec 32 := 0#32
  let c1_i32 : BitVec 32 := 1#32
  let arg9 : BitVec 32 := Scf.iv c0_i32 c1_i32 k0_t1
  let v192 : BitVec 32 := Scalar.muli c5_i32_129 arg9
  let c3_i32_130 : BitVec 32 := 3#32
  let v193 : BitVec 32 := Scalar.addi v192 c3_i32_130
  let c768_i32_131 : BitVec 32 := 768#32
  let v194 : BitVec 32 := Scalar.muli v193 c768_i32_131
  v194
def k0_mult5 (k0_t1 : Fin k0_t1_loop.trips) : BitVec 32 :=
  let c5_i32_160 : BitVec 32 := 5#32
  let c0_i32 : BitVec 32 := 0#32
  let c1_i32 : BitVec 32 := 1#32
  let arg9 : BitVec 32 := Scf.iv c0_i32 c1_i32 k0_t1
  let v237 : BitVec 32 := Scalar.muli c5_i32_160 arg9
  let c4_i32 : BitVec 32 := 4#32
  let v238 : BitVec 32 := Scalar.addi v237 c4_i32
  let c768_i32_161 : BitVec 32 := 768#32
  let v239 : BitVec 32 := Scalar.muli v238 c768_i32_161
  v239
def k0_mult6 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x33x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference2Ideal.lean ====
abbrev S4x8192x8x192 : Shape := ⟨4, ![4, 8192, 8, 192]⟩
abbrev S4x8192x8x128 : Shape := ⟨4, ![4, 8192, 8, 128]⟩
abbrev S4x256x8x192 : Shape := ⟨4, ![4, 256, 8, 192]⟩
abbrev S4x256x8x128 : Shape := ⟨4, ![4, 256, 8, 128]⟩
abbrev S4x8448x8x192 : Shape := ⟨4, ![4, 8448, 8, 192]⟩
abbrev S4x8448x8x128 : Shape := ⟨4, ![4, 8448, 8, 128]⟩
abbrev S4x8x8192x8448 : Shape := ⟨4, ![4, 8, 8192, 8448]⟩
abbrev S_ : Shape := ⟨0, ![]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S4x256x8x192, .f32⟩
  | .hbm, ⟨4, _⟩ => ⟨S4x256x8x192, .f32⟩
  | .hbm, ⟨5, _⟩ => ⟨S4x256x8x128, .f32⟩
  | .hbm, ⟨6, _⟩ => ⟨S4x8448x8x192, .f32⟩
  | .hbm, ⟨7, _⟩ => ⟨S4x8448x8x128, .f32⟩
  | .hbm, ⟨8, _⟩ => ⟨S4x8x8192x8448, .f32⟩
  | .hbm, ⟨9, _⟩ => ⟨S_, .f32⟩
  | .hbm, ⟨10, _⟩ => ⟨S_, .f32⟩
  | .hbm, ⟨11, _⟩ => ⟨S4x8x8192x8448, .f32⟩
  | .hbm, ⟨12, _⟩ => ⟨S4x8x8192x8448, .f32⟩
  | .hbm, ⟨13, _⟩ => ⟨S_, .f32⟩
  | .hbm, ⟨14, _⟩ => ⟨S4x8x8192, .f32⟩
  | .hbm, ⟨15, _⟩ => ⟨S_, .f32⟩
  | .hbm, ⟨16, _⟩ => ⟨S4x8x8192, .f32⟩
  | .hbm, ⟨17, _⟩ => ⟨S4x8x8192, .f32⟩
  | .hbm, ⟨18, _⟩ => ⟨S4x8x8192x1, .f32⟩
  | .hbm, ⟨19, _⟩ => ⟨S4x8x8192x8448, .f32⟩
  | .hbm, ⟨20, _⟩ => ⟨S4x8x8192x8448, .f32⟩
  | .hbm, ⟨21, _⟩ => ⟨S4x8x8192x8448, .f32⟩
  | .hbm, ⟨22, _⟩ => ⟨S_, .f32⟩
  | .hbm, ⟨23, _⟩ => ⟨S4x8x8192, .f32⟩
  | .hbm, ⟨24, _⟩ => ⟨S4x8x8192x1, .f32⟩
  | .hbm, ⟨25, _⟩ => ⟨S4x8x8192x8448, .f32⟩
  | .hbm, ⟨26, _⟩ => ⟨S4x8x8192x8448, .f32⟩
  | .hbm, ⟨27, _⟩ => ⟨S4x8x128x8192, .f32⟩
  | .hbm, ⟨28, _⟩ => ⟨S4x8192x8x128, .f32⟩
  | .hbm, ⟨29, _⟩ => ⟨S4x8192x1024, .f32⟩
  | .hbm, ⟨30, _⟩ => ⟨S4x8192x1024, .bf16⟩
  | _, _ => ⟨S4x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S4x8448x1024 : Shape := ⟨3, ![4, 8448, 1024]⟩
abbrev S_ : Shape := ⟨0, ![]⟩
abbrev S32x3x1024 : Shape := ⟨3, ![32, 3, 1024]⟩
abbrev S1x1024 : Shape := ⟨2, ![1, 1024]⟩
abbrev S1x512x1024 : Shape := ⟨3, ![1, 512, 1024]⟩
abbrev S1x3x1024 : Shape := ⟨3, ![1, 3, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x256x1024, .f32⟩
  | .hbm, ⟨3, _⟩ => ⟨S1024x1024, .f32⟩
  | .hbm, ⟨4, _⟩ => ⟨S4x8192x1024, .f32⟩
  | .hbm, ⟨5, _⟩ => ⟨S4x256x1024, .f32⟩
  | .hbm, ⟨6, _⟩ => ⟨S4x8x3072, .f32⟩
  | .hbm, ⟨7, _⟩ => ⟨S1024, .f32⟩
  | .hbm, ⟨8, _⟩ => ⟨S4x8448x1024, .f32⟩
  | .hbm, ⟨9, _⟩ => ⟨S4x8448x1024, .f32⟩
  | .hbm, ⟨10, _⟩ => ⟨S4x8448x1024, .f32⟩
  | .hbm, ⟨11, _⟩ => ⟨S_, .f32⟩
  | .hbm, ⟨12, _⟩ => ⟨S4x8448x1024, .f32⟩
  | .hbm, ⟨13, _⟩ => ⟨S4x8448x1024, .f32⟩
  | .hbm, ⟨14, _⟩ => ⟨S_, .f32⟩
  | .hbm, ⟨15, _⟩ => ⟨S4x8448x1024, .f32⟩
  | .hbm, ⟨16, _⟩ => ⟨S4x8448x1024, .f32⟩
  | .hbm, ⟨17, _⟩ => ⟨S4x8448x1024, .f32⟩
  | .hbm, ⟨18, _⟩ => ⟨S4x8448x1024, .bf16⟩
  | .hbm, ⟨19, _⟩ => ⟨S4x8448x1024, .f32⟩
  | .hbm, ⟨20, _⟩ => ⟨S32x3x1024, .f32⟩
  | .hbm, ⟨21, _⟩ => ⟨S1024x1024, .bf16⟩
  | .hbm, ⟨22, _⟩ => ⟨S1x1024, .f32⟩
  | .hbm, ⟨23, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S1x4x3072 : Shape := ⟨3, ![1, 4, 3072]⟩
abbrev S4x3072 : Shape := ⟨2, ![4, 3072]⟩
abbrev S4x1024 : Shape := ⟨2, ![4, 1024]⟩
abbrev S_ : Shape := ⟨0, ![]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S4x256x1024, .f32⟩
  | .hbm, ⟨3, _⟩ => ⟨S1024x1024, .f32⟩
  | .hbm, ⟨4, _⟩ => ⟨S4x8192x1024, .f32⟩
  | .hbm, ⟨5, _⟩ => ⟨S4x256x1024, .f32⟩
  | .hbm, ⟨6, _⟩ => ⟨S4x8x3072, .f32⟩
  | .hbm, ⟨7, _⟩ => ⟨S1024, .f32⟩
  | .hbm, ⟨8, _⟩ => ⟨S1x4x3072, .f32⟩
  | .hbm, ⟨9, _⟩ => ⟨S4x3072, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x1024, .f32⟩
  | .hbm, ⟨41, _⟩ => ⟨S4x8192x1024, .f32⟩
  | .hbm, ⟨42, _⟩ => ⟨S1x1x1024, .f32⟩
  | .hbm, ⟨43, _⟩ => ⟨S4x8192x1024, .f32⟩
  | .hbm, ⟨44, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S1024x4096 : Shape := ⟨2, ![1024, 4096]⟩
abbrev S4x8448x1024 : Shape := ⟨3, ![4, 8448, 1024]⟩
abbrev S_ : Shape := ⟨0, ![]⟩
abbrev S32x3x1024 : Shape := ⟨3, ![32, 3, 1024]⟩
abbrev S1x1024 : Shape := ⟨2, ![1, 1024]⟩
abbrev S4x33x1024x256 : Shape := ⟨4, ![4, 33, 1024, 256]⟩
abbrev S4x33x16x128 : Shape := ⟨4, ![4, 33, 16, 128]⟩
abbrev S1x256x1024 : Shape := ⟨3, ![1, 256, 1024]⟩
abbrev S1x3x1024 : Shape := ⟨3, ![1, 3, 1024]⟩
abbrev S1x1x1024x256 : Shape := ⟨4, ![1, 1, 1024, 256]⟩
abbrev S1x1x16x128 : Shape := ⟨4, ![1, 1, 16, 128]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x128 : Shape := ⟨2, ![1024, 128]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S1x1x8x128 : Shape := ⟨4, ![1, 1, 8, 128]⟩
abbrev S128x256 : Shape := ⟨2, ![128, 256]⟩
abbrev S1x1x128x256 : Shape := ⟨4, ![1, 1, 128, 256]⟩

abbrev nBuf : Space → Nat
  | .hbm => 31
  | .vmem => 29
  | .smem => 0
  | _ => 0

abbrev bufTy : (tb : Table) → Fin (tcTables nBuf tb) → BufTy
  | .hbm, ⟨0, _⟩ => ⟨S4x8192x1024, .bf16⟩
  | .hbm, ⟨1, _⟩ => ⟨S4x256x1024, .bf16⟩
  | .hbm, ⟨2, _⟩ => ⟨S4x8192x1024, .f32⟩
  | .hbm, ⟨3, _⟩ => ⟨S4x256x1024, .f32⟩
  | .hbm, ⟨4, _⟩ => ⟨S1024x1024, .f32⟩
  | .hbm, ⟨5, _⟩ => ⟨S4x8192x1024, .f32⟩
  | .hbm, ⟨6, _⟩ => ⟨S4x256x1024, .f32⟩
  | .hbm, ⟨7, _⟩ => ⟨S4x8x3072, .f32⟩
  | .hbm, ⟨8, _⟩ => ⟨S1024, .f32⟩
  | .hbm, ⟨9, _⟩ => ⟨S1024x4096, .f32⟩
  | .hbm, ⟨10, _⟩ => ⟨S4x8448x1024, .f32⟩
  | .hbm, ⟨11, _⟩ => ⟨S4x8448x1024, .f32⟩
  | .hbm, ⟨12, _⟩ => ⟨S4x8448x1024, .f32⟩
  | .hbm, ⟨13, _⟩ => ⟨S_, .f32⟩
  | .hbm, ⟨14, _⟩ => ⟨S4x8448x1024, .f32⟩
  | .hbm, ⟨15, _⟩ => ⟨S4x8448x1024, .f32⟩
  | .hbm, ⟨16, _⟩ => ⟨S_, .f32⟩
  | .hbm, ⟨17, _⟩ => ⟨S4x8448x1024, .f32⟩
  | .hbm, ⟨18, _⟩ => ⟨S4x8448x1024, .f32⟩
  | .hbm, ⟨19, _⟩ => ⟨S4x8448x1024, .f32⟩
  | .hbm, ⟨20, _⟩ => ⟨S4x8448x1024, .bf16⟩
  | .hbm, ⟨21, _⟩ => ⟨S32x3x1024, .f32⟩
  | .hbm, ⟨22, _⟩ => ⟨S1024x4096, .bf16⟩
  | .hbm, ⟨23, _⟩ => ⟨S1024x1024, .bf16⟩
  | .hbm, ⟨24, _⟩ => ⟨S1x1024, .f32⟩
  | .hbm, ⟨25, _⟩ => ⟨S4x8448x1024, .f32⟩
  | .hbm, ⟨26, _⟩ => ⟨S4x8448x1024, .bf16⟩
  | .hbm, ⟨27, _⟩ => ⟨S4x8448x1024, .bf16⟩
  | .hbm, ⟨28, _⟩ => ⟨S4x33x1024x256, .bf16⟩
  | .hbm, ⟨29, _⟩ => ⟨S4x8448x1024, .bf16⟩
  | .hbm, ⟨30, _⟩ => ⟨S4x33x16x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x3x1024, .f32⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x1024, .f32⟩
  | .local _ .vmem, ⟨16, _⟩ => ⟨S1024x4096, .bf16⟩
  | .local _ .vmem, ⟨17, _⟩ => ⟨S1x256x1024, .f32⟩
  | .local _ .vmem, ⟨18, _⟩ => ⟨S1x256x1024, .f32⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x1x1024x256, .bf16⟩
  | .local _ .vmem, ⟨24, _⟩ => ⟨S1x1x1024x256, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x1x16x128, .f32⟩
  | .local _ .vmem, ⟨28, _⟩ => ⟨S1x1x16x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c8_i32 : BitVec 32 := 8#32
  let v2 : BitVec 32 := Scalar.addi c8_i32 v1
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S1024x4096 : Shape := ⟨2, ![1024, 4096]⟩
abbrev S1x4x3072 : Shape := ⟨3, ![1, 4, 3072]⟩
abbrev S4x3072 : Shape := ⟨2, ![4, 3072]⟩
abbrev S4x1x3072 : Shape := ⟨3, ![4, 1, 3072]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S1x1x3072 : Shape := ⟨3, ![1, 1, 3072]⟩
abbrev S3072 : Shape := ⟨1, ![3072]⟩
abbrev S4x256 : Shape := ⟨2, ![4, 256]⟩
abbrev S4x256x1 : Shape := ⟨3, ![4, 256, 1]⟩
abbrev S4x256x4096 : Shape := ⟨3, ![4, 256, 4096]⟩
abbrev S4x8448x4096 : Shape := ⟨3, ![4, 8448, 4096]⟩
abbrev S4x8448x1024 : Shape := ⟨3, ![4, 8448, 1024]⟩
abbrev S4x33x256x1024 : Shape := ⟨4, ![4, 33, 256, 1024]⟩
abbrev S4x33x1024x256 : Shape := ⟨4, ![4, 33, 1024, 256]⟩

abbrev nBuf : Space → Nat
  | .hbm => 137
  | .vmem => 0
  | .smem => 0
  | _ => 0

abbrev hbmTy0_0 (i : Nat) : BufTy := match i % 128 with
  | 0 => ⟨S4x8192x1024, .bf16⟩
  | 1 => ⟨S4x256x1024, .bf16⟩
  | 2 => ⟨S4x8192x1024, .f32⟩
  | 3 => ⟨S4x256x1024, .f32⟩
  | 4 => ⟨S1024x1024, .f32⟩
  | 5 => ⟨S4x8192x1024, .f32⟩
  | 6 => ⟨S4x256x1024, .f32⟩
  | 7 => ⟨S4x8x3072, .f32⟩
  | 8 => ⟨S1024, .f32⟩
  | 9 => ⟨S1024x4096, .f32⟩
  | 10 => ⟨S1x4x3072, .f32⟩
  | 11 => ⟨S4x3072, .f32⟩
  | 12 => ⟨S4x1x3072, .f32⟩
  | 13 => ⟨S1x4x3072, .f32⟩
  | 14 => ⟨S4x3072, .f32⟩
  | 15 => ⟨S4x1x3072, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x8192x1024, .f32⟩
  | 23 => ⟨S4x8192x1024, .f32⟩
  | 24 => ⟨S4x8192x1024, .f32⟩
  | 25 => ⟨S_, .f32⟩
  | 26 => ⟨S4x8192x1024, .f32⟩
  | 27 => ⟨S4x8192x1024, .f32⟩
  | 28 => ⟨S_, .f32⟩
  | 29 => ⟨S4x8192x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S_, .f32⟩
  | 39 => ⟨S4x8192, .f32⟩
  | 40 => ⟨S4x8192x1, .f32⟩
  | 41 => ⟨S_, .f32⟩
  | 42 => ⟨S4x8192x1, .f32⟩
  | 43 => ⟨S4x8192x1, .f32⟩
  | 44 => ⟨S_, .f32⟩
  | 45 => ⟨S4x8192x1, .f32⟩
  | 46 => ⟨S4x8192x1, .f32⟩
  | 47 => ⟨S4x8192x1, .f32⟩
  | 48 => ⟨S4x8192x1024, .f32⟩
  | 49 => ⟨S4x8192x1024, .f32⟩
  | 50 => ⟨S1x1x1024, .f32⟩
  | 51 => ⟨S4x8192x1024, .f32⟩
  | 52 => ⟨S4x8192x1024, .f32⟩
  | 53 => ⟨S_, .f32⟩
  | 54 => ⟨S4x1x1024, .f32⟩
  | 55 => ⟨S4x1x1024, .f32⟩
  | 56 => ⟨S4x8192x1024, .f32⟩
  | 57 => ⟨S4x8192x1024, .f32⟩
  | 58 => ⟨S4x8192x1024, .f32⟩
  | 59 => ⟨S4x8192x1024, .f32⟩
  | 60 => ⟨S4x8192x4096, .f32⟩
  | 61 => ⟨S1x1x3072, .f32⟩
  | 62 => ⟨S3072, .f32⟩
  | 63 => ⟨S1x1x3072, .f32⟩
  | 64 => ⟨S3072, .f32⟩
  | 65 => ⟨S1024, .f32⟩
  | 66 => ⟨S1024, .f32⟩
  | 67 => ⟨S1024, .f32⟩
  | 68 => ⟨S1024, .f32⟩
  | 69 => ⟨S1024, .f32⟩
  | 70 => ⟨S1024, .f32⟩
  | 71 => ⟨S4x256x1024, .f32⟩
  | 72 => ⟨S4x256x1024, .f32⟩
  | 73 => ⟨S4x256x1024, .f32⟩
  | 74 => ⟨S_, .f32⟩
  | 75 => ⟨S4x256x1024, .f32⟩
  | 76 => ⟨S4x256x1024, .f32⟩
  | 77 => ⟨S_, .f32⟩
  | 78 => ⟨S4x256x1024, .f32⟩
  | 79 => ⟨S4x256x1024, .f32⟩
  | 80 => ⟨S4x256x1024, .f32⟩
  | 81 => ⟨S4x256x1024, .f32⟩
  | 82 => ⟨S4x256x1024, .f32⟩
  | 83 => ⟨S1x1x1024, .f32⟩
  | 84 => ⟨S4x256x1024, .f32⟩
  | 85 => ⟨S4x256x1024, .f32⟩
  | 86 => ⟨S4x256x1024, .f32⟩
  | 87 => ⟨S4x256x1024, .f32⟩
  | 88 => ⟨S_, .f32⟩
  | 89 => ⟨S4x256, .f32⟩
  | 90 => ⟨S4x256x1, .f32⟩
  | 91 => ⟨S_, .f32⟩
  | 92 => ⟨S4x256x1, .f32⟩
  | 93 => ⟨S4x256x1, .f32⟩
  | 94 => ⟨S_, .f32⟩
  | 95 => ⟨S4x256x1, .f32⟩
  | 96 => ⟨S4x256x1, .f32⟩
  | 97 => ⟨S4x256x1, .f32⟩
  | 98 => ⟨S4x256x1024, .f32⟩
  | 99 => ⟨S4x256x1024, .f32⟩
  | 100 => ⟨S1x1x1024, .f32⟩
  | 101 => ⟨S4x256x1024, .f32⟩
  | 102 => ⟨S4x256x1024, .f32⟩
  | 103 => ⟨S_, .f32⟩
  | 104 => ⟨S1024, .f32⟩
  | 105 => ⟨S1024, .f32⟩
  | 106 => ⟨S1x1x1024, .f32⟩
  | 107 => ⟨S4x256x1024, .f32⟩
  | 108 => ⟨S4x256x1024, .f32⟩
  | 109 => ⟨S1x1x1024, .f32⟩
  | 110 => ⟨S4x256x1024, .f32⟩
  | 111 => ⟨S4x256x1024, .f32⟩
  | 112 => ⟨S4x256x4096, .f32⟩
  | 113 => ⟨S4x8448x4096, .f32⟩
  | 114 => ⟨S4x8448x1024, .f32⟩
  | 115 => ⟨S4x8448x1024, .f32⟩
  | 116 => ⟨S4x8448x1024, .f32⟩
  | 117 => ⟨S4x8448x1024, .f32⟩
  | 118 => ⟨S4x33x256x1024, .f32⟩
  | 119 => ⟨S4x8448x1024, .f32⟩
  | 120 => ⟨S_, .f32⟩
  | 121 => ⟨S4x8448x1024, .f32⟩
  | 122 => ⟨S4x8448x1024, .f32⟩
  | 123 => ⟨S4x8448x1024, .bf16⟩
  | 124 => ⟨S4x8448x1024, .bf16⟩
  | 125 => ⟨S4x33x1024x256, .f32⟩
  | 126 => ⟨S4x33x1024x256, .bf16⟩
  | 127 => ⟨S4x8448x1024, .f32⟩
  | _ => ⟨S4x8192x1024, .bf16⟩

abbrev hbmTy0_1 (i : Nat) : BufTy := match i % 128 with
  | 0 => ⟨S4x8448x1024, .f32⟩
  | 1 => ⟨S_, .f32⟩
  | 2 => ⟨S4x8448x1024, .f32⟩
  | 3 => ⟨S4x8448x1024, .f32⟩
  | 4 => ⟨S_, .f32⟩
  | 5 => ⟨S4x8448x1024, .f32⟩
  | 6 => ⟨S4x8448x1024, .f32⟩
  | 7 => ⟨S4x8448x1024, .f32⟩
  | 8 => ⟨S4x8448x1024, .bf16⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_2 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_3 : Ref sig .tc := ⟨.hbm, 88, rfl⟩
abbrev main_v58 : Ref sig .tc := ⟨.hbm, 89, rfl⟩
abbrev main_v59 : Ref sig .tc := ⟨.hbm, 90, rfl⟩
abbrev main_cst_4 : Ref sig .tc := ⟨.hbm, 91, rfl⟩
abbrev main_v60 : Ref sig .tc := ⟨.hbm, 92, rfl⟩
abbrev main_v61 : Ref sig .tc := ⟨.hbm, 93, rfl⟩
abbrev main_cst_5 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_6 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_7 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call2_v0 : Ref sig .tc := ⟨.hbm, 127, rfl⟩
abbrev main_call2_v1 : Ref sig .tc := ⟨.hbm, 128, rfl⟩
abbrev main_call2_cst : Ref sig .tc := ⟨.hbm, 129, rfl⟩
abbrev main_call2_v2 : Ref sig .tc := ⟨.hbm, 130, rfl⟩
abbrev main_call2_v3 : Ref sig .tc := ⟨.hbm, 131, rfl⟩
abbrev main_call2_cst_0 : Ref sig .tc := ⟨.hbm, 132, rfl⟩
abbrev main_call2_v4 : Ref sig .tc := ⟨.hbm, 133, rfl⟩
abbrev main_call2_v5 : Ref sig .tc := ⟨.hbm, 134, rfl⟩
abbrev main_v92 : Ref sig .tc := ⟨.hbm, 135, rfl⟩
abbrev main_v93 : Ref sig .tc := ⟨.hbm, 136, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S1024x2560 : Shape := ⟨2, ![1024, 2560]⟩
abbrev S128 : Shape := ⟨1, ![128]⟩
abbrev S8192x128 : Shape := ⟨2, ![8192, 128]⟩
abbrev S4x8448x1024 : Shape := ⟨3, ![4, 8448, 1024]⟩
abbrev S_ : Shape := ⟨0, ![]⟩
abbrev S32x3x1024 : Shape := ⟨3, ![32, 3, 1024]⟩
abbrev S1x128 : Shape := ⟨2, ![1, 128]⟩
abbrev S8448x128 : Shape := ⟨2, ![8448, 128]⟩
abbrev S1x1024 : Shape := ⟨2, ![1, 1024]⟩
abbrev S4x8448x256 : Shape := ⟨3, ![4, 8448, 256]⟩
abbrev S4x33x256x256 : Shape := ⟨4, ![4, 33, 256, 256]⟩
abbrev S1x256x1024 : Shape := ⟨3, ![1, 256, 1024]⟩
abbrev S1x3x1024 : Shape := ⟨3, ![1, 3, 1024]⟩
abbrev S256x128 : Shape := ⟨2, ![256, 128]⟩
abbrev S1x256x256 : Shape := ⟨3, ![1, 256, 256]⟩
abbrev S1x1x256x256 : Shape := ⟨4, ![1, 1, 256, 256]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x256x128 : Shape := ⟨3, ![1, 256, 128]⟩
abbrev S1024x256 : Shape := ⟨2, ![1024, 256]⟩
abbrev S256x256 : Shape := ⟨2, ![256, 256]⟩
abbrev S128x256 : Shape := ⟨2, ![128, 256]⟩
abbrev S1x1x128x256 : Shape := ⟨4, ![1, 1, 128, 256]⟩

abbrev nBuf : Space → Nat
  | .hbm => 92
  | .vmem => 33
  | .smem => 0
  | _ => 0

abbrev bufTy : (tb : Table) → Fin (tcTables nBuf tb) → BufTy
  | .hbm, ⟨0, _⟩ => ⟨S4x8192x1024, .bf16⟩
  | .hbm, ⟨1, _⟩ => ⟨S4x256x1024, .bf16⟩
  | .hbm, ⟨2, _⟩ => ⟨S4x8192x1024, .f32⟩
  | .hbm, ⟨3, _⟩ => ⟨S4x256x1024, .f32⟩
  | .hbm, ⟨4, _⟩ => ⟨S1024x1024, .f32⟩
  | .hbm, ⟨5, _⟩ => ⟨S4x8192x1024, .f32⟩
  | .hbm, ⟨6, _⟩ => ⟨S4x256x1024, .f32⟩
  | .hbm, ⟨7, _⟩ => ⟨S4x8x3072, .f32⟩
  | .hbm, ⟨8, _⟩ => ⟨S1024, .f32⟩
  | .hbm, ⟨9, _⟩ => ⟨S1024x2560, .f32⟩
  | .hbm, ⟨10, _⟩ => ⟨S128, .f32⟩
  | .hbm, ⟨11, _⟩ => ⟨S128, .f32⟩
  | .hbm, ⟨12, _⟩ => ⟨S8192x128, .f32⟩
  | .hbm, ⟨13, _⟩ => ⟨S8192x128, .f32⟩
  | .hbm, ⟨14, _⟩ => ⟨S4x8448x1024, .f32⟩
  | .hbm, ⟨15, _⟩ => ⟨S4x8448x1024, .f32⟩
  | .hbm, ⟨16, _⟩ => ⟨S4x8448x1024, .f32⟩
  | .hbm, ⟨17, _⟩ => ⟨S_, .f32⟩
  | .hbm, ⟨18, _⟩ => ⟨S4x8448x1024, .f32⟩
  | .hbm, ⟨19, _⟩ => ⟨S4x8448x1024, .f32⟩
  | .hbm, ⟨20, _⟩ => ⟨S_, .f32⟩
  | .hbm, ⟨21, _⟩ => ⟨S4x8448x1024, .f32⟩
  | .hbm, ⟨22, _⟩ => ⟨S4x8448x1024, .f32⟩
  | .hbm, ⟨23, _⟩ => ⟨S4x8448x1024, .f32⟩
  | .hbm, ⟨24, _⟩ => ⟨S4x8448x1024, .bf16⟩
  | .hbm, ⟨25, _⟩ => ⟨S4x8448x1024, .f32⟩
  | .hbm, ⟨26, _⟩ => ⟨S32x3x1024, .f32⟩
  | .hbm, ⟨27, _⟩ => ⟨S1024x2560, .bf16⟩
  | .hbm, ⟨28, _⟩ => ⟨S1x128, .f32⟩
  | .hbm, ⟨29, _⟩ => ⟨S1x128, .f32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S_, .i1⟩
  | .hbm, ⟨47, _⟩ => ⟨S128, .i1⟩
  | .hbm, ⟨48, _⟩ => ⟨S128, .i1⟩
  | .hbm, ⟨49, _⟩ => ⟨S128, .i1⟩
  | .hbm, ⟨50, _⟩ => ⟨S128, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S8192x128, .f32⟩
  | .hbm, ⟨57, _⟩ => ⟨S_, .f32⟩
  | .hbm, ⟨58, _⟩ => ⟨S_, .f32⟩
  | .hbm, ⟨59, _⟩ => ⟨S8192x128, .i1⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S_, .f32⟩
  | .hbm, ⟨64, _⟩ => ⟨S8192x128, .i1⟩
  | .hbm, ⟨65, _⟩ => ⟨S8192x128, .f32⟩
  | .hbm, ⟨66, _⟩ => ⟨S8192x128, .f32⟩
  | .hbm, ⟨67, _⟩ => ⟨S_, .f32⟩
  | .hbm, ⟨68, _⟩ => ⟨S_, .f32⟩
  | .hbm, ⟨69, _⟩ => ⟨S8192x128, .f32⟩
  | .hbm, ⟨70, _⟩ => ⟨S_, .f32⟩
  | .hbm, ⟨71, _⟩ => ⟨S_, .f32⟩
  | .hbm, ⟨72, _⟩ => ⟨S8448x128, .f32⟩
  | .hbm, ⟨73, _⟩ => ⟨S_, .f32⟩
  | .hbm, ⟨74, _⟩ => ⟨S_, .f32⟩
  | .hbm, ⟨75, _⟩ => ⟨S8192x128, .f32⟩
  | .hbm, ⟨76, _⟩ => ⟨S_, .f32⟩
  | .hbm, ⟨77, _⟩ => ⟨S_, .f32⟩
  | .hbm, ⟨78, _⟩ => ⟨S8448x128, .f32⟩
  | .hbm, ⟨79, _⟩ => ⟨S_, .f32⟩
  | .hbm, ⟨80, _⟩ => ⟨S_, .f32⟩
  | .hbm, ⟨81, _⟩ => ⟨S8192x128, .f32⟩
  | .hbm, ⟨82, _⟩ => ⟨S_, .f32⟩
  | .hbm, ⟨83, _⟩ => ⟨S_, .f32⟩
  | .hbm, ⟨84, _⟩ => ⟨S8448x128, .f32⟩
  | .hbm, ⟨85, _⟩ => ⟨S1024x1024, .bf16⟩
  | .hbm, ⟨86, _⟩ => ⟨S1x1024, .f32⟩
  | .hbm, ⟨87, _⟩ => ⟨S4x8448x1024, .f32⟩
  | .hbm, ⟨88, _⟩ => ⟨S4x8448x1024, .bf16⟩
  | .hbm, ⟨89, _⟩ => ⟨S4x8448x256, .bf16⟩
  | .hbm, ⟨90, _⟩ => ⟨S4x33x256x256, .bf16⟩
  | .hbm, ⟨91, _⟩ => ⟨S4x8448x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x3x1024, .f32⟩
  | .local _ .vmem, ⟨10, _⟩ => ⟨S1x3x1024, .f32⟩
  | .local _ .vmem, ⟨11, _⟩ => ⟨S1x3x1024, .f32⟩
  | .local _ .vmem, ⟨12, _⟩ => ⟨S1x3x1024, .f32⟩
  | .local _ .vmem, ⟨13, _⟩ => ⟨S1x1024, .f32⟩
  | .local _ .vmem, ⟨14, _⟩ => ⟨S1024x2560, .bf16⟩
  | .local _ .vmem, ⟨15, _⟩ => ⟨S1x128, .f32⟩
  | .local _ .vmem, ⟨16, _⟩ => ⟨S1x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .bf16⟩
  | .local _ .vmem, ⟨26, _⟩ => ⟨S1x256x1024, .bf16⟩
  | .local _ .vmem, ⟨27, _⟩ => ⟨S1x256x256, .bf16⟩
  | .local _ .vmem, ⟨28, _⟩ => ⟨S1x256x256, .bf16⟩
  | .local _ .vmem, ⟨29, _⟩ => ⟨S1x1x256x256, .bf16⟩
  | .local _ .vmem, ⟨30, _⟩ => ⟨S1x1x256x256, .bf16⟩
  | .local _ .vmem, ⟨31, _⟩ => ⟨S1x256x1024, .bf16⟩
  | .local _ .vmem, ⟨32, _⟩ => ⟨S1x256x1024, .bf16⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_v5 : Ref sig .tc := ⟨.hbm, 40, rfl⟩
abbrev main_call0_v6 : Ref sig .tc := ⟨.hbm, 41, rfl⟩
abbrev main_call0_c_2 : Ref sig .tc := ⟨.hbm, 42, rfl⟩
abbrev main_call0_v7 : Ref sig .tc := ⟨.hbm, 43, rfl⟩
abbrev main_call0_v8 : Ref sig .tc := ⟨.hbm, 44, rfl⟩
abbrev main_call0_c_3 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_v15 : Ref sig .tc := ⟨.hbm, 52, rfl⟩
abbrev main_c_1 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst_2 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v19 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v20 : Ref sig .tc := ⟨.hbm, 66, rfl⟩
abbrev main_cst_4 : Ref sig .tc := ⟨.hbm, 67, rfl⟩
abbrev main_call3_v0 : Ref sig .tc := ⟨.hbm, 68, rfl⟩
abbrev main_v21 : Ref sig .tc := ⟨.hbm, 69, rfl⟩
abbrev main_cst_5 : Ref sig .tc := ⟨.hbm, 70, rfl⟩
abbrev main_call4_v0 : Ref sig .tc := ⟨.hbm, 71, rfl⟩
abbrev main_v22 : Ref sig .tc := ⟨.hbm, 72, rfl⟩
abbrev main_cst_6 : Ref sig .tc := ⟨.hbm, 73, rfl⟩
abbrev main_call5_v0 : Ref sig .tc := ⟨.hbm, 74, rfl⟩
abbrev main_v23 : Ref sig .tc := ⟨.hbm, 75, rfl⟩
abbrev main_cst_7 : Ref sig .tc := ⟨.hbm, 76, rfl⟩
abbrev main_call6_v0 : Ref sig .tc := ⟨.hbm, 77, rfl⟩
abbrev main_v24 : Ref sig .tc := ⟨.hbm, 78, rfl⟩
abbrev main_cst_8 : Ref sig .tc := ⟨.hbm, 79, rfl⟩
abbrev main_call7_v0 : Ref sig .tc := ⟨.hbm, 80, rfl⟩
abbrev main_v25 : Ref sig .tc := ⟨.hbm, 81, rfl⟩
abbrev main_cst_9 : Ref sig .tc := ⟨.hbm, 82, rfl⟩
abbrev main_call8_v0 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29_0 : Ref sig .tc := ⟨.hbm, 87, rfl⟩
abbrev main_v29_1 : Ref sig .tc := ⟨.hbm, 88, rfl⟩
abbrev main_v29_2 : Ref sig .tc := ⟨.hbm, 89, rfl⟩
abbrev main_v29_3 : Ref sig .tc := ⟨.hbm, 90, rfl⟩
abbrev main_v29_4 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c16_i32 : BitVec 32 := 16#32
  let v2 : BitVec 32 := Scalar.addi c16_i32 v1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg1 c32_i32
  let c4_i32 : BitVec 32 := 4#32
  let v1 : BitVec 32 := Scalar.select v0 arg0 c4_i32
  let c24_i32 : BitVec 32 := 24#32
  let v2 : BitVec 32 := Scalar.addi c24_i32 v1
  let c0_i32 : BitVec 32 := 0#32
  let c0_i32_0 : BitVec 32 := 0#32
  let c0_i32_1 : BitVec 32 := 0#32
  ![v2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference5Ideal.lean ====
abbrev S4x8192x1024 : Shape := ⟨3, ![4, 8192, 1024]⟩
abbrev S4x256x1024 : Shape := ⟨3, ![4, 256, 1024]⟩
abbrev S1024x1024 : Shape := ⟨2, ![1024, 1024]⟩
abbrev S4x8x3072 : Shape := ⟨3, ![4, 8, 3072]⟩
abbrev S1024 : Shape := ⟨1, ![1024]⟩
abbrev S1024x2560 : Shape := ⟨2, ![1024, 2560]⟩
abbrev S128 : Shape := ⟨1, ![128]⟩
abbrev S8192x128 : Shape := ⟨2, ![8192, 128]⟩
abbrev S1x4x3072 : Shape := ⟨3, ![1, 4, 3072]⟩
abbrev S4x3072 : Shape := ⟨2, ![4, 3072]⟩
abbrev S4x1x3072 : Shape := ⟨3, ![4, 1, 3072]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2560 : Shape := ⟨3, ![4, 8192, 2560]⟩
abbrev S4x8192x256 : Shape := ⟨3, ![4, 8192, 256]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩
abbrev S4x8192x2x128 : Shape := ⟨4, ![4, 8192, 2, 128]⟩
abbrev S4x8192x2 : Shape := ⟨3, ![4, 8192, 2]⟩
abbrev S4x8192x2x1 : Shape := ⟨4, ![4, 8192, 2, 1]⟩
abbrev S1x1x3072 : Shape := ⟨3, ![1, 1, 3072]⟩
abbrev S3072 : Shape := ⟨1, ![3072]⟩
abbrev S4x256 : Shape := ⟨2, ![4, 256]⟩
abbrev S4x256x1 : Shape := ⟨3, ![4, 256, 1]⟩
abbrev S4x256x2560 : Shape := ⟨3, ![4, 256, 2560]⟩
abbrev S4x256x256 : Shape := ⟨3, ![4, 256, 256]⟩
abbrev S4x256x8x128 : Shape := ⟨4, ![4, 256, 8, 128]⟩
abbrev S4x256x8 : Shape := ⟨3, ![4, 256, 8]⟩
abbrev S4x256x8x1 : Shape := ⟨4, ![4, 256, 8, 1]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S4x8192x8x32 : Shape := ⟨4, ![4, 8192, 8, 32]⟩
abbrev S8192x1x128 : Shape := ⟨3, ![8192, 1, 128]⟩
abbrev S1x8192x1x128 : Shape := ⟨4, ![1, 8192, 1, 128]⟩
abbrev S4x8448x8x128 : Shape := ⟨4, ![4, 8448, 8, 128]⟩
abbrev S4x8448x1024 : Shape := ⟨3, ![4, 8448, 1024]⟩
abbrev S4x8192x2x32 : Shape := ⟨4, ![4, 8192, 2, 32]⟩
abbrev S4x8448x2x128 : Shape := ⟨4, ![4, 8448, 2, 128]⟩
abbrev S4x8448x256 : Shape := ⟨3, ![4, 8448, 256]⟩
abbrev S4x33x256x256 : Shape := ⟨4, ![4, 33, 256, 256]⟩

abbrev nBuf : Space → Nat
  | .hbm => 250
  | .vmem => 0
  | .smem => 0
  | _ => 0

abbrev hbmTy0_0 (i : Nat) : BufTy := match i % 128 with
  | 0 => ⟨S4x8192x1024, .bf16⟩
  | 1 => ⟨S4x256x1024, .bf16⟩
  | 2 => ⟨S4x8192x1024, .f32⟩
  | 3 => ⟨S4x256x1024, .f32⟩
  | 4 => ⟨S1024x1024, .f32⟩
  | 5 => ⟨S4x8192x1024, .f32⟩
  | 6 => ⟨S4x256x1024, .f32⟩
  | 7 => ⟨S4x8x3072, .f32⟩
  | 8 => ⟨S1024, .f32⟩
  | 9 => ⟨S1024x2560, .f32⟩
  | 10 => ⟨S128, .f32⟩
  | 11 => ⟨S128, .f32⟩
  | 12 => ⟨S8192x128, .f32⟩
  | 13 => ⟨S8192x128, .f32⟩
  | 14 => ⟨S1x4x3072, .f32⟩
  | 15 => ⟨S4x3072, .f32⟩
  | 16 => ⟨S4x1x3072, .f32⟩
  | 17 => ⟨S1x4x3072, .f32⟩
  | 18 => ⟨S4x3072, .f32⟩
  | 19 => ⟨S4x1x3072, .f32⟩
  | 20 => ⟨S4x1x1024, .f32⟩
  | 21 => ⟨S4x1x1024, .f32⟩
  | 22 => ⟨S4x1x1024, .f32⟩
  | 23 => ⟨S4x1x1024, .f32⟩
  | 24 => ⟨S4x1x1024, .f32⟩
  | 25 => ⟨S4x1x1024, .f32⟩
  | 26 => ⟨S4x8192x1024, .f32⟩
  | 27 => ⟨S4x8192x1024, .f32⟩
  | 28 => ⟨S4x8192x1024, .f32⟩
  | 29 => ⟨S_, .f32⟩
  | 30 => ⟨S4x8192x1024, .f32⟩
  | 31 => ⟨S4x8192x1024, .f32⟩
  | 32 => ⟨S_, .f32⟩
  | 33 => ⟨S4x8192x1024, .f32⟩
  | 34 => ⟨S4x8192x1024, .f32⟩
  | 35 => ⟨S4x8192x1024, .f32⟩
  | 36 => ⟨S4x8192x1024, .f32⟩
  | 37 => ⟨S4x8192x1024, .f32⟩
  | 38 => ⟨S4x8192x1024, .f32⟩
  | 39 => ⟨S4x8192x1024, .f32⟩
  | 40 => ⟨S4x8192x1024, .f32⟩
  | 41 => ⟨S4x8192x1024, .f32⟩
  | 42 => ⟨S_, .f32⟩
  | 43 => ⟨S4x8192, .f32⟩
  | 44 => ⟨S4x8192x1, .f32⟩
  | 45 => ⟨S_, .f32⟩
  | 46 => ⟨S4x8192x1, .f32⟩
  | 47 => ⟨S4x8192x1, .f32⟩
  | 48 => ⟨S_, .f32⟩
  | 49 => ⟨S4x8192x1, .f32⟩
  | 50 => ⟨S4x8192x1, .f32⟩
  | 51 => ⟨S4x8192x1, .f32⟩
  | 52 => ⟨S4x8192x1024, .f32⟩
  | 53 => ⟨S4x8192x1024, .f32⟩
  | 54 => ⟨S1x1x1024, .f32⟩
  | 55 => ⟨S4x8192x1024, .f32⟩
  | 56 => ⟨S4x8192x1024, .f32⟩
  | 57 => ⟨S_, .f32⟩
  | 58 => ⟨S4x1x1024, .f32⟩
  | 59 => ⟨S4x1x1024, .f32⟩
  | 60 => ⟨S4x8192x1024, .f32⟩
  | 61 => ⟨S4x8192x1024, .f32⟩
  | 62 => ⟨S4x8192x1024, .f32⟩
  | 63 => ⟨S4x8192x1024, .f32⟩
  | 64 => ⟨S4x8192x2560, .f32⟩
  | 65 => ⟨S4x8192x1024, .f32⟩
  | 66 => ⟨S4x8192x256, .f32⟩
  | 67 => ⟨S4x8192x256, .f32⟩
  | 68 => ⟨S4x8192x1024, .f32⟩
  | 69 => ⟨S4x8192x8x128, .f32⟩
  | 70 => ⟨S4x8192x8x128, .f32⟩
  | 71 => ⟨S_, .f32⟩
  | 72 => ⟨S4x8192x8, .f32⟩
  | 73 => ⟨S4x8192x8x1, .f32⟩
  | 74 => ⟨S_, .f32⟩
  | 75 => ⟨S4x8192x8x1, .f32⟩
  | 76 => ⟨S4x8192x8x1, .f32⟩
  | 77 => ⟨S_, .f32⟩
  | 78 => ⟨S4x8192x8x1, .f32⟩
  | 79 => ⟨S4x8192x8x1, .f32⟩
  | 80 => ⟨S4x8192x8x1, .f32⟩
  | 81 => ⟨S4x8192x8x128, .f32⟩
  | 82 => ⟨S4x8192x8x128, .f32⟩
  | 83 => ⟨S1x1x1x128, .f32⟩
  | 84 => ⟨S4x8192x8x128, .f32⟩
  | 85 => ⟨S4x8192x8x128, .f32⟩
  | 86 => ⟨S4x8192x2x128, .f32⟩
  | 87 => ⟨S4x8192x2x128, .f32⟩
  | 88 => ⟨S_, .f32⟩
  | 89 => ⟨S4x8192x2, .f32⟩
  | 90 => ⟨S4x8192x2x1, .f32⟩
  | 91 => ⟨S_, .f32⟩
  | 92 => ⟨S4x8192x2x1, .f32⟩
  | 93 => ⟨S4x8192x2x1, .f32⟩
  | 94 => ⟨S_, .f32⟩
  | 95 => ⟨S4x8192x2x1, .f32⟩
  | 96 => ⟨S4x8192x2x1, .f32⟩
  | 97 => ⟨S4x8192x2x1, .f32⟩
  | 98 => ⟨S4x8192x2x128, .f32⟩
  | 99 => ⟨S4x8192x2x128, .f32⟩
  | 100 => ⟨S1x1x1x128, .f32⟩
  | 101 => ⟨S4x8192x2x128, .f32⟩
  | 102 => ⟨S4x8192x2x128, .f32⟩
  | 103 => ⟨S1x1x3072, .f32⟩
  | 104 => ⟨S3072, .f32⟩
  | 105 => ⟨S1x1x3072, .f32⟩
  | 106 => ⟨S3072, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S4x256x1024, .f32⟩
  | 114 => ⟨S4x256x1024, .f32⟩
  | 115 => ⟨S4x256x1024, .f32⟩
  | 116 => ⟨S_, .f32⟩
  | 117 => ⟨S4x256x1024, .f32⟩
  | 118 => ⟨S4x256x1024, .f32⟩
  | 119 => ⟨S_, .f32⟩
  | 120 => ⟨S4x256x1024, .f32⟩
  | 121 => ⟨S4x256x1024, .f32⟩
  | 122 => ⟨S4x256x1024, .f32⟩
  | 123 => ⟨S4x256x1024, .f32⟩
  | 124 => ⟨S4x256x1024, .f32⟩
  | 125 => ⟨S1x1x1024, .f32⟩
  | 126 => ⟨S4x256x1024, .f32⟩
  | 127 => ⟨S4x256x1024, .f32⟩
  | _ => ⟨S4x8192x1024, .bf16⟩

abbrev hbmTy0_1 (i : Nat) : BufTy := match i % 128 with
  | 0 => ⟨S4x256x1024, .f32⟩
  | 1 => ⟨S4x256x1024, .f32⟩
  | 2 => ⟨S_, .f32⟩
  | 3 => ⟨S4x256, .f32⟩
  | 4 => ⟨S4x256x1, .f32⟩
  | 5 => ⟨S_, .f32⟩
  | 6 => ⟨S4x256x1, .f32⟩
  | 7 => ⟨S4x256x1, .f32⟩
  | 8 => ⟨S_, .f32⟩
  | 9 => ⟨S4x256x1, .f32⟩
  | 10 => ⟨S4x256x1, .f32⟩
  | 11 => ⟨S4x256x1, .f32⟩
  | 12 => ⟨S4x256x1024, .f32⟩
  | 13 => ⟨S4x256x1024, .f32⟩
  | 14 => ⟨S1x1x1024, .f32⟩
  | 15 => ⟨S4x256x1024, .f32⟩
  | 16 => ⟨S4x256x1024, .f32⟩
  | 17 => ⟨S_, .f32⟩
  | 18 => ⟨S1024, .f32⟩
  | 19 => ⟨S1024, .f32⟩
  | 20 => ⟨S1x1x1024, .f32⟩
  | 21 => ⟨S4x256x1024, .f32⟩
  | 22 => ⟨S4x256x1024, .f32⟩
  | 23 => ⟨S1x1x1024, .f32⟩
  | 24 => ⟨S4x256x1024, .f32⟩
  | 25 => ⟨S4x256x1024, .f32⟩
  | 26 => ⟨S4x256x2560, .f32⟩
  | 27 => ⟨S4x256x1024, .f32⟩
  | 28 => ⟨S4x256x256, .f32⟩
  | 29 => ⟨S4x256x256, .f32⟩
  | 30 => ⟨S4x256x1024, .f32⟩
  | 31 => ⟨S4x256x8x128, .f32⟩
  | 32 => ⟨S4x256x8x128, .f32⟩
  | 33 => ⟨S_, .f32⟩
  | 34 => ⟨S4x256x8, .f32⟩
  | 35 => ⟨S4x256x8x1, .f32⟩
  | 36 => ⟨S_, .f32⟩
  | 37 => ⟨S4x256x8x1, .f32⟩
  | 38 => ⟨S4x256x8x1, .f32⟩
  | 39 => ⟨S_, .f32⟩
  | 40 => ⟨S4x256x8x1, .f32⟩
  | 41 => ⟨S4x256x8x1, .f32⟩
  | 42 => ⟨S4x256x8x1, .f32⟩
  | 43 => ⟨S4x256x8x128, .f32⟩
  | 44 => ⟨S4x256x8x128, .f32⟩
  | 45 => ⟨S1x1x1x128, .f32⟩
  | 46 => ⟨S4x256x8x128, .f32⟩
  | 47 => ⟨S4x256x8x128, .f32⟩
  | 48 => ⟨S4x256x2x128, .f32⟩
  | 49 => ⟨S4x256x2x128, .f32⟩
  | 50 => ⟨S_, .f32⟩
  | 51 => ⟨S4x256x2, .f32⟩
  | 52 => ⟨S4x256x2x1, .f32⟩
  | 53 => ⟨S_, .f32⟩
  | 54 => ⟨S4x256x2x1, .f32⟩
  | 55 => ⟨S4x256x2x1, .f32⟩
  | 56 => ⟨S_, .f32⟩
  | 57 => ⟨S4x256x2x1, .f32⟩
  | 58 => ⟨S4x256x2x1, .f32⟩
  | 59 => ⟨S4x256x2x1, .f32⟩
  | 60 => ⟨S4x256x2x128, .f32⟩
  | 61 => ⟨S4x256x2x128, .f32⟩
  | 62 => ⟨S1x1x1x128, .f32⟩
  | 63 => ⟨S4x256x2x128, .f32⟩
  | 64 => ⟨S4x256x2x128, .f32⟩
  | 65 => ⟨S4x8192x8x32, .f32⟩
  | 66 => ⟨S4x8192x8x32, .f32⟩
  | 67 => ⟨S4x8192x8x32, .f32⟩
  | 68 => ⟨S4x8192x8x32, .f32⟩
  | 69 => ⟨S8192x1x128, .f32⟩
  | 70 => ⟨S1x8192x1x128, .f32⟩
  | 71 => ⟨S4x8192x8x128, .f32⟩
  | 72 => ⟨S4x8192x8x128, .f32⟩
  | 73 => ⟨S4x8192x8x32, .f32⟩
  | 74 => ⟨S4x8192x8x32, .f32⟩
  | 75 => ⟨S4x8192x8x128, .f32⟩
  | 76 => ⟨S8192x1x128, .f32⟩
  | 77 => ⟨S1x8192x1x128, .f32⟩
  | 78 => ⟨S4x8192x8x128, .f32⟩
  | 79 => ⟨S4x8192x8x128, .f32⟩
  | 80 => ⟨S4x8192x8x128, .f32⟩
  | 81 => ⟨S4x8448x8x128, .f32⟩
  | 82 => ⟨S4x8448x1024, .f32⟩
  | 83 => ⟨S4x8192x2x32, .f32⟩
  | 84 => ⟨S4x8192x2x32, .f32⟩
  | 85 => ⟨S4x8192x2x32, .f32⟩
  | 86 => ⟨S4x8192x2x32, .f32⟩
  | 87 => ⟨S8192x1x128, .f32⟩
  | 88 => ⟨S1x8192x1x128, .f32⟩
  | 89 => ⟨S4x8192x2x128, .f32⟩
  | 90 => ⟨S4x8192x2x128, .f32⟩
  | 91 => ⟨S4x8192x2x32, .f32⟩
  | 92 => ⟨S4x8192x2x32, .f32⟩
  | 93 => ⟨S4x8192x2x128, .f32⟩
  | 94 => ⟨S8192x1x128, .f32⟩
  | 95 => ⟨S1x8192x1x128, .f32⟩
  | 96 => ⟨S4x8192x2x128, .f32⟩
  | 97 => ⟨S4x8192x2x128, .f32⟩
  | 98 => ⟨S4x8192x2x128, .f32⟩
  | 99 => ⟨S4x8448x2x128, .f32⟩
  | 100 => ⟨S4x8448x256, .f32⟩
  | 101 => ⟨S4x8448x256, .f32⟩
  | 102 => ⟨S4x33x256x256, .f32⟩
  | 103 => ⟨S4x8448x1024, .f32⟩
  | 104 => ⟨S_, .f32⟩
  | 105 => ⟨S4x8448x1024, .f32⟩
  | 106 => ⟨S4x8448x1024, .f32⟩
  | 107 => ⟨S4x8448x1024, .bf16⟩
  | 108 => ⟨S4x8448x256, .bf16⟩
  | 109 => ⟨S4x33x256x256, .f32⟩
  | 110 => ⟨S4x33x256x256, .bf16⟩
  | 111 => ⟨S4x8448x1024, .f32⟩
  | 112 => ⟨S4x8448x1024, .f32⟩
  | 113 => ⟨S4x8448x1024, .f32⟩
  | 114 => ⟨S_, .f32⟩
  | 115 => ⟨S4x8448x1024, .f32⟩
  | 116 => ⟨S4x8448x1024, .f32⟩
  | 117 => ⟨S_, .f32⟩
  | 118 => ⟨S4x8448x1024, .f32⟩
  | 119 => ⟨S4x8448x1024, .f32⟩
  | 120 => ⟨S4x8448x1024, .f32⟩
  | 121 => ⟨S4x8448x1024, .bf16⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_cst_1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_6 : Ref sig .tc := ⟨.hbm, 88, rfl⟩
abbrev main_v59 : Ref sig .tc := ⟨.hbm, 89, rfl⟩
abbrev main_v60 : Ref sig .tc := ⟨.hbm, 90, rfl⟩
abbrev main_cst_7 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call1_v0 : Ref sig .tc := ⟨.hbm, 114, rfl⟩
abbrev main_call1_v1 : Ref sig .tc := ⟨.hbm, 115, rfl⟩
abbrev main_call1_cst : Ref sig .tc := ⟨.hbm, 116, rfl⟩
abbrev main_call1_v2 : Ref sig .tc := ⟨.hbm, 117, rfl⟩
abbrev main_call1_v3 : Ref sig .tc := ⟨.hbm, 118, rfl⟩
abbrev main_call1_cst_0 : Ref sig .tc := ⟨.hbm, 119, rfl⟩
abbrev main_call1_v4 : Ref sig .tc := ⟨.hbm, 120, rfl⟩
abbrev main_call1_v5 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_9 : Ref sig .tc := ⟨.hbm, 130, rfl⟩
abbrev main_v90 : Ref sig .tc := ⟨.hbm, 131, rfl⟩
abbrev main_v91 : Ref sig .tc := ⟨.hbm, 132, rfl⟩
abbrev main_cst_10 : Ref sig .tc := ⟨.hbm, 133, rfl⟩
abbrev main_v92 : Ref sig .tc := ⟨.hbm, 134, rfl⟩
abbrev main_v93 : Ref sig .tc := ⟨.hbm, 135, rfl⟩
abbrev main_cst_11 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_12 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_13 : Ref sig .tc := ⟨.hbm, 161, rfl⟩
abbrev main_v117 : Ref sig .tc := ⟨.hbm, 162, rfl⟩
abbrev main_v118 : Ref sig .tc := ⟨.hbm, 163, rfl⟩
abbrev main_cst_14 : Ref sig .tc := ⟨.hbm, 164, rfl⟩
abbrev main_v119 : Ref sig .tc := ⟨.hbm, 165, rfl⟩
abbrev main_v120 : Ref sig .tc := ⟨.hbm, 166, rfl⟩
abbrev main_cst_15 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_16 : Ref sig .tc := ⟨.hbm, 178, rfl⟩
abbrev main_v131 : Ref sig .tc := ⟨.hbm, 179, rfl⟩
abbrev main_v132 : Ref sig .tc := ⟨.hbm, 180, rfl⟩
abbrev main_cst_17 : Ref sig .tc := ⟨.hbm, 181, rfl⟩
abbrev main_v133 : Ref sig .tc := ⟨.hbm, 182, rfl⟩
abbrev main_v134 : Ref sig .tc := ⟨.hbm, 183, rfl⟩
abbrev main_cst_18 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_19 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_call2_v0 : Ref sig .tc := ⟨.hbm, 240, rfl⟩
abbrev main_call2_v1 : Ref sig .tc := ⟨.hbm, 241, rfl⟩
abbrev main_call2_cst : Ref sig .tc := ⟨.hbm, 242, rfl⟩
abbrev main_call2_v2 : Ref sig .tc := ⟨.hbm, 243, rfl⟩
abbrev main_call2_v3 : Ref sig .tc := ⟨.hbm, 244, rfl⟩
abbrev main_call2_cst_0 : Ref sig .tc := ⟨.hbm, 245, rfl⟩
abbrev main_call2_v4 : Ref sig .tc := ⟨.hbm, 246, rfl⟩
abbrev main_call2_v5 : Ref sig .tc := ⟨.hbm, 247, rfl⟩
abbrev main_v189 : Ref sig .tc := ⟨.hbm, 248, rfl⟩
abbrev main_v190 : Ref sig .tc := ⟨.hbm, 249, rfl⟩

abbrev nD : Nat := 1
abbrev τ : Topo := Topo.v7x

variable {F : FTy → Type} [FloatOps F]
-- ==== Proof.Walk.lean ====
/- What the kernel's running state (accumulator and partial sums) is, chunk by chunk of 768 keys: the state after `n` chunks is a plain recursion, and the
   loop's two trips of five chunks followed by the last chunk leave the state after eleven. Stated over any float values. -/
module

public import proofs.«01_k».proof.Proof.Gen.KernelIdeal.Frame
public import Idealize.ShloMosaic.Lib.Pipeline.Value
public import Idealize.ShloMosaic.Lib.Pipeline.ReadBack
public import Idealize.ShloMosaic.Lib.Pointwise

@[expose] public section

set_option maxRecDepth 16384

noncomputable section

namespace Cert.KernelIdeal.Walk

open Cert.KernelIdeal Cert.KernelIdeal.Gen Idealize.ShloMosaic.Pipeline Idealize.ShloMosaic Idealize.ShloMosaic.TcCoe Idealize.SL.Sem

variable {F : FTy → Type} [FloatOps F]

/-- The 768 keys from row `r` on of the block of all keys. -/
def keys (x1 : Vec F S1x8448x128 .bf16) (r : ℕ) : Vec F S1x768x128 .bf16 :=
  fun j => x1 (ix3 0 (Fin.ofNat 8448 (r + (j 1).val)) (j 2))

/-- Slab `n` of the transposed values: keys `256 n … 256 n + 255`. -/
def slab (x2 : Vec F S1x33x128x256 .bf16) (n : ℕ) : Vec F S1x1x128x256 .bf16 :=
  fun j => x2 (ix4 0 (Fin.ofNat 33 n) (j 2) (j 3))

/-- One chunk: the accumulator and the partial sums after the keys `kb` with their three slabs of values. -/
def step (q : FVec F S4096x128 .bf16) (b : FVec F S1x1 .f32) (kb : Vec F S1x768x128 .bf16) (va vb vc : Vec F S1x1x128x256 .bf16)
    (s : Vec F S128x4096 .f32 × Vec F S8x4096 .f32) : Vec F S128x4096 .f32 × Vec F S8x4096 .f32 :=
  (k0_pay8 (k0_pay7 q b kb s.1 va vb vc), k0_pay9 (k0_pay6 q b kb) s.2)

/-- The state after `n` chunks, from zero. -/
def walk (q : FVec F S4096x128 .bf16) (b : FVec F S1x1 .f32) (x1 : Vec F S1x8448x128 .bf16) (x2 : Vec F S1x33x128x256 .bf16) :
    ℕ → Vec F S128x4096 .f32 × Vec F S8x4096 .f32
  | 0 => (fun _ => FloatOps.ofBits .f32 0#32, fun _ => FloatOps.ofBits .f32 0#32)
  | n + 1 => step q b (keys x1 (768 * n)) (slab x2 (3 * n)) (slab x2 (3 * n + 1)) (slab x2 (3 * n + 2)) (walk q b x1 x2 n)

/-- A load of 768 keys. -/
theorem read_keys {sig' : RefSig} {κ : Kind} {sp : Space} (v : View sig' κ sp S1x8448x128 .bf16) (f : v.ty.Contents (Elt F))
    (r : ℕ) (inb) :
    v.readAt (Elt F) (Rect.unit (s := S1x8448x128) ![0, r, 0] (no_index S1x768x128.size) inb).toLoadRect f = keys (v.read (Elt F) f) (r) := by
  rw [View.readAt_eq_ld]
  funext j
  have h1 : r + 768 ≤ 8448 := inb 1
  have hj : (j 1).val < 768 := (j 1).isLt
  have hj0 : (j 0).val < 1 := (j 0).isLt
  refine congrArg (v.read (Elt F) f) (funext fun a => Fin.ext ?_)
  match a with
  | ⟨0, _⟩ => show 0 + 1 * (j 0).val = 0; omega
  | ⟨1, _⟩ =>
    show r + 1 * (j 1).val = (r + (j 1).val) % 8448
    rw [Nat.mod_eq_of_lt (by omega)]; omega
  | ⟨2, _⟩ => show 0 + 1 * (j 2).val = (j 2).val; omega

/-- A load of a slab. -/
theorem read_slab {sig' : RefSig} {κ : Kind} {sp : Space} (v : View sig' κ sp S1x33x128x256 .bf16) (f : v.ty.Contents (Elt F))
    (n : ℕ) (inb) :
    v.readAt (Elt F) (Rect.unit (s := S1x33x128x256) ![0, n, 0, 0] (no_index S1x1x128x256.size) inb).toLoadRect f = slab (v.read (Elt F) f) (n) := by
  rw [View.readAt_eq_ld]
  funext j
  have h1 : n + 1 ≤ 33 := inb 1
  have hj : (j 1).val < 1 := (j 1).isLt
  have hj0 : (j 0).val < 1 := (j 0).isLt
  refine congrArg (v.read (Elt F) f) (funext fun a => Fin.ext ?_)
  match a with
  | ⟨0, _⟩ => show 0 + 1 * (j 0).val = 0; omega
  | ⟨1, _⟩ =>
    show n + 1 * (j 1).val = n % 33
    rw [Nat.mod_eq_of_lt (by omega)]; omega
  | ⟨2, _⟩ => show 0 + 1 * (j 2).val = (j 2).val; omega
  | ⟨3, _⟩ => show 0 + 1 * (j 3).val = (j 3).val; omega

/-- The rows of the accumulator in the scratch. -/
abbrev RA : Rect S136x4096 := Rect.unit ![0, 0] (no_index S128x4096.size) inb_S136x4096_S128x4096_0_0
/-- The rows of the partial sums in the scratch. -/
abbrev RL : Rect S136x4096 := Rect.unit ![128, 0] (no_index S8x4096.size) inb_S136x4096_S8x4096_128_0

/-- After the two stores of a chunk the accumulator's rows read the first. -/
theorem read_acc {sig' : RefSig} {κ : Kind} {sp : Space} (v : View sig' κ sp S136x4096 .f32) (w : Vec F S8x4096 .f32) (w' : Vec F S128x4096 .f32)
    (L : List (View.Piece (Elt F) S136x4096 .f32)) : v.readCov (⟨RL, w⟩ :: ⟨RA, w'⟩ :: L) RA.toLoadRect = w' := by
  rw [View.readCov_skip (h := by decide), View.readCov_cons_toLoadRect]

/-- … and the partial sums' rows the second. -/
theorem read_sum {sig' : RefSig} {κ : Kind} {sp : Space} (v : View sig' κ sp S136x4096 .f32) (w : Vec F S8x4096 .f32)
    (L : List (View.Piece (Elt F) S136x4096 .f32)) : v.readCov (⟨RL, w⟩ :: L) RL.toLoadRect = w :=
  View.readCov_cons_toLoadRect ..

/-- … also when only the accumulator has been stored anew. -/
theorem read_sum' {sig' : RefSig} {κ : Kind} {sp : Space} (v : View sig' κ sp S136x4096 .f32) (w : Vec F S8x4096 .f32) (w' : Vec F S128x4096 .f32)
    (L : List (View.Piece (Elt F) S136x4096 .f32)) : v.readCov (⟨RA, w'⟩ :: ⟨RL, w⟩ :: L) RL.toLoadRect = w := by
  rw [View.readCov_skip (h := by decide), View.readCov_cons_toLoadRect]

section Trip

variable (𝒱 : Variants) (c : Dev nD) (bd : Option 𝒱.V) (i : grid0.Coords) (arg3 : Memref sig .tc .vmem S1x1024x512 .bf16) (harg3 : arg3.IsWhole)
  (arg4 : Memref sig .tc .vmem S1x8448x128 .bf16) (harg4 : arg4.IsWhole) (arg5 : Memref sig .tc .vmem S1x33x128x256 .bf16) (harg5 : arg5.IsWhole)
  (arg6 : Memref sig .tc .vmem S1x128 .f32) (harg6 : arg6.IsWhole) (arg7 : Memref sig .tc .vmem S1x1024x512 .bf16) (harg7 : arg7.IsWhole)
  (arg8 : Memref sig .tc .vmem S136x4096 .f32) (harg8 : arg8.IsWhole)
  (v0 v2 v4 v6 : Vec F S1x1024x128 .bf16) (v9 : Vec F S1x1 .f32)
  (X4 : BufTy.Contents (Elt F) arg4.view.ty) (X5 : BufTy.Contents (Elt F) arg5.view.ty)

set_option backward.isDefEq.respectTransparency false in
/-- One trip of the loop takes the state after `5 k` chunks to the state after `5 k + 5`. -/
theorem trip_walk (k : Fin k0_t1_loop.trips) (n n' : ℕ) (hn : n = 5 * k.val) (hn' : n' = 5 * k.val + 5) (f : BufTy.Contents (Elt F) arg8.view.ty)
    (ha : arg8.view.readAt (Elt F) RA.toLoadRect f = (walk (k0_pay25 v0 v2 v4 v6) (k0_pay26 v9) (arg4.view.read (Elt F) X4) (arg5.view.read (Elt F) X5) n).1)
    (hl : arg8.view.readAt (Elt F) RL.toLoadRect f = (walk (k0_pay25 v0 v2 v4 v6) (k0_pay26 v9) (arg4.view.read (Elt F) X4) (arg5.view.read (Elt F) X5) n).2) :
    ∃ L, (trip_k0_t1 (F := F) 𝒱 c bd i arg3 harg3 arg4 harg4 arg5 harg5 arg6 harg6 arg7 harg7 arg8 harg8 v0 v2 v4 v6 v9 X4 X5 k).1 f
      = ⟨RL, (walk (k0_pay25 v0 v2 v4 v6) (k0_pay26 v9) (arg4.view.read (Elt F) X4) (arg5.view.read (Elt F) X5) n').2⟩
        :: ⟨RA, (walk (k0_pay25 v0 v2 v4 v6) (k0_pay26 v9) (arg4.view.read (Elt F) X4) (arg5.view.read (Elt F) X5) n').1⟩ :: L := by
  subst hn hn'
  unfold trip_k0_t1
  dsimp only
  sl_unfold_words
  simp only [read_keys, read_slab, read_acc, read_sum, read_sum', ha, hl]
  match k with
  | ⟨0, _⟩ =>
    simp only [Scalar.indexCast, Scalar.muli, Scalar.addi, IntOp.muli, IntOp.addi, Scf.iv, BitVec.reduceOfNat, BitVec.reduceMul, BitVec.reduceAdd,
      BitVec.reduceToNat]
    exact ⟨_, rfl⟩
  | ⟨1, _⟩ =>
    simp only [Scalar.indexCast, Scalar.muli, Scalar.addi, IntOp.muli, IntOp.addi, Scf.iv, BitVec.reduceOfNat, BitVec.reduceMul, BitVec.reduceAdd,
      BitVec.reduceToNat]
    exact ⟨_, rfl⟩

/-- What a load of the accumulator's rows reads of any contents after the two stores of a chunk. -/
theorem readAt_acc {sig' : RefSig} {κ : Kind} {sp : Space} (v : View sig' κ sp S136x4096 .f32) (f : v.ty.Contents (Elt F)) (w : Vec F S8x4096 .f32)
    (w' : Vec F S128x4096 .f32) (L : List (View.Piece (Elt F) S136x4096 .f32)) :
    v.readAt (Elt F) RA.toLoadRect (v.writes (Elt F) f (⟨RL, w⟩ :: ⟨RA, w'⟩ :: L)) = w' := by
  rw [View.readAt_writes_of_cover (h := fun j => ⟨⟨RA, w'⟩, by simp, LoadRect.idx_mem_of_within (p := RA) (by decide) j⟩), read_acc]

/-- … and of the partial sums' rows. -/
theorem readAt_sum {sig' : RefSig} {κ : Kind} {sp : Space} (v : View sig' κ sp S136x4096 .f32) (f : v.ty.Contents (Elt F)) (w : Vec F S8x4096 .f32)
    (L : List (View.Piece (Elt F) S136x4096 .f32)) :
    v.readAt (Elt F) RL.toLoadRect (v.writes (Elt F) f (⟨RL, w⟩ :: L)) = w := by
  rw [View.readAt_writes_of_cover (h := fun j => ⟨⟨RL, w⟩, by simp, LoadRect.idx_mem_of_within (p := RL) (by decide) j⟩), read_sum]

/-- The scratch as the loop finds it: filled with zeros. -/
abbrev zeroed (v : Memref sig .tc .vmem S136x4096 .f32) : BufTy.Contents (Elt F) v.view.ty :=
  v.view.writes (Elt F) v.view.junk [⟨Rect.unit ![0, 0] S136x4096.size inb_S136x4096_S136x4096_0_0, k0_pay27⟩]

/-- The fill is zero everywhere. -/
theorem fill_eq : k0_pay27 (F := F) = fun _ => FloatOps.ofBits .f32 0#32 := by
  unfold k0_pay27
  exact shapeCast_self ..

/-- Any load of the zeroed scratch reads zero. -/
theorem read_fill {sig' : RefSig} {κ : Kind} {sp : Space} (v : View sig' κ sp S136x4096 .f32) (R : Rect S136x4096) :
    v.readCov (Val := Elt F) [⟨Rect.unit ![0, 0] S136x4096.size inb_S136x4096_S136x4096_0_0, k0_pay27 (F := F)⟩] R.toLoadRect = fun _ => FloatOps.ofBits .f32 0#32 := by
  have h : ∀ a : Fin 2, (![0, 0] : Fin 2 → ℕ) a = 0 := by decide
  rw [View.readCov_eq_canon', View.canon_cons_unit_lit _ _ _ h, fill_eq]

/-- The zeroed scratch's accumulator rows are the state before the first chunk. -/
theorem zeroed_acc (v : Memref sig .tc .vmem S136x4096 .f32) (q : FVec F S4096x128 .bf16) (b : FVec F S1x1 .f32) (x1 : Vec F S1x8448x128 .bf16)
    (x2 : Vec F S1x33x128x256 .bf16) : v.view.readAt (Elt F) RA.toLoadRect (zeroed v) = (walk q b x1 x2 0).1 :=
  read_fill v.view RA

/-- … and so are its rows of partial sums. -/
theorem zeroed_sum (v : Memref sig .tc .vmem S136x4096 .f32) (q : FVec F S4096x128 .bf16) (b : FVec F S1x1 .f32) (x1 : Vec F S1x8448x128 .bf16)
    (x2 : Vec F S1x33x128x256 .bf16) : v.view.readAt (Elt F) RL.toLoadRect (zeroed v) = (walk q b x1 x2 0).2 :=
  read_fill v.view RL

/-- A trip over what the trips before it wrote. -/
theorem trip_state (k : Fin k0_t1_loop.trips) (n n' N : ℕ) (hn : n = k.val) (hn' : n' = k.val + 1) (hN : N = 5 * k.val + 5)
    (ha : arg8.view.readAt (Elt F) RA.toLoadRect (arg8.view.writes (Elt F) (zeroed arg8) (pb_k0_t1 (F := F) 𝒱 c bd i arg3 harg3 arg4 harg4 arg5 harg5 arg6 harg6 arg7 harg7 arg8 harg8 v0 v2 v4 v6 v9 X4 X5 (zeroed arg8) n)) = (walk (k0_pay25 v0 v2 v4 v6) (k0_pay26 v9) (arg4.view.read (Elt F) X4) (arg5.view.read (Elt F) X5) (5 * n)).1)
    (hl : arg8.view.readAt (Elt F) RL.toLoadRect (arg8.view.writes (Elt F) (zeroed arg8) (pb_k0_t1 (F := F) 𝒱 c bd i arg3 harg3 arg4 harg4 arg5 harg5 arg6 harg6 arg7 harg7 arg8 harg8 v0 v2 v4 v6 v9 X4 X5 (zeroed arg8) n)) = (walk (k0_pay25 v0 v2 v4 v6) (k0_pay26 v9) (arg4.view.read (Elt F) X4) (arg5.view.read (Elt F) X5) (5 * n)).2) :
    ∃ L, pb_k0_t1 (F := F) 𝒱 c bd i arg3 harg3 arg4 harg4 arg5 harg5 arg6 harg6 arg7 harg7 arg8 harg8 v0 v2 v4 v6 v9 X4 X5 (zeroed arg8) n' = ⟨RL, (walk (k0_pay25 v0 v2 v4 v6) (k0_pay26 v9) (arg4.view.read (Elt F) X4) (arg5.view.read (Elt F) X5) N).2⟩ :: ⟨RA, (walk (k0_pay25 v0 v2 v4 v6) (k0_pay26 v9) (arg4.view.read (Elt F) X4) (arg5.view.read (Elt F) X5) N).1⟩ :: L := by
  subst hn hn' hN
  obtain ⟨L, h⟩ := trip_walk 𝒱 c bd i arg3 harg3 arg4 harg4 arg5 harg5 arg6 harg6 arg7 harg7 arg8 harg8 v0 v2 v4 v6 v9 X4 X5 k _ _ rfl rfl _ ha hl
  rw [pb_k0_t1_succ]
  exact ⟨_, congrArg (· ++ _) h⟩

/-- After both trips the scratch holds the state after ten chunks. -/
theorem loop_walk :
    ∃ L, pb_k0_t1 (F := F) 𝒱 c bd i arg3 harg3 arg4 harg4 arg5 harg5 arg6 harg6 arg7 harg7 arg8 harg8 v0 v2 v4 v6 v9 X4 X5 (zeroed arg8) 2
      = ⟨RL, (walk (k0_pay25 v0 v2 v4 v6) (k0_pay26 v9) (arg4.view.read (Elt F) X4) (arg5.view.read (Elt F) X5) 10).2⟩
        :: ⟨RA, (walk (k0_pay25 v0 v2 v4 v6) (k0_pay26 v9) (arg4.view.read (Elt F) X4) (arg5.view.read (Elt F) X5) 10).1⟩ :: L := by
  have z0 : (0 : ℕ) < k0_t1_loop.trips := by decide
  have z1 : (1 : ℕ) < k0_t1_loop.trips := by decide
  have e0 : pb_k0_t1 (F := F) 𝒱 c bd i arg3 harg3 arg4 harg4 arg5 harg5 arg6 harg6 arg7 harg7 arg8 harg8 v0 v2 v4 v6 v9 X4 X5 (zeroed arg8) 0 = [] := by rw [pb_k0_t1.eq_1]
  obtain ⟨L1, e1⟩ := trip_state 𝒱 c bd i arg3 harg3 arg4 harg4 arg5 harg5 arg6 harg6 arg7 harg7 arg8 harg8 v0 v2 v4 v6 v9 X4 X5 ⟨0, z0⟩ 0 1 5 rfl rfl rfl (by rw [e0, View.writes_nil]; exact zeroed_acc arg8 _ _ _ _) (by rw [e0, View.writes_nil]; exact zeroed_sum arg8 _ _ _ _)
  exact trip_state 𝒱 c bd i arg3 harg3 arg4 harg4 arg5 harg5 arg6 harg6 arg7 harg7 arg8 harg8 v0 v2 v4 v6 v9 X4 X5 ⟨1, z1⟩ 1 2 10 rfl rfl rfl (by rw [e1]; exact readAt_acc ..) (by rw [e1]; exact readAt_sum ..)

end Trip

/-- The kernel's stacked queries: the four heads' 1024 rows one below the other. -/
def stacked (x0 : Vec F S1x1024x512 .bf16) : FVec F S4096x128 .bf16 :=
  k0_pay25 (View.ld x0 (Rect.unit ![0, 0, 0] S1x1024x128.size inb_S1x1024x512_S1x1024x128_0_0_0))
    (View.ld x0 (Rect.unit ![0, 0, 128] S1x1024x128.size inb_S1x1024x512_S1x1024x128_0_0_128))
    (View.ld x0 (Rect.unit ![0, 0, 256] S1x1024x128.size inb_S1x1024x512_S1x1024x128_0_0_256))
    (View.ld x0 (Rect.unit ![0, 0, 384] S1x1024x128.size inb_S1x1024x512_S1x1024x128_0_0_384))

/-- The bound, as the kernel reads it. -/
def bnd (x3 : Vec F S1x128 .f32) : FVec F S1x1 .f32 :=
  k0_pay26 (View.ld x3 (Rect.unit ![0, 0] S1x1.size inb_S1x128_S1x1_0_0))

/-- The state after the eleven chunks of one grid point. -/
def final (x0 : Vec F S1x1024x512 .bf16) (x1 : Vec F S1x8448x128 .bf16) (x2 : Vec F S1x33x128x256 .bf16) (x3 : Vec F S1x128 .f32) :
    Vec F S128x4096 .f32 × Vec F S8x4096 .f32 :=
  walk (stacked x0) (bnd x3) x1 x2 11

/-- The four stores of one grid point: each head's columns of the accumulator, divided by the sum and transposed. -/
def stores (s : Vec F S128x4096 .f32 × Vec F S8x4096 .f32) : List (View.Piece (Elt F) S1x1024x512 .bf16) :=
  [⟨Rect.unit ![0, 0, 384] S1x1024x128.size inb_S1x1024x512_S1x1024x128_0_0_384, k0_pay5 s.1 (k0_pay34 s.2)⟩,
   ⟨Rect.unit ![0, 0, 256] S1x1024x128.size inb_S1x1024x512_S1x1024x128_0_0_256, k0_pay4 s.1 (k0_pay34 s.2)⟩,
   ⟨Rect.unit ![0, 0, 128] S1x1024x128.size inb_S1x1024x512_S1x1024x128_0_0_128, k0_pay3 s.1 (k0_pay34 s.2)⟩,
   ⟨Rect.unit ![0, 0, 0] S1x1024x128.size inb_S1x1024x512_S1x1024x128_0_0_0, k0_pay2 s.1 (k0_pay34 s.2)⟩]

set_option backward.isDefEq.respectTransparency false in
/-- The body's stores at a grid point are those of the final state. -/
theorem run_stores (c : Dev nD) (i : grid0.Coords) (arg3 : Memref sig .tc .vmem S1x1024x512 .bf16) (harg3 : arg3.IsWhole) (arg4 : Memref sig .tc .vmem S1x8448x128 .bf16) (harg4 : arg4.IsWhole) (arg5 : Memref sig .tc .vmem S1x33x128x256 .bf16) (harg5 : arg5.IsWhole) (arg6 : Memref sig .tc .vmem S1x128 .f32) (harg6 : arg6.IsWhole) (arg7 : Memref sig .tc .vmem S1x1024x512 .bf16) (harg7 : arg7.IsWhole) (arg8 : Memref sig .tc .vmem S136x4096 .f32) (harg8 : arg8.IsWhole)
    (x0 : Vec F S1x1024x512 .bf16) (x1 : Vec F S1x8448x128 .bf16) (x2 : Vec F S1x33x128x256 .bf16) (x3 : Vec F S1x128 .f32) :
    (kernelRun0_A c i arg3 harg3 arg4 harg4 arg5 harg5 arg6 harg6 arg7 harg7 arg8 harg8 x0 x1 x2 x3).1 = stores (final x0 x1 x2 x3) := by
  unfold kernelRun0_A
  dsimp only
  sl_unfold_words
  obtain ⟨L, hL⟩ := loop_walk Variants.none c none i arg3 harg3 arg4 harg4 arg5 harg5 arg6 harg6 arg7 harg7 arg8 harg8
    (View.readAt (Elt F) arg3.view (Rect.unit (s := S1x1024x512) ![0, 0, 0] S1x1024x128.size inb_S1x1024x512_S1x1024x128_0_0_0).toLoadRect (harg3.unread x0))
    (View.readAt (Elt F) arg3.view (Rect.unit (s := S1x1024x512) ![0, 0, 128] S1x1024x128.size inb_S1x1024x512_S1x1024x128_0_0_128).toLoadRect (harg3.unread x0))
    (View.readAt (Elt F) arg3.view (Rect.unit (s := S1x1024x512) ![0, 0, 256] S1x1024x128.size inb_S1x1024x512_S1x1024x128_0_0_256).toLoadRect (harg3.unread x0))
    (View.readAt (Elt F) arg3.view (Rect.unit (s := S1x1024x512) ![0, 0, 384] S1x1024x128.size inb_S1x1024x512_S1x1024x128_0_0_384).toLoadRect (harg3.unread x0))
    (View.readAt (Elt F) arg6.view (Rect.unit (s := S1x128) ![0, 0] S1x1.size inb_S1x128_S1x1_0_0).toLoadRect (harg6.unread x3))
    (harg4.unread x1) (harg5.unread x2)
  have ht : Scf.trips k0_t1_loop.lb k0_t1_loop.ub k0_t1_loop.st = 2 := by decide
  rw [ht, hL]
  simp only [List.cons_append, read_keys, read_slab, read_acc, read_sum, read_sum']
  simp only [View.readAt_eq_ld, harg3.read_unread, harg4.read_unread, harg5.read_unread, harg6.read_unread]
  rfl

end Cert.KernelIdeal.Walk

end
-- ==== Proof.Block.lean ====
/- What one grid point of the kernel writes, element by element, at exact arithmetic: the weighted sum of the values over all 8448 keys, times the reciprocal
   of the sum of the weights. -/
module

public import proofs.«01_k».proof.Proof.Walk

@[expose] public section

set_option maxRecDepth 16384

noncomputable section

namespace Cert.KernelIdeal.Block

open Cert.KernelIdeal Cert.KernelIdeal.Gen Cert.KernelIdeal.Walk Idealize.ShloMosaic Idealize.ShloMosaic.TcCoe Idealize.SL.Sem
open scoped BigOperators

variable (q : FVec Ideal S4096x128 .bf16) (b : FVec Ideal S1x1 .f32) (x1 : Vec Ideal S1x8448x128 .bf16) (x2 : Vec Ideal S1x33x128x256 .bf16)

/-- The weight of key `n` for the stacked query row `x`. -/
def wt (n : ℕ) (x : Fin 4096) : EReal :=
  Ideal.exp2 (∑ e : Fin 128, x1 (ix3 0 (Fin.ofNat 8448 n) e) * q (ix2 x e) - b (ix2 0 0))

/-- Component `d` of the value of key `n`. -/
def val (n : ℕ) (d : Fin 128) : EReal := x2 (ix4 0 (Fin.ofNat 33 (n / 256)) d (Fin.ofNat 256 n))

/-- A chunk's weights. -/
theorem p_apply (n : ℕ) (r : Fin 768) (x : Fin 4096) : k0_pay6 q b (keys x1 n) (ix2 r x) = wt q b x1 (n + r) x := by
  unfold k0_pay6
  pointwise
  rfl

/-- A slab's values. -/
theorem slab_apply (s : ℕ) (d : Fin 128) (j : Fin 256) : slab x2 s (ix4 0 0 d j) = val x2 (256 * s + j) d := by
  unfold slab val
  have h1 : (256 * s + j.val) / 256 = s := by omega
  have h2 : Fin.ofNat 256 (256 * s + j.val) = j := Fin.ext (by show (256 * s + j.val) % 256 = j.val; omega)
  rw [h1, h2]
  rfl

/-- A chunk is three slabs. -/
theorem split_chunk {M : Type*} [AddCommMonoid M] (f : ℕ → M) :
    ∑ i ∈ Finset.range 768, f i = ∑ j : Fin 256, f j + ∑ j : Fin 256, f (256 + j) + ∑ j : Fin 256, f (512 + j) := by
  rw [show (768 : ℕ) = 256 + 256 + 256 from rfl, Finset.sum_range_add, Finset.sum_range_add]
  simp only [Finset.sum_range]

/-- The accumulator after a chunk. -/
theorem acc_step (N : ℕ) (a : Vec Ideal S128x4096 .f32) (d : Fin 128) (x : Fin 4096) :
    k0_pay8 (k0_pay7 q b (keys x1 (768 * N)) a (slab x2 (3 * N)) (slab x2 (3 * N + 1)) (slab x2 (3 * N + 2))) (ix2 d x)
      = a (ix2 d x) + ∑ i ∈ Finset.range 768, val x2 (768 * N + i) d * wt q b x1 (768 * N + i) x := by
  unfold k0_pay8 k0_pay7
  pointwise
  rw [split_chunk]
  refine congrArg _ (congrArg₂ _ (congrArg₂ _ ?_ ?_) ?_) <;> refine Finset.sum_congr rfl fun j _ => ?_
  · rw [p_apply, slab_apply, show 256 * (3 * N) + j.val = 768 * N + j.val by omega]
  · rw [p_apply, slab_apply, show 256 * (3 * N + 1) + j.val = 768 * N + (256 + j.val) by omega]
  · rw [p_apply, slab_apply, show 256 * (3 * N + 2) + j.val = 768 * N + (512 + j.val) by omega]

/-- The partial sums after a chunk. -/
theorem sum_step (N : ℕ) (l : Vec Ideal S8x4096 .f32) (r : Fin 8) (x : Fin 4096) :
    k0_pay9 (k0_pay6 q b (keys x1 (768 * N))) l (ix2 r x)
      = l (ix2 r x) + ∑ i ∈ Finset.range 96, wt q b x1 (8 * (96 * N + i) + r) x := by
  unfold k0_pay9
  pointwise
  simp only [Finset.sum_range]
  refine congrArg _ (Finset.sum_congr rfl fun j _ => ?_)
  rw [p_apply, show 768 * N + (j.val * 8 + r.val) = 8 * (96 * N + j.val) + r.val by omega]

/-- The accumulator after `N` chunks. -/
theorem walk_acc (d : Fin 128) (x : Fin 4096) (N : ℕ) :
    (walk q b x1 x2 N).1 (ix2 d x) = ∑ n ∈ Finset.range (768 * N), val x2 n d * wt q b x1 n x := by
  induction N with
  | zero => exact Ideal.ofBits_zero_f32
  | succ N ih => rw [show 768 * (N + 1) = 768 * N + 768 by ring, Finset.sum_range_add, ← ih]; exact acc_step ..

/-- The partial sums after `N` chunks. -/
theorem walk_sum (r : Fin 8) (x : Fin 4096) (N : ℕ) :
    (walk q b x1 x2 N).2 (ix2 r x) = ∑ m ∈ Finset.range (96 * N), wt q b x1 (8 * m + r) x := by
  induction N with
  | zero => exact Ideal.ofBits_zero_f32
  | succ N ih => rw [show 96 * (N + 1) = 96 * N + 96 by ring, Finset.sum_range_add, ← ih]; exact sum_step ..

/-- Eight interleaved sums are one sum. -/
theorem sum_interleave {M : Type*} [AddCommMonoid M] (f : ℕ → M) (n : ℕ) :
    ∑ r : Fin 8, ∑ m ∈ Finset.range n, f (8 * m + r) = ∑ k ∈ Finset.range (8 * n), f k := by
  induction n with
  | zero => simp
  | succ n ih =>
    simp only [Finset.sum_range_succ, Finset.sum_add_distrib]
    rw [ih, show 8 * (n + 1) = 8 * n + 8 by ring, Finset.sum_range_add, Finset.sum_range (fun x => f (8 * n + x)) (n := 8)]

/-- The reciprocal the accumulator is multiplied by. -/
theorem recip_apply (l : Vec Ideal S8x4096 .f32) (d : Fin 128) (x : Fin 4096) :
    k0_pay34 l (ix2 d x) = Ideal.div 1 (∑ r : Fin 8, l (ix2 r x)) := by
  unfold k0_pay34
  pointwise

/-- The heads' rows stacked: row `1024 g + r` is head `g`'s row `r`. -/
theorem stacked_apply (x0 : Vec Ideal S1x1024x512 .bf16) (g : Fin 4) (r : Fin 1024) (e : Fin 128) (x : Fin 4096) (hx : x.val = 1024 * g + r)
    (y : Fin 512) (hy : y.val = 128 * g + e) : stacked x0 (ix2 x e) = x0 (ix3 0 r y) := by
  unfold stacked k0_pay25
  pointwise
  obtain ⟨g, hg⟩ := g
  obtain ⟨x, hx'⟩ := x
  simp only at hx hy ⊢
  subst hx
  have hr := r.isLt
  split_ifs
  all_goals
    refine congrArg₂ (fun a b => x0 (ix3 0 a b)) (Fin.ext ?_) (Fin.ext ?_)
    · simp only
      omega
    · simp only [hy]
      omega

/-- One element a grid point writes: row `r` of head `g`, component `d`. -/
def cell (x0 : Vec Ideal S1x1024x512 .bf16) (x1 : Vec Ideal S1x8448x128 .bf16) (x2 : Vec Ideal S1x33x128x256 .bf16) (x3 : Vec Ideal S1x128 .f32)
    (r : Fin 1024) (y : Fin 512) : EReal :=
  (∑ n ∈ Finset.range 8448, val x2 n (Fin.ofNat 128 y)
      * Ideal.exp2 (∑ e : Fin 128, x1 (ix3 0 (Fin.ofNat 8448 n) e) * x0 (ix3 0 r (Fin.ofNat 512 (128 * (y / 128) + e))) - x3 (ix2 0 0)))
    * Ideal.div 1 (∑ n ∈ Finset.range 8448,
        Ideal.exp2 (∑ e : Fin 128, x1 (ix3 0 (Fin.ofNat 8448 n) e) * x0 (ix3 0 r (Fin.ofNat 512 (128 * (y / 128) + e))) - x3 (ix2 0 0)))

/-- The weights in terms of the blocks. -/
theorem wt_eq (x0 : Vec Ideal S1x1024x512 .bf16) (x3 : Vec Ideal S1x128 .f32) (n : ℕ) (g : Fin 4) (r : Fin 1024) (d : Fin 128)
    (x : Fin 4096) (hx : x.val = 1024 * g + r) (y : Fin 512) (hy : y.val = 128 * g + d) :
    wt (stacked x0) (bnd x3) x1 n x
      = Ideal.exp2 (∑ e : Fin 128, x1 (ix3 0 (Fin.ofNat 8448 n) e) * x0 (ix3 0 r (Fin.ofNat 512 (128 * (y / 128) + e))) - x3 (ix2 0 0)) := by
  unfold wt
  have hb : bnd x3 (ix2 0 0) = x3 (ix2 0 0) := by
    unfold bnd k0_pay26
    pointwise
  rw [hb]
  refine congrArg (fun z => Ideal.exp2 (z - x3 (ix2 0 0))) (Finset.sum_congr rfl fun e _ => ?_)
  have hd := d.isLt
  have he := e.isLt
  have hg := g.isLt
  have h : y.val / 128 = g := by omega
  rw [stacked_apply x0 g r e x hx (Fin.ofNat 512 (128 * (y / 128) + e)) (by show _ % 512 = _; rw [h]; omega)]

/-- Accumulator times reciprocal, all keys summed. -/
theorem out_apply (x0 : Vec Ideal S1x1024x512 .bf16) (x3 : Vec Ideal S1x128 .f32) (g : Fin 4) (r : Fin 1024) (d : Fin 128)
    (x : Fin 4096) (hx : x.val = 1024 * g + r) (y : Fin 512) (hy : y.val = 128 * g + d) :
    (final x0 x1 x2 x3).1 (ix2 d x) * k0_pay34 (final x0 x1 x2 x3).2 (ix2 d x) = cell x0 x1 x2 x3 r y := by
  unfold final cell
  have hd : Fin.ofNat 128 y.val = d := Fin.ext (by show y.val % 128 = d.val; omega)
  rw [recip_apply, walk_acc, hd]
  simp only [walk_sum]
  rw [sum_interleave (fun k => wt (stacked x0) (bnd x3) x1 k x)]
  simp only [wt_eq x1 x0 x3 _ g r d x hx y hy]

/-- The four stores of a grid point write the block `cell`. -/
theorem stores_cell (x0 : Vec Ideal S1x1024x512 .bf16) (x3 : Vec Ideal S1x128 .f32) :
    ∀ p ∈ stores (final x0 x1 x2 x3), ∀ z : p.1.shape.Idx, p.2 z = (fun y : S1x1024x512.Idx => cell x0 x1 x2 x3 (y 1) (y 2)) (p.1.emb z) := by
  refine View.PiecesOf.mem (Val := Elt Ideal) (e := .bf16) (G := fun y : S1x1024x512.Idx => cell x0 x1 x2 x3 (y 1) (y 2)) ?_
  unfold stores
  refine And.intro ?_ (And.intro ?_ (And.intro ?_ (And.intro ?_ trivial))) <;> intro z
  · show k0_pay5 (final x0 x1 x2 x3).1 (k0_pay34 (final x0 x1 x2 x3).2) z = cell x0 x1 x2 x3 _ _
    rw [eq_ix3 (n0 := 1) (n1 := 1024) (n2 := 128) z]
    unfold k0_pay5
    pointwise
    exact (out_apply x1 x2 x0 x3 3 (z 1) (z 2) _ (by simp) ⟨384 + (z 2).val, by have := (z 2).isLt; simp at this; omega⟩ (by simp)).trans (congrArg₂ (cell x0 x1 x2 x3) (Fin.ext (by simp)) (Fin.ext (by simp)))
  · show k0_pay4 (final x0 x1 x2 x3).1 (k0_pay34 (final x0 x1 x2 x3).2) z = cell x0 x1 x2 x3 _ _
    rw [eq_ix3 (n0 := 1) (n1 := 1024) (n2 := 128) z]
    unfold k0_pay4
    pointwise
    exact (out_apply x1 x2 x0 x3 2 (z 1) (z 2) _ (by simp) ⟨256 + (z 2).val, by have := (z 2).isLt; simp at this; omega⟩ (by simp)).trans (congrArg₂ (cell x0 x1 x2 x3) (Fin.ext (by simp)) (Fin.ext (by simp)))
  · show k0_pay3 (final x0 x1 x2 x3).1 (k0_pay34 (final x0 x1 x2 x3).2) z = cell x0 x1 x2 x3 _ _
    rw [eq_ix3 (n0 := 1) (n1 := 1024) (n2 := 128) z]
    unfold k0_pay3
    pointwise
    exact (out_apply x1 x2 x0 x3 1 (z 1) (z 2) _ (by simp) ⟨128 + (z 2).val, by have := (z 2).isLt; simp at this; omega⟩ (by simp)).trans (congrArg₂ (cell x0 x1 x2 x3) (Fin.ext (by simp)) (Fin.ext (by simp)))
  · show k0_pay2 (final x0 x1 x2 x3).1 (k0_pay34 (final x0 x1 x2 x3).2) z = cell x0 x1 x2 x3 _ _
    rw [eq_ix3 (n0 := 1) (n1 := 1024) (n2 := 128) z]
    unfold k0_pay2
    pointwise
    exact (out_apply x1 x2 x0 x3 0 (z 1) (z 2) _ (by simp) ⟨0 + (z 2).val, by have := (z 2).isLt; simp at this; omega⟩ (by simp)).trans (congrArg₂ (cell x0 x1 x2 x3) (Fin.ext (by simp)) (Fin.ext (by simp)))

end Cert.KernelIdeal.Block

end
-- ==== Proof.Tile.lean ====
/- The kernel's result array, element by element, in terms of the four arrays the call is given. -/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Tile

open Cert.KernelIdeal Cert.KernelIdeal.Gen Cert.KernelIdeal.Walk Cert.KernelIdeal.Block Idealize.ShloMosaic Idealize.ShloMosaic.TcCoe Idealize.SL.Sem
open scoped BigOperators

variable (m : (ℓ : Loc nD τ sig) → Buf (Elt Ideal) ℓ)

/-- The weight key `n` gets from row `i` of the result: the power of two of scaled score less bound. -/
def weight (Q : S4x8448x1024.Idx → EReal) (K : S4x8448x256.Idx → EReal) (B : S1x128.Idx → EReal) (b : Fin 4) (r : Fin 8192) (y : Fin 1024) (n : ℕ) : EReal :=
  Ideal.exp2 (∑ e : Fin 128, K (ix3 b (Fin.ofNat 8448 n) (Fin.ofNat 256 (128 * (y / 512) + e)))
      * Q (ix3 b (Fin.ofNat 8448 r) (Fin.ofNat 1024 (128 * (y / 128) + e))) - B (ix2 0 0))

/-- One element of the result. -/
def elem (Q : S4x8448x1024.Idx → EReal) (K : S4x8448x256.Idx → EReal) (T : S4x33x256x256.Idx → EReal) (B : S1x128.Idx → EReal)
    (b : Fin 4) (r : Fin 8192) (y : Fin 1024) : EReal :=
  (∑ n ∈ Finset.range 8448, T (ix4 b (Fin.ofNat 33 (n / 256)) (Fin.ofNat 256 (128 * (y / 512) + y % 128)) (Fin.ofNat 256 n)) * weight Q K B b r y n)
    * Ideal.div 1 (∑ n ∈ Finset.range 8448, weight Q K B b r y n)

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)

/-- Where the query block's element `j` lies in its array. -/
theorem emb0 (t : Fin cfg0.N) (j : S1x1024x512.Idx) (i : S4x8448x1024.Idx) (h0 : (i 0).val = (grid0.coords t 0).val)
    (h1 : (i 1).val = 1024 * (grid0.coords t 2).val + (j 1).val) (h2 : (i 2).val = 512 * (grid0.coords t 1).val + (j 2).val)
    (h : ((cfg0.win 0).xblock (cfg0.grid.coords t)).Idx) (hh : ∀ a, (h a).val = (j a).val) :
    (win0_0.blk t).view.emb h = i := by
  have : (j 0).val < 1 := (j 0).isLt
  have e0 : (h 0).val = (j 0).val := hh 0
  have e1 : (h 1).val = (j 1).val := hh 1
  have e2 : (h 2).val = (j 2).val := hh 2
  blk_ext [index0, h0, h1, h2, e0, e1, e2]

/-- Where the key block's element `j` lies in its array. -/
theorem emb1 (t : Fin cfg0.N) (j : S1x8448x128.Idx) (i : S4x8448x256.Idx) (h0 : (i 0).val = (grid0.coords t 0).val)
    (h1 : (i 1).val = (j 1).val) (h2 : (i 2).val = 128 * (grid0.coords t 1).val + (j 2).val) : (win0_1.blk t).view.emb j = i := by
  have : (j 0).val < 1 := (j 0).isLt
  blk_ext [index1, h0, h1, h2]

/-- Where the value block's element `j` lies in its array. -/
theorem emb2 (t : Fin cfg0.N) (j : S1x33x128x256.Idx) (i : S4x33x256x256.Idx) (h0 : (i 0).val = (grid0.coords t 0).val)
    (h1 : (i 1).val = (j 1).val) (h2 : (i 2).val = 128 * (grid0.coords t 1).val + (j 2).val) (h3 : (i 3).val = (j 3).val) :
    (win0_2.blk t).view.emb j = i := by
  have : (j 0).val < 1 := (j 0).isLt
  blk_ext [index2, h0, h1, h2, h3]

/-- The bound's block is its array. -/
theorem emb3 (t : Fin cfg0.N) (j : S1x128.Idx) : (win0_3.blk t).view.emb j = j := by
  blk_ext [index3]

/-- The result's coordinates of a block's element. -/
theorem emb4_0 (t : Fin cfg0.N) (y : S1x1024x512.Idx) : ((win0_4.blk t).view.emb y 0).val = (grid0.coords t 0).val := by
  have : (y 0).val < 1 := (y 0).isLt
  blk_simp [index4]
theorem emb4_1 (t : Fin cfg0.N) (y : S1x1024x512.Idx) : ((win0_4.blk t).view.emb y 1).val = 1024 * (grid0.coords t 2).val + (y 1).val := by
  blk_simp [index4]
  simp only [Matrix.cons_val_one, Matrix.cons_val_zero]
  omega
theorem emb4_2 (t : Fin cfg0.N) (y : S1x1024x512.Idx) : ((win0_4.blk t).view.emb y 2).val = 512 * (grid0.coords t 1).val + (y 2).val := by
  blk_simp [index4]
  simp only [Matrix.cons_val]
  omega

/-- The query block at a point, read off its array. -/
theorem rd0 (A : S4x8448x1024.Idx → EReal) (t : Fin cfg0.N) (j : S1x1024x512.Idx) (i : S4x8448x1024.Idx) (h0 : (i 0).val = (grid0.coords t 0).val)
    (h1 : (i 1).val = 1024 * (grid0.coords t 2).val + (j 1).val) (h2 : (i 2).val = 512 * (grid0.coords t 1).val + (j 2).val)
    (h : ((cfg0.win 0).xblock (cfg0.grid.coords t)).Idx) (hh : ∀ a, (h a).val = (j a).val) :
    ((cfg0.win 0).blk t).view.read (Elt Ideal) A h = A i := by
  have e := emb0 t j i h0 h1 h2 h hh
  subst e
  rfl

/-- The key block at a point, read off its array. -/
theorem rd1 (A : S4x8448x256.Idx → EReal) (t : Fin cfg0.N) (j : S1x8448x128.Idx) (i : S4x8448x256.Idx) (h0 : (i 0).val = (grid0.coords t 0).val)
    (h1 : (i 1).val = (j 1).val) (h2 : (i 2).val = 128 * (grid0.coords t 1).val + (j 2).val) :
    ((cfg0.win 1).blk t).view.read (Elt Ideal) A j = A i := by
  have e := emb1 t j i h0 h1 h2
  subst e
  rfl

/-- The value block at a point, read off its array. -/
theorem rd2 (A : S4x33x256x256.Idx → EReal) (t : Fin cfg0.N) (j : S1x33x128x256.Idx) (i : S4x33x256x256.Idx) (h0 : (i 0).val = (grid0.coords t 0).val)
    (h1 : (i 1).val = (j 1).val) (h2 : (i 2).val = 128 * (grid0.coords t 1).val + (j 2).val) (h3 : (i 3).val = (j 3).val) :
    ((cfg0.win 2).blk t).view.read (Elt Ideal) A j = A i := by
  have e := emb2 t j i h0 h1 h2 h3
  subst e
  rfl

/-- The bound's block, read off its array. -/
theorem rd3 (A : S1x128.Idx → EReal) (t : Fin cfg0.N) (j : S1x128.Idx) : ((cfg0.win 3).blk t).view.read (Elt Ideal) A j = A j := by
  have e := emb3 t j
  exact congrArg A e

/-- The query block at a point, in terms of the call's array. -/
theorem read0 (c : Dev nD) (t : Fin cfg0.N) (j : S1x1024x512.Idx) (i : S4x8448x1024.Idx) (h0 : (i 0).val = (grid0.coords t 0).val)
    (h1 : (i 1).val = 1024 * (grid0.coords t 2).val + (j 1).val) (h2 : (i 2).val = 512 * (grid0.coords t 1).val + (j 2).val) :
    X0_0 m c t j = V m c main_v8 i := by
  unfold X0_0 Pipeline.Window.fill
  rw [dif_pos (moved0_0 t j)]
  unfold iblk
  exact rd0 (V m c main_v8) t j i h0 h1 h2 _ fun a => rfl

/-- The key block at a point, in terms of the call's array. -/
theorem read1 (c : Dev nD) (t : Fin cfg0.N) (j : S1x8448x128.Idx) (i : S4x8448x256.Idx) (h0 : (i 0).val = (grid0.coords t 0).val)
    (h1 : (i 1).val = (j 1).val) (h2 : (i 2).val = 128 * (grid0.coords t 1).val + (j 2).val) :
    iblk m c 1 t j = V m c main_v11 i := by
  unfold iblk
  exact rd1 (V m c main_v11) t j i h0 h1 h2

/-- The value block at a point, in terms of the call's array. -/
theorem read2 (c : Dev nD) (t : Fin cfg0.N) (j : S1x33x128x256.Idx) (i : S4x33x256x256.Idx) (h0 : (i 0).val = (grid0.coords t 0).val)
    (h1 : (i 1).val = (j 1).val) (h2 : (i 2).val = 128 * (grid0.coords t 1).val + (j 2).val) (h3 : (i 3).val = (j 3).val) :
    iblk m c 2 t j = V m c main_v15 i := by
  unfold iblk
  exact rd2 (V m c main_v15) t j i h0 h1 h2 h3

/-- The bound's block, in terms of the call's array. -/
theorem read3 (c : Dev nD) (t : Fin cfg0.N) (j : S1x128.Idx) : iblk m c 3 t j = V m c main_v22 j := by
  unfold iblk
  exact rd3 (V m c main_v22) t j

/-- An element of a block is the result's element where the block lies. -/
theorem cell_elem (x0 : Vec Ideal S1x1024x512 .bf16) (x1 : Vec Ideal S1x8448x128 .bf16) (x2 : Vec Ideal S1x33x128x256 .bf16) (x3 : Vec Ideal S1x128 .f32)
    (Q : S4x8448x1024.Idx → EReal) (K : S4x8448x256.Idx → EReal) (T : S4x33x256x256.Idx → EReal) (B : S1x128.Idx → EReal) (b : Fin 4) (h : Fin 2) (q : Fin 8)
    (r0 : ∀ j i, (i 0).val = b.val → (i 1).val = 1024 * q.val + (j 1).val → (i 2).val = 512 * h.val + (j 2).val → x0 j = Q i)
    (r1 : ∀ j i, (i 0).val = b.val → (i 1).val = (j 1).val → (i 2).val = 128 * h.val + (j 2).val → x1 j = K i)
    (r2 : ∀ j i, (i 0).val = b.val → (i 1).val = (j 1).val → (i 2).val = 128 * h.val + (j 2).val → (i 3).val = (j 3).val → x2 j = T i)
    (r3 : ∀ j, x3 j = B j) (r : Fin 1024) (y : Fin 512) (R : Fin 8192) (Y : Fin 1024) (hR : R.val = 1024 * q.val + r.val) (hY : Y.val = 512 * h.val + y.val) :
    cell x0 x1 x2 x3 r y = elem Q K T B b R Y := by
  have hh := h.isLt
  have hy := y.isLt
  have hr := R.isLt
  have hw : ∀ n, Ideal.exp2 (∑ e : Fin 128, x1 (ix3 0 (Fin.ofNat 8448 n) e) * x0 (ix3 0 r (Fin.ofNat 512 (128 * (y / 128) + e))) - x3 (ix2 0 0))
      = weight Q K B b R Y n := fun n => by
    unfold weight
    rw [r3]
    refine congrArg (fun z => Ideal.exp2 (z - B (ix2 0 0))) (Finset.sum_congr rfl fun e _ => ?_)
    have he := e.isLt
    refine congrArg₂ (· * ·) (r1 _ _ rfl rfl ?_) (r0 _ _ rfl ?_ ?_)
    · show (128 * (Y.val / 512) + e.val) % 256 = 128 * h.val + e.val
      omega
    · show R.val % 8448 = 1024 * q.val + r.val
      omega
    · show (128 * (Y.val / 128) + e.val) % 1024 = 512 * h.val + (128 * (y.val / 128) + e.val) % 512
      omega
  unfold cell elem
  simp only [hw]
  refine congrArg (· * _) (Finset.sum_congr rfl fun n _ => congrArg (· * _) ?_)
  refine r2 _ _ rfl rfl ?_ rfl
  show (128 * (Y.val / 512) + Y.val % 128) % 256 = 128 * h.val + y.val % 128
  omega

/-- The result array is `elem` of the four arrays the call is given. -/
theorem final_o (c : Dev nD) : (dats m 0 c).arrAt 4 cfg0.N
    = fun i : S4x8192x1024.Idx => elem (V m c main_v8) (V m c main_v11) (V m c main_v15) (V m c main_v22) (i 0) (i 1) (i 2) := by
  refine (dats m 0 c).arrAt_eq_of_covers 4 _ (by decide +kernel) fun t hf y => ?_
  blk_simp
  rw [after0_4]
  unfold outsAt0 out0_A_4
  rw [View.read_writes_junk_eq_canon]
  rw [View.canon_apply_of_pieces (fun y : S1x1024x512.Idx => cell (X0_0 m c t) (iblk m c 1 t) (iblk m c 2 t) (iblk m c 3 t) (y 1) (y 2)) _
    (by rw [run_stores]; exact stores_cell _ _ _ _) _ (cover0_A_4 ..)]
  have e : (win0_4.blk t).view.emb y 0 = grid0.coords t 0 := Fin.ext (emb4_0 t y)
  have k := cell_elem _ _ _ _ (V m c main_v8) (V m c main_v11) (V m c main_v15) (V m c main_v22) (grid0.coords t 0) (grid0.coords t 1) (grid0.coords t 2)
    (read0 m c t) (read1 m c t) (read2 m c t) (read3 m c t) (y 1) (y 2) ((win0_4.blk t).view.emb y 1) ((win0_4.blk t).view.emb y 2) (emb4_1 t y) (emb4_2 t y)
  rw [e]
  exact k

end Cert.KernelIdeal.Tile

end
-- ==== Proof.Softmax.lean ====
module

public import Idealize.ShloMosaic.PureOps.Ideal
public import Idealize.ShloMosaic.Lib.IdealHost

@[expose] public section

noncomputable section

namespace Cert.Softmax

open Idealize.ShloMosaic
open scoped BigOperators

variable {ι : Type} [Fintype ι]

/-- A sum of reals is a real. -/
theorem sum_coe {κ : Type} (s : Finset κ) (f : κ → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A factor that is a real and not negative goes into a sum of any values. -/
theorem sum_mul {κ : Type} (s : Finset κ) (g : κ → EReal) (c : ℝ) (hc : 0 ≤ c) : (∑ i ∈ s, g i) * (c : EReal) = ∑ i ∈ s, g i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The greatest of finitely many reals, taken from minus infinity, is a real. -/
theorem fold_max [Nonempty ι] (f : ι → EReal) (hf : ∀ i, ∃ r : ℝ, f i = r) : ∃ r : ℝ, Finset.fold max ⊥ f Finset.univ = r := by
  classical
  have key : ∀ s : Finset ι, s.Nonempty → ∃ r : ℝ, Finset.fold max ⊥ f s = r := by
    intro s hs
    induction hs using Finset.Nonempty.cons_induction with
    | singleton a =>
      obtain ⟨r, hr⟩ := hf a
      exact ⟨r, by rw [Finset.fold_singleton, hr]; exact max_eq_left bot_le⟩
    | cons a s ha _ ih =>
      obtain ⟨r, hr⟩ := hf a
      obtain ⟨q, hq⟩ := ih
      exact ⟨max r q, by rw [Finset.fold_cons, hr, hq]; exact (EReal.coe_strictMono.monotone.map_max (a := r) (b := q)).symm⟩
  exact key _ Finset.univ_nonempty

/-- Weights that differ by a positive factor give the same weighted mean, whether each term or the sum is divided. -/
theorem mean_eq [Nonempty ι] (v : ι → EReal) (w u : ι → ℝ) (t : ℝ) (ht : 0 < t) (hu : ∀ i, 0 < u i) (hw : ∀ i, w i = t * u i) :
    (∑ i, v i * (w i : EReal)) * Ideal.div 1 (∑ i, (w i : EReal)) = ∑ i, v i * Ideal.div (u i : EReal) (0 + ∑ j, (u j : EReal)) := by
  have hU : 0 < ∑ j, u j := Finset.sum_pos (fun i _ => hu i) Finset.univ_nonempty
  have hW : ∑ j, w j = t * ∑ j, u j := by rw [Finset.mul_sum]; exact Finset.sum_congr rfl fun i _ => hw i
  have hWp : 0 < ∑ j, w j := by rw [hW]; exact mul_pos ht hU
  rw [zero_add, sum_coe, sum_coe, Ideal.div_coe hWp.ne', one_mul, sum_mul _ _ _ (by positivity)]
  refine Finset.sum_congr rfl fun i _ => ?_
  rw [Ideal.div_coe hU.ne', mul_assoc, ← EReal.coe_mul, ← EReal.coe_mul]
  congr 2
  rw [hW, hw i]
  field_simp

/-- The weighted mean with weights two to the power of the score less a bound, the scores carrying a factor `1 / log 2`,
is the softmax mean with the greatest score subtracted. The scores are reals, the values arbitrary. -/
theorem softmax_eq [Nonempty ι] (v : ι → EReal) (s : ι → ℝ) (B M : ℝ) :
    (∑ i, v i * Ideal.exp2 ((((s i / Real.log 2 : ℝ)) : EReal) - (B : EReal))) * Ideal.div 1 (∑ i, Ideal.exp2 ((((s i / Real.log 2 : ℝ)) : EReal) - (B : EReal)))
      = ∑ i, v i * Ideal.div (Ideal.exp ((s i : EReal) - (M : EReal))) (0 + ∑ j, Ideal.exp ((s j : EReal) - (M : EReal))) := by
  have h2 : ∀ i, Ideal.exp2 ((((s i / Real.log 2 : ℝ)) : EReal) - (B : EReal)) = ((Real.rpow 2 (s i / Real.log 2 - B) : ℝ) : EReal) := fun i => by
    rw [← EReal.coe_sub]; rfl
  have he : ∀ i, Ideal.exp ((s i : EReal) - (M : EReal)) = ((Real.exp (s i - M) : ℝ) : EReal) := fun i => by
    rw [← EReal.coe_sub]; rfl
  simp only [h2, he]
  refine mean_eq v _ _ (Real.exp (M - B * Real.log 2)) (Real.exp_pos _) (fun i => Real.exp_pos _) fun i => ?_
  show (2 : ℝ) ^ (s i / Real.log 2 - B) = _
  have hl : Real.log 2 ≠ 0 := (Real.log_pos (by norm_num)).ne'
  rw [Real.rpow_def_of_pos (by norm_num), ← Real.exp_add]
  congr 1
  field_simp
  ring

/-- A score with the factor on the query: the scaled sum of products over `log 2`. -/
theorem score_eq {κ : Type} [Fintype κ] (k q : κ → ℝ) (d : ℝ) (hd : 0 < d) :
    ∑ e, (k e : EReal) * ((q e : EReal) * Ideal.div 1 ((Real.sqrt d : EReal) * (Real.log 2 : EReal)))
      = ((((∑ e, k e * q e) / Real.sqrt d / Real.log 2 : ℝ)) : EReal) := by
  have hl : 0 < Real.log 2 := Real.log_pos (by norm_num)
  have hs : 0 < Real.sqrt d := Real.sqrt_pos.mpr hd
  rw [← EReal.coe_mul, Ideal.div_coe (mul_pos hs hl).ne', one_mul]
  have : ∀ e, (k e : EReal) * ((q e : EReal) * ((1 / (Real.sqrt d * Real.log 2) : ℝ) : EReal)) = ((k e * q e / Real.sqrt d / Real.log 2 : ℝ) : EReal) := fun e => by
    rw [← EReal.coe_mul, ← EReal.coe_mul]; congr 1; field_simp
  simp only [this]
  rw [sum_coe, Finset.sum_div, Finset.sum_div]

/-- The plain score: the sum of products divided by the root. -/
theorem plain_eq {κ : Type} [Fintype κ] (k q : κ → ℝ) (d : ℝ) (hd : 0 < d) :
    Ideal.div (∑ e, (k e : EReal) * (q e : EReal)) (Real.sqrt d : EReal) = ((((∑ e, k e * q e) / Real.sqrt d : ℝ)) : EReal) := by
  have hs : 0 < Real.sqrt d := Real.sqrt_pos.mpr hd
  rw [Ideal.div_coe hs.ne']
  simp only [← EReal.coe_mul]
  rw [sum_coe, ← EReal.coe_mul]
  congr 1
  field_simp

theorem ofBits_128 : Ideal.ofBits .f32 1124073472#32 = ((128 : ℝ) : EReal) := by
  simp [Ideal.ofBits, Ideal.ieee, -EReal.coe_mul]; norm_num

theorem ofBits_two : Ideal.ofBits .f32 1073741824#32 = ((2 : ℝ) : EReal) := by
  simp [Ideal.ofBits, Ideal.ieee, -EReal.coe_mul]; norm_num

theorem ofBits_bot : Ideal.ofBits .f32 4286578688#32 = (⊥ : EReal) := by
  simp [Ideal.ofBits, Ideal.ieee]

theorem ofBits_top : Ideal.ofBits .f32 2139095040#32 = (⊤ : EReal) := by
  simp [Ideal.ofBits, Ideal.ieee]

theorem sqrt_pos_coe (d : ℝ) (hd : 0 < d) : Ideal.sqrt (d : EReal) = (Real.sqrt d : EReal) := by
  rw [Ideal.sqrt_coe, if_neg (not_lt.mpr hd.le)]

theorem log_pos_coe (d : ℝ) (hd : 0 < d) : Ideal.log (d : EReal) = (Real.log d : EReal) := by
  rw [Ideal.log_coe, if_neg (not_le.mpr hd)]

/-- A value whose absolute value is below infinity is a real. -/
theorem real_of_abs (x : EReal) (h : max x (-x) < ⊤) : ∃ r : ℝ, x = r := by
  induction x with
  | bot => simp at h
  | top => simp at h
  | coe r => exact ⟨r, rfl⟩

end Cert.Softmax
end
-- ==== Proof.Host.lean ====
/- The arrays the call is given, element by element, in terms of the program's arguments. -/
module

public import proofs.«01_k».proof.Proof.Gen.KernelIdeal.Frame
public import proofs.«01_k».proof.Proof.Softmax
public import Idealize.ShloMosaic.Lib.Pointwise
public import Idealize.ShloMosaic.Lib.Claim

@[expose] public section

set_option maxRecDepth 16384

noncomputable section

namespace Cert.KernelIdeal.Host

open Cert.KernelIdeal Cert.KernelIdeal.Gen Idealize.ShloMosaic Idealize.ShloMosaic.TcCoe Idealize.SL.Sem
open scoped BigOperators

/-- The queries, latents then context, times the scale. -/
def qArr (a0 : FVec Ideal S4x8192x2x4x128 .f32) (a3 : FVec Ideal S4x256x2x4x128 .f32) : S4x8448x1024.Idx → EReal :=
  truncf .bf16 (mulf (shapeCast S4x8448x1024 (concatenate S4x8448x2x4x128 1 [⟨S4x8192x2x4x128, a0⟩, ⟨S4x256x2x4x128, a3⟩]
      concatenates_S4x8192x2x4x128_S4x256x2x4x128_S4x8448x2x4x128_d1) shapeCasts_S4x8448x2x4x128_S4x8448x1024)
    (broadcastInDim S4x8448x1024 ![] bcast_S_S4x8448x1024 (Host.divf (constant S_ .f32 1065353216#32)
      (mulf (Host.sqrt (constant S_ .f32 1124073472#32)) (Host.log (constant S_ .f32 1073741824#32)))))) bitsLt_bf16_f32

/-- The keys, latents then context. -/
def kArr (a1 : FVec Ideal S4x8192x2x128 .f32) (a4 : FVec Ideal S4x256x2x128 .f32) : S4x8448x256.Idx → EReal :=
  truncf .bf16 (shapeCast S4x8448x256 (concatenate S4x8448x2x128 1 [⟨S4x8192x2x128, a1⟩, ⟨S4x256x2x128, a4⟩]
      concatenates_S4x8192x2x128_S4x256x2x128_S4x8448x2x128_d1) shapeCasts_S4x8448x2x128_S4x8448x256) bitsLt_bf16_f32

/-- The values, latents then context, in slabs of 256 keys, each transposed. -/
def vArr (a2 : FVec Ideal S4x8192x2x128 .f32) (a5 : FVec Ideal S4x256x2x128 .f32) : S4x33x256x256.Idx → EReal :=
  truncf .bf16 (transpose S4x33x256x256 [0, 1, 3, 2] (shapeCast S4x33x256x256 (concatenate S4x8448x2x128 1 [⟨S4x8192x2x128, a2⟩, ⟨S4x256x2x128, a5⟩]
      concatenates_S4x8192x2x128_S4x256x2x128_S4x8448x2x128_d1) shapeCasts_S4x8448x2x128_S4x33x256x256)
      transposes_S4x33x256x256_S4x33x256x256_0_1_3_2) bitsLt_bf16_f32

/-- The bound on the scores. -/
def bArr (a6 a7 : FVec Ideal S128 .f32) : S1x128.Idx → EReal :=
  broadcastInDim S1x128 ![] bcast_S_S1x128
    (mulf (mulf (constant S_ .f32 1099247741#32) (Host.reduce FloatOps.maximumf (Host.absf a6) (constant S_ .f32 4286578688#32) reducesTo_S128_S_d0 h_S_))
      (Host.reduce FloatOps.maximumf (Host.absf a7) (constant S_ .f32 4286578688#32) reducesTo_S128_S_d0 h_S_))

section Entry
variable (m : (ℓ : Loc nD τ sig) → Buf (Elt Ideal) ℓ) (c : Dev nD)

theorem V_q : V m c main_v8 = qArr (m ((c : Thread nD τ).loc main_arg0)) (m ((c : Thread nD τ).loc main_arg3)) := by
  entry_read
  rfl
theorem V_k : V m c main_v11 = kArr (m ((c : Thread nD τ).loc main_arg1)) (m ((c : Thread nD τ).loc main_arg4)) := by
  entry_read
  rfl
theorem V_v : V m c main_v15 = vArr (m ((c : Thread nD τ).loc main_arg2)) (m ((c : Thread nD τ).loc main_arg5)) := by
  entry_read
  rfl
theorem V_b : V m c main_v22 = bArr (m ((c : Thread nD τ).loc main_arg6)) (m ((c : Thread nD τ).loc main_arg7)) := by
  entry_read
  rfl

end Entry

/-- Latents then context, for the keys and for the values. -/
def cat (a1 : FVec Ideal S4x8192x2x128 .f32) (a4 : FVec Ideal S4x256x2x128 .f32) : S4x8448x2x128.Idx → EReal :=
  concatenate S4x8448x2x128 1 [⟨S4x8192x2x128, a1⟩, ⟨S4x256x2x128, a4⟩] concatenates_S4x8192x2x128_S4x256x2x128_S4x8448x2x128_d1

theorem cat_latent (a1 : FVec Ideal S4x8192x2x128 .f32) (a4 : FVec Ideal S4x256x2x128 .f32) (b : Fin 4) (n : Fin 8448) (h : Fin 2) (e : Fin 128)
    (n' : Fin 8192) (hn : n.val = n'.val) : cat a1 a4 (ix4 b n h e) = a1 (ix4 b n' h e) := by
  unfold cat
  pointwise
  rw [dif_pos (show n.val < 8192 by omega)]
  exact congrArg (fun q => a1 (ix4 b q h e)) (Fin.ext hn)

theorem cat_context (a1 : FVec Ideal S4x8192x2x128 .f32) (a4 : FVec Ideal S4x256x2x128 .f32) (b : Fin 4) (n : Fin 8448) (h : Fin 2) (e : Fin 128)
    (n' : Fin 256) (hn : n.val = 8192 + n'.val) : cat a1 a4 (ix4 b n h e) = a4 (ix4 b n' h e) := by
  unfold cat
  pointwise
  rw [dif_neg (show ¬ n.val < 8192 by omega)]
  exact congrArg (fun q => a4 (ix4 b q h e)) (Fin.ext (show n.val - 8192 = n'.val by omega))

/-- Two heads of 128 side by side, read at a column. -/
theorem heads_apply (x : S4x8448x2x128.Idx → EReal) (b : Fin 4) (n : Fin 8448) (y : Fin 256)
    (h : Fin 2) (e : Fin 128) (hy : y.val = 128 * h.val + e.val) :
    shapeCast S4x8448x256 x shapeCasts_S4x8448x2x128_S4x8448x256 (ix3 b n y) = x (ix4 b n h e) := by
  refine shapeCast_apply x _ _ _ ?_
  rewrite [Shape.rowMajor_val_four, Shape.rowMajor_val_three]
  show ((b.val * 8448 + n.val) * 2 + h.val) * 128 + e.val = (b.val * 8448 + n.val) * 256 + y.val
  omega

/-- The keys in slabs of 256, two heads side by side, read at a slab, a key and a column. -/
theorem slabs_apply (x : S4x8448x2x128.Idx → EReal) (b : Fin 4) (n : Fin 8448) (s : Fin 33) (k y : Fin 256)
    (h : Fin 2) (e : Fin 128) (hy : y.val = 128 * h.val + e.val) (hn : n.val = 256 * s.val + k.val) :
    shapeCast S4x33x256x256 x shapeCasts_S4x8448x2x128_S4x33x256x256 (ix4 b s k y) = x (ix4 b n h e) := by
  refine shapeCast_apply x _ _ _ ?_
  rewrite [Shape.rowMajor_val_four, Shape.rowMajor_val_four]
  show ((b.val * 8448 + n.val) * 2 + h.val) * 128 + e.val = ((b.val * 33 + s.val) * 256 + k.val) * 256 + y.val
  omega

/-- Eight heads of 128 side by side, read at a column. -/
theorem queries_apply (x : S4x8448x2x4x128.Idx → EReal) (b : Fin 4) (r : Fin 8448) (y : Fin 1024)
    (h : Fin 2) (g : Fin 4) (e : Fin 128) (hy : y.val = 512 * h.val + 128 * g.val + e.val) :
    shapeCast S4x8448x1024 x shapeCasts_S4x8448x2x4x128_S4x8448x1024 (ix3 b r y) = x (ix5 b r h g e) := by
  refine shapeCast_apply x _ _ _ ?_
  rewrite [Shape.rowMajor_val_five, Shape.rowMajor_val_three]
  show (((b.val * 8448 + r.val) * 2 + h.val) * 4 + g.val) * 128 + e.val = (b.val * 8448 + r.val) * 1024 + y.val
  omega

theorem flip_apply (x : S4x33x256x256.Idx → EReal) (b : Fin 4) (s : Fin 33) (k y : Fin 256) :
    transpose S4x33x256x256 [0, 1, 3, 2] x transposes_S4x33x256x256_S4x33x256x256_0_1_3_2 (ix4 b s y k) = x (ix4 b s k y)   := by
  pointwise

/-- A change of format keeps the value. -/
theorem trunc_read {S : Shape} (x : FVec Ideal S .f32) (i : S.Idx) : truncf .bf16 x bitsLt_bf16_f32 i = x i := rfl

/-- A product reads its two factors. -/
theorem mul_read {S : Shape} (x y : FVec Ideal S .f32) (i : S.Idx) : mulf x y i = x i * y i := rfl

/-- The key array reads the concatenation, heads side by side. -/
theorem kArr_apply (a1 : FVec Ideal S4x8192x2x128 .f32) (a4 : FVec Ideal S4x256x2x128 .f32) (b : Fin 4) (n : Fin 8448) (y : Fin 256)
    (h : Fin 2) (e : Fin 128) (hy : y.val = 128 * h.val + e.val) :
    kArr a1 a4 (ix3 b n y) = cat a1 a4 (ix4 b n h e) := by
  unfold kArr
  refine (trunc_read _ _).trans ?_
  exact heads_apply (cat a1 a4) b n y h e hy

/-- The value array reads the concatenation: key `256 s + k` in slab `s`, transposed. -/
theorem vArr_apply (a1 : FVec Ideal S4x8192x2x128 .f32) (a4 : FVec Ideal S4x256x2x128 .f32) (b : Fin 4) (n : Fin 8448) (s : Fin 33) (k y : Fin 256)
    (h : Fin 2) (e : Fin 128) (hy : y.val = 128 * h.val + e.val) (hn : n.val = 256 * s.val + k.val) :
    vArr a1 a4 (ix4 b s y k) = cat a1 a4 (ix4 b n h e) := by
  unfold vArr
  refine (trunc_read _ _).trans ?_
  exact (flip_apply _ b s k y).trans (slabs_apply (cat a1 a4) b n s k y h e hy hn)

/-- The factor on the queries. -/
def scale : EReal := Ideal.div (Ideal.ofBits .f32 1065353216#32) (Ideal.sqrt (Ideal.ofBits .f32 1124073472#32) * Ideal.log (Ideal.ofBits .f32 1073741824#32))

theorem qcat_latent (a0 : FVec Ideal S4x8192x2x4x128 .f32) (a3 : FVec Ideal S4x256x2x4x128 .f32) (b : Fin 4) (r : Fin 8448)
    (r' : Fin 8192) (hr : r.val = r'.val) (h : Fin 2) (g : Fin 4) (e : Fin 128) :
    concatenate S4x8448x2x4x128 1 [⟨S4x8192x2x4x128, a0⟩, ⟨S4x256x2x4x128, a3⟩]
      concatenates_S4x8192x2x4x128_S4x256x2x4x128_S4x8448x2x4x128_d1 (ix5 b r h g e) = a0 (ix5 b r' h g e) := by
  pointwise
  rw [dif_pos (show r.val < 8192 by omega)]
  exact congrArg (fun q => a0 (ix5 b q h g e)) (Fin.ext hr)

/-- The query array's latent rows, heads side by side, scaled. -/
theorem qArr_apply (a0 : FVec Ideal S4x8192x2x4x128 .f32) (a3 : FVec Ideal S4x256x2x4x128 .f32) (b : Fin 4) (r : Fin 8448) (y : Fin 1024)
    (r' : Fin 8192) (hr : r.val = r'.val) (h : Fin 2) (g : Fin 4) (e : Fin 128) (hy : y.val = 512 * h.val + 128 * g.val + e.val) :
    qArr a0 a3 (ix3 b r y) = a0 (ix5 b r' h g e) * scale := by
  unfold qArr
  refine (trunc_read _ _).trans ((mul_read _ _ _).trans ?_)
  exact congrArg (· * scale) ((queries_apply _ b r y h g e hy).trans (qcat_latent a0 a3 b r r' hr h g e))

theorem absmax_read (a : FVec Ideal S128 .f32) (j : S_.Idx) :
    Host.reduce FloatOps.maximumf (Host.absf a) (constant S_ .f32 4286578688#32) reducesTo_S128_S_d0 h_S_ j
      = Finset.fold max (Ideal.ofBits .f32 4286578688#32) (fun k : Fin 128 => max (a (ix1 k)) (-(a (ix1 k)))) Finset.univ := by
  pointwise
  rfl

/-- The greatest absolute value of 128 reals is a real. -/
theorem absmax_real (a : FVec Ideal S128 .f32) (ha : ∀ i, ∃ r : ℝ, a i = r) (j : S_.Idx) :
    ∃ r : ℝ, Host.reduce FloatOps.maximumf (Host.absf a) (constant S_ .f32 4286578688#32) reducesTo_S128_S_d0 h_S_ j = (r : EReal) := by
  rw [absmax_read, Softmax.ofBits_bot]
  have hne : Nonempty (Fin 128) := ⟨0⟩
  refine Softmax.fold_max _ fun k => ?_
  obtain ⟨r, hr⟩ := ha (ix1 k)
  exact ⟨max r (-r), by rw [hr, ← EReal.coe_neg]; exact (EReal.coe_strictMono.monotone.map_max (a := r) (b := -r)).symm⟩

theorem slack_real : ∃ r : ℝ, Ideal.ofBits .f32 1099247741#32 = (r : EReal) := by
  show ∃ r : ℝ, Ideal.ieee 8 23 1099247741#32 = (r : EReal)
  unfold Ideal.ieee
  dsimp only
  rw [if_neg (by decide), if_neg (by decide)]
  exact ⟨_, rfl⟩

theorem bcast_read (x : S_.Idx → EReal) (i : S1x128.Idx) (j : S_.Idx) : broadcastInDim S1x128 ![] bcast_S_S1x128 x i = x j :=
  congrArg x (funext fun k => k.elim0)

/-- The bound is a real where the gains are. -/
theorem bArr_real (a6 a7 : FVec Ideal S128 .f32) (h6 : ∀ i, ∃ r : ℝ, a6 i = r) (h7 : ∀ i, ∃ r : ℝ, a7 i = r) (i : S1x128.Idx) :
    ∃ B : ℝ, bArr a6 a7 i = (B : EReal) := by
  obtain ⟨s, hs⟩ := slack_real
  obtain ⟨p, hp⟩ := absmax_real a6 h6 (fun k => k.elim0)
  obtain ⟨q, hq⟩ := absmax_real a7 h7 (fun k => k.elim0)
  refine ⟨s * p * q, ?_⟩
  have h : bArr a6 a7 i = Ideal.ofBits .f32 1099247741#32
      * Host.reduce FloatOps.maximumf (Host.absf a6) (constant S_ .f32 4286578688#32) reducesTo_S128_S_d0 h_S_ (fun k => k.elim0)
      * Host.reduce FloatOps.maximumf (Host.absf a7) (constant S_ .f32 4286578688#32) reducesTo_S128_S_d0 h_S_ (fun k => k.elim0) := by
    unfold bArr
    exact bcast_read _ i _
  rw [h, hs, hp, hq, ← EReal.coe_mul, ← EReal.coe_mul]

/-- The factor on the queries, as a quotient of numbers. -/
theorem scale_eq : scale = Ideal.div 1 ((Real.sqrt 128 : EReal) * (Real.log 2 : EReal)) := by
  unfold scale
  rw [Softmax.ofBits_128, Softmax.ofBits_two, Softmax.sqrt_pos_coe _ (by norm_num), Softmax.log_pos_coe _ (by norm_num)]
  exact congrArg (fun z => Ideal.div z _) Ideal.ofBits_one_f32

end Cert.KernelIdeal.Host
end
-- ==== Proof.Ref.lean ====
/- The reference's result, element by element: the softmax mean of the values over the keys. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Mean

open Cert.ReferenceIdeal Cert.ReferenceIdeal.Gen Cert.ReferenceIdeal.Read Idealize.ShloMosaic Idealize.ShloMosaic.TcCoe Idealize.SL.Sem
open scoped BigOperators

/-- The score of query row `r` against key `k`. -/
def score (x0 : FVec Ideal S4x8192x2x4x128 .f32) (K : S4x8448x2x128.Idx → EReal) (b : Fin 4) (r : Fin 8192) (h : Fin 2) (g : Fin 4) (k : Fin 8448) : EReal :=
  Ideal.div (∑ e : Fin 128, K (ix4 b k h e) * x0 (ix5 b r h g e)) (Ideal.sqrt (Ideal.ofBits .f32 1124073472#32))

theorem v6_at (x0 : FVec Ideal S4x8192x2x4x128 .f32) (x1 : FVec Ideal S4x8192x2x128 .f32) (x4 : FVec Ideal S4x256x2x128 .f32)
    (b : Fin 4) (r : Fin 8192) (h : Fin 2) (g : Fin 4) (k : Fin 8448) :
    val_main_v6 (F := Ideal) x0 x1 x4 (ix5 b h g r k) = score x0 (val_main_v0 (F := Ideal) x1 x4) b r h g k := by
  rw [val_main_v6_apply, val_main_v3_apply, val_main_v2_apply, val_main_v5_apply, val_main_v4_apply, val_main_cst_apply]
  have hl : ∀ e : Fin 128, lidx_main_v2 (idx_main_v3 (ix5 b h g r k)) e = ix4 b k h e := fun e => funext fun a => match a with
    | ⟨0, _⟩ => rfl
    | ⟨1, _⟩ => rfl
    | ⟨2, _⟩ => rfl
    | ⟨3, _⟩ => rfl
  have hr : ∀ e : Fin 128, ridx_main_v2 (idx_main_v3 (ix5 b h g r k)) e = ix5 b r h g e := fun e => funext fun a => match a with
    | ⟨0, _⟩ => rfl
    | ⟨1, _⟩ => rfl
    | ⟨2, _⟩ => rfl
    | ⟨3, _⟩ => rfl
    | ⟨4, _⟩ => rfl
  unfold score
  refine congrArg (fun z => Ideal.div z (Ideal.sqrt (Ideal.ofBits .f32 1124073472#32))) (Finset.sum_congr rfl fun e _ => ?_)
  rw [hl, hr]

theorem fold_at (x : FVec Ideal S4x2x4x8192x8448 .f32) (b : Fin 4) (r : Fin 8192) (h : Fin 2) (g : Fin 4) :
    Host.reduce FloatOps.maximumf x (val_main_cst_0 (F := Ideal)) reducesTo_S4x2x4x8192x8448_S4x2x4x8192_d4 h_S_ (ix4 b h g r)
      = Finset.fold max (Ideal.ofBits .f32 4286578688#32) (fun k : Fin 8448 => x (ix5 b h g r k)) Finset.univ := by
  pointwise
  rfl

/-- The number taken off a row's scores is a real where the scores are. -/
theorem top_at (x0 : FVec Ideal S4x8192x2x4x128 .f32) (x1 : FVec Ideal S4x8192x2x128 .f32) (x4 : FVec Ideal S4x256x2x128 .f32)
    (b : Fin 4) (r : Fin 8192) (h : Fin 2) (g : Fin 4)
    (hs : ∀ k, ∃ q : ℝ, score x0 (val_main_v0 (F := Ideal) x1 x4) b r h g k = q) :
    ∃ M : ℝ, ∀ k : Fin 8448, val_main_v11 (F := Ideal) x0 x1 x4 (ix5 b h g r k) = M := by
  have hne : Nonempty (Fin 8448) := ⟨0⟩
  obtain ⟨M, hM⟩ := Softmax.fold_max (fun k : Fin 8448 => val_main_v6 (F := Ideal) x0 x1 x4 (ix5 b h g r k))
    (fun k => by rw [v6_at]; exact hs k)
  refine ⟨M, fun k => ?_⟩
  have hi : idx_main_v10 (idx_main_v11 (ix5 b h g r k)) = ix4 b h g r := funext fun a => match a with
    | ⟨0, _⟩ => rfl
    | ⟨1, _⟩ => rfl
    | ⟨2, _⟩ => rfl
    | ⟨3, _⟩ => rfl
  rw [val_main_v11_apply, val_main_v10_apply, hi, val_main_v9_apply, val_main_v8_apply]
  unfold val_main_v7
  rw [fold_at, Softmax.ofBits_bot, hM]
  show max (Ideal.ofBits .f32 4286578688#32) (M : EReal) = M
  rw [Softmax.ofBits_bot]
  exact max_eq_right bot_le

/-- The result at batch `b`, row `r`, head `(h, g)`, component `e`. -/
theorem result_at (x0 : FVec Ideal S4x8192x2x4x128 .f32) (x1 x2 : FVec Ideal S4x8192x2x128 .f32) (x4 x5 : FVec Ideal S4x256x2x128 .f32)
    (b : Fin 4) (r : Fin 8192) (h : Fin 2) (g : Fin 4) (e : Fin 128) (y : Fin 1024) (hy : y.val = 512 * h.val + 128 * g.val + e.val)
    (hs : ∀ k, ∃ q : ℝ, score x0 (val_main_v0 (F := Ideal) x1 x4) b r h g k = q) :
    ∃ M : ℝ, val_main_v21 (F := Ideal) x0 x1 x2 x4 x5 (ix3 b r y)
      = ∑ k : Fin 8448, val_main_v1 (F := Ideal) x2 x5 (ix4 b k h e)
          * Ideal.div (Ideal.exp (score x0 (val_main_v0 (F := Ideal) x1 x4) b r h g k - M))
              (0 + ∑ j : Fin 8448, Ideal.exp (score x0 (val_main_v0 (F := Ideal) x1 x4) b r h g j - M)) := by
  obtain ⟨M, hM⟩ := top_at x0 x1 x4 b r h g hs
  have h13 : ∀ k : Fin 8448, val_main_v13 (F := Ideal) x0 x1 x4 (ix5 b h g r k)
      = Ideal.exp (score x0 (val_main_v0 (F := Ideal) x1 x4) b r h g k - M) := fun k => by
    rw [val_main_v13_apply, val_main_v12_apply, hM, v6_at]
    rfl
  have hi : idx_main_v19 (idx_main_v20 (ix3 b r y)) = ix5 b h e g r := funext fun a => Fin.ext (match a with
    | ⟨0, _⟩ => show ((b.val * 8192 + r.val) * 1024 + y.val) / 8388608 = b.val by omega
    | ⟨1, _⟩ => show ((b.val * 8192 + r.val) * 1024 + y.val) / 512 % 2 = h.val by omega
    | ⟨2, _⟩ => show ((b.val * 8192 + r.val) * 1024 + y.val) % 128 = e.val by omega
    | ⟨3, _⟩ => show ((b.val * 8192 + r.val) * 1024 + y.val) / 128 % 4 = g.val by omega
    | ⟨4, _⟩ => show ((b.val * 8192 + r.val) * 1024 + y.val) / 1024 % 8192 = r.val by omega)
  refine ⟨M, ?_⟩
  have hl : ∀ k : Fin 8448, lidx_main_v18 (ix5 b h e g r) k = ix4 b k h e := fun k => funext fun a => match a with
    | ⟨0, _⟩ => rfl
    | ⟨1, _⟩ => rfl
    | ⟨2, _⟩ => rfl
    | ⟨3, _⟩ => rfl
  have hr : ∀ k : Fin 8448, ridx_main_v18 (ix5 b h e g r) k = ix5 b h g r k := fun k => funext fun a => match a with
    | ⟨0, _⟩ => rfl
    | ⟨1, _⟩ => rfl
    | ⟨2, _⟩ => rfl
    | ⟨3, _⟩ => rfl
    | ⟨4, _⟩ => rfl
  have h15 : ∀ k : Fin 8448, idx_main_v15 (idx_main_v16 (ix5 b h g r k)) = ix4 b h g r := fun k => funext fun a => match a with
    | ⟨0, _⟩ => rfl
    | ⟨1, _⟩ => rfl
    | ⟨2, _⟩ => rfl
    | ⟨3, _⟩ => rfl
  have h14 : ∀ k : Fin 8448, idx_main_v14 (ix4 b h g r) k = ix5 b h g r k := fun k => funext fun a => match a with
    | ⟨0, _⟩ => rfl
    | ⟨1, _⟩ => rfl
    | ⟨2, _⟩ => rfl
    | ⟨3, _⟩ => rfl
    | ⟨4, _⟩ => rfl
  rw [val_main_v21_apply, Ideal.truncf_def, val_main_v20_apply, val_main_v19_apply, hi, val_main_v18_apply]
  refine Finset.sum_congr rfl fun k _ => ?_
  rw [hl, hr, val_main_v17_apply, Ideal.hostDivf_def, h13, val_main_v16_apply, val_main_v15_apply, h15, val_main_v14_apply]
  simp only [h14, h13]
  exact congrArg (fun z => _ * Ideal.div _ (z + _)) Ideal.ofBits_zero_f32

end Cert.ReferenceIdeal.Mean
end
-- ==== Proof.Meet.lean ====
/- The call's result and the reference's, element by element, are the same number. -/
module

public import proofs.«01_k».proof.Proof.Tile
public import proofs.«01_k».proof.Proof.Host
public import proofs.«01_k».proof.Proof.Ref

@[expose] public section

set_option maxRecDepth 16384

noncomputable section

namespace Cert.Meet

open Cert.KernelIdeal Cert.KernelIdeal.Gen Cert.KernelIdeal.Tile Cert.KernelIdeal.Host Cert.ReferenceIdeal.Read Idealize.ShloMosaic Idealize.ShloMosaic.TcCoe Idealize.SL.Sem
open scoped BigOperators

/-- The reference's concatenation, context first, in numbers. -/
theorem rcat_read (a1 : FVec Ideal S4x8192x2x128 .f32) (a4 : FVec Ideal S4x256x2x128 .f32) (b : Fin 4) (k : Fin 8448) (h : Fin 2) (e : Fin 128) :
    val_main_v0 (F := Ideal) a1 a4 (ix4 b k h e)
      = if hk : k.val < 256 then a4 (ix4 b ⟨k.val, hk⟩ h e) else a1 (ix4 b ⟨k.val - 256, by omega⟩ h e) := by
  unfold val_main_v0
  pointwise

/-- The two concatenations hold the same rows, the reference's 256 further on, around the end. -/
theorem cat_shift (a1 : FVec Ideal S4x8192x2x128 .f32) (a4 : FVec Ideal S4x256x2x128 .f32) (b : Fin 4) (n : Fin 8448) (h : Fin 2) (e : Fin 128) :
    val_main_v0 (F := Ideal) a1 a4 (ix4 b (n + 256) h e) = cat a1 a4 (ix4 b n h e) := by
  have hv : (n + 256 : Fin 8448).val = (n.val + 256) % 8448 := rfl
  rw [rcat_read]
  by_cases hn : n.val < 8192
  · rw [dif_neg (by omega), cat_latent a1 a4 b n h e ⟨n.val, hn⟩ rfl]
    exact congrArg (fun q => a1 (ix4 b q h e)) (Fin.ext (show (n + 256 : Fin 8448).val - 256 = n.val by omega))
  · rw [dif_pos (by omega), cat_context a1 a4 b n h e ⟨n.val - 8192, by omega⟩ (show n.val = 8192 + (n.val - 8192) by omega)]
    exact congrArg (fun q => a4 (ix4 b q h e)) (Fin.ext (show (n + 256 : Fin 8448).val = n.val - 8192 by omega))

/-- The rows of the concatenation are reals where both parts are. -/
theorem cat_real (a1 : FVec Ideal S4x8192x2x128 .f32) (a4 : FVec Ideal S4x256x2x128 .f32) (h1 : ∀ i, ∃ r : ℝ, a1 i = r) (h4 : ∀ i, ∃ r : ℝ, a4 i = r)
    (b : Fin 4) (n : Fin 8448) (h : Fin 2) (e : Fin 128) : ∃ r : ℝ, cat a1 a4 (ix4 b n h e) = r := by
  by_cases hn : n.val < 8192
  · rw [cat_latent a1 a4 b n h e ⟨n.val, hn⟩ rfl]; exact h1 _
  · rw [cat_context a1 a4 b n h e ⟨n.val - 8192, by omega⟩ (show n.val = 8192 + (n.val - 8192) by omega)]; exact h4 _

/-- The call's element from abstract rows: softmax weights over keys in the call's order. -/
theorem elem_eq (a0 : FVec Ideal S4x8192x2x4x128 .f32) (a1 a2 : FVec Ideal S4x8192x2x128 .f32) (a3 : FVec Ideal S4x256x2x4x128 .f32)
    (a4 a5 : FVec Ideal S4x256x2x128 .f32) (a6 a7 : FVec Ideal S128 .f32) (b : Fin 4) (r : Fin 8192) (y : Fin 1024) (h : Fin 2) (g : Fin 4) (e : Fin 128)
    (hy : y.val = 512 * h.val + 128 * g.val + e.val) :
    elem (qArr a0 a3) (kArr a1 a4) (vArr a2 a5) (bArr a6 a7) b r y
      = (∑ n : Fin 8448, cat a2 a5 (ix4 b n h e) * Ideal.exp2 (∑ d : Fin 128, cat a1 a4 (ix4 b n h d) * (a0 (ix5 b r h g d) * scale) - bArr a6 a7 (ix2 0 0)))
        * Ideal.div 1 (∑ n : Fin 8448, Ideal.exp2 (∑ d : Fin 128, cat a1 a4 (ix4 b n h d) * (a0 (ix5 b r h g d) * scale) - bArr a6 a7 (ix2 0 0))) := by
  have hw : ∀ n : Fin 8448, weight (qArr a0 a3) (kArr a1 a4) (bArr a6 a7) b r y n.val
      = Ideal.exp2 (∑ d : Fin 128, cat a1 a4 (ix4 b n h d) * (a0 (ix5 b r h g d) * scale) - bArr a6 a7 (ix2 0 0)) := fun n => by
    unfold weight
    refine congrArg (fun z => Ideal.exp2 (z - bArr a6 a7 (ix2 0 0))) (Finset.sum_congr rfl fun d _ => ?_)
    rw [kArr_apply a1 a4 b _ _ h d (show (128 * (y.val / 512) + d.val) % 256 = 128 * h.val + d.val by omega),
      qArr_apply a0 a3 b _ _ r (show r.val % 8448 = r.val by omega) h g d (show (128 * (y.val / 128) + d.val) % 1024 = 512 * h.val + 128 * g.val + d.val by omega)]
    exact congrArg (fun q => cat a1 a4 (ix4 b q h d) * _) (Fin.ext (show n.val % 8448 = n.val by omega))
  have hv : ∀ n : Fin 8448, vArr a2 a5 (ix4 b (Fin.ofNat 33 (n.val / 256)) (Fin.ofNat 256 (128 * (y.val / 512) + y.val % 128)) (Fin.ofNat 256 n.val))
      = cat a2 a5 (ix4 b n h e) := fun n =>
    vArr_apply a2 a5 b n _ _ _ h e (show (128 * (y.val / 512) + y.val % 128) % 256 = 128 * h.val + e.val by omega)
      (show n.val = 256 * (n.val / 256 % 33) + n.val % 256 by omega)
  unfold elem
  rw [Finset.sum_range, Finset.sum_range]
  simp only [hw, hv]

theorem val_cat (a2 : FVec Ideal S4x8192x2x128 .f32) (a5 : FVec Ideal S4x256x2x128 .f32) : val_main_v1 (F := Ideal) a2 a5 = val_main_v0 (F := Ideal) a2 a5 := rfl

/-- The call's element is the reference's. -/
theorem meet (a0 : FVec Ideal S4x8192x2x4x128 .f32) (a1 a2 : FVec Ideal S4x8192x2x128 .f32) (a3 : FVec Ideal S4x256x2x4x128 .f32)
    (a4 a5 : FVec Ideal S4x256x2x128 .f32) (a6 a7 : FVec Ideal S128 .f32)
    (h0 : ∀ i, ∃ r : ℝ, a0 i = r) (h1 : ∀ i, ∃ r : ℝ, a1 i = r) (h4 : ∀ i, ∃ r : ℝ, a4 i = r) (h6 : ∀ i, ∃ r : ℝ, a6 i = r) (h7 : ∀ i, ∃ r : ℝ, a7 i = r)
    (b : Fin 4) (r : Fin 8192) (y : Fin 1024) :
    elem (qArr a0 a3) (kArr a1 a4) (vArr a2 a5) (bArr a6 a7) b r y = val_main_v21 (F := Ideal) a0 a1 a2 a4 a5 (ix3 b r y) := by
  obtain ⟨h, hh⟩ : ∃ h : Fin 2, h.val = y.val / 512 := ⟨⟨y.val / 512, by omega⟩, rfl⟩
  obtain ⟨g, hg⟩ : ∃ g : Fin 4, g.val = y.val / 128 % 4 := ⟨⟨y.val / 128 % 4, by omega⟩, rfl⟩
  obtain ⟨e, he⟩ : ∃ e : Fin 128, e.val = y.val % 128 := ⟨⟨y.val % 128, by omega⟩, rfl⟩
  have hy : y.val = 512 * h.val + 128 * g.val + e.val := by omega
  choose q hq using h0
  choose k hk using cat_real a1 a4 h1 h4
  obtain ⟨B, hB⟩ := bArr_real a6 a7 h6 h7 (ix2 0 0)
  have hne : Nonempty (Fin 8448) := ⟨0⟩
  have hsc : ∀ n : Fin 8448, Cert.ReferenceIdeal.Mean.score a0 (val_main_v0 (F := Ideal) a1 a4) b r h g (n + 256)
      = (((∑ d : Fin 128, k b n h d * q (ix5 b r h g d)) / Real.sqrt 128 : ℝ) : EReal) := fun n => by
    unfold Cert.ReferenceIdeal.Mean.score
    simp only [cat_shift, hk, hq]
    rw [Softmax.ofBits_128, Softmax.sqrt_pos_coe _ (by norm_num)]
    exact Softmax.plain_eq _ _ _ (by norm_num)
  have hs : ∀ k', ∃ z : ℝ, Cert.ReferenceIdeal.Mean.score a0 (val_main_v0 (F := Ideal) a1 a4) b r h g k' = z := fun k' => by
    have := hsc (k' - 256)
    rw [sub_add_cancel] at this
    exact ⟨_, this⟩
  obtain ⟨M, hM⟩ := Cert.ReferenceIdeal.Mean.result_at a0 a1 a2 a4 a5 b r h g e y hy hs
  rw [hM, elem_eq a0 a1 a2 a3 a4 a5 a6 a7 b r y h g e hy, hB]
  simp only [hk, hq, scale_eq]
  simp only [Softmax.score_eq _ _ 128 (by norm_num)]
  rw [Softmax.softmax_eq _ _ B M]
  have hsh : ∀ f : Fin 8448 → EReal, ∑ j, f j = ∑ n, f (n + 256) := fun f => (Equiv.sum_comp (Equiv.addRight (256 : Fin 8448)) f).symm
  rw [hsh (fun j => val_main_v1 (F := Ideal) a2 a5 (ix4 b j h e) * Ideal.div (Ideal.exp (Cert.ReferenceIdeal.Mean.score a0 (val_main_v0 (F := Ideal) a1 a4) b r h g j - M)) _),
    hsh (fun j => Ideal.exp (Cert.ReferenceIdeal.Mean.score a0 (val_main_v0 (F := Ideal) a1 a4) b r h g j - M))]
  refine Finset.sum_congr rfl fun n _ => ?_
  simp only [hsc]
  rw [val_cat, cat_shift]

end Cert.Meet
end
-- ==== Proof.Walk2.lean ====
/- The latent attention's call: its running state (accumulator and partial sums), chunk by chunk of 768 keys. The loop's two trips of five
   chunks and the last chunk leave the state after eleven. Stated over any float values. -/
module

public import proofs.«01_k».proof.Proof.Gen.Kernel2Ideal.Frame
public import proofs.«01_k».proof.Proof.Walk
public import Idealize.ShloMosaic.Lib.Pipeline.Value
public import Idealize.ShloMosaic.Lib.Pipeline.ReadBack
public import Idealize.ShloMosaic.Lib.Pointwise

@[expose] public section

set_option maxRecDepth 16384

noncomputable section

namespace Cert.Kernel2Ideal.Walk

open Cert.KernelIdeal.Walk (slab read_slab RA RL read_acc read_sum read_sum' readAt_acc readAt_sum)
open Cert.Kernel2Ideal Cert.Kernel2Ideal.Gen Idealize.ShloMosaic.Pipeline Idealize.ShloMosaic Idealize.ShloMosaic.TcCoe Idealize.SL.Sem

variable {F : FTy → Type} [FloatOps F]

/-- The 768 keys from row `r` on of the block of all keys. -/
def keys (x1 : Vec F S1x8448x256 .bf16) (r : ℕ) : Vec F S1x768x256 .bf16 :=
  fun j => x1 (ix3 0 (Fin.ofNat 8448 (r + (j 1).val)) (j 2))

/-- One chunk: the accumulator and the partial sums after the keys `kb` with their three slabs of values. -/
def step (q : FVec F S4096x256 .bf16) (b : FVec F S1x1 .f32) (kb : Vec F S1x768x256 .bf16) (va vb vc : Vec F S1x1x128x256 .bf16)
    (s : Vec F S128x4096 .f32 × Vec F S8x4096 .f32) : Vec F S128x4096 .f32 × Vec F S8x4096 .f32 :=
  (k0_pay6 (k0_pay5 q b kb s.1 va vb vc), k0_pay7 (k0_pay4 q b kb) s.2)

/-- The state after `n` chunks, from zero. -/
def walk (q : FVec F S4096x256 .bf16) (b : FVec F S1x1 .f32) (x1 : Vec F S1x8448x256 .bf16) (x2 : Vec F S1x33x128x256 .bf16) :
    ℕ → Vec F S128x4096 .f32 × Vec F S8x4096 .f32
  | 0 => (fun _ => FloatOps.ofBits .f32 0#32, fun _ => FloatOps.ofBits .f32 0#32)
  | n + 1 => step q b (keys x1 (768 * n)) (slab x2 (3 * n)) (slab x2 (3 * n + 1)) (slab x2 (3 * n + 2)) (walk q b x1 x2 n)

/-- A load of 768 keys. -/
theorem read_keys {sig' : RefSig} {κ : Kind} {sp : Space} (v : View sig' κ sp S1x8448x256 .bf16) (f : v.ty.Contents (Elt F))
    (r : ℕ) (inb) :
    v.readAt (Elt F) (Rect.unit (s := S1x8448x256) ![0, r, 0] (no_index S1x768x256.size) inb).toLoadRect f = keys (v.read (Elt F) f) (r) := by
  rw [View.readAt_eq_ld]
  funext j
  have h1 : r + 768 ≤ 8448 := inb 1
  have hj : (j 1).val < 768 := (j 1).isLt
  have hj0 : (j 0).val < 1 := (j 0).isLt
  refine congrArg (v.read (Elt F) f) (funext fun a => Fin.ext ?_)
  match a with
  | ⟨0, _⟩ => show 0 + 1 * (j 0).val = 0; omega
  | ⟨1, _⟩ =>
    show r + 1 * (j 1).val = (r + (j 1).val) % 8448
    rw [Nat.mod_eq_of_lt (by omega)]; omega
  | ⟨2, _⟩ => show 0 + 1 * (j 2).val = (j 2).val; omega

section Trip

variable (𝒱 : Variants) (c : Dev nD) (bd : Option 𝒱.V) (i : grid0.Coords) (arg3 : Memref sig .tc .vmem S1x4096x256 .bf16) (harg3 : arg3.IsWhole)
  (arg4 : Memref sig .tc .vmem S1x8448x256 .bf16) (harg4 : arg4.IsWhole) (arg5 : Memref sig .tc .vmem S1x33x128x256 .bf16) (harg5 : arg5.IsWhole)
  (arg6 : Memref sig .tc .vmem S1x128 .f32) (harg6 : arg6.IsWhole) (arg7 : Memref sig .tc .vmem S1x4096x128 .bf16) (harg7 : arg7.IsWhole)
  (arg8 : Memref sig .tc .vmem S136x4096 .f32) (harg8 : arg8.IsWhole)
  (v0 : Vec F S1x4096x256 .bf16) (v2 : Vec F S1x1 .f32)
  (X4 : BufTy.Contents (Elt F) arg4.view.ty) (X5 : BufTy.Contents (Elt F) arg5.view.ty)

set_option backward.isDefEq.respectTransparency false in
/-- One trip of the loop takes the state after `5 k` chunks to the state after `5 k + 5`. -/
theorem trip_walk (k : Fin k0_t1_loop.trips) (n n' : ℕ) (hn : n = 5 * k.val) (hn' : n' = 5 * k.val + 5) (f : BufTy.Contents (Elt F) arg8.view.ty)
    (ha : arg8.view.readAt (Elt F) RA.toLoadRect f = (walk (k0_pay23 v0) (k0_pay24 v2) (arg4.view.read (Elt F) X4) (arg5.view.read (Elt F) X5) n).1)
    (hl : arg8.view.readAt (Elt F) RL.toLoadRect f = (walk (k0_pay23 v0) (k0_pay24 v2) (arg4.view.read (Elt F) X4) (arg5.view.read (Elt F) X5) n).2) :
    ∃ L, (trip_k0_t1 (F := F) 𝒱 c bd i arg3 harg3 arg4 harg4 arg5 harg5 arg6 harg6 arg7 harg7 arg8 harg8 v0 v2 X4 X5 k).1 f
      = ⟨RL, (walk (k0_pay23 v0) (k0_pay24 v2) (arg4.view.read (Elt F) X4) (arg5.view.read (Elt F) X5) n').2⟩
        :: ⟨RA, (walk (k0_pay23 v0) (k0_pay24 v2) (arg4.view.read (Elt F) X4) (arg5.view.read (Elt F) X5) n').1⟩ :: L := by
  subst hn hn'
  unfold trip_k0_t1
  dsimp only
  sl_unfold_words
  simp only [read_keys, read_slab, read_acc, read_sum, read_sum', ha, hl]
  match k with
  | ⟨0, _⟩ =>
    simp only [Scalar.indexCast, Scalar.muli, Scalar.addi, IntOp.muli, IntOp.addi, Scf.iv, BitVec.reduceOfNat, BitVec.reduceMul, BitVec.reduceAdd,
      BitVec.reduceToNat]
    exact ⟨_, rfl⟩
  | ⟨1, _⟩ =>
    simp only [Scalar.indexCast, Scalar.muli, Scalar.addi, IntOp.muli, IntOp.addi, Scf.iv, BitVec.reduceOfNat, BitVec.reduceMul, BitVec.reduceAdd,
      BitVec.reduceToNat]
    exact ⟨_, rfl⟩

/-- The scratch as the loop finds it: filled with zeros. -/
abbrev zeroed (v : Memref sig .tc .vmem S136x4096 .f32) : BufTy.Contents (Elt F) v.view.ty :=
  v.view.writes (Elt F) v.view.junk [⟨Rect.unit ![0, 0] S136x4096.size inb_S136x4096_S136x4096_0_0, k0_pay25⟩]

/-- The fill is zero everywhere. -/
theorem fill_eq : k0_pay25 (F := F) = fun _ => FloatOps.ofBits .f32 0#32 := by
  unfold k0_pay25
  exact shapeCast_self ..

/-- Any load of the zeroed scratch reads zero. -/
theorem read_fill {sig' : RefSig} {κ : Kind} {sp : Space} (v : View sig' κ sp S136x4096 .f32) (R : Rect S136x4096) :
    v.readCov (Val := Elt F) [⟨Rect.unit ![0, 0] S136x4096.size inb_S136x4096_S136x4096_0_0, k0_pay25 (F := F)⟩] R.toLoadRect = fun _ => FloatOps.ofBits .f32 0#32 := by
  have h : ∀ a : Fin 2, (![0, 0] : Fin 2 → ℕ) a = 0 := by decide
  rw [View.readCov_eq_canon', View.canon_cons_unit_lit _ _ _ h, fill_eq]

/-- The zeroed scratch's accumulator rows are the state before the first chunk. -/
theorem zeroed_acc (v : Memref sig .tc .vmem S136x4096 .f32) (q : FVec F S4096x256 .bf16) (b : FVec F S1x1 .f32) (x1 : Vec F S1x8448x256 .bf16)
    (x2 : Vec F S1x33x128x256 .bf16) : v.view.readAt (Elt F) RA.toLoadRect (zeroed v) = (walk q b x1 x2 0).1 :=
  read_fill v.view RA

/-- … and so are its rows of partial sums. -/
theorem zeroed_sum (v : Memref sig .tc .vmem S136x4096 .f32) (q : FVec F S4096x256 .bf16) (b : FVec F S1x1 .f32) (x1 : Vec F S1x8448x256 .bf16)
    (x2 : Vec F S1x33x128x256 .bf16) : v.view.readAt (Elt F) RL.toLoadRect (zeroed v) = (walk q b x1 x2 0).2 :=
  read_fill v.view RL

/-- A trip over what the trips before it wrote. -/
theorem trip_state (k : Fin k0_t1_loop.trips) (n n' N : ℕ) (hn : n = k.val) (hn' : n' = k.val + 1) (hN : N = 5 * k.val + 5)
    (ha : arg8.view.readAt (Elt F) RA.toLoadRect (arg8.view.writes (Elt F) (zeroed arg8) (pb_k0_t1 (F := F) 𝒱 c bd i arg3 harg3 arg4 harg4 arg5 harg5 arg6 harg6 arg7 harg7 arg8 harg8 v0 v2 X4 X5 (zeroed arg8) n)) = (walk (k0_pay23 v0) (k0_pay24 v2) (arg4.view.read (Elt F) X4) (arg5.view.read (Elt F) X5) (5 * n)).1)
    (hl : arg8.view.readAt (Elt F) RL.toLoadRect (arg8.view.writes (Elt F) (zeroed arg8) (pb_k0_t1 (F := F) 𝒱 c bd i arg3 harg3 arg4 harg4 arg5 harg5 arg6 harg6 arg7 harg7 arg8 harg8 v0 v2 X4 X5 (zeroed arg8) n)) = (walk (k0_pay23 v0) (k0_pay24 v2) (arg4.view.read (Elt F) X4) (arg5.view.read (Elt F) X5) (5 * n)).2) :
    ∃ L, pb_k0_t1 (F := F) 𝒱 c bd i arg3 harg3 arg4 harg4 arg5 harg5 arg6 harg6 arg7 harg7 arg8 harg8 v0 v2 X4 X5 (zeroed arg8) n' = ⟨RL, (walk (k0_pay23 v0) (k0_pay24 v2) (arg4.view.read (Elt F) X4) (arg5.view.read (Elt F) X5) N).2⟩ :: ⟨RA, (walk (k0_pay23 v0) (k0_pay24 v2) (arg4.view.read (Elt F) X4) (arg5.view.read (Elt F) X5) N).1⟩ :: L := by
  subst hn hn' hN
  obtain ⟨L, h⟩ := trip_walk 𝒱 c bd i arg3 harg3 arg4 harg4 arg5 harg5 arg6 harg6 arg7 harg7 arg8 harg8 v0 v2 X4 X5 k _ _ rfl rfl _ ha hl
  rw [pb_k0_t1_succ]
  exact ⟨_, congrArg (· ++ _) h⟩

/-- After both trips the scratch holds the state after ten chunks. -/
theorem loop_walk :
    ∃ L, pb_k0_t1 (F := F) 𝒱 c bd i arg3 harg3 arg4 harg4 arg5 harg5 arg6 harg6 arg7 harg7 arg8 harg8 v0 v2 X4 X5 (zeroed arg8) 2
      = ⟨RL, (walk (k0_pay23 v0) (k0_pay24 v2) (arg4.view.read (Elt F) X4) (arg5.view.read (Elt F) X5) 10).2⟩
        :: ⟨RA, (walk (k0_pay23 v0) (k0_pay24 v2) (arg4.view.read (Elt F) X4) (arg5.view.read (Elt F) X5) 10).1⟩ :: L := by
  have z0 : (0 : ℕ) < k0_t1_loop.trips := by decide
  have z1 : (1 : ℕ) < k0_t1_loop.trips := by decide
  have e0 : pb_k0_t1 (F := F) 𝒱 c bd i arg3 harg3 arg4 harg4 arg5 harg5 arg6 harg6 arg7 harg7 arg8 harg8 v0 v2 X4 X5 (zeroed arg8) 0 = [] := by rw [pb_k0_t1.eq_1]
  obtain ⟨L1, e1⟩ := trip_state 𝒱 c bd i arg3 harg3 arg4 harg4 arg5 harg5 arg6 harg6 arg7 harg7 arg8 harg8 v0 v2 X4 X5 ⟨0, z0⟩ 0 1 5 rfl rfl rfl (by rw [e0, View.writes_nil]; exact zeroed_acc arg8 _ _ _ _) (by rw [e0, View.writes_nil]; exact zeroed_sum arg8 _ _ _ _)
  exact trip_state 𝒱 c bd i arg3 harg3 arg4 harg4 arg5 harg5 arg6 harg6 arg7 harg7 arg8 harg8 v0 v2 X4 X5 ⟨1, z1⟩ 1 2 10 rfl rfl rfl (by rw [e1]; exact readAt_acc ..) (by rw [e1]; exact readAt_sum ..)

end Trip

/-- The kernel's queries, as the loop uses them. -/
def stacked (x0 : Vec F S1x4096x256 .bf16) : FVec F S4096x256 .bf16 :=
  k0_pay23 (View.ld x0 (Rect.unit ![0, 0, 0] S1x4096x256.size inb_S1x4096x256_S1x4096x256_0_0_0))

/-- The bound, as the kernel reads it. -/
def bnd (x3 : Vec F S1x128 .f32) : FVec F S1x1 .f32 :=
  k0_pay24 (View.ld x3 (Rect.unit ![0, 0] S1x1.size inb_S1x128_S1x1_0_0))

/-- The state after the eleven chunks of one grid point. -/
def final (x0 : Vec F S1x4096x256 .bf16) (x1 : Vec F S1x8448x256 .bf16) (x2 : Vec F S1x33x128x256 .bf16) (x3 : Vec F S1x128 .f32) :
    Vec F S128x4096 .f32 × Vec F S8x4096 .f32 :=
  walk (stacked x0) (bnd x3) x1 x2 11

/-- The store of one grid point: the accumulator, divided by the sum and transposed. -/
def stores (s : Vec F S128x4096 .f32 × Vec F S8x4096 .f32) : List (View.Piece (Elt F) S1x4096x128 .bf16) :=
  [⟨Rect.unit ![0, 0, 0] S1x4096x128.size inb_S1x4096x128_S1x4096x128_0_0_0, k0_pay3 s.2 s.1⟩]

set_option backward.isDefEq.respectTransparency false in
/-- The body's stores at a grid point are those of the final state. -/
theorem run_stores (c : Dev nD) (i : grid0.Coords) (arg3 : Memref sig .tc .vmem S1x4096x256 .bf16) (harg3 : arg3.IsWhole) (arg4 : Memref sig .tc .vmem S1x8448x256 .bf16) (harg4 : arg4.IsWhole) (arg5 : Memref sig .tc .vmem S1x33x128x256 .bf16) (harg5 : arg5.IsWhole) (arg6 : Memref sig .tc .vmem S1x128 .f32) (harg6 : arg6.IsWhole) (arg7 : Memref sig .tc .vmem S1x4096x128 .bf16) (harg7 : arg7.IsWhole) (arg8 : Memref sig .tc .vmem S136x4096 .f32) (harg8 : arg8.IsWhole)
    (x0 : Vec F S1x4096x256 .bf16) (x1 : Vec F S1x8448x256 .bf16) (x2 : Vec F S1x33x128x256 .bf16) (x3 : Vec F S1x128 .f32) :
    (kernelRun0_A c i arg3 harg3 arg4 harg4 arg5 harg5 arg6 harg6 arg7 harg7 arg8 harg8 x0 x1 x2 x3).1 = stores (final x0 x1 x2 x3) := by
  unfold kernelRun0_A
  dsimp only
  sl_unfold_words
  obtain ⟨L, hL⟩ := loop_walk Variants.none c none i arg3 harg3 arg4 harg4 arg5 harg5 arg6 harg6 arg7 harg7 arg8 harg8
    (View.readAt (Elt F) arg3.view (Rect.unit (s := S1x4096x256) ![0, 0, 0] S1x4096x256.size inb_S1x4096x256_S1x4096x256_0_0_0).toLoadRect (harg3.unread x0))
    (View.readAt (Elt F) arg6.view (Rect.unit (s := S1x128) ![0, 0] S1x1.size inb_S1x128_S1x1_0_0).toLoadRect (harg6.unread x3))
    (harg4.unread x1) (harg5.unread x2)
  have ht : Scf.trips k0_t1_loop.lb k0_t1_loop.ub k0_t1_loop.st = 2 := by decide
  rw [ht, hL]
  simp only [List.cons_append, read_keys, read_slab, read_acc, read_sum, read_sum']
  simp only [View.readAt_eq_ld, harg3.read_unread, harg4.read_unread, harg5.read_unread, harg6.read_unread]
  rfl

end Cert.Kernel2Ideal.Walk

end
-- ==== Proof.Block2.lean ====
/- What one grid point of the latent attention's call writes, element by element: the weighted sum of the values over all 8448 keys, times the reciprocal of
   the sum of the weights. -/
module

public import proofs.«01_k».proof.Proof.Walk2
public import proofs.«01_k».proof.Proof.Block

@[expose] public section

set_option maxRecDepth 16384

noncomputable section

namespace Cert.Kernel2Ideal.Block

open Cert.KernelIdeal.Walk (slab)
open Cert.KernelIdeal.Block (val slab_apply split_chunk sum_interleave)
open Cert.Kernel2Ideal Cert.Kernel2Ideal.Gen Cert.Kernel2Ideal.Walk Idealize.ShloMosaic Idealize.ShloMosaic.TcCoe Idealize.SL.Sem
open scoped BigOperators

variable (q : FVec Ideal S4096x256 .bf16) (b : FVec Ideal S1x1 .f32) (x1 : Vec Ideal S1x8448x256 .bf16) (x2 : Vec Ideal S1x33x128x256 .bf16)

/-- The weight of key `n` for the query row `x`. -/
def wt (n : ℕ) (x : Fin 4096) : EReal :=
  Ideal.exp2 (∑ e : Fin 256, x1 (ix3 0 (Fin.ofNat 8448 n) e) * q (ix2 x e) - b (ix2 0 0))

/-- A chunk's weights. -/
theorem p_apply (n : ℕ) (r : Fin 768) (x : Fin 4096) : k0_pay4 q b (keys x1 n) (ix2 r x) = wt q b x1 (n + r) x := by
  unfold k0_pay4
  pointwise
  rfl

/-- The accumulator after a chunk. -/
theorem acc_step (N : ℕ) (a : Vec Ideal S128x4096 .f32) (d : Fin 128) (x : Fin 4096) :
    k0_pay6 (k0_pay5 q b (keys x1 (768 * N)) a (slab x2 (3 * N)) (slab x2 (3 * N + 1)) (slab x2 (3 * N + 2))) (ix2 d x)
      = a (ix2 d x) + ∑ i ∈ Finset.range 768, val x2 (768 * N + i) d * wt q b x1 (768 * N + i) x := by
  unfold k0_pay6 k0_pay5
  pointwise
  rw [split_chunk]
  refine congrArg _ (congrArg₂ _ (congrArg₂ _ ?_ ?_) ?_) <;> refine Finset.sum_congr rfl fun j _ => ?_
  · rw [p_apply, slab_apply, show 256 * (3 * N) + j.val = 768 * N + j.val by omega]
  · rw [p_apply, slab_apply, show 256 * (3 * N + 1) + j.val = 768 * N + (256 + j.val) by omega]
  · rw [p_apply, slab_apply, show 256 * (3 * N + 2) + j.val = 768 * N + (512 + j.val) by omega]

/-- The partial sums after a chunk. -/
theorem sum_step (N : ℕ) (l : Vec Ideal S8x4096 .f32) (r : Fin 8) (x : Fin 4096) :
    k0_pay7 (k0_pay4 q b (keys x1 (768 * N))) l (ix2 r x)
      = l (ix2 r x) + ∑ i ∈ Finset.range 96, wt q b x1 (8 * (96 * N + i) + r) x := by
  unfold k0_pay7
  pointwise
  simp only [Finset.sum_range]
  refine congrArg _ (Finset.sum_congr rfl fun j _ => ?_)
  rw [p_apply, show 768 * N + (j.val * 8 + r.val) = 8 * (96 * N + j.val) + r.val by omega]

/-- The accumulator after `N` chunks. -/
theorem walk_acc (d : Fin 128) (x : Fin 4096) (N : ℕ) :
    (walk q b x1 x2 N).1 (ix2 d x) = ∑ n ∈ Finset.range (768 * N), val x2 n d * wt q b x1 n x := by
  induction N with
  | zero => exact Ideal.ofBits_zero_f32
  | succ N ih => rw [show 768 * (N + 1) = 768 * N + 768 by ring, Finset.sum_range_add, ← ih]; exact acc_step ..

/-- The partial sums after `N` chunks. -/
theorem walk_sum (r : Fin 8) (x : Fin 4096) (N : ℕ) :
    (walk q b x1 x2 N).2 (ix2 r x) = ∑ m ∈ Finset.range (96 * N), wt q b x1 (8 * m + r) x := by
  induction N with
  | zero => exact Ideal.ofBits_zero_f32
  | succ N ih => rw [show 96 * (N + 1) = 96 * N + 96 by ring, Finset.sum_range_add, ← ih]; exact sum_step ..

/-- One element a grid point writes: row `r`, component `d`. -/
def cell (x0 : Vec Ideal S1x4096x256 .bf16) (x1 : Vec Ideal S1x8448x256 .bf16) (x2 : Vec Ideal S1x33x128x256 .bf16) (x3 : Vec Ideal S1x128 .f32)
    (r : Fin 4096) (y : Fin 128) : EReal :=
  (∑ n ∈ Finset.range 8448, val x2 n y
      * Ideal.exp2 (∑ e : Fin 256, x1 (ix3 0 (Fin.ofNat 8448 n) e) * x0 (ix3 0 r e) - x3 (ix2 0 0)))
    * Ideal.div 1 (∑ n ∈ Finset.range 8448, Ideal.exp2 (∑ e : Fin 256, x1 (ix3 0 (Fin.ofNat 8448 n) e) * x0 (ix3 0 r e) - x3 (ix2 0 0)))

/-- The weights in terms of the blocks. -/
theorem wt_eq (x0 : Vec Ideal S1x4096x256 .bf16) (x3 : Vec Ideal S1x128 .f32) (n : ℕ) (r : Fin 4096) :
    wt (stacked x0) (bnd x3) x1 n r = Ideal.exp2 (∑ e : Fin 256, x1 (ix3 0 (Fin.ofNat 8448 n) e) * x0 (ix3 0 r e) - x3 (ix2 0 0)) := by
  unfold wt
  have hb : bnd x3 (ix2 0 0) = x3 (ix2 0 0) := by
    unfold bnd k0_pay24
    pointwise
  have hq : ∀ e : Fin 256, stacked x0 (ix2 r e) = x0 (ix3 0 r e) := fun e => by
    unfold stacked k0_pay23
    pointwise
  rw [hb]
  simp only [hq]

/-- The payload of the store. -/
theorem out_apply (l : Vec Ideal S8x4096 .f32) (a : Vec Ideal S128x4096 .f32) (r : Fin 4096) (d : Fin 128) :
    k0_pay3 l a (ix3 0 r d) = a (ix2 d r) * Ideal.div 1 (∑ k : Fin 8, l (ix2 k r)) := by
  unfold k0_pay3
  pointwise

/-- Accumulator times reciprocal, all keys summed. -/
theorem final_cell (x0 : Vec Ideal S1x4096x256 .bf16) (x3 : Vec Ideal S1x128 .f32) (r : Fin 4096) (d : Fin 128) :
    k0_pay3 (final x0 x1 x2 x3).2 (final x0 x1 x2 x3).1 (ix3 0 r d) = cell x0 x1 x2 x3 r d := by
  unfold final cell
  rw [out_apply, walk_acc]
  simp only [walk_sum]
  rw [sum_interleave (fun k => wt (stacked x0) (bnd x3) x1 k r)]
  simp only [wt_eq x1 x0 x3]

/-- The store of a grid point writes the block `cell`. -/
theorem stores_cell (x0 : Vec Ideal S1x4096x256 .bf16) (x3 : Vec Ideal S1x128 .f32) :
    ∀ p ∈ stores (final x0 x1 x2 x3), ∀ z : p.1.shape.Idx, p.2 z = (fun y : S1x4096x128.Idx => cell x0 x1 x2 x3 (y 1) (y 2)) (p.1.emb z) := by
  refine View.PiecesOf.mem (Val := Elt Ideal) (e := .bf16) (G := fun y : S1x4096x128.Idx => cell x0 x1 x2 x3 (y 1) (y 2)) ?_
  unfold stores
  refine And.intro ?_ trivial
  intro z
  show k0_pay3 (final x0 x1 x2 x3).2 (final x0 x1 x2 x3).1 z = cell x0 x1 x2 x3 _ _
  have hz : z = ix3 0 (z 1) (z 2) := by
    refine (eq_ix3 (n0 := 1) (n1 := 4096) (n2 := 128) z).trans ?_
    exact congrArg (fun w => ix3 w (z 1) (z 2)) (Subsingleton.elim (α := Fin 1) _ _)
  rw [hz]
  exact (final_cell x1 x2 x0 x3 (z 1) (z 2)).trans (congrArg₂ (cell x0 x1 x2 x3) (Fin.ext (by simp)) (Fin.ext (by simp)))

end Cert.Kernel2Ideal.Block

end
-- ==== Proof.Tile2.lean ====
/- The latent attention's result array, element by element, in terms of the four arrays the call is given. -/
module

public import proofs.«01_k».proof.Proof.Block2
public import proofs.«01_k».proof.Proof.Gen.Kernel2Ideal.Value
public import Idealize.ShloMosaic.Lib.Pipeline.ValueKit

@[expose] public section

set_option maxRecDepth 16384

noncomputable section

namespace Cert.Kernel2Ideal.Tile

open Cert.Kernel2Ideal Cert.Kernel2Ideal.Gen Cert.Kernel2Ideal.Walk Cert.Kernel2Ideal.Block Idealize.ShloMosaic Idealize.ShloMosaic.TcCoe Idealize.SL.Sem
open scoped BigOperators

variable (m : (ℓ : Loc nD τ sig) → Buf (Elt Ideal) ℓ)

/-- The weight key `n` gets from row `r` of head `h`: the power of two of scaled score less bound. -/
def weight (Q K : S4x8448x2048.Idx → EReal) (B : S1x128.Idx → EReal) (b : Fin 4) (r : Fin 8192) (h : ℕ) (n : ℕ) : EReal :=
  Ideal.exp2 (∑ e : Fin 256, K (ix3 b (Fin.ofNat 8448 n) (Fin.ofNat 2048 (256 * h + e)))
      * Q (ix3 b (Fin.ofNat 8448 r) (Fin.ofNat 2048 (256 * h + e))) - B (ix2 0 0))

/-- One element of the result. -/
def elem (Q K : S4x8448x2048.Idx → EReal) (T : S4x33x1024x256.Idx → EReal) (B : S1x128.Idx → EReal)
    (b : Fin 4) (r : Fin 8192) (y : Fin 1024) : EReal :=
  (∑ n ∈ Finset.range 8448, T (ix4 b (Fin.ofNat 33 (n / 256)) y (Fin.ofNat 256 n)) * weight Q K B b r (y / 128) n)
    * Ideal.div 1 (∑ n ∈ Finset.range 8448, weight Q K B b r (y / 128) n)

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 0).val, 0, (grid0.coords t 1).val] :=
  (by decide +kernel : ∀ t : Fin grid0.N, _)
theorem index2 : ∀ t : Fin cfg0.N, win0_2.index t = ![(grid0.coords t 0).val, 0, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)

/-- Where the query block's element `j` lies in its array. -/
theorem emb0 (t : Fin cfg0.N) (j : S1x4096x256.Idx) (i : S4x8448x2048.Idx) (h0 : (i 0).val = (grid0.coords t 0).val)
    (h1 : (i 1).val = 4096 * (grid0.coords t 2).val + (j 1).val) (h2 : (i 2).val = 256 * (grid0.coords t 1).val + (j 2).val)
    (h : ((cfg0.win 0).xblock (cfg0.grid.coords t)).Idx) (hh : ∀ a, (h a).val = (j a).val) :
    (win0_0.blk t).view.emb h = i := by
  have : (j 0).val < 1 := (j 0).isLt
  have e0 : (h 0).val = (j 0).val := hh 0
  have e1 : (h 1).val = (j 1).val := hh 1
  have e2 : (h 2).val = (j 2).val := hh 2
  blk_ext [index0, h0, h1, h2, e0, e1, e2]

/-- Where the key block's element `j` lies in its array. -/
theorem emb1 (t : Fin cfg0.N) (j : S1x8448x256.Idx) (i : S4x8448x2048.Idx) (h0 : (i 0).val = (grid0.coords t 0).val)
    (h1 : (i 1).val = (j 1).val) (h2 : (i 2).val = 256 * (grid0.coords t 1).val + (j 2).val) : (win0_1.blk t).view.emb j = i := by
  have : (j 0).val < 1 := (j 0).isLt
  blk_ext [index1, h0, h1, h2]

/-- Where the value block's element `j` lies in its array. -/
theorem emb2 (t : Fin cfg0.N) (j : S1x33x128x256.Idx) (i : S4x33x1024x256.Idx) (h0 : (i 0).val = (grid0.coords t 0).val)
    (h1 : (i 1).val = (j 1).val) (h2 : (i 2).val = 128 * (grid0.coords t 1).val + (j 2).val) (h3 : (i 3).val = (j 3).val) :
    (win0_2.blk t).view.emb j = i := by
  have : (j 0).val < 1 := (j 0).isLt
  blk_ext [index2, h0, h1, h2, h3]

/-- The bound's block is its array. -/
theorem emb3 (t : Fin cfg0.N) (j : S1x128.Idx) : (win0_3.blk t).view.emb j = j := by
  blk_ext [index3]

/-- The result's coordinates of a block's element. -/
theorem emb4_0 (t : Fin cfg0.N) (y : S1x4096x128.Idx) : ((win0_4.blk t).view.emb y 0).val = (grid0.coords t 0).val := by
  have : (y 0).val < 1 := (y 0).isLt
  blk_simp [index4]
theorem emb4_1 (t : Fin cfg0.N) (y : S1x4096x128.Idx) : ((win0_4.blk t).view.emb y 1).val = 4096 * (grid0.coords t 2).val + (y 1).val := by
  blk_simp [index4]
  simp only [Matrix.cons_val_one, Matrix.cons_val_zero]
  omega
theorem emb4_2 (t : Fin cfg0.N) (y : S1x4096x128.Idx) : ((win0_4.blk t).view.emb y 2).val = 128 * (grid0.coords t 1).val + (y 2).val := by
  blk_simp [index4]
  simp only [Matrix.cons_val]
  omega

/-- The query block at a point, read off its array. -/
theorem rd0 (A : S4x8448x2048.Idx → EReal) (t : Fin cfg0.N) (j : S1x4096x256.Idx) (i : S4x8448x2048.Idx) (h0 : (i 0).val = (grid0.coords t 0).val)
    (h1 : (i 1).val = 4096 * (grid0.coords t 2).val + (j 1).val) (h2 : (i 2).val = 256 * (grid0.coords t 1).val + (j 2).val)
    (h : ((cfg0.win 0).xblock (cfg0.grid.coords t)).Idx) (hh : ∀ a, (h a).val = (j a).val) :
    ((cfg0.win 0).blk t).view.read (Elt Ideal) A h = A i := by
  have e := emb0 t j i h0 h1 h2 h hh
  subst e
  rfl

/-- The key block at a point, read off its array. -/
theorem rd1 (A : S4x8448x2048.Idx → EReal) (t : Fin cfg0.N) (j : S1x8448x256.Idx) (i : S4x8448x2048.Idx) (h0 : (i 0).val = (grid0.coords t 0).val)
    (h1 : (i 1).val = (j 1).val) (h2 : (i 2).val = 256 * (grid0.coords t 1).val + (j 2).val) :
    ((cfg0.win 1).blk t).view.read (Elt Ideal) A j = A i := by
  have e := emb1 t j i h0 h1 h2
  subst e
  rfl

/-- The value block at a point, read off its array. -/
theorem rd2 (A : S4x33x1024x256.Idx → EReal) (t : Fin cfg0.N) (j : S1x33x128x256.Idx) (i : S4x33x1024x256.Idx) (h0 : (i 0).val = (grid0.coords t 0).val)
    (h1 : (i 1).val = (j 1).val) (h2 : (i 2).val = 128 * (grid0.coords t 1).val + (j 2).val) (h3 : (i 3).val = (j 3).val) :
    ((cfg0.win 2).blk t).view.read (Elt Ideal) A j = A i := by
  have e := emb2 t j i h0 h1 h2 h3
  subst e
  rfl

/-- The bound's block, read off its array. -/
theorem rd3 (A : S1x128.Idx → EReal) (t : Fin cfg0.N) (j : S1x128.Idx) : ((cfg0.win 3).blk t).view.read (Elt Ideal) A j = A j := by
  have e := emb3 t j
  exact congrArg A e

/-- The query block at a point, in terms of the call's array. -/
theorem read0 (c : Dev nD) (t : Fin cfg0.N) (j : S1x4096x256.Idx) (i : S4x8448x2048.Idx) (h0 : (i 0).val = (grid0.coords t 0).val)
    (h1 : (i 1).val = 4096 * (grid0.coords t 2).val + (j 1).val) (h2 : (i 2).val = 256 * (grid0.coords t 1).val + (j 2).val) :
    X0_0 m c t j = V m c main_v24 i := by
  unfold X0_0 Pipeline.Window.fill
  rw [dif_pos (moved0_0 t j)]
  unfold iblk
  exact rd0 (V m c main_v24) t j i h0 h1 h2 _ fun a => rfl

/-- The key block at a point, in terms of the call's array. -/
theorem read1 (c : Dev nD) (t : Fin cfg0.N) (j : S1x8448x256.Idx) (i : S4x8448x2048.Idx) (h0 : (i 0).val = (grid0.coords t 0).val)
    (h1 : (i 1).val = (j 1).val) (h2 : (i 2).val = 256 * (grid0.coords t 1).val + (j 2).val) :
    iblk m c 1 t j = V m c main_v26 i := by
  unfold iblk
  exact rd1 (V m c main_v26) t j i h0 h1 h2

/-- The value block at a point, in terms of the call's array. -/
theorem read2 (c : Dev nD) (t : Fin cfg0.N) (j : S1x33x128x256.Idx) (i : S4x33x1024x256.Idx) (h0 : (i 0).val = (grid0.coords t 0).val)
    (h1 : (i 1).val = (j 1).val) (h2 : (i 2).val = 128 * (grid0.coords t 1).val + (j 2).val) (h3 : (i 3).val = (j 3).val) :
    iblk m c 2 t j = V m c main_v13 i := by
  unfold iblk
  exact rd2 (V m c main_v13) t j i h0 h1 h2 h3

/-- The bound's block, in terms of the call's array. -/
theorem read3 (c : Dev nD) (t : Fin cfg0.N) (j : S1x128.Idx) : iblk m c 3 t j = V m c main_v27 j := by
  unfold iblk
  exact rd3 (V m c main_v27) t j

/-- An element of a block is the result's element where the block lies. -/
theorem cell_elem (x0 : Vec Ideal S1x4096x256 .bf16) (x1 : Vec Ideal S1x8448x256 .bf16) (x2 : Vec Ideal S1x33x128x256 .bf16) (x3 : Vec Ideal S1x128 .f32)
    (Q K : S4x8448x2048.Idx → EReal) (T : S4x33x1024x256.Idx → EReal) (B : S1x128.Idx → EReal) (b : Fin 4) (h : Fin 8) (q : Fin 2)
    (r0 : ∀ j i, (i 0).val = b.val → (i 1).val = 4096 * q.val + (j 1).val → (i 2).val = 256 * h.val + (j 2).val → x0 j = Q i)
    (r1 : ∀ j i, (i 0).val = b.val → (i 1).val = (j 1).val → (i 2).val = 256 * h.val + (j 2).val → x1 j = K i)
    (r2 : ∀ j i, (i 0).val = b.val → (i 1).val = (j 1).val → (i 2).val = 128 * h.val + (j 2).val → (i 3).val = (j 3).val → x2 j = T i)
    (r3 : ∀ j, x3 j = B j) (r : Fin 4096) (y : Fin 128) (R : Fin 8192) (Y : Fin 1024) (hR : R.val = 4096 * q.val + r.val) (hY : Y.val = 128 * h.val + y.val) :
    cell x0 x1 x2 x3 r y = elem Q K T B b R Y := by
  have hh := h.isLt
  have hy := y.isLt
  have hr := R.isLt
  have hd : Y.val / 128 = h.val := by omega
  have hw : ∀ n, Ideal.exp2 (∑ e : Fin 256, x1 (ix3 0 (Fin.ofNat 8448 n) e) * x0 (ix3 0 r e) - x3 (ix2 0 0)) = weight Q K B b R (Y / 128) n := fun n => by
    unfold weight
    rw [r3, hd]
    refine congrArg (fun z => Ideal.exp2 (z - B (ix2 0 0))) (Finset.sum_congr rfl fun e _ => ?_)
    have he := e.isLt
    refine congrArg₂ (· * ·) (r1 _ _ rfl rfl ?_) (r0 _ _ rfl ?_ ?_)
    · show (256 * h.val + e.val) % 2048 = 256 * h.val + e.val
      omega
    · show R.val % 8448 = 4096 * q.val + r.val
      omega
    · show (256 * h.val + e.val) % 2048 = 256 * h.val + e.val
      omega
  unfold cell elem
  simp only [hw]
  refine congrArg (· * _) (Finset.sum_congr rfl fun n _ => congrArg (· * _) ?_)
  exact r2 _ _ rfl rfl hY rfl

/-- The result array is `elem` of the four arrays the call is given. -/
theorem final_o (c : Dev nD) : (dats m 0 c).arrAt 4 cfg0.N
    = fun i : S4x8192x1024.Idx => elem (V m c main_v24) (V m c main_v26) (V m c main_v13) (V m c main_v27) (i 0) (i 1) (i 2) := by
  refine (dats m 0 c).arrAt_eq_of_covers 4 _ (by decide +kernel) fun t hf y => ?_
  blk_simp
  rw [after0_4]
  unfold outsAt0 out0_A_4
  rw [View.read_writes_junk_eq_canon]
  rw [View.canon_apply_of_pieces (fun y : S1x4096x128.Idx => cell (X0_0 m c t) (iblk m c 1 t) (iblk m c 2 t) (iblk m c 3 t) (y 1) (y 2)) _
    (by rw [run_stores]; exact stores_cell _ _ _ _) _ (cover0_A_4 ..)]
  have e : (win0_4.blk t).view.emb y 0 = grid0.coords t 0 := Fin.ext (emb4_0 t y)
  have k := cell_elem _ _ _ _ (V m c main_v24) (V m c main_v26) (V m c main_v13) (V m c main_v27) (grid0.coords t 0) (grid0.coords t 1) (grid0.coords t 2)
    (read0 m c t) (read1 m c t) (read2 m c t) (read3 m c t) (y 1) (y 2) ((win0_4.blk t).view.emb y 1) ((win0_4.blk t).view.emb y 2) (emb4_1 t y) (emb4_2 t y)
  rw [e]
  exact k

end Cert.Kernel2Ideal.Tile

end
-- ==== Proof.Greatest.lean ====
/- The greatest element of an array of reals that aren't negative is such a real. -/
module

public import proofs.«01_k».proof.Proof.Softmax
public import Idealize.ShloMosaic.Lib.ReduceAll

@[expose] public section

noncomputable section

namespace Cert.Greatest

open Idealize.ShloMosaic

/-- The greatest of finitely many reals that aren't negative is such a real. -/
theorem fold_nonneg {ι : Type} (f : ι → EReal) (hf : ∀ i, ∃ r : ℝ, 0 ≤ r ∧ f i = r) :
    ∀ (l : List ι) (z : ℝ), 0 ≤ z → ∃ r : ℝ, 0 ≤ r ∧ l.foldl (fun a n => max a (f n)) (z : EReal) = r
  | [], z, hz => ⟨z, hz, rfl⟩
  | a :: l, z, hz => by
    obtain ⟨r, hr, he⟩ := hf a
    obtain ⟨q, hq, h⟩ := fold_nonneg f hf l (max z r) (le_max_of_le_left hz)
    refine ⟨q, hq, ?_⟩
    rw [← h, List.foldl_cons, he]
    exact congrArg (fun w : EReal => l.foldl (fun a n => max a (f n)) w) (EReal.coe_strictMono.monotone.map_max (a := z) (b := r)).symm

/-- A reduction by maximum, from minus infinity, over all axes of an array of reals that aren't negative, is such a real. -/
theorem reduce_nonneg {s t u : Shape} {axes : List (Fin s.rank)} (x : FVec Ideal s .f32) (h : s.ReducesTo axes t) (hu : 0 < u.numel) (i0 : s.Idx)
    (hss : Subsingleton t.Idx) (hx : ∀ i, ∃ r : ℝ, 0 ≤ r ∧ x i = (r : EReal)) (j : t.Idx) :
    ∃ r : ℝ, 0 ≤ r ∧ Host.reduce FloatOps.maximumf x (constant u .f32 4286578688#32) h hu j = (r : EReal) := by
  rw [Host.reduce_eq_foldl]
  have hm : i0 ∈ (((List.finRange s.numel).map s.rowMajor.symm).filter fun i => h.drop i = j) := by
    rw [List.mem_filter]
    exact ⟨List.mem_map.2 ⟨s.rowMajor i0, List.mem_finRange _, Equiv.symm_apply_apply _ _⟩, by simp [Subsingleton.elim (h.drop i0) j]⟩
  revert hm
  generalize (((List.finRange s.numel).map s.rowMajor.symm).filter fun i => h.drop i = j) = l
  intro hm
  match l, hm with
  | a :: l, _ =>
    obtain ⟨r, hr, he⟩ := hx a
    obtain ⟨q, hq, hh⟩ := fold_nonneg x hx l r hr
    refine ⟨q, hq, ?_⟩
    rw [← hh, List.foldl_cons]
    refine congrArg (fun w => l.foldl (fun a n => max a (x n)) w) ?_
    show max (Ideal.ofBits .f32 4286578688#32) (x a) = (r : EReal)
    rw [Softmax.ofBits_bot, he]
    exact max_eq_right bot_le

end Cert.Greatest
end
-- ==== Proof.Host2.lean ====
/- The arrays the latent attention's call is given, element by element, in terms of the program's arguments. -/
module

public import proofs.«01_k».proof.Proof.Gen.Kernel2Ideal.Frame
public import proofs.«01_k».proof.Proof.Host
public import proofs.«01_k».proof.Proof.Greatest
public import Idealize.ShloMosaic.Lib.KernelVsHost

@[expose] public section

set_option maxRecDepth 16384

noncomputable section

namespace Cert.Kernel2Ideal.Host

open Cert.KernelIdeal.Host (trunc_read mul_read)
open Cert.Kernel2Ideal Cert.Kernel2Ideal.Gen Idealize.ShloMosaic Idealize.ShloMosaic.TcCoe Idealize.SL.Sem
open scoped BigOperators

/-- Latents then context, for the queries and for the keys. -/
def cat (a1 : FVec Ideal S4x8192x8x192 .f32) (a4 : FVec Ideal S4x256x8x192 .f32) : S4x8448x8x192.Idx → EReal :=
  concatenate S4x8448x8x192 1 [⟨S4x8192x8x192, a1⟩, ⟨S4x256x8x192, a4⟩] concatenates_S4x8192x8x192_S4x256x8x192_S4x8448x8x192_d1

/-- Latents then context, for the values. -/
def vcat (a2 : FVec Ideal S4x8192x8x128 .f32) (a5 : FVec Ideal S4x256x8x128 .f32) : S4x8448x8x128.Idx → EReal :=
  concatenate S4x8448x8x128 1 [⟨S4x8192x8x128, a2⟩, ⟨S4x256x8x128, a5⟩] concatenates_S4x8192x8x128_S4x256x8x128_S4x8448x8x128_d1

/-- The scale, as the host computes it. -/
def scl : FVec Ideal S_ .f32 :=
  Host.divf (constant S_ .f32 1065353216#32) (mulf (Host.sqrt (constant S_ .f32 1128267776#32)) (Host.log (constant S_ .f32 1073741824#32)))

/-- The concatenated queries, scaled. -/
def qcat (a0 : FVec Ideal S4x8192x8x192 .f32) (a3 : FVec Ideal S4x256x8x192 .f32) : FVec Ideal S4x8448x8x192 .f32 :=
  mulf (F := Ideal) (φ := .f32) (cat a0 a3) (broadcastInDim S4x8448x8x192 ![] bcast_S_S4x8448x8x192 scl)

/-- 192 components padded with zeros to 256. -/
def padded (x : FVec Ideal S4x8448x8x192 .f32) : FVec Ideal S4x8448x8x256 .f32 :=
  pad S4x8448x8x256 ![0, 0, 0, 0] ![0, 0, 0, 64] ![0, 0, 0, 0] x (sitofp (F := Ideal) .f32 (constantI S_ 32 0#32)) pads_S4x8448x8x192_S4x8448x8x256_000_000_000_0640 h_S_

/-- The array of padded rows the call is given. -/
def rows (x : FVec Ideal S4x8448x8x256 .f32) : S4x8448x2048.Idx → EReal :=
  truncf (F := Ideal) (φ := .f32) .bf16 (shapeCast S4x8448x2048 x shapeCasts_S4x8448x8x256_S4x8448x2048) bitsLt_bf16_f32

/-- The values, latents then context, in slabs of 256 keys, each transposed. -/
def vArr (a2 : FVec Ideal S4x8192x8x128 .f32) (a5 : FVec Ideal S4x256x8x128 .f32) : S4x33x1024x256.Idx → EReal :=
  truncf (F := Ideal) (φ := .f32) .bf16 (transpose S4x33x1024x256 [0, 1, 3, 2] (shapeCast S4x33x256x1024 (vcat a2 a5) shapeCasts_S4x8448x8x128_S4x33x256x1024)
      transposes_S4x33x256x1024_S4x33x1024x256_0_1_3_2) bitsLt_bf16_f32

/-- The greatest sum of squares of a row. -/
def top (x : FVec Ideal S4x8448x8x256 .f32) : FVec Ideal S_ .f32 :=
  Host.reduce FloatOps.maximumf (Host.reduceAdd (mulf x x) (constant S_ .f32 0#32) reducesTo_S4x8448x8x256_S4x8448x8_d3 h_S_)
    (constant S_ .f32 4286578688#32) reducesTo_S4x8448x8_S_d0_1_2 h_S_

/-- The bound on the scores. -/
def bArr (q k : FVec Ideal S4x8448x8x256 .f32) : S1x128.Idx → EReal :=
  broadcastInDim S1x128 ![] bcast_S_S1x128 (mulf (F := Ideal) (φ := .f32) (constant S_ .f32 1065520988#32) (Host.sqrt (mulf (top q) (top k))))

section Entry
variable (m : (ℓ : Loc nD τ sig) → Buf (Elt Ideal) ℓ) (c : Dev nD)

theorem V_q : V m c main_v24 = rows (padded (qcat (m ((c : Thread nD τ).loc main_arg0)) (m ((c : Thread nD τ).loc main_arg3)))) := by
  unfold V hostOps0 hostOps0_1 hostOps0_2 hostOps0_3 hostOps0_4
  simp only [List.flatten_cons, List.flatten_nil, List.append_nil, List.cons_append, List.nil_append]
  entry_read
  unfold rows padded
  refine congrArg (fun x : FVec Ideal S4x8448x8x256 .f32 => truncf (F := Ideal) (φ := .f32) .bf16 (shapeCast S4x8448x2048 x shapeCasts_S4x8448x8x256_S4x8448x2048) bitsLt_bf16_f32) ?_
  rfl
theorem V_k : V m c main_v26 = rows (padded (cat (m ((c : Thread nD τ).loc main_arg1)) (m ((c : Thread nD τ).loc main_arg4)))) := by
  unfold V hostOps0 hostOps0_1 hostOps0_2 hostOps0_3 hostOps0_4
  simp only [List.flatten_cons, List.flatten_nil, List.append_nil, List.cons_append, List.nil_append]
  entry_read
  unfold rows padded
  refine congrArg (fun x : FVec Ideal S4x8448x8x256 .f32 => truncf (F := Ideal) (φ := .f32) .bf16 (shapeCast S4x8448x2048 x shapeCasts_S4x8448x8x256_S4x8448x2048) bitsLt_bf16_f32) ?_
  rfl
theorem V_v : V m c main_v13 = vArr (m ((c : Thread nD τ).loc main_arg2)) (m ((c : Thread nD τ).loc main_arg5)) := by
  unfold V hostOps0 hostOps0_1 hostOps0_2 hostOps0_3 hostOps0_4
  simp only [List.flatten_cons, List.flatten_nil, List.append_nil, List.cons_append, List.nil_append]
  entry_read
  rfl
theorem V_b : V m c main_v27 = bArr (padded (qcat (m ((c : Thread nD τ).loc main_arg0)) (m ((c : Thread nD τ).loc main_arg3))))
    (padded (cat (m ((c : Thread nD τ).loc main_arg1)) (m ((c : Thread nD τ).loc main_arg4)))) := by
  unfold V hostOps0 hostOps0_1 hostOps0_2 hostOps0_3 hostOps0_4
  simp only [List.flatten_cons, List.flatten_nil, List.append_nil, List.cons_append, List.nil_append]
  entry_read
  rfl

end Entry

theorem cat_latent (a1 : FVec Ideal S4x8192x8x192 .f32) (a4 : FVec Ideal S4x256x8x192 .f32) (b : Fin 4) (n : Fin 8448) (h : Fin 8) (e : Fin 192)
    (n' : Fin 8192) (hn : n.val = n'.val) : cat a1 a4 (ix4 b n h e) = a1 (ix4 b n' h e) := by
  unfold cat
  pointwise
  rw [dif_pos (show n.val < 8192 by omega)]
  exact congrArg (fun q => a1 (ix4 b q h e)) (Fin.ext hn)

theorem cat_context (a1 : FVec Ideal S4x8192x8x192 .f32) (a4 : FVec Ideal S4x256x8x192 .f32) (b : Fin 4) (n : Fin 8448) (h : Fin 8) (e : Fin 192)
    (n' : Fin 256) (hn : n.val = 8192 + n'.val) : cat a1 a4 (ix4 b n h e) = a4 (ix4 b n' h e) := by
  unfold cat
  pointwise
  rw [dif_neg (show ¬ n.val < 8192 by omega)]
  exact congrArg (fun q => a4 (ix4 b q h e)) (Fin.ext (show n.val - 8192 = n'.val by omega))

theorem vcat_latent (a1 : FVec Ideal S4x8192x8x128 .f32) (a4 : FVec Ideal S4x256x8x128 .f32) (b : Fin 4) (n : Fin 8448) (h : Fin 8) (e : Fin 128)
    (n' : Fin 8192) (hn : n.val = n'.val) : vcat a1 a4 (ix4 b n h e) = a1 (ix4 b n' h e) := by
  unfold vcat
  pointwise
  rw [dif_pos (show n.val < 8192 by omega)]
  exact congrArg (fun q => a1 (ix4 b q h e)) (Fin.ext hn)

theorem vcat_context (a1 : FVec Ideal S4x8192x8x128 .f32) (a4 : FVec Ideal S4x256x8x128 .f32) (b : Fin 4) (n : Fin 8448) (h : Fin 8) (e : Fin 128)
    (n' : Fin 256) (hn : n.val = 8192 + n'.val) : vcat a1 a4 (ix4 b n h e) = a4 (ix4 b n' h e) := by
  unfold vcat
  pointwise
  rw [dif_neg (show ¬ n.val < 8192 by omega)]
  exact congrArg (fun q => a4 (ix4 b q h e)) (Fin.ext (show n.val - 8192 = n'.val by omega))

/-- Eight heads of 256 side by side, read at a column. -/
theorem heads_apply (x : FVec Ideal S4x8448x8x256 .f32) (b : Fin 4) (n : Fin 8448) (y : Fin 2048) (h : Fin 8) (e : Fin 256) (hy : y.val = 256 * h.val + e.val) :
    rows x (ix3 b n y) = x (ix4 b n h e) := by
  unfold rows
  refine (trunc_read _ _).trans ?_
  refine shapeCast_apply x _ _ _ ?_
  rewrite [Shape.rowMajor_val_four, Shape.rowMajor_val_three]
  show ((b.val * 8448 + n.val) * 8 + h.val) * 256 + e.val = (b.val * 8448 + n.val) * 2048 + y.val
  omega

/-- The keys in slabs of 256, eight heads side by side, read at a slab, a key and a column. -/
theorem slabs_apply (x : S4x8448x8x128.Idx → EReal) (b : Fin 4) (n : Fin 8448) (s : Fin 33) (k : Fin 256) (y : Fin 1024)
    (h : Fin 8) (e : Fin 128) (hy : y.val = 128 * h.val + e.val) (hn : n.val = 256 * s.val + k.val) :
    shapeCast S4x33x256x1024 x shapeCasts_S4x8448x8x128_S4x33x256x1024 (ix4 b s k y) = x (ix4 b n h e) := by
  refine shapeCast_apply x _ _ _ ?_
  rewrite [Shape.rowMajor_val_four, Shape.rowMajor_val_four]
  show ((b.val * 8448 + n.val) * 8 + h.val) * 128 + e.val = ((b.val * 33 + s.val) * 256 + k.val) * 1024 + y.val
  omega

theorem flip_apply (x : S4x33x256x1024.Idx → EReal) (b : Fin 4) (s : Fin 33) (k : Fin 256) (y : Fin 1024) :
    transpose S4x33x1024x256 [0, 1, 3, 2] x transposes_S4x33x256x1024_S4x33x1024x256_0_1_3_2 (ix4 b s y k) = x (ix4 b s k y) := by
  pointwise

/-- The value array reads the concatenation: key `256 s + k` in slab `s`, transposed. -/
theorem vArr_apply (a1 : FVec Ideal S4x8192x8x128 .f32) (a4 : FVec Ideal S4x256x8x128 .f32) (b : Fin 4) (n : Fin 8448) (s : Fin 33) (k : Fin 256) (y : Fin 1024)
    (h : Fin 8) (e : Fin 128) (hy : y.val = 128 * h.val + e.val) (hn : n.val = 256 * s.val + k.val) :
    vArr a1 a4 (ix4 b s y k) = vcat a1 a4 (ix4 b n h e) := by
  unfold vArr
  refine (trunc_read _ _).trans ?_
  exact (flip_apply _ b s k y).trans (slabs_apply (vcat a1 a4) b n s k y h e hy hn)

/-- The factor on the queries. -/
def scale : EReal := Ideal.div (Ideal.ofBits .f32 1065353216#32) (Ideal.sqrt (Ideal.ofBits .f32 1128267776#32) * Ideal.log (Ideal.ofBits .f32 1073741824#32))

/-- The concatenated queries carry the factor. -/
theorem qcat_apply (a0 : FVec Ideal S4x8192x8x192 .f32) (a3 : FVec Ideal S4x256x8x192 .f32) (i : S4x8448x8x192.Idx) :
    qcat a0 a3 i = cat a0 a3 i * scale := by
  unfold qcat
  exact mul_read _ _ _

theorem pad_low (x : FVec Ideal S4x8448x8x192 .f32) (b : Fin 4) (n : Fin 8448) (h : Fin 8) (e : Fin 256) (e' : Fin 192) (he : e.val = e'.val) :
    padded x (ix4 b n h e) = x (ix4 b n h e') := by
  unfold padded
  refine pad_apply_of_inside _ _ _ _ _ _ _ _ _ fun a => ?_
  match a with
  | ⟨0, _⟩ => show b.val = 0 + b.val * (0 + 1); omega
  | ⟨1, _⟩ => show n.val = 0 + n.val * (0 + 1); omega
  | ⟨2, _⟩ => show h.val = 0 + h.val * (0 + 1); omega
  | ⟨3, _⟩ => show e.val = 0 + e'.val * (0 + 1); omega

theorem zero_read (i : S_.Idx) : sitofp (F := Ideal) .f32 (constantI S_ 32 0#32) i = (0 : EReal) := by
  show (((0#32 : BitVec 32).toInt : ℝ) : EReal) = 0
  simp

theorem pad_high (x : FVec Ideal S4x8448x8x192 .f32) (b : Fin 4) (n : Fin 8448) (h : Fin 8) (e : Fin 256) (he : 192 ≤ e.val) :
    padded x (ix4 b n h e) = 0 := by
  unfold padded
  refine (pad_apply_of_not_inside _ _ _ _ _ _ _ _ (⟨3, by decide⟩ : Fin 4) fun hin => ?_).trans (zero_read _)
  have h3 : (e.val - 0) / (0 + 1) < 192 := hin.2.2
  omega

theorem rowsum_read (x : FVec Ideal S4x8448x8x256 .f32) (b : Fin 4) (n : Fin 8448) (h : Fin 8) :
    Host.reduceAdd x (constant S_ .f32 0#32) reducesTo_S4x8448x8x256_S4x8448x8_d3 h_S_ (ix3 b n h)
      = Ideal.ofBits .f32 0#32 + ∑ e : Fin 256, x (ix4 b n h e) := by
  pointwise

/-- The greatest sum of squares of rows of reals is a real and isn't negative. -/
theorem top_real (x : FVec Ideal S4x8448x8x256 .f32) (hx : ∀ i, ∃ r : ℝ, x i = (r : EReal)) (j : S_.Idx) : ∃ r : ℝ, 0 ≤ r ∧ top x j = (r : EReal) := by
  unfold top
  refine Greatest.reduce_nonneg _ _ _ (ix3 0 0 0) ⟨fun a b => funext fun k => k.elim0⟩ (fun i => ?_) j
  obtain ⟨b, n, h, rfl⟩ : ∃ (b : Fin 4) (n : Fin 8448) (h : Fin 8), i = ix3 b n h := ⟨i 0, i 1, i 2, eq_ix3 i⟩
  rw [rowsum_read, Ideal.ofBits_zero_f32, zero_add]
  choose f hf using hx
  refine ⟨∑ e : Fin 256, f (ix4 b n h e) * f (ix4 b n h e), Finset.sum_nonneg fun e _ => mul_self_nonneg _, ?_⟩
  rw [← Softmax.sum_coe]
  refine Finset.sum_congr rfl fun e _ => ?_
  rw [mul_read, hf, EReal.coe_mul]

theorem slack_real : ∃ r : ℝ, Ideal.ofBits .f32 1065520988#32 = (r : EReal) := by
  show ∃ r : ℝ, Ideal.ieee 8 23 1065520988#32 = (r : EReal)
  unfold Ideal.ieee
  dsimp only
  rw [if_neg (by decide), if_neg (by decide)]
  exact ⟨_, rfl⟩

theorem bound_read (u v : FVec Ideal S_ .f32) (i : S1x128.Idx) :
    broadcastInDim S1x128 ![] bcast_S_S1x128 (mulf (F := Ideal) (φ := .f32) (constant S_ .f32 1065520988#32) (Host.sqrt (mulf u v))) i
      = Ideal.ofBits .f32 1065520988#32 * Ideal.sqrt (u (fun k => k.elim0) * v (fun k => k.elim0)) :=
  Cert.KernelIdeal.Host.bcast_read _ i _

/-- The bound is a real where the queries and keys are. -/
theorem bArr_real (q k : FVec Ideal S4x8448x8x256 .f32) (hq : ∀ i, ∃ r : ℝ, q i = (r : EReal)) (hk : ∀ i, ∃ r : ℝ, k i = (r : EReal)) (i : S1x128.Idx) :
    ∃ B : ℝ, bArr q k i = (B : EReal) := by
  obtain ⟨s, hs⟩ := slack_real
  obtain ⟨u, hu, eu⟩ := top_real q hq (fun k => k.elim0)
  obtain ⟨v, hv, ev⟩ := top_real k hk (fun k => k.elim0)
  refine ⟨s * Real.sqrt (u * v), ?_⟩
  have h : bArr q k i = Ideal.ofBits .f32 1065520988#32 * Ideal.sqrt (top q (fun k => k.elim0) * top k (fun k => k.elim0)) := by
    unfold bArr
    exact bound_read (top q) (top k) i
  rw [h, hs, eu, ev, ← EReal.coe_mul, Ideal.sqrt_coe, if_neg (not_lt.mpr (mul_nonneg hu hv)), ← EReal.coe_mul]

theorem ofBits_192 : Ideal.ofBits .f32 1128267776#32 = ((192 : ℝ) : EReal) := by
  simp [Ideal.ofBits, Ideal.ieee, -EReal.coe_mul]; norm_num

/-- The factor on the queries, as a quotient of numbers. -/
theorem scale_eq : scale = Ideal.div 1 ((Real.sqrt 192 : EReal) * (Real.log 2 : EReal)) := by
  unfold scale
  rw [ofBits_192, Softmax.ofBits_two, Softmax.sqrt_pos_coe _ (by norm_num), Softmax.log_pos_coe _ (by norm_num)]
  exact congrArg (fun z => Ideal.div z _) Ideal.ofBits_one_f32

/-- … which is a real. -/
theorem scale_real : ∃ r : ℝ, scale = (r : EReal) := by
  have hl : 0 < Real.log 2 := Real.log_pos (by norm_num)
  have hs : 0 < Real.sqrt 192 := Real.sqrt_pos.mpr (by norm_num)
  rw [scale_eq, ← EReal.coe_mul, Ideal.div_coe (mul_pos hs hl).ne', one_mul]
  exact ⟨_, rfl⟩

/-- Concatenated reals are reals. -/
theorem cat_real (a1 : FVec Ideal S4x8192x8x192 .f32) (a4 : FVec Ideal S4x256x8x192 .f32) (h1 : ∀ i, ∃ r : ℝ, a1 i = (r : EReal)) (h4 : ∀ i, ∃ r : ℝ, a4 i = (r : EReal))
    (i : S4x8448x8x192.Idx) : ∃ r : ℝ, cat a1 a4 i = (r : EReal) := by
  rw [eq_ix4 (n0 := 4) (n1 := 8448) (n2 := 8) (n3 := 192) i]
  by_cases hn : (i 1).val < 8192
  · exact (cat_latent a1 a4 (i 0) (i 1) (i 2) (i 3) ⟨(i 1).val, hn⟩ rfl) ▸ h1 _
  · have hlt : (i 1).val < 8448 := (i 1).isLt
    exact (cat_context a1 a4 (i 0) (i 1) (i 2) (i 3) ⟨(i 1).val - 8192, by omega⟩ (show (i 1).val = 8192 + ((i 1).val - 8192) by omega)) ▸ h4 _

theorem qcat_real (a1 : FVec Ideal S4x8192x8x192 .f32) (a4 : FVec Ideal S4x256x8x192 .f32) (h1 : ∀ i, ∃ r : ℝ, a1 i = (r : EReal)) (h4 : ∀ i, ∃ r : ℝ, a4 i = (r : EReal))
    (i : S4x8448x8x192.Idx) : ∃ r : ℝ, qcat a1 a4 i = (r : EReal) := by
  obtain ⟨r, hr⟩ := cat_real a1 a4 h1 h4 i
  obtain ⟨s, hs⟩ := scale_real
  exact ⟨r * s, by rw [qcat_apply, hr, hs, EReal.coe_mul]⟩

/-- Padded reals are reals. -/
theorem padded_real (x : FVec Ideal S4x8448x8x192 .f32) (h : ∀ i, ∃ r : ℝ, x i = (r : EReal)) (i : S4x8448x8x256.Idx) : ∃ r : ℝ, padded x i = (r : EReal) := by
  rw [eq_ix4 (n0 := 4) (n1 := 8448) (n2 := 8) (n3 := 256) i]
  by_cases hn : (i 3).val < 192
  · exact (pad_low x (i 0) (i 1) (i 2) (i 3) ⟨(i 3).val, hn⟩ rfl) ▸ h _
  · exact ⟨0, pad_high x (i 0) (i 1) (i 2) (i 3) (by omega)⟩

/-- A sum over 256 padded components is one over the 192. -/
theorem padded_sum (k q : FVec Ideal S4x8448x8x192 .f32) (b : Fin 4) (n r : Fin 8448) (h : Fin 8) :
    ∑ e : Fin 256, padded k (ix4 b n h e) * padded q (ix4 b r h e) = ∑ e : Fin 192, k (ix4 b n h e) * q (ix4 b r h e) := by
  rw [Fin.sum_univ_add (a := 192) (b := 64)]
  have h2 : ∀ e : Fin 64, padded k (ix4 b n h (Fin.natAdd 192 e)) * padded q (ix4 b r h (Fin.natAdd 192 e)) = 0 := fun e => by
    rw [pad_high k b n h (Fin.natAdd 192 e) (by simp), zero_mul]
  rw [Finset.sum_eq_zero (fun e _ => h2 e), add_zero]
  refine Finset.sum_congr rfl fun e _ => ?_
  rw [pad_low k b n h (Fin.castAdd 64 e) e rfl, pad_low q b r h (Fin.castAdd 64 e) e rfl]

end Cert.Kernel2Ideal.Host
end
-- ==== Proof.Ref2.lean ====
/- The latent attention's reference, element by element: the softmax mean of the values over the keys. -/
module

public import proofs.«01_k».proof.Proof.Gen.Reference2Ideal.Read
public import proofs.«01_k».proof.Proof.Softmax
public import Idealize.ShloMosaic.Lib.Pointwise

@[expose] public section

set_option maxRecDepth 16384

noncomputable section

namespace Cert.Reference2Ideal.Mean

open Cert.Reference2Ideal Cert.Reference2Ideal.Gen Cert.Reference2Ideal.Read Idealize.ShloMosaic Idealize.ShloMosaic.TcCoe Idealize.SL.Sem
open scoped BigOperators

/-- The score of query row `r` against key `k`. -/
def score (x0 : FVec Ideal S4x8192x8x192 .f32) (K : S4x8448x8x192.Idx → EReal) (b : Fin 4) (r : Fin 8192) (h : Fin 8) (k : Fin 8448) : EReal :=
  Ideal.div (∑ e : Fin 192, x0 (ix4 b r h e) * K (ix4 b k h e)) (Ideal.sqrt (Ideal.ofBits .f32 1128267776#32))

theorem v5_at (x0 x1 : FVec Ideal S4x8192x8x192 .f32) (x4 : FVec Ideal S4x256x8x192 .f32) (b : Fin 4) (r : Fin 8192) (h : Fin 8) (k : Fin 8448) :
    val_main_v5 (F := Ideal) x0 x1 x4 (ix4 b h r k) = score x0 (val_main_v0 (F := Ideal) x1 x4) b r h k := by
  rw [val_main_v5_apply, val_main_v2_apply, val_main_v4_apply, val_main_v3_apply, val_main_cst_apply]
  have hl : ∀ e : Fin 192, lidx_main_v2 (ix4 b h r k) e = ix4 b r h e := fun e => funext fun a => match a with
    | ⟨0, _⟩ => rfl
    | ⟨1, _⟩ => rfl
    | ⟨2, _⟩ => rfl
    | ⟨3, _⟩ => rfl
  have hr : ∀ e : Fin 192, ridx_main_v2 (ix4 b h r k) e = ix4 b k h e := fun e => funext fun a => match a with
    | ⟨0, _⟩ => rfl
    | ⟨1, _⟩ => rfl
    | ⟨2, _⟩ => rfl
    | ⟨3, _⟩ => rfl
  unfold score
  refine congrArg (fun z => Ideal.div z (Ideal.sqrt (Ideal.ofBits .f32 1128267776#32))) (Finset.sum_congr rfl fun e _ => ?_)
  rw [hl, hr]

theorem fold_at (x : FVec Ideal S4x8x8192x8448 .f32) (b : Fin 4) (r : Fin 8192) (h : Fin 8) :
    Host.reduce FloatOps.maximumf x (val_main_cst_0 (F := Ideal)) reducesTo_S4x8x8192x8448_S4x8x8192_d3 h_S_ (ix3 b h r)
      = Finset.fold max (Ideal.ofBits .f32 4286578688#32) (fun k : Fin 8448 => x (ix4 b h r k)) Finset.univ := by
  pointwise
  rfl

/-- The number taken off a row's scores is a real where the scores are. -/
theorem top_at (x0 x1 : FVec Ideal S4x8192x8x192 .f32) (x4 : FVec Ideal S4x256x8x192 .f32) (b : Fin 4) (r : Fin 8192) (h : Fin 8)
    (hs : ∀ k, ∃ q : ℝ, score x0 (val_main_v0 (F := Ideal) x1 x4) b r h k = q) :
    ∃ M : ℝ, ∀ k : Fin 8448, val_main_v10 (F := Ideal) x0 x1 x4 (ix4 b h r k) = M := by
  have hne : Nonempty (Fin 8448) := ⟨0⟩
  obtain ⟨M, hM⟩ := Softmax.fold_max (fun k : Fin 8448 => val_main_v5 (F := Ideal) x0 x1 x4 (ix4 b h r k))
    (fun k => by rw [v5_at]; exact hs k)
  refine ⟨M, fun k => ?_⟩
  have hi : idx_main_v9 (idx_main_v10 (ix4 b h r k)) = ix3 b h r := funext fun a => match a with
    | ⟨0, _⟩ => rfl
    | ⟨1, _⟩ => rfl
    | ⟨2, _⟩ => rfl
  rw [val_main_v10_apply, val_main_v9_apply, hi, val_main_v8_apply, val_main_v7_apply]
  unfold val_main_v6
  rw [fold_at, Softmax.ofBits_bot, hM]
  show max (Ideal.ofBits .f32 4286578688#32) (M : EReal) = M
  rw [Softmax.ofBits_bot]
  exact max_eq_right bot_le

/-- The result at batch `b`, row `r`, head `h`, component `e`. -/
theorem result_at (x0 x1 : FVec Ideal S4x8192x8x192 .f32) (x2 : FVec Ideal S4x8192x8x128 .f32) (x4 : FVec Ideal S4x256x8x192 .f32) (x5 : FVec Ideal S4x256x8x128 .f32)
    (b : Fin 4) (r : Fin 8192) (h : Fin 8) (e : Fin 128) (y : Fin 1024) (hy : y.val = 128 * h.val + e.val)
    (hs : ∀ k, ∃ q : ℝ, score x0 (val_main_v0 (F := Ideal) x1 x4) b r h k = q) :
    ∃ M : ℝ, val_main_v20 (F := Ideal) x0 x1 x2 x4 x5 (ix3 b r y)
      = ∑ k : Fin 8448, val_main_v1 (F := Ideal) x2 x5 (ix4 b k h e)
          * Ideal.div (Ideal.exp (score x0 (val_main_v0 (F := Ideal) x1 x4) b r h k - M))
              (0 + ∑ j : Fin 8448, Ideal.exp (score x0 (val_main_v0 (F := Ideal) x1 x4) b r h j - M)) := by
  obtain ⟨M, hM⟩ := top_at x0 x1 x4 b r h hs
  have h12 : ∀ k : Fin 8448, val_main_v12 (F := Ideal) x0 x1 x4 (ix4 b h r k)
      = Ideal.exp (score x0 (val_main_v0 (F := Ideal) x1 x4) b r h k - M) := fun k => by
    rw [val_main_v12_apply, val_main_v11_apply, hM, v5_at]
    rfl
  have hi : idx_main_v18 (idx_main_v19 (ix3 b r y)) = ix4 b h e r := funext fun a => Fin.ext (match a with
    | ⟨0, _⟩ => show ((b.val * 8192 + r.val) * 1024 + y.val) / 8388608 = b.val by omega
    | ⟨1, _⟩ => show ((b.val * 8192 + r.val) * 1024 + y.val) / 128 % 8 = h.val by omega
    | ⟨2, _⟩ => show ((b.val * 8192 + r.val) * 1024 + y.val) % 128 = e.val by omega
    | ⟨3, _⟩ => show ((b.val * 8192 + r.val) * 1024 + y.val) / 1024 % 8192 = r.val by omega)
  refine ⟨M, ?_⟩
  have hl : ∀ k : Fin 8448, lidx_main_v17 (ix4 b h e r) k = ix4 b k h e := fun k => funext fun a => match a with
    | ⟨0, _⟩ => rfl
    | ⟨1, _⟩ => rfl
    | ⟨2, _⟩ => rfl
    | ⟨3, _⟩ => rfl
  have hr : ∀ k : Fin 8448, ridx_main_v17 (ix4 b h e r) k = ix4 b h r k := fun k => funext fun a => match a with
    | ⟨0, _⟩ => rfl
    | ⟨1, _⟩ => rfl
    | ⟨2, _⟩ => rfl
    | ⟨3, _⟩ => rfl
  have h15 : ∀ k : Fin 8448, idx_main_v14 (idx_main_v15 (ix4 b h r k)) = ix3 b h r := fun k => funext fun a => match a with
    | ⟨0, _⟩ => rfl
    | ⟨1, _⟩ => rfl
    | ⟨2, _⟩ => rfl
  have h14 : ∀ k : Fin 8448, idx_main_v13 (ix3 b h r) k = ix4 b h r k := fun k => funext fun a => match a with
    | ⟨0, _⟩ => rfl
    | ⟨1, _⟩ => rfl
    | ⟨2, _⟩ => rfl
    | ⟨3, _⟩ => rfl
  rw [val_main_v20_apply, Ideal.truncf_def, val_main_v19_apply, val_main_v18_apply, hi, val_main_v17_apply]
  refine Finset.sum_congr rfl fun k _ => ?_
  rw [hl, hr, val_main_v16_apply, Ideal.hostDivf_def, h12, val_main_v15_apply, val_main_v14_apply, h15, val_main_v13_apply]
  simp only [h14, h12]
  exact congrArg (fun z => _ * Ideal.div _ (z + _)) Ideal.ofBits_zero_f32

end Cert.Reference2Ideal.Mean
end
-- ==== Proof.Meet2.lean ====
/- The latent attention's call and its reference, element by element, give the same number. -/
module

public import proofs.«01_k».proof.Proof.Tile2
public import proofs.«01_k».proof.Proof.Host2
public import proofs.«01_k».proof.Proof.Ref2

@[expose] public section

set_option maxRecDepth 16384

noncomputable section

namespace Cert.Meet2

open Cert.Kernel2Ideal Cert.Kernel2Ideal.Gen Cert.Kernel2Ideal.Tile Cert.Kernel2Ideal.Host Cert.Reference2Ideal.Read Idealize.ShloMosaic Idealize.ShloMosaic.TcCoe Idealize.SL.Sem
open scoped BigOperators

/-- The reference's concatenated keys, context first, in numbers. -/
theorem rcat_read (a1 : FVec Ideal S4x8192x8x192 .f32) (a4 : FVec Ideal S4x256x8x192 .f32) (b : Fin 4) (k : Fin 8448) (h : Fin 8) (e : Fin 192) :
    val_main_v0 (F := Ideal) a1 a4 (ix4 b k h e)
      = if hk : k.val < 256 then a4 (ix4 b ⟨k.val, hk⟩ h e) else a1 (ix4 b ⟨k.val - 256, by omega⟩ h e) := by
  unfold val_main_v0
  pointwise

/-- … and its concatenated values. -/
theorem rvcat_read (a1 : FVec Ideal S4x8192x8x128 .f32) (a4 : FVec Ideal S4x256x8x128 .f32) (b : Fin 4) (k : Fin 8448) (h : Fin 8) (e : Fin 128) :
    val_main_v1 (F := Ideal) a1 a4 (ix4 b k h e)
      = if hk : k.val < 256 then a4 (ix4 b ⟨k.val, hk⟩ h e) else a1 (ix4 b ⟨k.val - 256, by omega⟩ h e) := by
  unfold val_main_v1
  pointwise

/-- The two concatenations hold the same rows, the reference's 256 further on, around the end. -/
theorem cat_shift (a1 : FVec Ideal S4x8192x8x192 .f32) (a4 : FVec Ideal S4x256x8x192 .f32) (b : Fin 4) (n : Fin 8448) (h : Fin 8) (e : Fin 192) :
    val_main_v0 (F := Ideal) a1 a4 (ix4 b (n + 256) h e) = cat a1 a4 (ix4 b n h e) := by
  have hv : (n + 256 : Fin 8448).val = (n.val + 256) % 8448 := rfl
  rw [rcat_read]
  by_cases hn : n.val < 8192
  · rw [dif_neg (by omega), cat_latent a1 a4 b n h e ⟨n.val, hn⟩ rfl]
    exact congrArg (fun q => a1 (ix4 b q h e)) (Fin.ext (show (n + 256 : Fin 8448).val - 256 = n.val by omega))
  · rw [dif_pos (by omega), cat_context a1 a4 b n h e ⟨n.val - 8192, by omega⟩ (show n.val = 8192 + (n.val - 8192) by omega)]
    exact congrArg (fun q => a4 (ix4 b q h e)) (Fin.ext (show (n + 256 : Fin 8448).val = n.val - 8192 by omega))

theorem vcat_shift (a1 : FVec Ideal S4x8192x8x128 .f32) (a4 : FVec Ideal S4x256x8x128 .f32) (b : Fin 4) (n : Fin 8448) (h : Fin 8) (e : Fin 128) :
    val_main_v1 (F := Ideal) a1 a4 (ix4 b (n + 256) h e) = vcat a1 a4 (ix4 b n h e) := by
  have hv : (n + 256 : Fin 8448).val = (n.val + 256) % 8448 := rfl
  rw [rvcat_read]
  by_cases hn : n.val < 8192
  · rw [dif_neg (by omega), vcat_latent a1 a4 b n h e ⟨n.val, hn⟩ rfl]
    exact congrArg (fun q => a1 (ix4 b q h e)) (Fin.ext (show (n + 256 : Fin 8448).val - 256 = n.val by omega))
  · rw [dif_pos (by omega), vcat_context a1 a4 b n h e ⟨n.val - 8192, by omega⟩ (show n.val = 8192 + (n.val - 8192) by omega)]
    exact congrArg (fun q => a4 (ix4 b q h e)) (Fin.ext (show (n + 256 : Fin 8448).val = n.val - 8192 by omega))

/-- The call's element from its rows: weights over keys in the call's order. -/
theorem elem_eq (a0 a1 : FVec Ideal S4x8192x8x192 .f32) (a2 : FVec Ideal S4x8192x8x128 .f32) (a3 a4 : FVec Ideal S4x256x8x192 .f32)
    (a5 : FVec Ideal S4x256x8x128 .f32) (B : S1x128.Idx → EReal) (b : Fin 4) (r : Fin 8192) (y : Fin 1024) (h : Fin 8) (e : Fin 128)
    (hy : y.val = 128 * h.val + e.val) :
    elem (rows (padded (qcat a0 a3))) (rows (padded (cat a1 a4))) (vArr a2 a5) B b r y
      = (∑ n : Fin 8448, vcat a2 a5 (ix4 b n h e) * Ideal.exp2 (∑ d : Fin 192, cat a1 a4 (ix4 b n h d) * (a0 (ix4 b r h d) * scale) - B (ix2 0 0)))
        * Ideal.div 1 (∑ n : Fin 8448, Ideal.exp2 (∑ d : Fin 192, cat a1 a4 (ix4 b n h d) * (a0 (ix4 b r h d) * scale) - B (ix2 0 0))) := by
  have hd : y.val / 128 = h.val := by omega
  have hw : ∀ n : Fin 8448, weight (rows (padded (qcat a0 a3))) (rows (padded (cat a1 a4))) B b r (y.val / 128) n.val
      = Ideal.exp2 (∑ d : Fin 192, cat a1 a4 (ix4 b n h d) * (a0 (ix4 b r h d) * scale) - B (ix2 0 0)) := fun n => by
    unfold weight
    rw [hd]
    refine congrArg (fun z => Ideal.exp2 (z - B (ix2 0 0))) ?_
    have hn : Fin.ofNat 8448 n.val = n := Fin.ext (show n.val % 8448 = n.val by omega)
    have hr : (Fin.ofNat 8448 r.val).val = r.val := show r.val % 8448 = r.val by omega
    rw [hn]
    generalize Fin.ofNat 8448 r.val = r' at hr ⊢
    have e1 : ∀ d : Fin 256, rows (padded (cat a1 a4)) (ix3 b n (Fin.ofNat 2048 (256 * h.val + d.val))) * rows (padded (qcat a0 a3)) (ix3 b r' (Fin.ofNat 2048 (256 * h.val + d.val)))
        = padded (cat a1 a4) (ix4 b n h d) * padded (qcat a0 a3) (ix4 b r' h d) := fun d => by
      have hc : (Fin.ofNat 2048 (256 * h.val + d.val)).val = 256 * h.val + d.val := show (256 * h.val + d.val) % 2048 = 256 * h.val + d.val by omega
      rw [heads_apply _ b n _ h d hc, heads_apply _ b r' _ h d hc]
    simp only [e1]
    rw [padded_sum]
    refine Finset.sum_congr rfl fun d _ => ?_
    rw [qcat_apply, cat_latent a0 a3 b r' h d r hr]
  have hv : ∀ n : Fin 8448, vArr a2 a5 (ix4 b (Fin.ofNat 33 (n.val / 256)) y (Fin.ofNat 256 n.val)) = vcat a2 a5 (ix4 b n h e) := fun n =>
    vArr_apply a2 a5 b n _ _ _ h e hy (show n.val = 256 * (n.val / 256 % 33) + n.val % 256 by omega)
  unfold elem
  rw [Finset.sum_range, Finset.sum_range]
  simp only [hw, hv]

/-- The call's element is the reference's. -/
theorem meet (a0 a1 : FVec Ideal S4x8192x8x192 .f32) (a2 : FVec Ideal S4x8192x8x128 .f32) (a3 a4 : FVec Ideal S4x256x8x192 .f32)
    (a5 : FVec Ideal S4x256x8x128 .f32)
    (h0 : ∀ i, ∃ r : ℝ, a0 i = (r : EReal)) (h1 : ∀ i, ∃ r : ℝ, a1 i = (r : EReal)) (h3 : ∀ i, ∃ r : ℝ, a3 i = (r : EReal)) (h4 : ∀ i, ∃ r : ℝ, a4 i = (r : EReal))
    (b : Fin 4) (r : Fin 8192) (y : Fin 1024) :
    elem (rows (padded (qcat a0 a3))) (rows (padded (cat a1 a4))) (vArr a2 a5) (bArr (padded (qcat a0 a3)) (padded (cat a1 a4))) b r y
      = val_main_v20 (F := Ideal) a0 a1 a2 a4 a5 (ix3 b r y) := by
  obtain ⟨h, hh⟩ : ∃ h : Fin 8, h.val = y.val / 128 := ⟨⟨y.val / 128, by omega⟩, rfl⟩
  obtain ⟨e, he⟩ : ∃ e : Fin 128, e.val = y.val % 128 := ⟨⟨y.val % 128, by omega⟩, rfl⟩
  have hy : y.val = 128 * h.val + e.val := by omega
  obtain ⟨B, hB⟩ := bArr_real (padded (qcat a0 a3)) (padded (cat a1 a4)) (padded_real _ (qcat_real a0 a3 h0 h3)) (padded_real _ (cat_real a1 a4 h1 h4)) (ix2 0 0)
  choose q hq using h0
  choose k hk using cat_real a1 a4 h1 h4
  have hne : Nonempty (Fin 8448) := ⟨0⟩
  have hsc : ∀ n : Fin 8448, Cert.Reference2Ideal.Mean.score a0 (val_main_v0 (F := Ideal) a1 a4) b r h (n + 256)
      = (((∑ d : Fin 192, k (ix4 b n h d) * q (ix4 b r h d)) / Real.sqrt 192 : ℝ) : EReal) := fun n => by
    unfold Cert.Reference2Ideal.Mean.score
    simp only [cat_shift, hk, hq]
    rw [ofBits_192, Softmax.sqrt_pos_coe _ (by norm_num)]
    simp only [mul_comm ((q _ : ℝ) : EReal)]
    exact Softmax.plain_eq _ _ _ (by norm_num)
  have hs : ∀ k', ∃ z : ℝ, Cert.Reference2Ideal.Mean.score a0 (val_main_v0 (F := Ideal) a1 a4) b r h k' = z := fun k' => by
    have := hsc (k' - 256)
    rw [sub_add_cancel] at this
    exact ⟨_, this⟩
  obtain ⟨M, hM⟩ := Cert.Reference2Ideal.Mean.result_at a0 a1 a2 a4 a5 b r h e y hy hs
  rw [hM, elem_eq a0 a1 a2 a3 a4 a5 _ b r y h e hy, hB]
  simp only [hk, hq, scale_eq]
  simp only [Softmax.score_eq _ _ 192 (by norm_num)]
  rw [Softmax.softmax_eq _ _ B M]
  have hsh : ∀ f : Fin 8448 → EReal, ∑ j, f j = ∑ n, f (n + 256) := fun f => (Equiv.sum_comp (Equiv.addRight (256 : Fin 8448)) f).symm
  rw [hsh (fun j => val_main_v1 (F := Ideal) a2 a5 (ix4 b j h e) * Ideal.div (Ideal.exp (Cert.Reference2Ideal.Mean.score a0 (val_main_v0 (F := Ideal) a1 a4) b r h j - M)) _),
    hsh (fun j => Ideal.exp (Cert.Reference2Ideal.Mean.score a0 (val_main_v0 (F := Ideal) a1 a4) b r h j - M))]
  refine Finset.sum_congr rfl fun n _ => ?_
  simp only [hsc]
  rw [vcat_shift]

end Cert.Meet2
end
-- ==== Proof.Block3.lean ====
/- What one grid point of the last output projection's call writes, element by element. -/
module

public import proofs.«01_k».proof.Proof.Gen.Kernel3Ideal.Frame
public import Idealize.ShloMosaic.Lib.Pipeline.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel3Ideal.Block

open Cert.Kernel3Ideal Cert.Kernel3Ideal.Gen Idealize.ShloMosaic.Pipeline Idealize.ShloMosaic Idealize.ShloMosaic.TcCoe Idealize.SL.Sem
open scoped BigOperators

/-- A row divided by the root of its mean square, plus the small constant, at component `d`, times the gain. -/
def normed (v : Fin 1024 → EReal) (g : EReal) (d : Fin 1024) : EReal :=
  v d * Ideal.rsqrt (Ideal.div (∑ e : Fin 1024, v e * v e) (Ideal.ofBits .f32 0x44800000#32) + Ideal.ofBits .f32 0x358637BD#32) * g

/-- The sum of the stream's row and the gated projection of the attention's row. -/
def added (o g x gate : Fin 1024 → EReal) (w : Fin 1024 → Fin 1024 → EReal) (d : Fin 1024) : EReal :=
  x d + gate d * ∑ k : Fin 1024, o k * g k * w k d

/-- One element a grid point writes. -/
def cell (x0 x1 : Vec Ideal S1x512x1024 .bf16) (x2 : Vec Ideal S1024x1024 .bf16) (x3 : Vec Ideal S1x512x1024 .f32) (x4 : Vec Ideal S1x3x1024 .f32) (x5 : Vec Ideal S1x1024 .f32)
    (r : Fin 512) (d : Fin 1024) : EReal :=
  normed (added (fun k => x0 (ix3 0 r k)) (fun k => x1 (ix3 0 r k)) (fun k => x3 (ix3 0 r k)) (fun k => x4 (ix3 0 2 k)) fun k e => x2 (ix2 k e)) (x5 (ix2 0 d)) d

/-- The gate's row of the block of three rows. -/
def gateRow (x4 : Vec Ideal S1x3x1024 .f32) : Vec Ideal S1x1x1024 .f32 :=
  fun j => x4 (ix3 0 2 (j 2))

theorem pay_apply (x0 x1 : Vec Ideal S1x512x1024 .bf16) (x2 : Vec Ideal S1024x1024 .bf16) (x3 : Vec Ideal S1x512x1024 .f32) (x4 : Vec Ideal S1x3x1024 .f32) (x5 : Vec Ideal S1x1024 .f32)
    (r : Fin 512) (d : Fin 1024) : k0_pay1 x0 x1 x3 (gateRow x4) x2 x5 (ix3 0 r d) = cell x0 x1 x2 x3 x4 x5 r d := by
  unfold k0_pay1
  pointwise
  unfold cell normed added gateRow
  rfl

/-- A load of the gate's row. -/
theorem read_gate {sig' : RefSig} {κ : Kind} {sp : Space} (v : View sig' κ sp S1x3x1024 .f32) (f : v.ty.Contents (Elt Ideal)) (inb) :
    v.readAt (Elt Ideal) (Rect.unit (s := S1x3x1024) ![0, 2, 0] (no_index S1x1x1024.size) inb).toLoadRect f = gateRow (v.read (Elt Ideal) f) := by
  rw [View.readAt_eq_ld]
  funext j
  have hj0 : (j 0).val < 1 := (j 0).isLt
  have hj1 : (j 1).val < 1 := (j 1).isLt
  refine congrArg (v.read (Elt Ideal) f) (funext fun a => Fin.ext ?_)
  match a with
  | ⟨0, _⟩ => show 0 + 1 * (j 0).val = 0; omega
  | ⟨1, _⟩ => show 2 + 1 * (j 1).val = 2; omega
  | ⟨2, _⟩ => show 0 + 1 * (j 2).val = (j 2).val; omega

set_option backward.isDefEq.respectTransparency false in
/-- The body's one store at a grid point. -/
theorem run_stores (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1024x1024 .bf16) (harg4 : arg4.IsWhole) (arg5 : Memref sig .tc .vmem S1x512x1024 .f32) (harg5 : arg5.IsWhole) (arg6 : Memref sig .tc .vmem S1x3x1024 .f32) (harg6 : arg6.IsWhole) (arg7 : Memref sig .tc .vmem S1x1024 .f32) (harg7 : arg7.IsWhole) (arg8 : Memref sig .tc .vmem S1x512x1024 .f32) (harg8 : arg8.IsWhole)
    (x0 x1 : Vec Ideal S1x512x1024 .bf16) (x2 : Vec Ideal S1024x1024 .bf16) (x3 : Vec Ideal S1x512x1024 .f32) (x4 : Vec Ideal S1x3x1024 .f32) (x5 : Vec Ideal S1x1024 .f32) :
    (kernelRun0_A (F := Ideal) c i arg2 harg2 arg3 harg3 arg4 harg4 arg5 harg5 arg6 harg6 arg7 harg7 arg8 harg8 x0 x1 x2 x3 x4 x5).1
      = [⟨Rect.unit ![0, 0, 0] S1x512x1024.size inb_S1x512x1024_S1x512x1024_0_0_0, k0_pay1 x0 x1 x3 (gateRow x4) x2 x5⟩] := by
  unfold kernelRun0_A
  dsimp only
  sl_unfold_words
  simp only [read_gate]
  simp only [View.readAt_eq_ld, harg2.read_unread, harg3.read_unread, harg4.read_unread, harg5.read_unread, harg6.read_unread, harg7.read_unread]
  have e3 : ∀ (X : Vec Ideal S1x512x1024 .bf16) (inb), View.ld X (Rect.unit (s := S1x512x1024) ![0, 0, 0] ![1, 512, 1024] inb) = X := fun X inb => View.ld_unit_lit inb X (by decide)
  have e3' : ∀ (X : Vec Ideal S1x512x1024 .f32) (inb), View.ld X (Rect.unit (s := S1x512x1024) ![0, 0, 0] ![1, 512, 1024] inb) = X := fun X inb => View.ld_unit_lit inb X (by decide)
  have e2 : ∀ (X : Vec Ideal S1024x1024 .bf16) (inb), View.ld X (Rect.unit (s := S1024x1024) ![0, 0] ![1024, 1024] inb) = X := fun X inb => View.ld_unit_lit inb X (by decide)
  have e1 : ∀ (X : Vec Ideal S1x1024 .f32) (inb), View.ld X (Rect.unit (s := S1x1024) ![0, 0] ![1, 1024] inb) = X := fun X inb => View.ld_unit_lit inb X (by decide)
  simp only [e3, e3', e2, e1]

/-- The store of a grid point writes the block `cell`. -/
theorem stores_cell (x0 x1 : Vec Ideal S1x512x1024 .bf16) (x2 : Vec Ideal S1024x1024 .bf16) (x3 : Vec Ideal S1x512x1024 .f32) (x4 : Vec Ideal S1x3x1024 .f32) (x5 : Vec Ideal S1x1024 .f32) :
    ∀ p ∈ ([⟨Rect.unit ![0, 0, 0] S1x512x1024.size inb_S1x512x1024_S1x512x1024_0_0_0, k0_pay1 x0 x1 x3 (gateRow x4) x2 x5⟩] : List (View.Piece (Elt Ideal) S1x512x1024 .f32)),
      ∀ z : p.1.shape.Idx, p.2 z = (fun y : S1x512x1024.Idx => cell x0 x1 x2 x3 x4 x5 (y 1) (y 2)) (p.1.emb z) := by
  refine View.PiecesOf.mem (Val := Elt Ideal) (e := .f32) (G := fun y : S1x512x1024.Idx => cell x0 x1 x2 x3 x4 x5 (y 1) (y 2)) ?_
  refine And.intro ?_ trivial
  intro z
  show k0_pay1 x0 x1 x3 (gateRow x4) x2 x5 z = cell x0 x1 x2 x3 x4 x5 _ _
  have hz : z = ix3 0 (z 1) (z 2) := by
    refine (eq_ix3 (n0 := 1) (n1 := 512) (n2 := 1024) z).trans ?_
    exact congrArg (fun w => ix3 w (z 1) (z 2)) (Subsingleton.elim (α := Fin 1) _ _)
  rw [hz]
  exact (pay_apply x0 x1 x2 x3 x4 x5 (z 1) (z 2)).trans (congrArg₂ (cell x0 x1 x2 x3 x4 x5) (Fin.ext (by simp)) (Fin.ext (by simp)))

end Cert.Kernel3Ideal.Block

end
-- ==== Proof.Tile3.lean ====
/- The last output projection's result array, element by element, in terms of the arrays the call is given. -/
module

public import proofs.«01_k».proof.Proof.Block3
public import proofs.«01_k».proof.Proof.Gen.Kernel3Ideal.Value
public import Idealize.ShloMosaic.Lib.Pipeline.ValueKit

@[expose] public section

set_option maxRecDepth 16384

noncomputable section

namespace Cert.Kernel3Ideal.Tile

open Cert.Kernel3Ideal Cert.Kernel3Ideal.Gen Cert.Kernel3Ideal.Block Idealize.ShloMosaic Idealize.ShloMosaic.TcCoe Idealize.SL.Sem
open scoped BigOperators

variable (m : (ℓ : Loc nD τ sig) → Buf (Elt Ideal) ℓ)

/-- One element of the result. -/
def elem (O : S4x8192x1024.Idx → EReal) (G : S4x8448x1024.Idx → EReal) (W : S1024x1024.Idx → EReal) (X : S4x8448x1024.Idx → EReal)
    (M : S32x3x1024.Idx → EReal) (FG : S1x1024.Idx → EReal) (b : Fin 4) (r : Fin 8192) (y : Fin 1024) : EReal :=
  normed (added (fun k => O (ix3 b r k)) (fun k => G (ix3 b (Fin.ofNat 8448 r) k)) (fun k => X (ix3 b (Fin.ofNat 8448 r) k))
    (fun k => M (ix3 (Fin.ofNat 32 (24 + b)) 2 k)) fun k e => W (ix2 k e)) (FG (ix2 0 y)) y

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![(grid0.coords t 0).val, (grid0.coords t 1).val, 0] :=
  (by decide +kernel : ∀ t : Fin grid0.N, _)
theorem index4 : ∀ t : Fin cfg0.N, win0_4.index t = ![24 + (grid0.coords t 0).val, 0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![(grid0.coords t 0).val, (grid0.coords t 1).val, 0] :=
  (by decide +kernel : ∀ t : Fin grid0.N, _)

/-- The attention block's element `j`, read off its array. -/
theorem rd0 (A : S4x8192x1024.Idx → EReal) (t : Fin cfg0.N) (j : S1x512x1024.Idx) (i : S4x8192x1024.Idx) (h0 : (i 0).val = (grid0.coords t 0).val)
    (h1 : (i 1).val = 512 * (grid0.coords t 1).val + (j 1).val) (h2 : (i 2).val = (j 2).val) :
    ((cfg0.win 0).blk t).view.read (Elt Ideal) A j = A i := by
  have : (j 0).val < 1 := (j 0).isLt
  have e : (win0_0.blk t).view.emb j = i := by
    blk_ext [index0, h0, h1, h2]
  subst e
  rfl

/-- The gate's own block. -/
theorem rd1 (A : S4x8448x1024.Idx → EReal) (t : Fin cfg0.N) (j : S1x512x1024.Idx) (i : S4x8448x1024.Idx) (h0 : (i 0).val = (grid0.coords t 0).val)
    (h1 : (i 1).val = 512 * (grid0.coords t 1).val + (j 1).val) (h2 : (i 2).val = (j 2).val)
    (h : ((cfg0.win 1).xblock (cfg0.grid.coords t)).Idx) (hh : ∀ a, (h a).val = (j a).val) :
    ((cfg0.win 1).blk t).view.read (Elt Ideal) A h = A i := by
  have : (j 0).val < 1 := (j 0).isLt
  have e0 : (h 0).val = (j 0).val := hh 0
  have e1 : (h 1).val = (j 1).val := hh 1
  have e2 : (h 2).val = (j 2).val := hh 2
  have e : (win0_1.blk t).view.emb h = i := by
    blk_ext [index1, h0, h1, h2, e0, e1, e2]
  subst e
  rfl

/-- The weights' block is their array. -/
theorem rd2 (A : S1024x1024.Idx → EReal) (t : Fin cfg0.N) (j : S1024x1024.Idx) : ((cfg0.win 2).blk t).view.read (Elt Ideal) A j = A j := by
  have e : (win0_2.blk t).view.emb j = j := by
    blk_ext [index2]
  exact congrArg A e

/-- The stream's block. -/
theorem rd3 (A : S4x8448x1024.Idx → EReal) (t : Fin cfg0.N) (j : S1x512x1024.Idx) (i : S4x8448x1024.Idx) (h0 : (i 0).val = (grid0.coords t 0).val)
    (h1 : (i 1).val = 512 * (grid0.coords t 1).val + (j 1).val) (h2 : (i 2).val = (j 2).val)
    (h : ((cfg0.win 3).xblock (cfg0.grid.coords t)).Idx) (hh : ∀ a, (h a).val = (j a).val) :
    ((cfg0.win 3).blk t).view.read (Elt Ideal) A h = A i := by
  have : (j 0).val < 1 := (j 0).isLt
  have e0 : (h 0).val = (j 0).val := hh 0
  have e1 : (h 1).val = (j 1).val := hh 1
  have e2 : (h 2).val = (j 2).val := hh 2
  have e : (win0_3.blk t).view.emb h = i := by
    blk_ext [index3, h0, h1, h2, e0, e1, e2]
  subst e
  rfl

/-- The modulation's block: the three rows of the batch in the last layer. -/
theorem rd4 (A : S32x3x1024.Idx → EReal) (t : Fin cfg0.N) (j : S1x3x1024.Idx) (i : S32x3x1024.Idx) (h0 : (i 0).val = 24 + (grid0.coords t 0).val)
    (h1 : (i 1).val = (j 1).val) (h2 : (i 2).val = (j 2).val) : ((cfg0.win 4).blk t).view.read (Elt Ideal) A j = A i := by
  have : (j 0).val < 1 := (j 0).isLt
  have e : (win0_4.blk t).view.emb j = i := by
    blk_ext [index4, h0, h1, h2]
  subst e
  rfl

/-- The gain's block is its array. -/
theorem rd5 (A : S1x1024.Idx → EReal) (t : Fin cfg0.N) (j : S1x1024.Idx) : ((cfg0.win 5).blk t).view.read (Elt Ideal) A j = A j := by
  have e : (win0_5.blk t).view.emb j = j := by
    blk_ext [index5]
  exact congrArg A e

/-- The result's coordinates of a block's element. -/
theorem emb6_0 (t : Fin cfg0.N) (y : S1x512x1024.Idx) : ((win0_6.blk t).view.emb y 0).val = (grid0.coords t 0).val := by
  have : (y 0).val < 1 := (y 0).isLt
  blk_simp [index6]
theorem emb6_1 (t : Fin cfg0.N) (y : S1x512x1024.Idx) : ((win0_6.blk t).view.emb y 1).val = 512 * (grid0.coords t 1).val + (y 1).val := by
  blk_simp [index6]
  simp only [Matrix.cons_val_one, Matrix.cons_val_zero]
  omega
theorem emb6_2 (t : Fin cfg0.N) (y : S1x512x1024.Idx) : ((win0_6.blk t).view.emb y 2).val = (y 2).val := by
  blk_simp [index6]

theorem read0 (c : Dev nD) (t : Fin cfg0.N) (j : S1x512x1024.Idx) (i : S4x8192x1024.Idx) (h0 : (i 0).val = (grid0.coords t 0).val)
    (h1 : (i 1).val = 512 * (grid0.coords t 1).val + (j 1).val) (h2 : (i 2).val = (j 2).val) : iblk m c 0 t j = V m c main_arg0 i := by
  unfold iblk
  exact rd0 (V m c main_arg0) t j i h0 h1 h2
theorem read1 (c : Dev nD) (t : Fin cfg0.N) (j : S1x512x1024.Idx) (i : S4x8448x1024.Idx) (h0 : (i 0).val = (grid0.coords t 0).val)
    (h1 : (i 1).val = 512 * (grid0.coords t 1).val + (j 1).val) (h2 : (i 2).val = (j 2).val) : X0_1 m c t j = V m c main_v8 i := by
  unfold X0_1 Pipeline.Window.fill
  rw [dif_pos (moved0_1 t j)]
  unfold iblk
  exact rd1 (V m c main_v8) t j i h0 h1 h2 _ fun a => rfl
theorem read2 (c : Dev nD) (t : Fin cfg0.N) (j : S1024x1024.Idx) : iblk m c 2 t j = V m c main_v11 j := by
  unfold iblk
  exact rd2 (V m c main_v11) t j
theorem read3 (c : Dev nD) (t : Fin cfg0.N) (j : S1x512x1024.Idx) (i : S4x8448x1024.Idx) (h0 : (i 0).val = (grid0.coords t 0).val)
    (h1 : (i 1).val = 512 * (grid0.coords t 1).val + (j 1).val) (h2 : (i 2).val = (j 2).val) : X0_3 m c t j = V m c main_v9 i := by
  unfold X0_3 Pipeline.Window.fill
  rw [dif_pos (moved0_3 t j)]
  unfold iblk
  exact rd3 (V m c main_v9) t j i h0 h1 h2 _ fun a => rfl
theorem read4 (c : Dev nD) (t : Fin cfg0.N) (j : S1x3x1024.Idx) (i : S32x3x1024.Idx) (h0 : (i 0).val = 24 + (grid0.coords t 0).val)
    (h1 : (i 1).val = (j 1).val) (h2 : (i 2).val = (j 2).val) : iblk m c 4 t j = V m c main_v10 i := by
  unfold iblk
  exact rd4 (V m c main_v10) t j i h0 h1 h2
theorem read5 (c : Dev nD) (t : Fin cfg0.N) (j : S1x1024.Idx) : iblk m c 5 t j = V m c main_v12 j := by
  unfold iblk
  exact rd5 (V m c main_v12) t j

/-- An element of a block is the result's element where the block lies. -/
theorem cell_elem (x0 x1 : Vec Ideal S1x512x1024 .bf16) (x2 : Vec Ideal S1024x1024 .bf16) (x3 : Vec Ideal S1x512x1024 .f32) (x4 : Vec Ideal S1x3x1024 .f32) (x5 : Vec Ideal S1x1024 .f32)
    (O : S4x8192x1024.Idx → EReal) (G : S4x8448x1024.Idx → EReal) (W : S1024x1024.Idx → EReal) (X : S4x8448x1024.Idx → EReal)
    (M : S32x3x1024.Idx → EReal) (FG : S1x1024.Idx → EReal) (b : Fin 4) (q : Fin 16)
    (r0 : ∀ j i, (i 0).val = b.val → (i 1).val = 512 * q.val + (j 1).val → (i 2).val = (j 2).val → x0 j = O i)
    (r1 : ∀ j i, (i 0).val = b.val → (i 1).val = 512 * q.val + (j 1).val → (i 2).val = (j 2).val → x1 j = G i)
    (r2 : ∀ j, x2 j = W j)
    (r3 : ∀ j i, (i 0).val = b.val → (i 1).val = 512 * q.val + (j 1).val → (i 2).val = (j 2).val → x3 j = X i)
    (r4 : ∀ j i, (i 0).val = 24 + b.val → (i 1).val = (j 1).val → (i 2).val = (j 2).val → x4 j = M i)
    (r5 : ∀ j, x5 j = FG j) (r : Fin 512) (y : Fin 1024) (R : Fin 8192) (Y : Fin 1024) (hR : R.val = 512 * q.val + r.val) (hY : Y.val = y.val) :
    cell x0 x1 x2 x3 x4 x5 r y = elem O G W X M FG b R Y := by
  obtain rfl : Y = y := Fin.ext hY
  have hr := R.isLt
  have hb := b.isLt
  have hm : (Fin.ofNat 8448 R.val).val = 512 * q.val + r.val := by
    show R.val % 8448 = _
    omega
  unfold cell elem
  have e0 : (fun k => x0 (ix3 0 r k)) = fun k => O (ix3 b R k) := funext fun k => r0 _ _ rfl hR rfl
  have e1 : (fun k => x1 (ix3 0 r k)) = fun k => G (ix3 b (Fin.ofNat 8448 R) k) := funext fun k => r1 _ _ rfl hm rfl
  have e3 : (fun k => x3 (ix3 0 r k)) = fun k => X (ix3 b (Fin.ofNat 8448 R) k) := funext fun k => r3 _ _ rfl hm rfl
  have e4 : (fun k => x4 (ix3 0 2 k)) = fun k => M (ix3 (Fin.ofNat 32 (24 + b)) 2 k) := funext fun k => r4 _ _ (by show (24 + b.val) % 32 = 24 + b.val; omega) rfl rfl
  have e2 : (fun k e => x2 (ix2 k e)) = fun k e => W (ix2 k e) := funext fun k => funext fun e => r2 _
  rw [e0, e1, e2, e3, e4, r5]

/-- The result array is `elem` of the arrays the call is given. -/
theorem final_y (c : Dev nD) : (dats m 0 c).arrAt 6 cfg0.N
    = fun i : S4x8192x1024.Idx => elem (V m c main_arg0) (V m c main_v8) (V m c main_v11) (V m c main_v9) (V m c main_v10) (V m c main_v12) (i 0) (i 1) (i 2) := by
  refine (dats m 0 c).arrAt_eq_of_covers 6 _ (by decide +kernel) fun t hf y => ?_
  blk_simp
  rw [after0_6]
  unfold outsAt0 out0_A_6
  rw [View.read_writes_junk_eq_canon]
  rw [View.canon_apply_of_pieces (fun y : S1x512x1024.Idx => cell (iblk m c 0 t) (X0_1 m c t) (iblk m c 2 t) (X0_3 m c t) (iblk m c 4 t) (iblk m c 5 t) (y 1) (y 2)) _
    (by rw [run_stores]; exact stores_cell _ _ _ _ _ _) _ (cover0_A_6 ..)]
  have e : (win0_6.blk t).view.emb y 0 = grid0.coords t 0 := Fin.ext (emb6_0 t y)
  have k := cell_elem _ _ _ _ _ _ (V m c main_arg0) (V m c main_v8) (V m c main_v11) (V m c main_v9) (V m c main_v10) (V m c main_v12) (grid0.coords t 0) (grid0.coords t 1)
    (read0 m c t) (read1 m c t) (read2 m c t) (read3 m c t) (read4 m c t) (read5 m c t) (y 1) (y 2)
    ((win0_6.blk t).view.emb y 1) ((win0_6.blk t).view.emb y 2) (emb6_1 t y) (emb6_2 t y)
  rw [e]
  exact k

end Cert.Kernel3Ideal.Tile

end
-- ==== Proof.Ref3.lean ====
/- The last output projection's reference, element by element. -/
module

public import proofs.«01_k».proof.Proof.Gen.Reference3Ideal.Read
public import proofs.«01_k».proof.Proof.Block3
public import Idealize.ShloMosaic.Lib.Pointwise

@[expose] public section

set_option maxRecDepth 16384

noncomputable section

namespace Cert.Reference3Ideal.Line

open Cert.Kernel3Ideal.Block (normed added)
open Cert.Reference3Ideal Cert.Reference3Ideal.Gen Cert.Reference3Ideal.Read Idealize.ShloMosaic Idealize.ShloMosaic.TcCoe Idealize.SL.Sem
open scoped BigOperators

/-- The gate's own nonlinearity. -/
def silu (v : EReal) : EReal :=
  v * Ideal.div (Ideal.ofBits .f32 0x3F800000#32) (Ideal.ofBits .f32 0x3F800000#32 + Ideal.exp (-v))

variable (x0 : FVec Ideal S4x8192x1024 .bf16) (x1 x4 : FVec Ideal S4x8192x1024 .f32) (x3 : FVec Ideal S1024x1024 .f32)
  (x6 : FVec Ideal S4x8x3072 .f32) (x7 : FVec Ideal S1024 .f32)

theorem gate_at (b : Fin 4) (r : Fin 8192) (y : Fin 1024) :
    val_main_v10 (F := Ideal) x6 (ix3 b r y) = x6 (ix3 3 (Fin.ofNat 8 b) (Fin.ofNat 3072 (2048 + y))) := by
  rw [val_main_v10_apply, val_main_v9_apply, val_main_v4_apply, val_main_v1_apply, val_main_v0_apply]
  refine congrArg x6 (funext fun a => Fin.ext ?_)
  have := b.isLt
  have := y.isLt
  match a with
  | ⟨0, _⟩ => rfl
  | ⟨1, _⟩ => show (b.val * 3072 + (2048 + y.val)) / 3072 % 4 = b.val % 8; omega
  | ⟨2, _⟩ => show (b.val * 3072 + (2048 + y.val)) % 3072 = (2048 + y.val) % 3072; omega

theorem silu_at (i : S4x8192x1024.Idx) : val_main_v6 (F := Ideal) x1 i = silu (x1 i) := by
  rw [val_main_v6_apply, val_main_call0_v5_apply, val_main_call0_v4_apply, val_main_call0_v3_apply, val_main_call0_v2_apply, val_main_call0_v1_apply,
    val_main_call0_v0_apply, val_main_call0_cst_apply, val_main_call0_cst_0_apply]
  rfl

theorem added_at (b : Fin 4) (r : Fin 8192) (y : Fin 1024) :
    val_main_v12 (F := Ideal) x0 x1 x3 x4 x6 (ix3 b r y)
      = added (fun k => x0 (ix3 b r k)) (fun k => silu (x1 (ix3 b r k))) (fun k => x4 (ix3 b r k))
          (fun k => x6 (ix3 3 (Fin.ofNat 8 b) (Fin.ofNat 3072 (2048 + k)))) (fun k e => x3 (ix2 k e)) y := by
  rw [val_main_v12_apply, val_main_v11_apply, gate_at, val_main_v8_apply]
  have hl : ∀ k : Fin 1024, lidx_main_v8 (ix3 b r y) k = ix3 b r k := fun k => funext fun a => match a with
    | ⟨0, _⟩ => rfl
    | ⟨1, _⟩ => rfl
    | ⟨2, _⟩ => rfl
  have hr : ∀ k : Fin 1024, ridx_main_v8 (ix3 b r y) k = ix2 k y := fun k => funext fun a => match a with
    | ⟨0, _⟩ => rfl
    | ⟨1, _⟩ => rfl
  unfold added
  refine congrArg (fun z => x4 (ix3 b r y) + _ * z) (Finset.sum_congr rfl fun k _ => ?_)
  rw [hl, hr, val_main_v7_apply, silu_at, val_main_v5_apply]
  rfl

/-- The result at batch `b`, row `r`, component `y`. -/
theorem result_at (b : Fin 4) (r : Fin 8192) (y : Fin 1024) :
    val_main_v25 (F := Ideal) x0 x1 x3 x4 x6 x7 (ix3 b r y)
      = normed (added (fun k => x0 (ix3 b r k)) (fun k => silu (x1 (ix3 b r k))) (fun k => x4 (ix3 b r k))
          (fun k => x6 (ix3 3 (Fin.ofNat 8 b) (Fin.ofNat 3072 (2048 + k)))) (fun k e => x3 (ix2 k e))) (x7 (ix1 y)) y := by
  have h14 : ∀ k : Fin 1024, idx_main_v14 (ix2 b r) k = ix3 b r k := fun k => funext fun a => match a with
    | ⟨0, _⟩ => rfl
    | ⟨1, _⟩ => rfl
    | ⟨2, _⟩ => rfl
  have h15 : idx_main_v15 (idx_main_v21 (ix3 b r y)) = ix2 b r := funext fun a => match a with
    | ⟨0, _⟩ => rfl
    | ⟨1, _⟩ => rfl
  have h23 : idx_main_v23 (idx_main_v24 (ix3 b r y)) = ix1 y := funext fun a => match a with
    | ⟨0, _⟩ => rfl
  rw [val_main_v25_apply, val_main_v22_apply, val_main_v24_apply, val_main_v23_apply, h23, val_main_v21_apply, val_main_v20_apply, val_main_v19_apply,
    val_main_v18_apply, val_main_v17_apply, val_main_v16_apply, val_main_v15_apply, h15, val_main_v14_apply, val_main_cst_apply, val_main_cst_0_apply, val_main_cst_1_apply]
  simp only [h14, val_main_v13_apply, added_at]
  generalize added _ _ _ _ _ = v
  have hz : (FloatOps.ofBits (F := Ideal) .f32 0#32 : EReal) = 0 := Ideal.ofBits_zero_f32
  rw [hz, zero_add]
  rfl

end Cert.Reference3Ideal.Line
end
-- ==== Proof.Meet3.lean ====
/- The last output projection: the call's arrays in terms of the program's arguments, and its result against the reference's. -/
module

public import proofs.«01_k».proof.Proof.Tile3
public import proofs.«01_k».proof.Proof.Ref3

@[expose] public section

set_option maxRecDepth 16384

noncomputable section

namespace Cert.Kernel3Ideal.Host

open Cert.Kernel3Ideal Cert.Kernel3Ideal.Gen Cert.Kernel3Ideal.Block Cert.Kernel3Ideal.Tile Idealize.ShloMosaic Idealize.ShloMosaic.TcCoe Idealize.SL.Sem
open Cert.Reference3Ideal.Line (silu)
open scoped BigOperators

/-- Latents then context. -/
def cat (a : FVec Ideal S4x8192x1024 .f32) (b : FVec Ideal S4x256x1024 .f32) : FVec Ideal S4x8448x1024 .f32 :=
  concatenate S4x8448x1024 1 [⟨S4x8192x1024, a⟩, ⟨S4x256x1024, b⟩] concatenates_S4x8192x1024_S4x256x1024_S4x8448x1024_d1

/-- The number one everywhere. -/
def one : FVec Ideal S4x8448x1024 .f32 :=
  broadcastInDim S4x8448x1024 ![] bcast_S_S4x8448x1024 (constant S_ .f32 0x3F800000#32)

/-- The gate's nonlinearity over a whole array. -/
def act (x : FVec Ideal S4x8448x1024 .f32) : S4x8448x1024.Idx → EReal :=
  truncf (F := Ideal) (φ := .f32) .bf16 (mulf x (Host.divf one (addf one (Host.exp (Host.negf x))))) bitsLt_bf16_f32

theorem act_apply (x : FVec Ideal S4x8448x1024 .f32) (i : S4x8448x1024.Idx) : act x i = silu (x i) := rfl

theorem cat_latent (a : FVec Ideal S4x8192x1024 .f32) (b : FVec Ideal S4x256x1024 .f32) (i : Fin 4) (r : Fin 8192) (k : Fin 1024) :
    cat a b (ix3 i (Fin.ofNat 8448 r) k) = a (ix3 i r k) := by
  have hr := r.isLt
  have hm : (Fin.ofNat 8448 r.val).val = r.val := by
    show r.val % 8448 = _
    omega
  generalize Fin.ofNat 8448 r.val = n at hm
  unfold cat
  pointwise
  rw [dif_pos (show n.val < 8192 by omega)]
  exact congrArg (fun q => a (ix3 i q k)) (Fin.ext hm)

/-- The gate's component `k` in the table of rows. -/
theorem mod_apply (x : FVec Ideal S4x8x3072 .f32) (b : Fin 4) (k : Fin 1024) :
    shapeCast S32x3x1024 x shapeCasts_S4x8x3072_S32x3x1024 (ix3 (Fin.ofNat 32 (24 + b)) 2 k) = x (ix3 3 (Fin.ofNat 8 b) (Fin.ofNat 3072 (2048 + k))) := by
  refine shapeCast_apply x _ _ _ ?_
  have := b.isLt
  have := k.isLt
  rw [Shape.rowMajor_val_three, Shape.rowMajor_val_three]
  show (3 * 8 + b.val % 8) * 3072 + (2048 + k.val) % 3072 = ((24 + b.val) % 32 * 3 + 2) * 1024 + k.val
  omega

theorem gain_apply (x : FVec Ideal S1024 .f32) (y : Fin 1024) : shapeCast S1x1024 x shapeCasts_S1024_S1x1024 (ix2 0 y) = x (ix1 y) := by
  pointwise

section Entry
variable (m : (ℓ : Loc nD τ sig) → Buf (Elt Ideal) ℓ) (c : Dev nD)

theorem V_g : V m c main_v8 = act (cat (m ((c : Thread nD τ).loc main_arg1)) (m ((c : Thread nD τ).loc main_arg2))) := by
  entry_read
  rfl
theorem V_x : V m c main_v9 = cat (m ((c : Thread nD τ).loc main_arg4)) (m ((c : Thread nD τ).loc main_arg5)) := by
  entry_read
  rfl
theorem V_m : V m c main_v10 = shapeCast S32x3x1024 (m ((c : Thread nD τ).loc main_arg6)) shapeCasts_S4x8x3072_S32x3x1024 := by
  entry_read
  rfl
theorem V_w : V m c main_v11 = m ((c : Thread nD τ).loc main_arg3) := by
  entry_read
  rfl
theorem V_n : V m c main_v12 = shapeCast S1x1024 (m ((c : Thread nD τ).loc main_arg7)) shapeCasts_S1024_S1x1024 := by
  entry_read
  rfl

end Entry

/-- One element of the result is the reference's. -/
theorem meet (a0 : FVec Ideal S4x8192x1024 .bf16) (a1 : FVec Ideal S4x8192x1024 .f32) (a2 : FVec Ideal S4x256x1024 .f32) (a3 : FVec Ideal S1024x1024 .f32)
    (a4 : FVec Ideal S4x8192x1024 .f32) (a5 : FVec Ideal S4x256x1024 .f32) (a6 : FVec Ideal S4x8x3072 .f32) (a7 : FVec Ideal S1024 .f32)
    (b : Fin 4) (r : Fin 8192) (y : Fin 1024) :
    elem a0 (act (cat a1 a2)) a3 (cat a4 a5) (shapeCast S32x3x1024 a6 shapeCasts_S4x8x3072_S32x3x1024) (shapeCast S1x1024 a7 shapeCasts_S1024_S1x1024) b r y
      = Cert.Reference3Ideal.Read.val_main_v25 (F := Ideal) a0 a1 a3 a4 a6 a7 (ix3 b r y) := by
  rw [Cert.Reference3Ideal.Line.result_at]
  unfold elem
  simp only [act_apply, cat_latent, mod_apply, gain_apply]

end Cert.Kernel3Ideal.Host

end
-- ==== Proof.Block4.lean ====
/- What one grid point of the neighbourhood layer's projection call writes, element by element. -/
module

public import proofs.«01_k».proof.Proof.Gen.Kernel4Ideal.Frame
public import proofs.«01_k».proof.Proof.Ref3
public import Idealize.ShloMosaic.Lib.Pipeline.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel4Ideal.Block

open Cert.Kernel4Ideal Cert.Kernel4Ideal.Gen Idealize.ShloMosaic.Pipeline Idealize.ShloMosaic Idealize.ShloMosaic.TcCoe Idealize.SL.Sem
open Cert.Kernel3Ideal.Block (normed added)
open Cert.Reference3Ideal.Line (silu)
open scoped BigOperators

/-- A row normed, scaled and shifted by the modulation, at component `d`. -/
def hid (v g sh sc : Fin 1024 → EReal) (d : Fin 1024) : EReal :=
  normed v (g d) d * (1 + sc d) + sh d

/-- A row times a column of the weights. -/
def dotp (h : Fin 1024 → EReal) (w : Fin 1024 → EReal) : EReal :=
  ∑ k : Fin 1024, h k * w k

/-- Column `y` of group `j` of the projection. -/
def col (j : Fin 4) (y : Fin 1024) : Fin 4096 :=
  ⟨1024 * j.val + y.val, by omega⟩

/-- Row `q` of a block of three rows. -/
def mrow (x : Vec Ideal S1x3x1024 .f32) (q : Fin 3) : Vec Ideal S1x1x1024 .f32 :=
  fun j => x (ix3 0 q (j 2))

theorem sel {α : Type} (n : Fin 33) (a b : α) : Scalar.select (Scalar.cmpi .sge (BitVec.ofNat 32 n.val) 32#32) a b = if 32 ≤ n.val then a else b := by
  have : ∀ n : Fin 33, Scalar.cmpi .sge (BitVec.ofNat 32 n.val) 32#32 = if 32 ≤ n.val then 1#1 else 0#1 := by decide +kernel
  rw [this]
  split <;> rfl

/-- The stream after the addition, of the rows a grid point reads. -/
def stream (o g x : Vec Ideal S1x256x1024 .f32) (m : Vec Ideal S1x3x1024 .f32) (w : Vec Ideal S1024x1024 .bf16) (r : Fin 256) (d : Fin 1024) : EReal :=
  added (fun k => o (ix3 0 r k)) (fun k => g (ix3 0 r k)) (fun k => x (ix3 0 r k)) (fun k => m (ix3 0 2 k)) (fun k e => w (ix2 k e)) d

theorem lin_apply (i : grid0.Coords) (xl xc : Vec Ideal S1x256x1024 .f32) (oc ol g : Vec Ideal S1x256x1024 .bf16) (m : Vec Ideal S1x3x1024 .f32) (w : Vec Ideal S1024x1024 .bf16)
    (r : Fin 256) (d : Fin 1024) :
    k0_pay2 i xl xc oc ol g (mrow m 2) w (ix2 r d) = stream (if 32 ≤ (i 1).val then oc else ol) g (if 32 ≤ (i 1).val then xc else xl) m w r d := by
  unfold k0_pay2
  have s1 := fun (a b : FVec Ideal S256x1024 .f32) => sel (i 1) a b
  have s2 := fun (a b : FVec Ideal S256x1024 .bf16) => sel (i 1) a b
  simp only [s1, s2]
  by_cases h : 32 ≤ (i 1).val
  · simp only [if_pos h]
    pointwise
    unfold stream added mrow
    rfl
  · simp only [if_neg h]
    pointwise
    unfold stream added mrow
    rfl

theorem norm_apply (v : FVec Ideal S256x1024 .f32) (m : Vec Ideal S1x3x1024 .f32) (ng : Vec Ideal S1x1024 .f32) (r : Fin 256) (d : Fin 1024) :
    k0_pay5 v (mrow m 0) (mrow m 1) ng (ix2 r d)
      = hid (fun e => v (ix2 r e)) (fun e => ng (ix2 0 e)) (fun e => m (ix3 0 0 e)) (fun e => m (ix3 0 1 e)) d := by
  unfold k0_pay5
  pointwise
  unfold hid normed mrow
  rfl

theorem same (i : grid0.Coords) (xl xc : Vec Ideal S1x256x1024 .f32) (oc ol g : Vec Ideal S1x256x1024 .bf16) (m : Vec Ideal S1x1x1024 .f32) (w : Vec Ideal S1024x1024 .bf16) :
    k0_pay4 i xl xc oc ol g m w = k0_pay2 i xl xc oc ol g m w := by
  unfold k0_pay4
  exact (sel (i 1) _ _).trans (ite_self _)

theorem out_q (h : FVec Ideal S256x1024 .bf16) (w : Vec Ideal S1024x1024 .bf16) (r : Fin 256) (y : Fin 1024) :
    k0_pay11 h w (ix3 0 r y) = dotp (fun k => h (ix2 r k)) (fun k => w (ix2 k y)) * Ideal.ofBits .f32 0x3E38AA3B#32 := by
  unfold k0_pay11 k0_pay10
  pointwise
  rfl

theorem out_k (h : FVec Ideal S256x1024 .bf16) (w : Vec Ideal S1024x1024 .bf16) (r : Fin 256) (y : Fin 1024) :
    k0_pay15 (k0_pay14 h w) (ix3 0 r y) = dotp (fun k => h (ix2 r k)) (fun k => w (ix2 k y)) := by
  unfold k0_pay15 k0_pay14 k0_pay13
  pointwise
  rfl

theorem out_v (h : FVec Ideal S256x1024 .bf16) (w : Vec Ideal S1024x1024 .bf16) (r : Fin 256) (y : Fin 1024) :
    k0_pay17 h w (ix2 r y) = dotp (fun k => h (ix2 r k)) (fun k => w (ix2 k y)) := by
  unfold k0_pay17
  pointwise
  rfl

theorem out_g (h : FVec Ideal S256x1024 .bf16) (w : Vec Ideal S1024x1024 .bf16) (r : Fin 256) (y : Fin 1024) :
    k0_pay1 h (k0_pay26 w) (constant S256x1024 .f32 0x00000000#32) (ix3 0 r y) = silu (dotp (fun k => h (ix2 r k)) (fun k => w (ix2 k y))) := by
  unfold k0_pay1 k0_pay26
  pointwise
  unfold silu dotp
  rw [zero_sub, Ideal.ofBits_one_f32]

/-! ### The blocks a grid point writes -/

section Out
variable (i : grid0.Coords) (x0 x1 x2 : Vec Ideal S1x256x1024 .bf16) (x3 : Vec Ideal S1024x1024 .bf16) (x4 x5 : Vec Ideal S1x256x1024 .f32) (x6 x7 : Vec Ideal S1x3x1024 .f32)
  (x8 : Vec Ideal S1x1024 .f32) (x9 : Vec Ideal S1024x4096 .bf16)

/-- Row `r` of the stream at a grid point. -/
def srow (r : Fin 256) : Fin 1024 → EReal :=
  stream (if 32 ≤ (i 1).val then x1 else x0) x2 (if 32 ≤ (i 1).val then x5 else x4) x6 x3 r

/-- Row `r` after the norm and the modulation. -/
def hrow (r : Fin 256) : Fin 1024 → EReal :=
  hid (srow i x0 x1 x2 x3 x4 x5 x6 r) (fun e => x8 (ix2 0 e)) (fun e => x7 (ix3 0 0 e)) (fun e => x7 (ix3 0 1 e))

/-- Row `r` projected onto column `e`. -/
def prow (r : Fin 256) (e : Fin 4096) : EReal :=
  dotp (hrow i x0 x1 x2 x3 x4 x5 x6 x7 x8 r) fun k => x9 (ix2 k e)

theorem ld_row (x : Vec Ideal S1x3x1024 .f32) (o : Nat) (q : Fin 3) (h : o = q.val) (inb) :
    View.ld x (Rect.unit (s := S1x3x1024) ![0, o, 0] S1x1x1024.size inb) = mrow x q := by
  subst h
  funext j
  have hj0 : (j 0).val < 1 := (j 0).isLt
  have hj1 : (j 1).val < 1 := (j 1).isLt
  refine congrArg x (funext fun a => Fin.ext ?_)
  match a with
  | ⟨0, _⟩ => show 0 + 1 * (j 0).val = 0; omega
  | ⟨1, _⟩ => show q.val + 1 * (j 1).val = q.val; omega
  | ⟨2, _⟩ => show 0 + 1 * (j 2).val = (j 2).val; omega

theorem ld_col (o : Nat) (q : Fin 4) (h : o = 1024 * q.val) (inb) (k y : Fin 1024) :
    View.ld x9 (Rect.unit (s := S1024x4096) ![0, o] S1024x1024.size inb) (ix2 k y) = x9 (ix2 k (col q y)) := by
  subst h
  refine congrArg x9 (funext fun a => Fin.ext ?_)
  match a with
  | ⟨0, _⟩ => show 0 + 1 * k.val = k.val; omega
  | ⟨1, _⟩ => show 1024 * q.val + 1 * y.val = 1024 * q.val + y.val; omega

theorem ld_all {e : EltTy} (x : Vec Ideal S1x256x1024 e) : View.ld x r0_0 = x := View.ld_unit_lit _ x (by decide)
theorem ld_w : View.ld x3 r0_2 = x3 := View.ld_unit_lit _ x3 (by decide)
theorem ld_n : View.ld x8 r0_5 = x8 := View.ld_unit_lit _ x8 (by decide)

theorem blk_hidden (r : Fin 256) (k : Fin 1024) : k0_pay27 i x0 x1 x2 x3 x4 x5 x6 x7 x8 x9 (ix2 r k) = hrow i x0 x1 x2 x3 x4 x5 x6 x7 x8 r k := by
  unfold k0_pay27
  rw [ld_all, ld_all, ld_all, ld_all, ld_all, ld_w, ld_n, ld_row x6 2 2 rfl, ld_row x7 0 0 rfl, ld_row x7 1 1 rfl, norm_apply, same]
  unfold hrow srow
  simp only [lin_apply]

/-- One whole-block store. -/
theorem one {e : EltTy} (p : Vec Ideal S1x256x1024 e) (cov : ∀ y : S1x256x1024.Idx, ∃ pc ∈ ([⟨r0_0, p⟩] : List (View.Piece (Elt Ideal) S1x256x1024 e)), y ∈ pc.1.set) (y : S1x256x1024.Idx) :
    View.canon [⟨r0_0, p⟩] y = p y := by
  refine View.canon_apply_of_pieces p _ ?_ y (cov y)
  refine View.PiecesOf.mem (Val := Elt Ideal) (e := e) (G := p) ?_
  refine And.intro ?_ trivial
  intro z
  refine congrArg p (funext fun a => Fin.ext ?_)
  match a with
  | ⟨0, _⟩ => show (z 0).val = 0 + 1 * (z 0).val; omega
  | ⟨1, _⟩ => show (z 1).val = 0 + 1 * (z 1).val; omega
  | ⟨2, _⟩ => show (z 2).val = 0 + 1 * (z 2).val; omega

theorem blk_x (r : Fin 256) (y : Fin 1024) : out0_10 i x0 x1 x2 x3 x4 x5 x6 x7 x8 x9 (ix3 0 r y) = srow i x0 x1 x2 x3 x4 x5 x6 r y := by
  unfold out0_10
  rw [one _ (cover0_10 _)]
  rw [ld_all, ld_all, ld_all, ld_all, ld_all, ld_w, ld_row x6 2 2 rfl]
  unfold k0_pay3
  have h := lin_apply i x4 x5 x1 x0 x2 x6 x3 r y
  generalize k0_pay2 i x4 x5 x1 x0 x2 (mrow x6 2) x3 = p at h ⊢
  pointwise
  exact h

theorem blk_q (r : Fin 256) (y : Fin 1024) : out0_11 i x0 x1 x2 x3 x4 x5 x6 x7 x8 x9 (ix3 0 r y) = prow i x0 x1 x2 x3 x4 x5 x6 x7 x8 x9 r (col 0 y) * Ideal.ofBits .f32 0x3E38AA3B#32 := by
  unfold out0_11
  rw [one _ (cover0_11 _), out_q]
  unfold prow
  simp only [blk_hidden]
  simp only [ld_col x9 0 0 rfl]

theorem blk_k (r : Fin 256) (y : Fin 1024) : out0_12 i x0 x1 x2 x3 x4 x5 x6 x7 x8 x9 (ix3 0 r y) = prow i x0 x1 x2 x3 x4 x5 x6 x7 x8 x9 r (col 1 y) := by
  unfold out0_12
  rw [one _ (cover0_12 _), out_k]
  unfold prow
  simp only [blk_hidden]
  simp only [ld_col x9 1024 1 rfl]

theorem blk_g (r : Fin 256) (y : Fin 1024) : out0_14 i x0 x1 x2 x3 x4 x5 x6 x7 x8 x9 (ix3 0 r y) = silu (prow i x0 x1 x2 x3 x4 x5 x6 x7 x8 x9 r (col 3 y)) := by
  unfold out0_14
  rw [one _ (cover0_14 _), out_g]
  unfold prow
  simp only [blk_hidden]
  simp only [ld_col x9 3072 3 rfl]

end Out

/-- Column `y` of strip `n`. -/
def strip (n : Fin 8) (y : Fin 128) : Fin 1024 :=
  ⟨128 * n.val + y.val, by omega⟩

theorem slab0 (h : FVec Ideal S256x1024 .bf16) (w : Vec Ideal S1024x1024 .bf16) (y : Fin 128) (r : Fin 256) :
    k0_pay18 h w (ix4 0 0 y r) = k0_pay17 h w (ix2 r (strip 0 y)) := by
  unfold k0_pay18
  generalize k0_pay17 h w = p
  pointwise
  exact congrArg (fun e => p (ix2 r e)) (Fin.ext (by show _ = 128 * 0 + y.val; first | rfl | omega | simp))
theorem slab1 (h : FVec Ideal S256x1024 .bf16) (w : Vec Ideal S1024x1024 .bf16) (y : Fin 128) (r : Fin 256) :
    k0_pay19 h w (ix4 0 0 y r) = k0_pay17 h w (ix2 r (strip 1 y)) := by
  unfold k0_pay19
  generalize k0_pay17 h w = p
  pointwise
  exact congrArg (fun e => p (ix2 r e)) (Fin.ext (by show _ = 128 * 1 + y.val; first | rfl | omega | simp))
theorem slab2 (h : FVec Ideal S256x1024 .bf16) (w : Vec Ideal S1024x1024 .bf16) (y : Fin 128) (r : Fin 256) :
    k0_pay20 h w (ix4 0 0 y r) = k0_pay17 h w (ix2 r (strip 2 y)) := by
  unfold k0_pay20
  generalize k0_pay17 h w = p
  pointwise
  exact congrArg (fun e => p (ix2 r e)) (Fin.ext (by show _ = 128 * 2 + y.val; first | rfl | omega | simp))
theorem slab3 (p : FVec Ideal S256x1024 .f32) (y : Fin 128) (r : Fin 256) : k0_pay21 p (ix4 0 0 y r) = p (ix2 r (strip 3 y)) := by
  unfold k0_pay21
  pointwise
  exact congrArg (fun e => p (ix2 r e)) (Fin.ext (by show _ = 128 * 3 + y.val; first | rfl | omega | simp))
theorem slab4 (p : FVec Ideal S256x1024 .f32) (y : Fin 128) (r : Fin 256) : k0_pay22 p (ix4 0 0 y r) = p (ix2 r (strip 4 y)) := by
  unfold k0_pay22
  pointwise
  exact congrArg (fun e => p (ix2 r e)) (Fin.ext (by show _ = 128 * 4 + y.val; first | rfl | omega | simp))
theorem slab5 (p : FVec Ideal S256x1024 .f32) (y : Fin 128) (r : Fin 256) : k0_pay23 p (ix4 0 0 y r) = p (ix2 r (strip 5 y)) := by
  unfold k0_pay23
  pointwise
  exact congrArg (fun e => p (ix2 r e)) (Fin.ext (by show _ = 128 * 5 + y.val; first | rfl | omega | simp))
theorem slab6 (p : FVec Ideal S256x1024 .f32) (y : Fin 128) (r : Fin 256) : k0_pay24 p (ix4 0 0 y r) = p (ix2 r (strip 6 y)) := by
  unfold k0_pay24
  pointwise
  exact congrArg (fun e => p (ix2 r e)) (Fin.ext (by show _ = 128 * 6 + y.val; first | rfl | omega | simp))
theorem slab7 (p : FVec Ideal S256x1024 .f32) (y : Fin 128) (r : Fin 256) : k0_pay25 p (ix4 0 0 y r) = p (ix2 r (strip 7 y)) := by
  unfold k0_pay25
  pointwise
  exact congrArg (fun e => p (ix2 r e)) (Fin.ext (by show _ = 128 * 7 + y.val; first | rfl | omega | simp))

theorem blk_p (i : grid0.Coords) (x0 x1 x2 : Vec Ideal S1x256x1024 .bf16) (x3 : Vec Ideal S1024x1024 .bf16) (x4 x5 : Vec Ideal S1x256x1024 .f32) (x6 x7 : Vec Ideal S1x3x1024 .f32)
    (x8 : Vec Ideal S1x1024 .f32) (x9 : Vec Ideal S1024x4096 .bf16) (r : Fin 256) (y : Fin 1024) :
    k0_pay17 (k0_pay27 i x0 x1 x2 x3 x4 x5 x6 x7 x8 x9) (View.ld x9 r0_10) (ix2 r y) = prow i x0 x1 x2 x3 x4 x5 x6 x7 x8 x9 r (col 2 y) := by
  rw [out_v]
  unfold prow
  simp only [blk_hidden]
  simp only [ld_col x9 2048 2 rfl]

/-- Where an element of strip `n` of the transposed block lies. -/
theorem strip_emb (n : Fin 8) (o : Nat) (ho : o = 128 * n.val) (inb) (G : Fin 256 → Fin 1024 → EReal) (z : S1x1x128x256.Idx) :
    G (z 3) (strip n (z 2)) = (fun y : S1x1x1024x256.Idx => G (y 3) (y 2)) ((Rect.unit (s := S1x1x1024x256) ![0, 0, o, 0] S1x1x128x256.size inb).emb z) := by
  subst ho
  refine congrArg₂ G (Fin.ext ?_) (Fin.ext ?_)
  · show (z 3).val = 0 + 1 * (z 3).val
    omega
  · show 128 * n.val + (z 2).val = 128 * n.val + 1 * (z 2).val
    omega

theorem strip_ix (z : S1x1x128x256.Idx) : z = ix4 0 0 (z 2) (z 3) := by
  refine (eq_ix4 (n0 := 1) (n1 := 1) (n2 := 128) (n3 := 256) z).trans ?_
  exact congrArg₂ (fun w w' => ix4 w w' (z 2) (z 3)) (Subsingleton.elim (α := Fin 1) _ _) (Subsingleton.elim (α := Fin 1) _ _)

theorem blk_v (i : grid0.Coords) (x0 x1 x2 : Vec Ideal S1x256x1024 .bf16) (x3 : Vec Ideal S1024x1024 .bf16) (x4 x5 : Vec Ideal S1x256x1024 .f32) (x6 x7 : Vec Ideal S1x3x1024 .f32)
    (x8 : Vec Ideal S1x1024 .f32) (x9 : Vec Ideal S1024x4096 .bf16) (y : S1x1x1024x256.Idx) :
    out0_13 i x0 x1 x2 x3 x4 x5 x6 x7 x8 x9 y = prow i x0 x1 x2 x3 x4 x5 x6 x7 x8 x9 (y 3) (col 2 (y 2)) := by
  unfold out0_13 k0_pay31
  have hp := blk_p i x0 x1 x2 x3 x4 x5 x6 x7 x8 x9
  generalize k0_pay27 i x0 x1 x2 x3 x4 x5 x6 x7 x8 x9 = h at hp ⊢
  generalize View.ld x9 r0_10 = w at hp ⊢
  refine View.canon_apply_of_pieces (Val := Elt Ideal) (e := .bf16) (fun y : S1x1x1024x256.Idx => prow i x0 x1 x2 x3 x4 x5 x6 x7 x8 x9 (y 3) (col 2 (y 2))) _ ?_ y (cover0_13 _ _ _ _ _ _ _ _ y)
  have key := fun n o ho inb z => strip_emb n o ho inb (fun r y => prow i x0 x1 x2 x3 x4 x5 x6 x7 x8 x9 r (col 2 y)) z
  refine View.PiecesOf.mem (Val := Elt Ideal) (e := .bf16) (G := fun y : S1x1x1024x256.Idx => prow i x0 x1 x2 x3 x4 x5 x6 x7 x8 x9 (y 3) (col 2 (y 2))) ?_
  refine ⟨?_, ?_, ?_, ?_, ?_, ?_, ?_, ?_, trivial⟩ <;> intro z
  · refine Eq.trans ?_ (key 7 896 rfl inb_S1x1x1024x256_S1x1x128x256_0_0_896_0 z)
    refine (congrArg (k0_pay25 (k0_pay17 h w)) (strip_ix z)).trans ?_
    exact (slab7 _ (z 2) (z 3)).trans (hp _ _)
  · refine Eq.trans ?_ (key 6 768 rfl inb_S1x1x1024x256_S1x1x128x256_0_0_768_0 z)
    refine (congrArg (k0_pay24 (k0_pay17 h w)) (strip_ix z)).trans ?_
    exact (slab6 _ (z 2) (z 3)).trans (hp _ _)
  · refine Eq.trans ?_ (key 5 640 rfl inb_S1x1x1024x256_S1x1x128x256_0_0_640_0 z)
    refine (congrArg (k0_pay23 (k0_pay17 h w)) (strip_ix z)).trans ?_
    exact (slab5 _ (z 2) (z 3)).trans (hp _ _)
  · refine Eq.trans ?_ (key 4 512 rfl inb_S1x1x1024x256_S1x1x128x256_0_0_512_0 z)
    refine (congrArg (k0_pay22 (k0_pay17 h w)) (strip_ix z)).trans ?_
    exact (slab4 _ (z 2) (z 3)).trans (hp _ _)
  · refine Eq.trans ?_ (key 3 384 rfl inb_S1x1x1024x256_S1x1x128x256_0_0_384_0 z)
    refine (congrArg (k0_pay21 (k0_pay17 h w)) (strip_ix z)).trans ?_
    exact (slab3 _ (z 2) (z 3)).trans (hp _ _)
  · refine Eq.trans ?_ (key 2 256 rfl inb_S1x1x1024x256_S1x1x128x256_0_0_256_0 z)
    refine (congrArg (k0_pay20 h w) (strip_ix z)).trans ?_
    exact (slab2 h w (z 2) (z 3)).trans (hp _ _)
  · refine Eq.trans ?_ (key 1 128 rfl inb_S1x1x1024x256_S1x1x128x256_0_0_128_0 z)
    refine (congrArg (k0_pay19 h w) (strip_ix z)).trans ?_
    exact (slab1 h w (z 2) (z 3)).trans (hp _ _)
  · refine Eq.trans ?_ (key 0 0 rfl inb_S1x1x1024x256_S1x1x128x256_0_0_0_0 z)
    refine (congrArg (k0_pay18 h w) (strip_ix z)).trans ?_
    exact (slab0 h w (z 2) (z 3)).trans (hp _ _)

end Cert.Kernel4Ideal.Block

end
-- ==== Proof.Ref4.lean ====
/- The neighbourhood layer's projection reference, element by element. -/
module

public import proofs.«01_k».proof.Proof.Gen.Reference4Ideal.Read
public import proofs.«01_k».proof.Proof.Block4
public import Idealize.ShloMosaic.Lib.Pointwise

@[expose] public section

set_option maxRecDepth 16384

noncomputable section

namespace Cert.Reference4Ideal.Line

open Cert.Kernel3Ideal.Block (normed added)
open Cert.Kernel4Ideal.Block (hid dotp col)
open Cert.Reference3Ideal.Line (silu)
open Cert.Reference4Ideal Cert.Reference4Ideal.Gen Cert.Reference4Ideal.Read Idealize.ShloMosaic Idealize.ShloMosaic.TcCoe Idealize.SL.Sem
open scoped BigOperators

variable (x0 : FVec Ideal S4x8192x1024 .bf16) (x1 : FVec Ideal S4x256x1024 .bf16) (x2 x5 : FVec Ideal S4x8192x1024 .f32) (x3 x6 : FVec Ideal S4x256x1024 .f32)
  (x4 : FVec Ideal S1024x1024 .f32) (x7 : FVec Ideal S4x8x3072 .f32) (x8 : FVec Ideal S1024 .f32) (x9 : FVec Ideal S1024x4096 .f32)

/-- Component `k` of third `j` of the modulation's row `q` in layer `l`. -/
def md (l : Fin 4) (q : Fin 8) (j : Fin 3) (k : Fin 1024) : EReal :=
  x7 (ix3 l q (Fin.ofNat 3072 (1024 * j.val + k.val)))

/-- One row of the stream. -/
def lineS (o g x : Fin 1024 → EReal) (q : Fin 8) (d : Fin 1024) : EReal :=
  added o (fun k => silu (g k)) x (fun k => md x7 0 q 2 k) (fun k e => x4 (ix2 k e)) d

/-- One row after the norm and the modulation. -/
def lineH (o g x : Fin 1024 → EReal) (q : Fin 8) (d : Fin 1024) : EReal :=
  hid (lineS x4 x7 o g x q) (fun e => x8 (ix1 e)) (fun e => md x7 1 q 0 e) (fun e => md x7 1 q 1 e) d

/-- One row's projection onto column `e`. -/
def lineP (o g x : Fin 1024 → EReal) (q : Fin 8) (e : Fin 4096) : EReal :=
  dotp (lineH x4 x7 x8 o g x q) (fun k => x9 (ix2 k e))

/-! ### The latents -/

theorem gate_at (b : Fin 4) (r : Fin 8192) (y : Fin 1024) : val_main_v16 (F := Ideal) x7 (ix3 b r y) = md x7 0 (Fin.ofNat 8 b) 2 y := by
  rw [val_main_v16_apply, val_main_v8_apply, val_main_v2_apply, val_main_v1_apply, val_main_v0_apply]
  refine congrArg x7 (funext fun a => Fin.ext ?_)
  have := b.isLt
  have := y.isLt
  match a with
  | ⟨0, _⟩ => rfl
  | ⟨1, _⟩ => show (b.val * 3072 + (2048 + y.val)) / 3072 % 4 = b.val % 8; omega
  | ⟨2, _⟩ => show (b.val * 3072 + (2048 + y.val)) % 3072 = (1024 * 2 + y.val) % 3072; omega

theorem shift_at (b : Fin 4) (r : Fin 8192) (y : Fin 1024) : val_main_v36 (F := Ideal) x7 (ix3 b r y) = md x7 1 (Fin.ofNat 8 b) 0 y := by
  rw [val_main_v36_apply, val_main_v9_apply, val_main_v5_apply, val_main_v4_apply, val_main_v3_apply]
  refine congrArg x7 (funext fun a => Fin.ext ?_)
  have := b.isLt
  have := y.isLt
  match a with
  | ⟨0, _⟩ => rfl
  | ⟨1, _⟩ => show (b.val * 3072 + y.val) / 3072 % 4 = b.val % 8; omega
  | ⟨2, _⟩ => show (b.val * 3072 + y.val) % 3072 = (1024 * 0 + y.val) % 3072; omega

theorem scale_at (b : Fin 4) (r : Fin 8192) (y : Fin 1024) : val_main_v34 (F := Ideal) x7 (ix3 b r y) = 1 + md x7 1 (Fin.ofNat 8 b) 1 y := by
  rw [val_main_v34_apply, val_main_v33_apply, val_main_v32_apply, val_main_cst_2_apply, val_main_v10_apply, val_main_v5_apply, val_main_v4_apply, val_main_v3_apply]
  have h1 : (FloatOps.ofBits (F := Ideal) .f32 0x3F800000#32 : EReal) = 1 := Ideal.ofBits_one_f32
  rw [h1]
  refine congrArg (fun i => (1 : EReal) + x7 i) (funext fun a => Fin.ext ?_)
  have := b.isLt
  have := y.isLt
  match a with
  | ⟨0, _⟩ => rfl
  | ⟨1, _⟩ => show (b.val * 3072 + (1024 + y.val)) / 3072 % 4 = b.val % 8; omega
  | ⟨2, _⟩ => show (b.val * 3072 + (1024 + y.val)) % 3072 = (1024 * 1 + y.val) % 3072; omega

theorem silu_at (i : S4x8192x1024.Idx) : val_main_v13 (F := Ideal) x2 i = silu (x2 i) := by
  rw [val_main_v13_apply, val_main_call0_v5_apply, val_main_call0_v4_apply, val_main_call0_v3_apply, val_main_call0_v2_apply, val_main_call0_v1_apply,
    val_main_call0_v0_apply, val_main_call0_cst_apply, val_main_call0_cst_0_apply]
  rfl

theorem stream_at (b : Fin 4) (r : Fin 8192) (y : Fin 1024) :
    val_main_v18 (F := Ideal) x0 x2 x4 x5 x7 (ix3 b r y)
      = lineS x4 x7 (fun k => x0 (ix3 b r k)) (fun k => x2 (ix3 b r k)) (fun k => x5 (ix3 b r k)) (Fin.ofNat 8 b) y := by
  rw [val_main_v18_apply, val_main_v17_apply, gate_at, val_main_v15_apply]
  have hl : ∀ k : Fin 1024, lidx_main_v15 (ix3 b r y) k = ix3 b r k := fun k => funext fun a => match a with
    | ⟨0, _⟩ => rfl
    | ⟨1, _⟩ => rfl
    | ⟨2, _⟩ => rfl
  have hr : ∀ k : Fin 1024, ridx_main_v15 (ix3 b r y) k = ix2 k y := fun k => funext fun a => match a with
    | ⟨0, _⟩ => rfl
    | ⟨1, _⟩ => rfl
  unfold lineS added
  refine congrArg (fun z => x5 (ix3 b r y) + _ * z) (Finset.sum_congr rfl fun k _ => ?_)
  rw [hl, hr, val_main_v14_apply, silu_at, val_main_v12_apply]
  rfl

theorem hidden_at (b : Fin 4) (r : Fin 8192) (y : Fin 1024) :
    val_main_v37 (F := Ideal) x0 x2 x4 x5 x7 x8 (ix3 b r y)
      = lineH x4 x7 x8 (fun k => x0 (ix3 b r k)) (fun k => x2 (ix3 b r k)) (fun k => x5 (ix3 b r k)) (Fin.ofNat 8 b) y := by
  have h20 : ∀ k : Fin 1024, idx_main_v20 (ix2 b r) k = ix3 b r k := fun k => funext fun a => match a with
    | ⟨0, _⟩ => rfl
    | ⟨1, _⟩ => rfl
    | ⟨2, _⟩ => rfl
  have h21 : idx_main_v21 (idx_main_v27 (ix3 b r y)) = ix2 b r := funext fun a => match a with
    | ⟨0, _⟩ => rfl
    | ⟨1, _⟩ => rfl
  have h29 : idx_main_v29 (idx_main_v30 (ix3 b r y)) = ix1 y := funext fun a => match a with
    | ⟨0, _⟩ => rfl
  rw [val_main_v37_apply, shift_at, val_main_v35_apply, scale_at, val_main_v31_apply, val_main_v30_apply, val_main_v29_apply, h29, val_main_v28_apply, val_main_v27_apply,
    val_main_v26_apply, val_main_v25_apply, val_main_v24_apply, val_main_v23_apply, val_main_v22_apply, val_main_v21_apply, h21, val_main_v20_apply,
    val_main_cst_apply, val_main_cst_0_apply, val_main_cst_1_apply]
  simp only [h20, val_main_v19_apply, stream_at]
  unfold lineH
  generalize lineS _ _ _ _ _ _ = v
  have hz : (FloatOps.ofBits (F := Ideal) .f32 0#32 : EReal) = 0 := Ideal.ofBits_zero_f32
  rw [hz, zero_add]
  rfl

theorem proj_at (b : Fin 4) (r : Fin 8192) (e : Fin 4096) :
    val_main_v38 (F := Ideal) x0 x2 x4 x5 x7 x8 x9 (ix3 b r e)
      = lineP x4 x7 x8 x9 (fun k => x0 (ix3 b r k)) (fun k => x2 (ix3 b r k)) (fun k => x5 (ix3 b r k)) (Fin.ofNat 8 b) e := by
  rw [val_main_v38_apply]
  have hl : ∀ k : Fin 1024, lidx_main_v38 (ix3 b r e) k = ix3 b r k := fun k => funext fun a => match a with
    | ⟨0, _⟩ => rfl
    | ⟨1, _⟩ => rfl
    | ⟨2, _⟩ => rfl
  have hr : ∀ k : Fin 1024, ridx_main_v38 (ix3 b r e) k = ix2 k e := fun k => funext fun a => match a with
    | ⟨0, _⟩ => rfl
    | ⟨1, _⟩ => rfl
  unfold lineP dotp
  refine Finset.sum_congr rfl fun k _ => ?_
  rw [hl, hr, hidden_at]

/-! ### The context -/

theorem gate_ctx (b : Fin 4) (r : Fin 256) (y : Fin 1024) : val_main_v54 (F := Ideal) x7 (ix3 b r y) = md x7 0 4 2 y := by
  rw [val_main_v54_apply, val_main_v53_apply, val_main_v45_apply, val_main_v40_apply, val_main_v39_apply]
  refine congrArg x7 (funext fun a => Fin.ext ?_)
  have := y.isLt
  match a with
  | ⟨0, _⟩ => rfl
  | ⟨1, _⟩ => rfl
  | ⟨2, _⟩ => show (2048 + y.val) % 3072 = (1024 * 2 + y.val) % 3072; omega

theorem shift_ctx (b : Fin 4) (r : Fin 256) (y : Fin 1024) : val_main_v76 (F := Ideal) x7 (ix3 b r y) = md x7 1 4 0 y := by
  rw [val_main_v76_apply, val_main_v75_apply, val_main_v46_apply, val_main_v42_apply, val_main_v41_apply]
  refine congrArg x7 (funext fun a => Fin.ext ?_)
  have := y.isLt
  match a with
  | ⟨0, _⟩ => rfl
  | ⟨1, _⟩ => rfl
  | ⟨2, _⟩ => show y.val % 3072 = (1024 * 0 + y.val) % 3072; omega

theorem scale_ctx (b : Fin 4) (r : Fin 256) (y : Fin 1024) : val_main_v73 (F := Ideal) x7 (ix3 b r y) = 1 + md x7 1 4 1 y := by
  rw [val_main_v73_apply, val_main_v72_apply, val_main_v71_apply, val_main_v70_apply, val_main_cst_6_apply, val_main_v47_apply, val_main_v42_apply, val_main_v41_apply]
  have h1 : (FloatOps.ofBits (F := Ideal) .f32 0x3F800000#32 : EReal) = 1 := Ideal.ofBits_one_f32
  rw [h1]
  refine congrArg (fun i => (1 : EReal) + x7 i) (funext fun a => Fin.ext ?_)
  have := y.isLt
  match a with
  | ⟨0, _⟩ => rfl
  | ⟨1, _⟩ => rfl
  | ⟨2, _⟩ => show (1024 + y.val) % 3072 = (1024 * 1 + y.val) % 3072; omega

theorem silu_ctx (i : S4x256x1024.Idx) : val_main_v50 (F := Ideal) x3 i = silu (x3 i) := by
  rw [val_main_v50_apply, val_main_call1_v5_apply, val_main_call1_v4_apply, val_main_call1_v3_apply, val_main_call1_v2_apply, val_main_call1_v1_apply,
    val_main_call1_v0_apply, val_main_call1_cst_apply, val_main_call1_cst_0_apply]
  rfl

theorem stream_ctx (b : Fin 4) (r : Fin 256) (y : Fin 1024) :
    val_main_v56 (F := Ideal) x1 x3 x4 x6 x7 (ix3 b r y)
      = lineS x4 x7 (fun k => x1 (ix3 b r k)) (fun k => x3 (ix3 b r k)) (fun k => x6 (ix3 b r k)) 4 y := by
  rw [val_main_v56_apply, val_main_v55_apply, gate_ctx, val_main_v52_apply]
  have hl : ∀ k : Fin 1024, lidx_main_v52 (ix3 b r y) k = ix3 b r k := fun k => funext fun a => match a with
    | ⟨0, _⟩ => rfl
    | ⟨1, _⟩ => rfl
    | ⟨2, _⟩ => rfl
  have hr : ∀ k : Fin 1024, ridx_main_v52 (ix3 b r y) k = ix2 k y := fun k => funext fun a => match a with
    | ⟨0, _⟩ => rfl
    | ⟨1, _⟩ => rfl
  unfold lineS added
  refine congrArg (fun z => x6 (ix3 b r y) + _ * z) (Finset.sum_congr rfl fun k _ => ?_)
  rw [hl, hr, val_main_v51_apply, silu_ctx, val_main_v49_apply]
  rfl

theorem hidden_ctx (b : Fin 4) (r : Fin 256) (y : Fin 1024) :
    val_main_v77 (F := Ideal) x1 x3 x4 x6 x7 x8 (ix3 b r y)
      = lineH x4 x7 x8 (fun k => x1 (ix3 b r k)) (fun k => x3 (ix3 b r k)) (fun k => x6 (ix3 b r k)) 4 y := by
  have h58 : ∀ k : Fin 1024, idx_main_v58 (ix2 b r) k = ix3 b r k := fun k => funext fun a => match a with
    | ⟨0, _⟩ => rfl
    | ⟨1, _⟩ => rfl
    | ⟨2, _⟩ => rfl
  have h59 : idx_main_v59 (idx_main_v65 (ix3 b r y)) = ix2 b r := funext fun a => match a with
    | ⟨0, _⟩ => rfl
    | ⟨1, _⟩ => rfl
  have h67 : idx_main_v67 (idx_main_v68 (ix3 b r y)) = ix1 y := funext fun a => match a with
    | ⟨0, _⟩ => rfl
  rw [val_main_v77_apply, shift_ctx, val_main_v74_apply, scale_ctx, val_main_v69_apply, val_main_v68_apply, val_main_v67_apply, h67, val_main_v66_apply, val_main_v65_apply,
    val_main_v64_apply, val_main_v63_apply, val_main_v62_apply, val_main_v61_apply, val_main_v60_apply, val_main_v59_apply, h59, val_main_v58_apply,
    val_main_cst_3_apply, val_main_cst_4_apply, val_main_cst_5_apply]
  simp only [h58, val_main_v57_apply, stream_ctx]
  unfold lineH
  generalize lineS _ _ _ _ _ _ = v
  have hz : (FloatOps.ofBits (F := Ideal) .f32 0#32 : EReal) = 0 := Ideal.ofBits_zero_f32
  rw [hz, zero_add]
  rfl

theorem proj_ctx (b : Fin 4) (r : Fin 256) (e : Fin 4096) :
    val_main_v78 (F := Ideal) x1 x3 x4 x6 x7 x8 x9 (ix3 b r e)
      = lineP x4 x7 x8 x9 (fun k => x1 (ix3 b r k)) (fun k => x3 (ix3 b r k)) (fun k => x6 (ix3 b r k)) 4 e := by
  rw [val_main_v78_apply]
  have hl : ∀ k : Fin 1024, lidx_main_v78 (ix3 b r e) k = ix3 b r k := fun k => funext fun a => match a with
    | ⟨0, _⟩ => rfl
    | ⟨1, _⟩ => rfl
    | ⟨2, _⟩ => rfl
  have hr : ∀ k : Fin 1024, ridx_main_v78 (ix3 b r e) k = ix2 k e := fun k => funext fun a => match a with
    | ⟨0, _⟩ => rfl
    | ⟨1, _⟩ => rfl
  unfold lineP dotp
  refine Finset.sum_congr rfl fun k _ => ?_
  rw [hl, hr, hidden_ctx]

/-! ### Latents and context joined -/

/-- Row `R` of the joined array: a latent's, or a context token's. -/
def rowOf (L : S4x8192x1024.Idx → EReal) (C : S4x256x1024.Idx → EReal) (b : Fin 4) (R : Fin 8448) : Fin 1024 → EReal :=
  if h : R.val < 8192 then fun k => L (ix3 b ⟨R.val, h⟩ k) else fun k => C (ix3 b ⟨R.val - 8192, by omega⟩ k)

/-- The modulation's row of row `R`: its batch's, or the context's own. -/
def who (b : Fin 4) (R : Fin 8448) : Fin 8 :=
  if R.val < 8192 then Fin.ofNat 8 b else 4

/-- Row `R` of the projection onto column `e`. -/
def projR (b : Fin 4) (R : Fin 8448) (e : Fin 4096) : EReal :=
  lineP x4 x7 x8 x9 (rowOf x0 x1 b R) (rowOf x2 x3 b R) (rowOf x5 x6 b R) (who b R) e

theorem stream_res (b : Fin 4) (R : Fin 8448) (y : Fin 1024) :
    val_main_v85 (F := Ideal) x0 x1 x2 x3 x4 x5 x6 x7 (ix3 b R y)
      = lineS x4 x7 (rowOf x0 x1 b R) (rowOf x2 x3 b R) (rowOf x5 x6 b R) (who b R) y := by
  unfold val_main_v85
  have hl := fun h : R.val < 8192 => stream_at x0 x2 x5 x4 x7 b ⟨R.val, h⟩ y
  have hc := fun h : ¬ R.val < 8192 => stream_ctx x1 x3 x6 x4 x7 b ⟨R.val - 8192, by omega⟩ y
  generalize val_main_v18 (F := Ideal) x0 x2 x4 x5 x7 = p at hl ⊢
  generalize val_main_v56 (F := Ideal) x1 x3 x4 x6 x7 = q at hc ⊢
  pointwise
  unfold rowOf who
  by_cases h : R.val < 8192
  · simp only [dif_pos h, if_pos h]
    exact hl h
  · simp only [dif_neg h, if_neg h]
    exact hc h

theorem proj_res (b : Fin 4) (R : Fin 8448) (e : Fin 4096) :
    val_main_v79 (F := Ideal) x0 x1 x2 x3 x4 x5 x6 x7 x8 x9 (ix3 b R e) = projR x0 x1 x2 x5 x3 x6 x4 x7 x8 x9 b R e := by
  unfold val_main_v79
  have hl := fun h : R.val < 8192 => proj_at x0 x2 x5 x4 x7 x8 x9 b ⟨R.val, h⟩ e
  have hc := fun h : ¬ R.val < 8192 => proj_ctx x1 x3 x6 x4 x7 x8 x9 b ⟨R.val - 8192, by omega⟩ e
  generalize val_main_v38 (F := Ideal) x0 x2 x4 x5 x7 x8 x9 = p at hl ⊢
  generalize val_main_v78 (F := Ideal) x1 x3 x4 x6 x7 x8 x9 = q at hc ⊢
  pointwise
  unfold projR rowOf who
  by_cases h : R.val < 8192
  · simp only [dif_pos h, if_pos h]
    exact hl h
  · simp only [dif_neg h, if_neg h]
    exact hc h

theorem q_res (b : Fin 4) (R : Fin 8448) (y : Fin 1024) :
    val_main_v88 (F := Ideal) x0 x1 x2 x3 x4 x5 x6 x7 x8 x9 (ix3 b R y)
      = projR x0 x1 x2 x5 x3 x6 x4 x7 x8 x9 b R (col 0 y) * Ideal.ofBits .f32 0x3E38AA3B#32 := by
  have hi : idx_main_v80 (ix3 b R y) = ix3 b R (col 0 y) := funext fun a => match a with
    | ⟨0, _⟩ => rfl
    | ⟨1, _⟩ => rfl
    | ⟨2, _⟩ => Fin.ext (by show y.val = 1024 * 0 + y.val; omega)
  rw [val_main_v88_apply, val_main_v87_apply, val_main_v86_apply, val_main_cst_7_apply, val_main_v80_apply, hi, proj_res]
  rfl

theorem k_res (b : Fin 4) (R : Fin 8448) (y : Fin 1024) :
    val_main_v89 (F := Ideal) x0 x1 x2 x3 x4 x5 x6 x7 x8 x9 (ix3 b R y) = projR x0 x1 x2 x5 x3 x6 x4 x7 x8 x9 b R (col 1 y) := by
  have hi : idx_main_v81 (ix3 b R y) = ix3 b R (col 1 y) := funext fun a => match a with
    | ⟨0, _⟩ => rfl
    | ⟨1, _⟩ => rfl
    | ⟨2, _⟩ => Fin.ext (by show 1024 + y.val = 1024 * 1 + y.val; omega)
  rw [val_main_v89_apply, val_main_v81_apply, hi, proj_res]
  rfl

theorem v_res (b : Fin 4) (t : Fin 33) (y : Fin 1024) (r : Fin 256) :
    val_main_v91 (F := Ideal) x0 x1 x2 x3 x4 x5 x6 x7 x8 x9 (ix4 b t y r)
      = projR x0 x1 x2 x5 x3 x6 x4 x7 x8 x9 b ⟨256 * t.val + r.val, by omega⟩ (col 2 y) := by
  have hi : idx_main_v82 (idx_main_v84 (idx_main_v90 (ix4 b t y r))) = ix3 b ⟨256 * t.val + r.val, by omega⟩ (col 2 y) := funext fun a => Fin.ext <| by
    have := b.isLt
    have := t.isLt
    have := y.isLt
    have := r.isLt
    match a with
    | ⟨0, _⟩ => show (((b.val * 33 + t.val) * 256 + r.val) * 1024 + y.val) / 8650752 = b.val; omega
    | ⟨1, _⟩ => show (((b.val * 33 + t.val) * 256 + r.val) * 1024 + y.val) / 1024 % 8448 = 256 * t.val + r.val; omega
    | ⟨2, _⟩ => show 2048 + (((b.val * 33 + t.val) * 256 + r.val) * 1024 + y.val) % 1024 = 1024 * 2 + y.val; omega
  rw [val_main_v91_apply, val_main_v90_apply, val_main_v84_apply, val_main_v82_apply, hi, proj_res]
  rfl

theorem g_res (b : Fin 4) (R : Fin 8448) (y : Fin 1024) :
    val_main_v93 (F := Ideal) x0 x1 x2 x3 x4 x5 x6 x7 x8 x9 (ix3 b R y) = silu (projR x0 x1 x2 x5 x3 x6 x4 x7 x8 x9 b R (col 3 y)) := by
  have hi : idx_main_v83 (ix3 b R y) = ix3 b R (col 3 y) := funext fun a => match a with
    | ⟨0, _⟩ => rfl
    | ⟨1, _⟩ => rfl
    | ⟨2, _⟩ => Fin.ext (by show 3072 + y.val = 1024 * 3 + y.val; omega)
  rw [val_main_v93_apply, val_main_v92_apply, val_main_call2_v5_apply, val_main_call2_v4_apply, val_main_call2_v3_apply, val_main_call2_v2_apply, val_main_call2_v1_apply,
    val_main_call2_v0_apply, val_main_call2_cst_apply, val_main_call2_cst_0_apply, val_main_v83_apply, hi, proj_res]
  rfl

end Cert.Reference4Ideal.Line
end
-- ==== Proof.Tile4.lean ====
/- The neighbourhood layer's projection call: its result arrays, element by element, in terms of the arrays the call is given. -/
module

public import proofs.«01_k».proof.Proof.Ref4
public import proofs.«01_k».proof.Proof.Gen.Kernel4Ideal.Value
public import Idealize.ShloMosaic.Lib.Pipeline.ValueKit

@[expose] public section

set_option maxRecDepth 16384

noncomputable section

namespace Cert.Kernel4Ideal.Tile

open Cert.Kernel4Ideal Cert.Kernel4Ideal.Gen Cert.Kernel4Ideal.Block Idealize.ShloMosaic Idealize.ShloMosaic.TcCoe Idealize.SL.Sem
open Cert.Kernel3Ideal.Block (added)
open Cert.Reference3Ideal.Line (silu)
open Cert.Reference4Ideal.Line (rowOf who)
open scoped BigOperators

variable (m : (ℓ : Loc nD τ sig) → Buf (Elt Ideal) ℓ)

theorem index0 : ∀ t : Fin cfg0.N, win0_0.index t = ![(grid0.coords t 0).val, min (grid0.coords t 1).val 31, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(grid0.coords t 0).val, min (grid0.coords t 1).val 31, 0] :=
  (by decide +kernel : ∀ t : Fin grid0.N, _)
theorem index5 : ∀ t : Fin cfg0.N, win0_5.index t = ![(grid0.coords t 0).val, 0, 0] :=
  (by decide +kernel : ∀ t : Fin grid0.N, _)
theorem index6 : ∀ t : Fin cfg0.N, win0_6.index t = ![if (grid0.coords t 1).val < 32 then (grid0.coords t 0).val else 4, 0, 0] :=
  (by decide +kernel : ∀ t : Fin grid0.N, _)
theorem index7 : ∀ t : Fin cfg0.N, win0_7.index t = ![8 + (if (grid0.coords t 1).val < 32 then (grid0.coords t 0).val else 4), 0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![(grid0.coords t 0).val, (grid0.coords t 1).val, 0] :=
  (by decide +kernel : ∀ t : Fin grid0.N, _)
theorem index11 : ∀ t : Fin cfg0.N, win0_11.index t = ![(grid0.coords t 0).val, (grid0.coords t 1).val, 0] :=
  (by decide +kernel : ∀ t : Fin grid0.N, _)
theorem index12 : ∀ t : Fin cfg0.N, win0_12.index t = ![(grid0.coords t 0).val, (grid0.coords t 1).val, 0] :=
  (by decide +kernel : ∀ t : Fin grid0.N, _)
theorem index14 : ∀ t : Fin cfg0.N, win0_14.index t = ![(grid0.coords t 0).val, (grid0.coords t 1).val, 0] :=
  (by decide +kernel : ∀ t : Fin grid0.N, _)
theorem index13 : ∀ t : Fin cfg0.N, win0_13.index t = ![(grid0.coords t 0).val, (grid0.coords t 1).val, 0, 0] :=
  (by decide +kernel : ∀ t : Fin grid0.N, _)

/-! ### An input block's element, read off its array -/

theorem rd0 (A : S4x8192x1024.Idx → EReal) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : ((cfg0.win 0).blk t).view.read (Elt Ideal) A j = A i := by
  have : (j 0).val < 1 := (j 0).isLt
  have e : (win0_0.blk t).view.emb j = i := by
    blk_ext [index0, h0, h1, h2]
  subst e
  rfl
theorem read0 (c : Dev nD) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : iblk m c 0 t j = V m c main_arg0 i := by
  unfold iblk
  exact rd0 (V m c main_arg0) t j i h0 h1 h2
theorem rd1 (A : S4x256x1024.Idx → EReal) (t : Fin cfg0.N) (j : S1x256x1024.Idx) (i : S4x256x1024.Idx)
    (h0 : (i 0).val = (grid0.coords t 0).val) (h1 : (i 1).val = (j 1).val) (h2 : (i 2).val = (j 2).val) : ((cfg0.win 1).blk t).view.read (Elt Ideal) A j = A i := by
  have : (j 0).val < 1 := (j 0).isLt
  have e : (win0_1.blk t).view.emb j = i := by
    blk_ext [index1, h0, h1, h2]
  subst e
  rfl
theorem read1 (c : Dev nD) (t : Fin cfg0.N) (j : S1x256x1024.Idx) (i : S4x256x1024.Idx)
    (h0 : (i 0).val = (grid0.coords t 0).val) (h1 : (i 1).val = (j 1).val) (h2 : (i 2).val = (j 2).val) : iblk m c 1 t j = V m c main_arg1 i := by
  unfold iblk
  exact rd1 (V m c main_arg1) t j i h0 h1 h2
theorem rd2 (A : S4x8448x1024.Idx → EReal) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : ((cfg0.win 2).blk t).view.read (Elt Ideal) A j = A i := by
  have : (j 0).val < 1 := (j 0).isLt
  have e : (win0_2.blk t).view.emb j = i := by
    blk_ext [index2, h0, h1, h2]
  subst e
  rfl
theorem read2 (c : Dev nD) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : iblk m c 2 t j = V m c main_v8 i := by
  unfold iblk
  exact rd2 (V m c main_v8) t j i h0 h1 h2
theorem rd3 (A : S1024x1024.Idx → EReal) (t : Fin cfg0.N) (j : S1024x1024.Idx) : ((cfg0.win 3).blk t).view.read (Elt Ideal) A j = A j := by
  have e : (win0_3.blk t).view.emb j = j := by
    blk_ext [index3]
  exact congrArg A e
theorem read3 (c : Dev nD) (t : Fin cfg0.N) (j : S1024x1024.Idx) : iblk m c 3 t j = V m c main_v11 j := by
  unfold iblk
  exact rd3 (V m c main_v11) t j
theorem rd4 (A : S4x8192x1024.Idx → EReal) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : ((cfg0.win 4).blk t).view.read (Elt Ideal) A j = A i := by
  have : (j 0).val < 1 := (j 0).isLt
  have e : (win0_4.blk t).view.emb j = i := by
    blk_ext [index4, h0, h1, h2]
  subst e
  rfl
theorem read4 (c : Dev nD) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : iblk m c 4 t j = V m c main_arg5 i := by
  unfold iblk
  exact rd4 (V m c main_arg5) t j i h0 h1 h2
theorem rd5 (A : S4x256x1024.Idx → EReal) (t : Fin cfg0.N) (j : S1x256x1024.Idx) (i : S4x256x1024.Idx)
    (h0 : (i 0).val = (grid0.coords t 0).val) (h1 : (i 1).val = (j 1).val) (h2 : (i 2).val = (j 2).val) : ((cfg0.win 5).blk t).view.read (Elt Ideal) A j = A i := by
  have : (j 0).val < 1 := (j 0).isLt
  have e : (win0_5.blk t).view.emb j = i := by
    blk_ext [index5, h0, h1, h2]
  subst e
  rfl
theorem read5 (c : Dev nD) (t : Fin cfg0.N) (j : S1x256x1024.Idx) (i : S4x256x1024.Idx)
    (h0 : (i 0).val = (grid0.coords t 0).val) (h1 : (i 1).val = (j 1).val) (h2 : (i 2).val = (j 2).val) : iblk m c 5 t j = V m c main_arg6 i := by
  unfold iblk
  exact rd5 (V m c main_arg6) t j i h0 h1 h2
theorem rd6 (A : S32x3x1024.Idx → EReal) (t : Fin cfg0.N) (j : S1x3x1024.Idx) (i : S32x3x1024.Idx)
    (h0 : (i 0).val = if (grid0.coords t 1).val < 32 then (grid0.coords t 0).val else 4) (h1 : (i 1).val = (j 1).val) (h2 : (i 2).val = (j 2).val) : ((cfg0.win 6).blk t).view.read (Elt Ideal) A j = A i := by
  have : (j 0).val < 1 := (j 0).isLt
  have e : (win0_6.blk t).view.emb j = i := by
    blk_ext [index6, h0, h1, h2]
  subst e
  rfl
theorem read6 (c : Dev nD) (t : Fin cfg0.N) (j : S1x3x1024.Idx) (i : S32x3x1024.Idx)
    (h0 : (i 0).val = if (grid0.coords t 1).val < 32 then (grid0.coords t 0).val else 4) (h1 : (i 1).val = (j 1).val) (h2 : (i 2).val = (j 2).val) : iblk m c 6 t j = V m c main_v9 i := by
  unfold iblk
  exact rd6 (V m c main_v9) t j i h0 h1 h2
theorem rd7 (A : S32x3x1024.Idx → EReal) (t : Fin cfg0.N) (j : S1x3x1024.Idx) (i : S32x3x1024.Idx)
    (h0 : (i 0).val = 8 + if (grid0.coords t 1).val < 32 then (grid0.coords t 0).val else 4) (h1 : (i 1).val = (j 1).val) (h2 : (i 2).val = (j 2).val) : ((cfg0.win 7).blk t).view.read (Elt Ideal) A j = A i := by
  have : (j 0).val < 1 := (j 0).isLt
  have e : (win0_7.blk t).view.emb j = i := by
    blk_ext [index7, h0, h1, h2]
  subst e
  rfl
theorem read7 (c : Dev nD) (t : Fin cfg0.N) (j : S1x3x1024.Idx) (i : S32x3x1024.Idx)
    (h0 : (i 0).val = 8 + if (grid0.coords t 1).val < 32 then (grid0.coords t 0).val else 4) (h1 : (i 1).val = (j 1).val) (h2 : (i 2).val = (j 2).val) : iblk m c 7 t j = V m c main_v9 i := by
  unfold iblk
  exact rd7 (V m c main_v9) t j i h0 h1 h2
theorem rd8 (A : S1x1024.Idx → EReal) (t : Fin cfg0.N) (j : S1x1024.Idx) : ((cfg0.win 8).blk t).view.read (Elt Ideal) A j = A j := by
  have e : (win0_8.blk t).view.emb j = j := by
    blk_ext [index8]
  exact congrArg A e
theorem read8 (c : Dev nD) (t : Fin cfg0.N) (j : S1x1024.Idx) : iblk m c 8 t j = V m c main_v12 j := by
  unfold iblk
  exact rd8 (V m c main_v12) t j
theorem rd9 (A : S1024x4096.Idx → EReal) (t : Fin cfg0.N) (j : S1024x4096.Idx) : ((cfg0.win 9).blk t).view.read (Elt Ideal) A j = A j := by
  have e : (win0_9.blk t).view.emb j = j := by
    blk_ext [index9]
  exact congrArg A e
theorem read9 (c : Dev nD) (t : Fin cfg0.N) (j : S1024x4096.Idx) : iblk m c 9 t j = V m c main_v10 j := by
  unfold iblk
  exact rd9 (V m c main_v10) t j

/-! ### The results' coordinates of a block's element -/

theorem emb10_0 (t : Fin cfg0.N) (y : S1x256x1024.Idx) : ((win0_10.blk t).view.emb y 0).val = (grid0.coords t 0).val := by
  have : (y 0).val < 1 := (y 0).isLt
  blk_simp [index10]
theorem emb10_1 (t : Fin cfg0.N) (y : S1x256x1024.Idx) : ((win0_10.blk t).view.emb y 1).val = 256 * (grid0.coords t 1).val + (y 1).val := by
  blk_simp [index10]
  simp only [Matrix.cons_val_one, Matrix.cons_val_zero]
  omega
theorem emb10_2 (t : Fin cfg0.N) (y : S1x256x1024.Idx) : ((win0_10.blk t).view.emb y 2).val = (y 2).val := by
  blk_simp [index10]
theorem emb11_0 (t : Fin cfg0.N) (y : S1x256x1024.Idx) : ((win0_11.blk t).view.emb y 0).val = (grid0.coords t 0).val := by
  have : (y 0).val < 1 := (y 0).isLt
  blk_simp [index11]
theorem emb11_1 (t : Fin cfg0.N) (y : S1x256x1024.Idx) : ((win0_11.blk t).view.emb y 1).val = 256 * (grid0.coords t 1).val + (y 1).val := by
  blk_simp [index11]
  simp only [Matrix.cons_val_one, Matrix.cons_val_zero]
  omega
theorem emb11_2 (t : Fin cfg0.N) (y : S1x256x1024.Idx) : ((win0_11.blk t).view.emb y 2).val = (y 2).val := by
  blk_simp [index11]
theorem emb12_0 (t : Fin cfg0.N) (y : S1x256x1024.Idx) : ((win0_12.blk t).view.emb y 0).val = (grid0.coords t 0).val := by
  have : (y 0).val < 1 := (y 0).isLt
  blk_simp [index12]
theorem emb12_1 (t : Fin cfg0.N) (y : S1x256x1024.Idx) : ((win0_12.blk t).view.emb y 1).val = 256 * (grid0.coords t 1).val + (y 1).val := by
  blk_simp [index12]
  simp only [Matrix.cons_val_one, Matrix.cons_val_zero]
  omega
theorem emb12_2 (t : Fin cfg0.N) (y : S1x256x1024.Idx) : ((win0_12.blk t).view.emb y 2).val = (y 2).val := by
  blk_simp [index12]
theorem emb14_0 (t : Fin cfg0.N) (y : S1x256x1024.Idx) : ((win0_14.blk t).view.emb y 0).val = (grid0.coords t 0).val := by
  have : (y 0).val < 1 := (y 0).isLt
  blk_simp [index14]
theorem emb14_1 (t : Fin cfg0.N) (y : S1x256x1024.Idx) : ((win0_14.blk t).view.emb y 1).val = 256 * (grid0.coords t 1).val + (y 1).val := by
  blk_simp [index14]
  simp only [Matrix.cons_val_one, Matrix.cons_val_zero]
  omega
theorem emb14_2 (t : Fin cfg0.N) (y : S1x256x1024.Idx) : ((win0_14.blk t).view.emb y 2).val = (y 2).val := by
  blk_simp [index14]
theorem emb13_0 (t : Fin cfg0.N) (y : S1x1x1024x256.Idx) : ((win0_13.blk t).view.emb y 0).val = (grid0.coords t 0).val := by
  have : (y 0).val < 1 := (y 0).isLt
  blk_simp [index13]
theorem emb13_1 (t : Fin cfg0.N) (y : S1x1x1024x256.Idx) : ((win0_13.blk t).view.emb y 1).val = (grid0.coords t 1).val := by
  have : (y 1).val < 1 := (y 1).isLt
  blk_simp [index13]
theorem emb13_2 (t : Fin cfg0.N) (y : S1x1x1024x256.Idx) : ((win0_13.blk t).view.emb y 2).val = (y 2).val := by
  blk_simp [index13]
theorem emb13_3 (t : Fin cfg0.N) (y : S1x1x1024x256.Idx) : ((win0_13.blk t).view.emb y 3).val = (y 3).val := by
  blk_simp [index13]

/-! ### Rows of the arrays -/

section Rows
variable (O : S4x8192x1024.Idx → EReal) (OC : S4x256x1024.Idx → EReal) (G : S4x8448x1024.Idx → EReal) (W : S1024x1024.Idx → EReal) (X : S4x8192x1024.Idx → EReal)
  (XC : S4x256x1024.Idx → EReal) (M : S32x3x1024.Idx → EReal) (NG : S1x1024.Idx → EReal) (WI : S1024x4096.Idx → EReal)

/-- Row `R` of the stream. -/
def sAt (b : Fin 4) (R : Fin 8448) : Fin 1024 → EReal :=
  added (rowOf O OC b R) (fun k => G (ix3 b R k)) (rowOf X XC b R) (fun k => M (ix3 (Fin.ofNat 32 (who b R).val) 2 k)) fun k e => W (ix2 k e)

/-- Row `R` after the norm and the modulation. -/
def hAt (b : Fin 4) (R : Fin 8448) : Fin 1024 → EReal :=
  hid (sAt O OC G W X XC M b R) (fun e => NG (ix2 0 e)) (fun e => M (ix3 (Fin.ofNat 32 (8 + (who b R).val)) 0 e)) (fun e => M (ix3 (Fin.ofNat 32 (8 + (who b R).val)) 1 e))

/-- Row `R` projected onto column `e`. -/
def pAt (b : Fin 4) (R : Fin 8448) (e : Fin 4096) : EReal :=
  dotp (hAt O OC G W X XC M NG b R) fun k => WI (ix2 k e)

end Rows

theorem mid (c : Dev nD) (t : Fin cfg0.N) (r : Fin 256) (R : Fin 8448) (hR : R.val = 256 * (grid0.coords t 1).val + r.val) :
    srow (grid0.coords t) (iblk m c 0 t) (iblk m c 1 t) (iblk m c 2 t) (iblk m c 3 t) (iblk m c 4 t) (iblk m c 5 t) (iblk m c 6 t) r
      = sAt (V m c main_arg0) (V m c main_arg1) (V m c main_v8) (V m c main_v11) (V m c main_arg5) (V m c main_arg6) (V m c main_v9) (grid0.coords t 0) R := by
  have hb : (grid0.coords t 0).val < 4 := (grid0.coords t 0).isLt
  have ht : (grid0.coords t 1).val < 33 := (grid0.coords t 1).isLt
  have hr := r.isLt
  unfold srow stream sAt
  have e2 : (fun k : Fin 1024 => iblk m c 2 t (ix3 0 r k)) = fun k => V m c main_v8 (ix3 (grid0.coords t 0) R k) := funext fun k => read2 m c t _ _ rfl hR rfl
  have e3 : (fun k e : Fin 1024 => iblk m c 3 t (ix2 k e)) = fun k e => V m c main_v11 (ix2 k e) := funext fun k => funext fun e => read3 m c t _
  funext d
  by_cases h : 32 ≤ (grid0.coords t 1).val
  · have hR' : ¬ R.val < 8192 := by omega
    have e1 : (fun k : Fin 1024 => iblk m c 1 t (ix3 0 r k)) = rowOf (V m c main_arg0) (V m c main_arg1) (grid0.coords t 0) R := by
      unfold rowOf
      rw [dif_neg hR']
      exact funext fun k => read1 m c t _ _ rfl (by show R.val - 8192 = r.val; omega) rfl
    have e5 : (fun k : Fin 1024 => iblk m c 5 t (ix3 0 r k)) = rowOf (V m c main_arg5) (V m c main_arg6) (grid0.coords t 0) R := by
      unfold rowOf
      rw [dif_neg hR']
      exact funext fun k => read5 m c t _ _ rfl (by show R.val - 8192 = r.val; omega) rfl
    have e6 : (fun k : Fin 1024 => iblk m c 6 t (ix3 0 2 k)) = fun k => V m c main_v9 (ix3 (Fin.ofNat 32 (who (grid0.coords t 0) R).val) 2 k) := by
      unfold who
      rw [if_neg hR']
      exact funext fun k => read6 m c t _ _ (by rw [if_neg (by omega)]; rfl) rfl rfl
    rw [if_pos h, if_pos h]
    exact congrFun (congr (congr (congr (congr (congrArg added e1) e2) e5) e6) e3) d
  · have hR' : R.val < 8192 := by omega
    have e1 : (fun k : Fin 1024 => iblk m c 0 t (ix3 0 r k)) = rowOf (V m c main_arg0) (V m c main_arg1) (grid0.coords t 0) R := by
      unfold rowOf
      rw [dif_pos hR']
      exact funext fun k => read0 m c t _ _ rfl (by show R.val = 256 * min (grid0.coords t 1).val 31 + r.val; omega) rfl
    have e5 : (fun k : Fin 1024 => iblk m c 4 t (ix3 0 r k)) = rowOf (V m c main_arg5) (V m c main_arg6) (grid0.coords t 0) R := by
      unfold rowOf
      rw [dif_pos hR']
      exact funext fun k => read4 m c t _ _ rfl (by show R.val = 256 * min (grid0.coords t 1).val 31 + r.val; omega) rfl
    have e6 : (fun k : Fin 1024 => iblk m c 6 t (ix3 0 2 k)) = fun k => V m c main_v9 (ix3 (Fin.ofNat 32 (who (grid0.coords t 0) R).val) 2 k) := by
      unfold who
      rw [if_pos hR']
      exact funext fun k => read6 m c t _ _ (by rw [if_pos (by omega)]; show (grid0.coords t 0).val % 8 % 32 = (grid0.coords t 0).val; omega) rfl rfl
    rw [if_neg h, if_neg h]
    exact congrFun (congr (congr (congr (congr (congrArg added e1) e2) e5) e6) e3) d

theorem hidden (c : Dev nD) (t : Fin cfg0.N) (r : Fin 256) (R : Fin 8448) (hR : R.val = 256 * (grid0.coords t 1).val + r.val) :
    hrow (grid0.coords t) (iblk m c 0 t) (iblk m c 1 t) (iblk m c 2 t) (iblk m c 3 t) (iblk m c 4 t) (iblk m c 5 t) (iblk m c 6 t) (iblk m c 7 t) (iblk m c 8 t) r
      = hAt (V m c main_arg0) (V m c main_arg1) (V m c main_v8) (V m c main_v11) (V m c main_arg5) (V m c main_arg6) (V m c main_v9) (V m c main_v12) (grid0.coords t 0) R := by
  have hb : (grid0.coords t 0).val < 4 := (grid0.coords t 0).isLt
  have ht : (grid0.coords t 1).val < 33 := (grid0.coords t 1).isLt
  have hr := r.isLt
  unfold hrow hAt
  rw [mid m c t r R hR]
  have hw : (Fin.ofNat 32 (8 + (who (grid0.coords t 0) R).val)).val = 8 + if (grid0.coords t 1).val < 32 then (grid0.coords t 0).val else 4 := by
    unfold who
    by_cases h : (grid0.coords t 1).val < 32
    · rw [if_pos (by omega), if_pos h]
      show (8 + (grid0.coords t 0).val % 8) % 32 = 8 + (grid0.coords t 0).val
      omega
    · rw [if_neg (by omega), if_neg h]
      rfl
  have e7 : ∀ q : Fin 3, (fun k : Fin 1024 => iblk m c 7 t (ix3 0 q k)) = fun k => V m c main_v9 (ix3 (Fin.ofNat 32 (8 + (who (grid0.coords t 0) R).val)) q k) :=
    fun q => funext fun k => read7 m c t _ _ hw rfl rfl
  have e8 : (fun k : Fin 1024 => iblk m c 8 t (ix2 0 k)) = fun k => V m c main_v12 (ix2 0 k) := funext fun k => read8 m c t _
  exact congr (congr (congrArg (hid _) e8) (e7 0)) (e7 1)

theorem proj (c : Dev nD) (t : Fin cfg0.N) (r : Fin 256) (R : Fin 8448) (hR : R.val = 256 * (grid0.coords t 1).val + r.val) (e : Fin 4096) :
    prow (grid0.coords t) (iblk m c 0 t) (iblk m c 1 t) (iblk m c 2 t) (iblk m c 3 t) (iblk m c 4 t) (iblk m c 5 t) (iblk m c 6 t) (iblk m c 7 t) (iblk m c 8 t) (iblk m c 9 t) r e
      = pAt (V m c main_arg0) (V m c main_arg1) (V m c main_v8) (V m c main_v11) (V m c main_arg5) (V m c main_arg6) (V m c main_v9) (V m c main_v12) (V m c main_v10) (grid0.coords t 0) R e := by
  unfold prow pAt
  rw [hidden m c t r R hR]
  have e9 : (fun k : Fin 1024 => iblk m c 9 t (ix2 k e)) = fun k => V m c main_v10 (ix2 k e) := funext fun k => read9 m c t _
  exact congrArg (dotp _) e9

theorem blk_ix (y : S1x256x1024.Idx) : y = ix3 0 (y 1) (y 2) := by
  refine (eq_ix3 (n0 := 1) (n1 := 256) (n2 := 1024) y).trans ?_
  exact congrArg (fun w => ix3 w (y 1) (y 2)) (Subsingleton.elim (α := Fin 1) _ _)

/-! ### The result arrays -/

theorem final_x (c : Dev nD) : (dats m 0 c).arrAt 10 cfg0.N = fun i : S4x8448x1024.Idx => sAt (V m c main_arg0) (V m c main_arg1) (V m c main_v8) (V m c main_v11) (V m c main_arg5) (V m c main_arg6) (V m c main_v9) (i 0) (i 1) (i 2) := by
  refine (dats m 0 c).arrAt_eq_of_covers 10 _ (by decide +kernel) fun t hf y => ?_
  blk_simp
  rw [after0_10]
  have e : (win0_10.blk t).view.emb y 0 = grid0.coords t 0 := Fin.ext (emb10_0 t y)
  refine (congrArg _ (blk_ix y)).trans ?_
  refine (blk_x _ _ _ _ _ _ _ _ _ _ _ (y 1) (y 2)).trans ?_
  rw [e]
  exact congr (mid m c t (y 1) _ (emb10_1 t y)) (Fin.ext (emb10_2 t y).symm)

theorem final_q (c : Dev nD) : (dats m 0 c).arrAt 11 cfg0.N = fun i : S4x8448x1024.Idx => pAt (V m c main_arg0) (V m c main_arg1) (V m c main_v8) (V m c main_v11) (V m c main_arg5) (V m c main_arg6) (V m c main_v9) (V m c main_v12) (V m c main_v10) (i 0) (i 1) (col 0 (i 2)) * Ideal.ofBits .f32 0x3E38AA3B#32 := by
  refine (dats m 0 c).arrAt_eq_of_covers 11 _ (by decide +kernel) fun t hf y => ?_
  blk_simp
  rw [after0_11]
  have e : (win0_11.blk t).view.emb y 0 = grid0.coords t 0 := Fin.ext (emb11_0 t y)
  refine (congrArg _ (blk_ix y)).trans ?_
  refine (blk_q _ _ _ _ _ _ _ _ _ _ _ (y 1) (y 2)).trans ?_
  rw [e]
  rw [proj m c t (y 1) _ (emb11_1 t y), show (win0_11.blk t).view.emb y 2 = y 2 from Fin.ext (emb11_2 t y)]

theorem final_k (c : Dev nD) : (dats m 0 c).arrAt 12 cfg0.N = fun i : S4x8448x1024.Idx => pAt (V m c main_arg0) (V m c main_arg1) (V m c main_v8) (V m c main_v11) (V m c main_arg5) (V m c main_arg6) (V m c main_v9) (V m c main_v12) (V m c main_v10) (i 0) (i 1) (col 1 (i 2)) := by
  refine (dats m 0 c).arrAt_eq_of_covers 12 _ (by decide +kernel) fun t hf y => ?_
  blk_simp
  rw [after0_12]
  have e : (win0_12.blk t).view.emb y 0 = grid0.coords t 0 := Fin.ext (emb12_0 t y)
  refine (congrArg _ (blk_ix y)).trans ?_
  refine (blk_k _ _ _ _ _ _ _ _ _ _ _ (y 1) (y 2)).trans ?_
  rw [e]
  rw [proj m c t (y 1) _ (emb12_1 t y), show (win0_12.blk t).view.emb y 2 = y 2 from Fin.ext (emb12_2 t y)]

theorem final_g (c : Dev nD) : (dats m 0 c).arrAt 14 cfg0.N = fun i : S4x8448x1024.Idx => silu (pAt (V m c main_arg0) (V m c main_arg1) (V m c main_v8) (V m c main_v11) (V m c main_arg5) (V m c main_arg6) (V m c main_v9) (V m c main_v12) (V m c main_v10) (i 0) (i 1) (col 3 (i 2))) := by
  refine (dats m 0 c).arrAt_eq_of_covers 14 _ (by decide +kernel) fun t hf y => ?_
  blk_simp
  rw [after0_14]
  have e : (win0_14.blk t).view.emb y 0 = grid0.coords t 0 := Fin.ext (emb14_0 t y)
  refine (congrArg _ (blk_ix y)).trans ?_
  refine (blk_g _ _ _ _ _ _ _ _ _ _ _ (y 1) (y 2)).trans ?_
  rw [e]
  rw [proj m c t (y 1) _ (emb14_1 t y), show (win0_14.blk t).view.emb y 2 = y 2 from Fin.ext (emb14_2 t y)]

theorem final_v (c : Dev nD) : (dats m 0 c).arrAt 13 cfg0.N
    = fun i : S4x33x1024x256.Idx => pAt (V m c main_arg0) (V m c main_arg1) (V m c main_v8) (V m c main_v11) (V m c main_arg5) (V m c main_arg6) (V m c main_v9) (V m c main_v12) (V m c main_v10) (i 0) (Fin.ofNat 8448 (256 * (i 1).val + (i 3).val)) (col 2 (i 2)) := by
  refine (dats m 0 c).arrAt_eq_of_covers 13 _ (by decide +kernel) fun t hf y => ?_
  blk_simp
  rw [after0_13]
  have e : (win0_13.blk t).view.emb y 0 = grid0.coords t 0 := Fin.ext (emb13_0 t y)
  have hR : (Fin.ofNat 8448 (256 * ((win0_13.blk t).view.emb y 1).val + ((win0_13.blk t).view.emb y 3).val)).val = 256 * (grid0.coords t 1).val + (y 3).val := by
    have ht : (grid0.coords t 1).val < 33 := (grid0.coords t 1).isLt
    have h3 : (y 3).val < 256 := (y 3).isLt
    rw [emb13_1, emb13_3]
    show (256 * (grid0.coords t 1).val + (y 3).val) % 8448 = _
    omega
  refine (blk_v _ _ _ _ _ _ _ _ _ _ _ y).trans ?_
  rw [e]
  rw [proj m c t (y 3) _ hR, show (win0_13.blk t).view.emb y 2 = y 2 from Fin.ext (emb13_2 t y)]
  congr 1
  refine Fin.ext (hR.trans ?_)
  rw [index13]
  have ht : (grid0.coords t 1).val < 33 := (grid0.coords t 1).isLt
  have h3 : (y 3).val < 256 := (y 3).isLt
  show _ = (256 * (grid0.coords t 1).val + (0 * 256 + (y 3).val)) % 8448
  omega

end Cert.Kernel4Ideal.Tile

end
-- ==== Proof.Meet4.lean ====
/- The neighbourhood layer's projections: the call's arrays in terms of the program's arguments, and its results against the reference's. -/
module

public import proofs.«01_k».proof.Proof.Tile4
public import proofs.«01_k».proof.Proof.Meet3

@[expose] public section

set_option maxRecDepth 16384

noncomputable section

namespace Cert.Kernel4Ideal.Host

open Cert.Kernel4Ideal Cert.Kernel4Ideal.Gen Cert.Kernel4Ideal.Block Cert.Kernel4Ideal.Tile Idealize.ShloMosaic Idealize.ShloMosaic.TcCoe Idealize.SL.Sem
open Cert.Kernel3Ideal.Block (added)
open Cert.Kernel3Ideal.Host (cat act act_apply)
open Cert.Reference3Ideal.Line (silu)
open Cert.Reference4Ideal.Line (rowOf who md lineS lineH lineP projR)
open scoped BigOperators

/-- A row of latents then context. -/
theorem cat_row (a : FVec Ideal S4x8192x1024 .f32) (c : FVec Ideal S4x256x1024 .f32) (b : Fin 4) (R : Fin 8448) (k : Fin 1024) :
    cat a c (ix3 b R k) = rowOf a c b R k := by
  unfold cat
  pointwise
  unfold rowOf
  by_cases h : R.val < 8192
  · simp only [dif_pos h]
  · simp only [dif_neg h]

/-- The modulation's component `k` of third `j` in the table of rows. -/
theorem mod_apply (x : FVec Ideal S4x8x3072 .f32) (l : Fin 4) (q : Fin 8) (n : Nat) (hn : n = 8 * l.val + q.val) (j : Fin 3) (k : Fin 1024) :
    shapeCast S32x3x1024 x shapeCasts_S4x8x3072_S32x3x1024 (ix3 (Fin.ofNat 32 n) j k) = md x l q j k := by
  subst hn
  refine shapeCast_apply x _ _ _ ?_
  have := l.isLt
  have := q.isLt
  have := j.isLt
  have := k.isLt
  rw [Shape.rowMajor_val_three, Shape.rowMajor_val_three]
  show (l.val * 8 + q.val) * 3072 + (1024 * j.val + k.val) % 3072 = ((8 * l.val + q.val) % 32 * 3 + j.val) * 1024 + k.val
  omega

theorem gain_apply (x : FVec Ideal S1024 .f32) (y : Fin 1024) : shapeCast S1x1024 x shapeCasts_S1024_S1x1024 (ix2 0 y) = x (ix1 y) := by
  pointwise

section Entry
variable (m : (ℓ : Loc nD τ sig) → Buf (Elt Ideal) ℓ) (c : Dev nD)

theorem V_g : V m c main_v8 = act (cat (m ((c : Thread nD τ).loc main_arg2)) (m ((c : Thread nD τ).loc main_arg3))) := by
  entry_read
  rfl
theorem V_m : V m c main_v9 = shapeCast S32x3x1024 (m ((c : Thread nD τ).loc main_arg7)) shapeCasts_S4x8x3072_S32x3x1024 := by
  entry_read
  rfl
theorem V_wi : V m c main_v10 = m ((c : Thread nD τ).loc main_arg9) := by
  entry_read
  rfl
theorem V_w : V m c main_v11 = m ((c : Thread nD τ).loc main_arg4) := by
  entry_read
  rfl
theorem V_n : V m c main_v12 = shapeCast S1x1024 (m ((c : Thread nD τ).loc main_arg8)) shapeCasts_S1024_S1x1024 := by
  entry_read
  rfl

end Entry

section Meet
variable (x0 : FVec Ideal S4x8192x1024 .bf16) (x1 : FVec Ideal S4x256x1024 .bf16) (x2 x5 : FVec Ideal S4x8192x1024 .f32) (x3 x6 : FVec Ideal S4x256x1024 .f32)
  (x4 : FVec Ideal S1024x1024 .f32) (x7 : FVec Ideal S4x8x3072 .f32) (x8 : FVec Ideal S1024 .f32) (x9 : FVec Ideal S1024x4096 .f32)

theorem meet_s (b : Fin 4) (R : Fin 8448) :
    sAt x0 x1 (act (cat x2 x3)) x4 x5 x6 (shapeCast S32x3x1024 x7 shapeCasts_S4x8x3072_S32x3x1024) b R
      = lineS x4 x7 (rowOf x0 x1 b R) (rowOf x2 x3 b R) (rowOf x5 x6 b R) (who b R) := by
  funext d
  unfold sAt lineS
  simp only [act_apply, cat_row, fun k => mod_apply x7 0 (who b R) (who b R).val (by simp) 2 k]

theorem meet_h (b : Fin 4) (R : Fin 8448) :
    hAt x0 x1 (act (cat x2 x3)) x4 x5 x6 (shapeCast S32x3x1024 x7 shapeCasts_S4x8x3072_S32x3x1024) (shapeCast S1x1024 x8 shapeCasts_S1024_S1x1024) b R
      = lineH x4 x7 x8 (rowOf x0 x1 b R) (rowOf x2 x3 b R) (rowOf x5 x6 b R) (who b R) := by
  funext d
  unfold hAt lineH
  rw [meet_s]
  simp only [gain_apply, fun j k => mod_apply x7 1 (who b R) (8 + (who b R).val) (by simp) j k]

theorem meet_p (b : Fin 4) (R : Fin 8448) (e : Fin 4096) :
    pAt x0 x1 (act (cat x2 x3)) x4 x5 x6 (shapeCast S32x3x1024 x7 shapeCasts_S4x8x3072_S32x3x1024) (shapeCast S1x1024 x8 shapeCasts_S1024_S1x1024) x9 b R e
      = projR x0 x1 x2 x5 x3 x6 x4 x7 x8 x9 b R e := by
  unfold pAt projR lineP
  rw [meet_h]

end Meet

end Cert.Kernel4Ideal.Host

end
-- ==== Proof.Block5.lean ====
/- What one grid point of the last layer's projection call writes, element by element. -/
module

public import proofs.«01_k».proof.Proof.Gen.Kernel5Ideal.Frame
public import proofs.«01_k».proof.Proof.Block4
public import Idealize.ShloMosaic.Lib.Pipeline.Value
public import Idealize.ShloMosaic.Lib.Pipeline.ReadBack
public import Idealize.ShloMosaic.Lib.Pipeline.ValueKit
public import Idealize.ShloMosaic.Lib.Pointwise
public import Idealize.ShloMosaic.Lib.KernelVsHost

@[expose] public section

set_option maxRecDepth 16384

noncomputable section

namespace Cert.Kernel5Ideal.Block

open Cert.Kernel5Ideal Cert.Kernel5Ideal.Gen Idealize.ShloMosaic.Pipeline Idealize.ShloMosaic Idealize.ShloMosaic.TcCoe Idealize.SL.Sem
open Cert.Kernel3Ideal.Block (normed added)
open Cert.Kernel4Ideal.Block (hid dotp sel strip)
open Cert.Reference3Ideal.Line (silu)
open scoped BigOperators

/-! ### One head: its norm and its rotation -/

/-- A head's row normed, times the gain. -/
def headed (v g : Fin 128 → EReal) (e : Fin 128) : EReal :=
  v e * Ideal.rsqrt (Ideal.div (∑ k : Fin 128, v k * v k) (Ideal.ofBits .f32 0x43000000#32) + Ideal.ofBits .f32 0x358637BD#32) * g e

/-- The lane a quarter further, around the end. -/
def up (e : Fin 128) : Fin 128 := ⟨(e.val + 32) % 128, by omega⟩
/-- The lane a quarter back, around the end. -/
def down (e : Fin 128) : Fin 128 := ⟨(e.val + 96) % 128, by omega⟩

/-- A head's row rotated by the three tables. -/
def turn (h c u d : Fin 128 → EReal) (e : Fin 128) : EReal :=
  h e * c e + h (up e) * u e + h (down e) * d e

/-- The head of a column. -/
def hd (y : Fin 1024) : Fin 8 := ⟨y.val / 128, by omega⟩
/-- The lane of a column. -/
def lane (y : Fin 1024) : Fin 128 := ⟨y.val % 128, by omega⟩
/-- Column `e` of key head `n`. -/
def half (n : Fin 2) (e : Fin 128) : Fin 256 := ⟨128 * n.val + e.val, by omega⟩
/-- The key head of a column. -/
def hd2 (y : Fin 256) : Fin 2 := ⟨y.val / 128, by omega⟩
/-- The lane of a key's column. -/
def lane2 (y : Fin 256) : Fin 128 := ⟨y.val % 128, by omega⟩

/-- Column `y` of the queries. -/
def cq (y : Fin 1024) : Fin 2560 := ⟨y.val, by omega⟩
/-- Column `y` of the keys. -/
def ck (y : Fin 256) : Fin 2560 := ⟨1024 + y.val, by omega⟩
/-- Column `y` of the values. -/
def cv (y : Fin 256) : Fin 2560 := ⟨1280 + y.val, by omega⟩
/-- Column `y` of the gate. -/
def cg (y : Fin 1024) : Fin 2560 := ⟨1536 + y.val, by omega⟩

/-- A query's component, from its projected row. -/
def headQ (p : Fin 2560 → EReal) (g c u d : Fin 128 → EReal) (y : Fin 1024) : EReal :=
  turn (headed (fun e => p (cq (strip (hd y) e))) g) c u d (lane y) * Ideal.ofBits .f32 0x3E0293EE#32

/-- A key's component, from its projected row. -/
def headK (p : Fin 2560 → EReal) (g c u d : Fin 128 → EReal) (y : Fin 256) : EReal :=
  turn (headed (fun e => p (ck (half (hd2 y) e))) g) c u d (lane2 y)

theorem hd_strip (n : Fin 8) (e : Fin 128) : hd (strip n e) = n := Fin.ext (by show (128 * n.val + e.val) / 128 = n.val; omega)
theorem lane_strip (n : Fin 8) (e : Fin 128) : lane (strip n e) = e := Fin.ext (by show (128 * n.val + e.val) % 128 = e.val; omega)
theorem hd_half (n : Fin 2) (e : Fin 128) : hd2 (half n e) = n := Fin.ext (by show (128 * n.val + e.val) / 128 = n.val; omega)
theorem lane_half (n : Fin 2) (e : Fin 128) : lane2 (half n e) = e := Fin.ext (by show (128 * n.val + e.val) % 128 = e.val; omega)

theorem headQ_strip (p : Fin 2560 → EReal) (g c u d : Fin 128 → EReal) (n : Fin 8) (e : Fin 128) :
    headQ p g c u d (strip n e) = turn (headed (fun e => p (cq (strip n e))) g) c u d e * Ideal.ofBits .f32 0x3E0293EE#32 := by
  unfold headQ
  rw [hd_strip, lane_strip]
theorem headK_half (p : Fin 2560 → EReal) (g c u d : Fin 128 → EReal) (n : Fin 2) (e : Fin 128) :
    headK p g c u d (half n e) = turn (headed (fun e => p (ck (half n e))) g) c u d e := by
  unfold headK
  rw [hd_half, lane_half]

/-- The rotation of a block of rows. -/
def roped (x c u d : FVec Ideal S256x128 .f32) : FVec Ideal S256x128 .f32 :=
  addf (addf (mulf x c) (mulf (dynamicRotate 1 96#32 none x rotates_S256x128_d1) u)) (mulf (dynamicRotate 1 32#32 none x rotates_S256x128_d1) d)

/-- The inverse root mean square of a block's rows. -/
def root (x : FVec Ideal S256x128 .f32) : FVec Ideal S256x1 .f32 :=
  rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))

/-- The norm of a block of rows. -/
def scaled (x : FVec Ideal S256x128 .f32) (g : Vec Ideal S1x128 .f32) : FVec Ideal S256x128 .f32 :=
  mulf (mulf x (broadcastTo S256x128 (root x) broadcasts_S256x1_S256x128)) (broadcastTo S256x128 (shapeCast S1x128 g shapeCasts_S1x128_S1x128) broadcasts_S1x128_S256x128)

/-- A block of rows as it is stored. -/
def wrap (x : FVec Ideal S256x128 .f32) : FVec Ideal S1x256x128 .bf16 :=
  shapeCast S1x256x128 (truncf .bf16 x bitsLt_bf16_f32) shapeCasts_S256x128_S1x256x128

theorem roped_apply (x c u d : FVec Ideal S256x128 .f32) (r : Fin 256) (e : Fin 128) :
    roped x c u d (ix2 r e) = turn (fun k => x (ix2 r k)) (fun k => c (ix2 r k)) (fun k => u (ix2 r k)) (fun k => d (ix2 r k)) e := by
  have h96 : dynamicRotate 1 96#32 none x rotates_S256x128_d1 (ix2 r e) = x (ix2 r (up e)) := by
    refine Idealize.ShloMosaic.dynamicRotate_apply _ _ _ _ _ _ fun b => ?_
    have := e.isLt
    match b with
    | ⟨0, _⟩ => rfl
    | ⟨1, _⟩ => show (e.val + 32) % 128 = (e.val + 128 - 96 % 128) % 128; omega
  have h32 : dynamicRotate 1 32#32 none x rotates_S256x128_d1 (ix2 r e) = x (ix2 r (down e)) := by
    refine Idealize.ShloMosaic.dynamicRotate_apply _ _ _ _ _ _ fun b => ?_
    have := e.isLt
    match b with
    | ⟨0, _⟩ => rfl
    | ⟨1, _⟩ => show (e.val + 96) % 128 = (e.val + 128 - 32 % 128) % 128; omega
  unfold roped turn
  show x (ix2 r e) * c (ix2 r e) + dynamicRotate 1 96#32 none x rotates_S256x128_d1 (ix2 r e) * u (ix2 r e) + dynamicRotate 1 32#32 none x rotates_S256x128_d1 (ix2 r e) * d (ix2 r e) = _
  rw [h96, h32]

theorem scaled_apply (x : FVec Ideal S256x128 .f32) (g : Vec Ideal S1x128 .f32) (r : Fin 256) (e : Fin 128) :
    scaled x g (ix2 r e) = headed (fun k => x (ix2 r k)) (fun k => g (ix2 0 k)) e := by
  unfold scaled root
  pointwise
  rfl

theorem wrap_apply (x : FVec Ideal S256x128 .f32) (r : Fin 256) (e : Fin 128) : wrap x (ix3 0 r e) = x (ix2 r e) := by
  unfold wrap
  pointwise

/-- A query head's stored block. -/
def unitQ (c u d x : FVec Ideal S256x128 .f32) (g : Vec Ideal S1x128 .f32) : FVec Ideal S1x256x128 .bf16 :=
  wrap (mulf (roped (scaled x g) c u d) (broadcast S256x128 (Scalar.ofBits .f32 0x3E0293EE#32)))

/-- A key head's stored block. -/
def unitK (c u d x : FVec Ideal S256x128 .f32) (g : Vec Ideal S1x128 .f32) : FVec Ideal S1x256x128 .bf16 :=
  wrap (roped (scaled x g) c u d)

theorem unitK_apply (c u d x : FVec Ideal S256x128 .f32) (g : Vec Ideal S1x128 .f32) (r : Fin 256) (e : Fin 128) :
    unitK c u d x g (ix3 0 r e) = turn (headed (fun k => x (ix2 r k)) (fun k => g (ix2 0 k))) (fun k => c (ix2 r k)) (fun k => u (ix2 r k)) (fun k => d (ix2 r k)) e := by
  unfold unitK
  rw [wrap_apply, roped_apply]
  simp only [scaled_apply]

theorem unitQ_apply (c u d x : FVec Ideal S256x128 .f32) (g : Vec Ideal S1x128 .f32) (r : Fin 256) (e : Fin 128) :
    unitQ c u d x g (ix3 0 r e)
      = turn (headed (fun k => x (ix2 r k)) (fun k => g (ix2 0 k))) (fun k => c (ix2 r k)) (fun k => u (ix2 r k)) (fun k => d (ix2 r k)) e * Ideal.ofBits .f32 0x3E0293EE#32 := by
  unfold unitQ
  rw [wrap_apply]
  show roped (scaled x g) c u d (ix2 r e) * _ = _
  rw [roped_apply]
  simp only [scaled_apply]
  rfl

/-! ### The payloads -/

section Pay
variable (c u d : FVec Ideal S256x128 .f32) (p : FVec Ideal S256x1024 .f32) (h : FVec Ideal S256x1024 .bf16) (w : Vec Ideal S1024x256 .bf16) (g : Vec Ideal S1x128 .f32)

theorem pay_q0 (a : FVec Ideal S256x1024 .f32) (b : FVec Ideal S1x1024 .f32) (s : Vec Ideal S1x1x1024 .f32) (n : Vec Ideal S1x1024 .f32) (v : Vec Ideal S1024x1024 .bf16) :
    k0_pay13 c u d (k0_pay11 a b s n v) (k0_pay12 a b s n v) g = unitQ c u d (extractStridedSlice S256x128 ![0, 0] (k0_pay10 a b s n v) slices_S256x1024_o0_0_S256x128) g := rfl
theorem pay_q1 : k0_pay15 (k0_pay14 c u d p g) = unitQ c u d (extractStridedSlice S256x128 ![0, 128] p slices_S256x1024_o0_128_S256x128) g := rfl
theorem pay_q2 : k0_pay16 c u d p g = unitQ c u d (extractStridedSlice S256x128 ![0, 256] p slices_S256x1024_o0_256_S256x128) g := rfl
theorem pay_q3 : k0_pay19 c u d (k0_pay17 p) (k0_pay18 p) g = unitQ c u d (extractStridedSlice S256x128 ![0, 384] p slices_S256x1024_o0_384_S256x128) g := rfl
theorem pay_q4 : k0_pay21 (k0_pay20 c u d p g) = unitQ c u d (extractStridedSlice S256x128 ![0, 512] p slices_S256x1024_o0_512_S256x128) g := rfl
theorem pay_q5 : k0_pay22 c u d p g = unitQ c u d (extractStridedSlice S256x128 ![0, 640] p slices_S256x1024_o0_640_S256x128) g := rfl
theorem pay_q6 : k0_pay25 c u d (k0_pay23 p) (k0_pay24 p) g = unitQ c u d (extractStridedSlice S256x128 ![0, 768] p slices_S256x1024_o0_768_S256x128) g := rfl
theorem pay_q7 : k0_pay27 (k0_pay26 c u d p g) = unitQ c u d (extractStridedSlice S256x128 ![0, 896] p slices_S256x1024_o0_896_S256x128) g := rfl
theorem pay_k0 : k0_pay29 h c u d w g = unitK c u d (extractStridedSlice S256x128 ![0, 0] (k0_pay28 h w) slices_S256x256_o0_0_S256x128) g := rfl
theorem pay_k1 : k0_pay32 c u d (k0_pay30 h w) (k0_pay31 h w) (Scalar.ofBits .f32 0x358637BD#32) g
    = unitK c u d (extractStridedSlice S256x128 ![0, 128] (k0_pay28 h w) slices_S256x256_o0_128_S256x128) g := rfl

theorem cut_q (n : Fin 8) (o : Nat) (ho : o = 128 * n.val) (s) (r : Fin 256) (e : Fin 128) :
    extractStridedSlice S256x128 ![0, o] p s (ix2 r e) = p (ix2 r (strip n e)) := by
  subst ho
  pointwise
  exact congrArg (fun k => p (ix2 r k)) (Fin.ext rfl)

theorem cut_k (q : FVec Ideal S256x256 .f32) (n : Fin 2) (o : Nat) (ho : o = 128 * n.val) (s) (r : Fin 256) (e : Fin 128) :
    extractStridedSlice S256x128 ![0, o] q s (ix2 r e) = q (ix2 r (half n e)) := by
  subst ho
  pointwise
  exact congrArg (fun k => q (ix2 r k)) (Fin.ext rfl)

end Pay

/-- Row `q` of a block of three rows. -/
def mrow (x : Vec Ideal S1x3x1024 .f32) (q : Fin 3) : Vec Ideal S1x1x1024 .f32 :=
  fun j => x (ix3 0 q (j 2))

/-- The stream after the addition, of the rows a grid point reads. -/
def stream (o g : Vec Ideal S1x256x1024 .bf16) (x : Vec Ideal S1x256x1024 .f32) (m : Vec Ideal S1x3x1024 .f32) (w : Vec Ideal S1024x1024 .bf16) (r : Fin 256) (d : Fin 1024) : EReal :=
  added (fun k => o (ix3 0 r k)) (fun k => g (ix3 0 r k)) (fun k => x (ix3 0 r k)) (fun k => m (ix3 0 2 k)) (fun k e => w (ix2 k e)) d

theorem lin_apply (i : grid0.Coords) (x : Vec Ideal S1x256x1024 .f32) (oc ol g : Vec Ideal S1x256x1024 .bf16) (m : Vec Ideal S1x3x1024 .f32) (w : Vec Ideal S1024x1024 .bf16)
    (r : Fin 256) (d : Fin 1024) :
    k0_pay2 i x oc ol g (mrow m 2) w (ix2 r d) = stream (if 32 ≤ (i 1).val then oc else ol) g x m w r d := by
  unfold k0_pay2
  have s2 := fun (a b : FVec Ideal S256x1024 .bf16) => sel (i 1) a b
  simp only [s2]
  by_cases h : 32 ≤ (i 1).val
  · simp only [if_pos h]
    pointwise
    unfold stream added mrow
    rfl
  · simp only [if_neg h]
    pointwise
    unfold stream added mrow
    rfl

theorem norm_apply (v : FVec Ideal S256x1024 .f32) (m : Vec Ideal S1x3x1024 .f32) (ng : Vec Ideal S1x1024 .f32) (r : Fin 256) (d : Fin 1024) :
    k0_pay6 v (k0_pay5 (mrow m 0)) (mrow m 1) ng (ix2 r d)
      = hid (fun e => v (ix2 r e)) (fun e => ng (ix2 0 e)) (fun e => m (ix3 0 0 e)) (fun e => m (ix3 0 1 e)) d := by
  unfold k0_pay6 k0_pay5
  pointwise
  unfold hid normed mrow
  rfl

theorem same (i : grid0.Coords) (x : Vec Ideal S1x256x1024 .f32) (oc ol g : Vec Ideal S1x256x1024 .bf16) (m : Vec Ideal S1x1x1024 .f32) (w : Vec Ideal S1024x1024 .bf16) :
    k0_pay4 i x oc ol g m w = k0_pay2 i x oc ol g m w := by
  unfold k0_pay4
  exact (sel (i 1) _ _).trans (ite_self _)

theorem out_q (a : FVec Ideal S256x1024 .f32) (b : FVec Ideal S1x1024 .f32) (s : Vec Ideal S1x1x1024 .f32) (n : Vec Ideal S1x1024 .f32) (w : Vec Ideal S1024x1024 .bf16) (r : Fin 256) (y : Fin 1024) :
    k0_pay10 a b s n w (ix2 r y) = dotp (fun k => k0_pay6 a b s n (ix2 r k)) (fun k => w (ix2 k y)) := by
  unfold k0_pay10
  generalize k0_pay6 a b s n = h
  pointwise
  rfl

theorem out_k (h : FVec Ideal S256x1024 .bf16) (w : Vec Ideal S1024x256 .bf16) (r : Fin 256) (y : Fin 256) :
    k0_pay28 h w (ix2 r y) = dotp (fun k => h (ix2 r k)) (fun k => w (ix2 k y)) := by
  unfold k0_pay28
  pointwise
  rfl

theorem out_v (h : FVec Ideal S256x1024 .bf16) (w : Vec Ideal S1024x256 .bf16) (r : Fin 256) (y : Fin 256) :
    k0_pay33 h w (ix2 r y) = dotp (fun k => h (ix2 r k)) (fun k => w (ix2 k y)) := by
  unfold k0_pay33
  pointwise
  rfl

theorem out_g (h : FVec Ideal S256x1024 .bf16) (w : Vec Ideal S1024x1024 .bf16) (r : Fin 256) (y : Fin 1024) :
    k0_pay1 h (k0_pay36 w) (ix3 0 r y) = silu (dotp (fun k => h (ix2 r k)) (fun k => w (ix2 k y))) := by
  unfold k0_pay1 k0_pay36
  pointwise
  unfold silu dotp
  rw [zero_sub, Ideal.ofBits_one_f32]

theorem slab0 (h : FVec Ideal S256x1024 .bf16) (w : Vec Ideal S1024x256 .bf16) (y : Fin 128) (r : Fin 256) :
    k0_pay34 h w (ix4 0 0 y r) = k0_pay33 h w (ix2 r (half 0 y)) := by
  unfold k0_pay34
  generalize k0_pay33 h w = p
  pointwise
  exact congrArg (fun e => p (ix2 r e)) (Fin.ext (by show _ = 128 * 0 + y.val; first | rfl | omega | simp))
theorem slab1 (h : FVec Ideal S256x1024 .bf16) (w : Vec Ideal S1024x256 .bf16) (y : Fin 128) (r : Fin 256) :
    k0_pay35 h w (ix4 0 0 y r) = k0_pay33 h w (ix2 r (half 1 y)) := by
  unfold k0_pay35
  generalize k0_pay33 h w = p
  pointwise
  exact congrArg (fun e => p (ix2 r e)) (Fin.ext (by show _ = 128 * 1 + y.val; first | rfl | omega | simp))

/-! ### The blocks a grid point writes -/

section Out
variable (i : grid0.Coords) (x0 x1 x2 : Vec Ideal S1x256x1024 .bf16) (x3 : Vec Ideal S1024x1024 .bf16) (x4 : Vec Ideal S1x256x1024 .f32) (x5 x6 : Vec Ideal S1x3x1024 .f32)
  (x7 : Vec Ideal S1x1024 .f32) (x8 : Vec Ideal S1024x2560 .bf16) (x9 x10 : Vec Ideal S1x128 .f32) (x11 x12 x13 : Vec Ideal S256x128 .f32)

/-- Row `r` of the stream at a grid point. -/
def srow (r : Fin 256) : Fin 1024 → EReal :=
  stream (if 32 ≤ (i 1).val then x1 else x0) x2 x4 x5 x3 r

/-- Row `r` after the norm and the modulation. -/
def hrow (r : Fin 256) : Fin 1024 → EReal :=
  hid (srow i x0 x1 x2 x3 x4 x5 r) (fun e => x7 (ix2 0 e)) (fun e => x6 (ix3 0 0 e)) (fun e => x6 (ix3 0 1 e))

/-- Row `r` projected onto column `e`. -/
def prow (r : Fin 256) (e : Fin 2560) : EReal :=
  dotp (hrow i x0 x1 x2 x3 x4 x5 x6 x7 r) fun k => x8 (ix2 k e)

/-- Row `r` of the queries. -/
def qrow (r : Fin 256) (y : Fin 1024) : EReal :=
  headQ (prow i x0 x1 x2 x3 x4 x5 x6 x7 x8 r) (fun k => x9 (ix2 0 k)) (fun k => x11 (ix2 r k)) (fun k => x12 (ix2 r k)) (fun k => x13 (ix2 r k)) y

/-- Row `r` of the keys. -/
def krow (r : Fin 256) (y : Fin 256) : EReal :=
  headK (prow i x0 x1 x2 x3 x4 x5 x6 x7 x8 r) (fun k => x10 (ix2 0 k)) (fun k => x11 (ix2 r k)) (fun k => x12 (ix2 r k)) (fun k => x13 (ix2 r k)) y

theorem ld_row (x : Vec Ideal S1x3x1024 .f32) (o : Nat) (q : Fin 3) (h : o = q.val) (inb) :
    View.ld x (Rect.unit (s := S1x3x1024) ![0, o, 0] S1x1x1024.size inb) = mrow x q := by
  subst h
  funext j
  have hj0 : (j 0).val < 1 := (j 0).isLt
  have hj1 : (j 1).val < 1 := (j 1).isLt
  refine congrArg x (funext fun a => Fin.ext ?_)
  match a with
  | ⟨0, _⟩ => show 0 + 1 * (j 0).val = 0; omega
  | ⟨1, _⟩ => show q.val + 1 * (j 1).val = q.val; omega
  | ⟨2, _⟩ => show 0 + 1 * (j 2).val = (j 2).val; omega

theorem ld_cq (k y : Fin 1024) : View.ld x8 r0_7 (ix2 k y) = x8 (ix2 k (cq y)) := by
  refine congrArg x8 (funext fun a => Fin.ext ?_)
  match a with
  | ⟨0, _⟩ => show 0 + 1 * k.val = k.val; omega
  | ⟨1, _⟩ => show 0 + 1 * y.val = y.val; omega
theorem ld_ck (k : Fin 1024) (y : Fin 256) : View.ld x8 r0_17 (ix2 k y) = x8 (ix2 k (ck y)) := by
  refine congrArg x8 (funext fun a => Fin.ext ?_)
  match a with
  | ⟨0, _⟩ => show 0 + 1 * k.val = k.val; omega
  | ⟨1, _⟩ => show 1024 + 1 * y.val = 1024 + y.val; omega
theorem ld_cv (k : Fin 1024) (y : Fin 256) : View.ld x8 r0_20 (ix2 k y) = x8 (ix2 k (cv y)) := by
  refine congrArg x8 (funext fun a => Fin.ext ?_)
  match a with
  | ⟨0, _⟩ => show 0 + 1 * k.val = k.val; omega
  | ⟨1, _⟩ => show 1280 + 1 * y.val = 1280 + y.val; omega
theorem ld_cg (k y : Fin 1024) : View.ld x8 r0_23 (ix2 k y) = x8 (ix2 k (cg y)) := by
  refine congrArg x8 (funext fun a => Fin.ext ?_)
  match a with
  | ⟨0, _⟩ => show 0 + 1 * k.val = k.val; omega
  | ⟨1, _⟩ => show 1536 + 1 * y.val = 1536 + y.val; omega

theorem ld_all {e : EltTy} (x : Vec Ideal S1x256x1024 e) : View.ld x r0_0 = x := View.ld_unit_lit _ x (by decide)
theorem ld_w : View.ld x3 r0_2 = x3 := View.ld_unit_lit _ x3 (by decide)
theorem ld_n : View.ld x7 r0_5 = x7 := View.ld_unit_lit _ x7 (by decide)
theorem ld_t (x : Vec Ideal S256x128 .f32) : View.ld x r0_6 = x := View.ld_unit_lit _ x (by decide)
theorem ld_g (x : Vec Ideal S1x128 .f32) : View.ld x r0_8 = x := View.ld_unit_lit _ x (by decide)

theorem tab (x : Vec Ideal S256x128 .f32) (r : Fin 256) (e : Fin 128) : (shapeCast S256x128 x shapeCasts_S256x128_S256x128 : FVec Ideal S256x128 .f32) (ix2 r e) = x (ix2 r e) := by
  pointwise
theorem tab_c (r : Fin 256) (e : Fin 128) : k0_pay40 i x0 x1 x2 x3 x4 x5 x6 x7 x8 x9 x10 x11 x12 x13 (ix2 r e) = x11 (ix2 r e) :=
  (tab _ r e).trans (congrFun (ld_t x11) _)
theorem tab_u (r : Fin 256) (e : Fin 128) : k0_pay41 i x0 x1 x2 x3 x4 x5 x6 x7 x8 x9 x10 x11 x12 x13 (ix2 r e) = x12 (ix2 r e) :=
  (tab _ r e).trans (congrFun (ld_t x12) _)
theorem tab_d (r : Fin 256) (e : Fin 128) : k0_pay42 i x0 x1 x2 x3 x4 x5 x6 x7 x8 x9 x10 x11 x12 x13 (ix2 r e) = x13 (ix2 r e) :=
  (tab _ r e).trans (congrFun (ld_t x13) _)

theorem blk_hidden (r : Fin 256) (k : Fin 1024) : k0_pay6 (k0_pay37 i x0 x1 x2 x3 x4 x5 x6 x7 x8 x9 x10 x11 x12 x13) (k0_pay38 i x0 x1 x2 x3 x4 x5 x6 x7 x8 x9 x10 x11 x12 x13) (View.ld x6 r0_4) (View.ld x7 r0_5) (ix2 r k) = hrow i x0 x1 x2 x3 x4 x5 x6 x7 r k := by
  unfold k0_pay37 k0_pay38
  rw [ld_all, ld_all, ld_all, ld_all, ld_w, ld_n, ld_row x5 2 2 rfl, ld_row x6 0 0 rfl, ld_row x6 1 1 rfl, norm_apply, same]
  unfold hrow srow
  simp only [lin_apply]

theorem blk_pq (r : Fin 256) (y : Fin 1024) : k0_pay43 i x0 x1 x2 x3 x4 x5 x6 x7 x8 x9 x10 x11 x12 x13 (ix2 r y) = prow i x0 x1 x2 x3 x4 x5 x6 x7 x8 r (cq y) := by
  unfold k0_pay43
  rw [out_q]
  unfold prow
  simp only [blk_hidden]
  exact congrArg (dotp _) (funext fun k => ld_cq x8 k y)

theorem blk_pk (r : Fin 256) (y : Fin 256) : k0_pay28 (k0_pay39 i x0 x1 x2 x3 x4 x5 x6 x7 x8 x9 x10 x11 x12 x13) (View.ld x8 r0_17) (ix2 r y) = prow i x0 x1 x2 x3 x4 x5 x6 x7 x8 r (ck y) := by
  unfold k0_pay39
  rw [out_k]
  unfold prow
  simp only [blk_hidden]
  exact congrArg (dotp _) (funext fun k => ld_ck x8 k y)

theorem blk_pv (r : Fin 256) (y : Fin 256) : k0_pay33 (k0_pay39 i x0 x1 x2 x3 x4 x5 x6 x7 x8 x9 x10 x11 x12 x13) (View.ld x8 r0_20) (ix2 r y) = prow i x0 x1 x2 x3 x4 x5 x6 x7 x8 r (cv y) := by
  unfold k0_pay39
  rw [out_v]
  unfold prow
  simp only [blk_hidden]
  exact congrArg (dotp _) (funext fun k => ld_cv x8 k y)

/-- One whole-block store. -/
theorem one {e : EltTy} (p : Vec Ideal S1x256x1024 e) (cov : ∀ y : S1x256x1024.Idx, ∃ pc ∈ ([⟨r0_0, p⟩] : List (View.Piece (Elt Ideal) S1x256x1024 e)), y ∈ pc.1.set) (y : S1x256x1024.Idx) :
    View.canon [⟨r0_0, p⟩] y = p y := by
  refine View.canon_apply_of_pieces p _ ?_ y (cov y)
  refine View.PiecesOf.mem (Val := Elt Ideal) (e := e) (G := p) ?_
  refine And.intro ?_ trivial
  intro z
  refine congrArg p (funext fun a => Fin.ext ?_)
  match a with
  | ⟨0, _⟩ => show (z 0).val = 0 + 1 * (z 0).val; omega
  | ⟨1, _⟩ => show (z 1).val = 0 + 1 * (z 1).val; omega
  | ⟨2, _⟩ => show (z 2).val = 0 + 1 * (z 2).val; omega

theorem blk_x (r : Fin 256) (y : Fin 1024) : out0_14 i x0 x1 x2 x3 x4 x5 x6 x7 x8 x9 x10 x11 x12 x13 (ix3 0 r y) = srow i x0 x1 x2 x3 x4 x5 r y := by
  unfold out0_14
  rw [one _ (cover0_14 _)]
  rw [ld_all, ld_all, ld_all, ld_all, ld_w, ld_row x5 2 2 rfl]
  unfold k0_pay3
  have h := lin_apply i x4 x1 x0 x2 x5 x3 r y
  generalize k0_pay2 i x4 x1 x0 x2 (mrow x5 2) x3 = p at h ⊢
  pointwise
  exact h

theorem blk_g (r : Fin 256) (y : Fin 1024) : out0_18 i x0 x1 x2 x3 x4 x5 x6 x7 x8 x9 x10 x11 x12 x13 (ix3 0 r y) = silu (prow i x0 x1 x2 x3 x4 x5 x6 x7 x8 r (cg y)) := by
  unfold out0_18 k0_pay39
  rw [one _ (cover0_18 _), out_g]
  unfold prow
  simp only [blk_hidden]
  exact congrArg (fun z => silu (dotp _ z)) (funext fun k => ld_cg x8 k y)

theorem blk_uq (n : Fin 8) (o : Nat) (ho : o = 128 * n.val) (s) (r : Fin 256) (e : Fin 128) :
    unitQ (k0_pay40 i x0 x1 x2 x3 x4 x5 x6 x7 x8 x9 x10 x11 x12 x13) (k0_pay41 i x0 x1 x2 x3 x4 x5 x6 x7 x8 x9 x10 x11 x12 x13) (k0_pay42 i x0 x1 x2 x3 x4 x5 x6 x7 x8 x9 x10 x11 x12 x13) (extractStridedSlice S256x128 ![0, o] (k0_pay43 i x0 x1 x2 x3 x4 x5 x6 x7 x8 x9 x10 x11 x12 x13) s) (View.ld x9 r0_8) (ix3 0 r e)
      = qrow i x0 x1 x2 x3 x4 x5 x6 x7 x8 x9 x11 x12 x13 r (strip n e) := by
  rw [unitQ_apply, ld_g]
  unfold qrow
  rw [headQ_strip]
  simp only [tab_c, tab_u, tab_d, cut_q _ n o ho, blk_pq]

theorem blk_uk (n : Fin 2) (o : Nat) (ho : o = 128 * n.val) (s) (r : Fin 256) (e : Fin 128) :
    unitK (k0_pay40 i x0 x1 x2 x3 x4 x5 x6 x7 x8 x9 x10 x11 x12 x13) (k0_pay41 i x0 x1 x2 x3 x4 x5 x6 x7 x8 x9 x10 x11 x12 x13) (k0_pay42 i x0 x1 x2 x3 x4 x5 x6 x7 x8 x9 x10 x11 x12 x13) (extractStridedSlice S256x128 ![0, o] (k0_pay28 (k0_pay39 i x0 x1 x2 x3 x4 x5 x6 x7 x8 x9 x10 x11 x12 x13) (View.ld x8 r0_17)) s) (View.ld x10 r0_8) (ix3 0 r e)
      = krow i x0 x1 x2 x3 x4 x5 x6 x7 x8 x10 x11 x12 x13 r (half n e) := by
  rw [unitK_apply, ld_g]
  unfold krow
  rw [headK_half]
  simp only [tab_c, tab_u, tab_d, cut_k _ n o ho, blk_pk]

theorem row_ix (z : S1x256x128.Idx) : z = ix3 0 (z 1) (z 2) := by
  refine (eq_ix3 (n0 := 1) (n1 := 256) (n2 := 128) z).trans ?_
  exact congrArg (fun w => ix3 w (z 1) (z 2)) (Subsingleton.elim (α := Fin 1) _ _)

theorem row_emb (n : Fin 8) (o : Nat) (ho : o = 128 * n.val) (inb) (G : Fin 256 → Fin 1024 → EReal) (z : S1x256x128.Idx) :
    G (z 1) (strip n (z 2)) = (fun y : S1x256x1024.Idx => G (y 1) (y 2)) ((Rect.unit (s := S1x256x1024) ![0, 0, o] S1x256x128.size inb).emb z) := by
  subst ho
  refine congrArg₂ G (Fin.ext ?_) (Fin.ext ?_)
  · show (z 1).val = 0 + 1 * (z 1).val
    omega
  · show 128 * n.val + (z 2).val = 128 * n.val + 1 * (z 2).val
    omega

theorem row_emb2 (n : Fin 2) (o : Nat) (ho : o = 128 * n.val) (inb) (G : Fin 256 → Fin 256 → EReal) (z : S1x256x128.Idx) :
    G (z 1) (half n (z 2)) = (fun y : S1x256x256.Idx => G (y 1) (y 2)) ((Rect.unit (s := S1x256x256) ![0, 0, o] S1x256x128.size inb).emb z) := by
  subst ho
  refine congrArg₂ G (Fin.ext ?_) (Fin.ext ?_)
  · show (z 1).val = 0 + 1 * (z 1).val
    omega
  · show 128 * n.val + (z 2).val = 128 * n.val + 1 * (z 2).val
    omega

theorem slab_ix (z : S1x1x128x256.Idx) : z = ix4 0 0 (z 2) (z 3) := by
  refine (eq_ix4 (n0 := 1) (n1 := 1) (n2 := 128) (n3 := 256) z).trans ?_
  exact congrArg₂ (fun w w' => ix4 w w' (z 2) (z 3)) (Subsingleton.elim (α := Fin 1) _ _) (Subsingleton.elim (α := Fin 1) _ _)

theorem slab_emb (n : Fin 2) (o : Nat) (ho : o = 128 * n.val) (inb) (G : Fin 256 → Fin 256 → EReal) (z : S1x1x128x256.Idx) :
    G (z 3) (half n (z 2)) = (fun y : S1x1x256x256.Idx => G (y 3) (y 2)) ((Rect.unit (s := S1x1x256x256) ![0, 0, o, 0] S1x1x128x256.size inb).emb z) := by
  subst ho
  refine congrArg₂ G (Fin.ext ?_) (Fin.ext ?_)
  · show (z 3).val = 0 + 1 * (z 3).val
    omega
  · show 128 * n.val + (z 2).val = 128 * n.val + 1 * (z 2).val
    omega

theorem blk_q (y : S1x256x1024.Idx) : out0_15 i x0 x1 x2 x3 x4 x5 x6 x7 x8 x9 x10 x11 x12 x13 y = qrow i x0 x1 x2 x3 x4 x5 x6 x7 x8 x9 x11 x12 x13 (y 1) (y 2) := by
  unfold out0_15
  refine View.canon_apply_of_pieces (Val := Elt Ideal) (e := .bf16) (fun y : S1x256x1024.Idx => qrow i x0 x1 x2 x3 x4 x5 x6 x7 x8 x9 x11 x12 x13 (y 1) (y 2)) _ ?_ y (cover0_15 _ _ _ _ _ _ _ _ y)
  have key := fun n o ho inb z => row_emb n o ho inb (fun r y => qrow i x0 x1 x2 x3 x4 x5 x6 x7 x8 x9 x11 x12 x13 r y) z
  have unit := blk_uq i x0 x1 x2 x3 x4 x5 x6 x7 x8 x9 x10 x11 x12 x13
  refine View.PiecesOf.mem (Val := Elt Ideal) (e := .bf16) (G := fun y : S1x256x1024.Idx => qrow i x0 x1 x2 x3 x4 x5 x6 x7 x8 x9 x11 x12 x13 (y 1) (y 2)) ?_
  refine ⟨?_, ?_, ?_, ?_, ?_, ?_, ?_, ?_, trivial⟩ <;> intro z
  · refine Eq.trans ?_ (key 7 896 rfl inb_S1x256x1024_S1x256x128_0_0_896 z)
    refine (congrFun (pay_q7 _ _ _ _ _) z).trans ?_
    refine (congrArg (unitQ _ _ _ _ _) (row_ix z)).trans ?_
    exact unit 7 896 rfl _ (z 1) (z 2)
  · refine Eq.trans ?_ (key 6 768 rfl inb_S1x256x1024_S1x256x128_0_0_768 z)
    refine (congrFun (pay_q6 _ _ _ _ _) z).trans ?_
    refine (congrArg (unitQ _ _ _ _ _) (row_ix z)).trans ?_
    exact unit 6 768 rfl _ (z 1) (z 2)
  · refine Eq.trans ?_ (key 5 640 rfl inb_S1x256x1024_S1x256x128_0_0_640 z)
    refine (congrFun (pay_q5 _ _ _ _ _) z).trans ?_
    refine (congrArg (unitQ _ _ _ _ _) (row_ix z)).trans ?_
    exact unit 5 640 rfl _ (z 1) (z 2)
  · refine Eq.trans ?_ (key 4 512 rfl inb_S1x256x1024_S1x256x128_0_0_512 z)
    refine (congrFun (pay_q4 _ _ _ _ _) z).trans ?_
    refine (congrArg (unitQ _ _ _ _ _) (row_ix z)).trans ?_
    exact unit 4 512 rfl _ (z 1) (z 2)
  · refine Eq.trans ?_ (key 3 384 rfl inb_S1x256x1024_S1x256x128_0_0_384 z)
    refine (congrFun (pay_q3 _ _ _ _ _) z).trans ?_
    refine (congrArg (unitQ _ _ _ _ _) (row_ix z)).trans ?_
    exact unit 3 384 rfl _ (z 1) (z 2)
  · refine Eq.trans ?_ (key 2 256 rfl inb_S1x256x1024_S1x256x128_0_0_256 z)
    refine (congrFun (pay_q2 _ _ _ _ _) z).trans ?_
    refine (congrArg (unitQ _ _ _ _ _) (row_ix z)).trans ?_
    exact unit 2 256 rfl _ (z 1) (z 2)
  · refine Eq.trans ?_ (key 1 128 rfl inb_S1x256x1024_S1x256x128_0_0_128 z)
    refine (congrFun (pay_q1 _ _ _ _ _) z).trans ?_
    refine (congrArg (unitQ _ _ _ _ _) (row_ix z)).trans ?_
    exact unit 1 128 rfl _ (z 1) (z 2)
  · refine Eq.trans ?_ (key 0 0 rfl inb_S1x256x1024_S1x256x128_0_0_0 z)
    refine (congrFun (pay_q0 _ _ _ _ _ _ _ _ _) z).trans ?_
    refine (congrArg (unitQ _ _ _ _ _) (row_ix z)).trans ?_
    exact unit 0 0 rfl _ (z 1) (z 2)

theorem blk_k (y : S1x256x256.Idx) : out0_16 i x0 x1 x2 x3 x4 x5 x6 x7 x8 x9 x10 x11 x12 x13 y = krow i x0 x1 x2 x3 x4 x5 x6 x7 x8 x10 x11 x12 x13 (y 1) (y 2) := by
  unfold out0_16
  refine View.canon_apply_of_pieces (Val := Elt Ideal) (e := .bf16) (fun y : S1x256x256.Idx => krow i x0 x1 x2 x3 x4 x5 x6 x7 x8 x10 x11 x12 x13 (y 1) (y 2)) _ ?_ y (cover0_16 _ _ y)
  have key := fun n o ho inb z => row_emb2 n o ho inb (fun r y => krow i x0 x1 x2 x3 x4 x5 x6 x7 x8 x10 x11 x12 x13 r y) z
  have unit := blk_uk i x0 x1 x2 x3 x4 x5 x6 x7 x8 x9 x10 x11 x12 x13
  refine View.PiecesOf.mem (Val := Elt Ideal) (e := .bf16) (G := fun y : S1x256x256.Idx => krow i x0 x1 x2 x3 x4 x5 x6 x7 x8 x10 x11 x12 x13 (y 1) (y 2)) ?_
  refine ⟨?_, ?_, trivial⟩ <;> intro z
  · refine Eq.trans ?_ (key 1 128 rfl inb_S1x256x256_S1x256x128_0_0_128 z)
    refine (congrFun (pay_k1 _ _ _ _ _ _) z).trans ?_
    refine (congrArg (unitK _ _ _ _ _) (row_ix z)).trans ?_
    exact unit 1 128 rfl _ (z 1) (z 2)
  · refine Eq.trans ?_ (key 0 0 rfl inb_S1x256x256_S1x256x128_0_0_0 z)
    refine (congrFun (pay_k0 _ _ _ _ _ _) z).trans ?_
    refine (congrArg (unitK _ _ _ _ _) (row_ix z)).trans ?_
    exact unit 0 0 rfl _ (z 1) (z 2)

theorem blk_v (y : S1x1x256x256.Idx) : out0_17 i x0 x1 x2 x3 x4 x5 x6 x7 x8 x9 x10 x11 x12 x13 y = prow i x0 x1 x2 x3 x4 x5 x6 x7 x8 (y 3) (cv (y 2)) := by
  unfold out0_17
  have hp := blk_pv i x0 x1 x2 x3 x4 x5 x6 x7 x8 x9 x10 x11 x12 x13
  generalize k0_pay39 i x0 x1 x2 x3 x4 x5 x6 x7 x8 x9 x10 x11 x12 x13 = h at hp ⊢
  generalize View.ld x8 r0_20 = w at hp ⊢
  refine View.canon_apply_of_pieces (Val := Elt Ideal) (e := .bf16) (fun y : S1x1x256x256.Idx => prow i x0 x1 x2 x3 x4 x5 x6 x7 x8 (y 3) (cv (y 2))) _ ?_ y (cover0_17 _ _ y)
  have key := fun n o ho inb z => slab_emb n o ho inb (fun r y => prow i x0 x1 x2 x3 x4 x5 x6 x7 x8 r (cv y)) z
  refine View.PiecesOf.mem (Val := Elt Ideal) (e := .bf16) (G := fun y : S1x1x256x256.Idx => prow i x0 x1 x2 x3 x4 x5 x6 x7 x8 (y 3) (cv (y 2))) ?_
  refine ⟨?_, ?_, trivial⟩ <;> intro z
  · refine Eq.trans ?_ (key 1 128 rfl inb_S1x1x256x256_S1x1x128x256_0_0_128_0 z)
    refine (congrArg (k0_pay35 h w) (slab_ix z)).trans ?_
    exact (slab1 h w (z 2) (z 3)).trans (hp _ _)
  · refine Eq.trans ?_ (key 0 0 rfl inb_S1x1x256x256_S1x1x128x256_0_0_0_0 z)
    refine (congrArg (k0_pay34 h w) (slab_ix z)).trans ?_
    exact (slab0 h w (z 2) (z 3)).trans (hp _ _)

end Out

end Cert.Kernel5Ideal.Block

end
-- ==== Proof.Tile5.lean ====
/- The last layer's projection call: its result arrays, element by element, in terms of the arrays the call is given. -/
module

public import proofs.«01_k».proof.Proof.Ref4
public import proofs.«01_k».proof.Proof.Block5
public import proofs.«01_k».proof.Proof.Gen.Kernel5Ideal.Value
public import Idealize.ShloMosaic.Lib.Pipeline.ValueKit

@[expose] public section

set_option maxRecDepth 16384

noncomputable section

namespace Cert.Kernel5Ideal.Tile

open Cert.Kernel5Ideal Cert.Kernel5Ideal.Gen Cert.Kernel5Ideal.Block Idealize.ShloMosaic Idealize.ShloMosaic.TcCoe Idealize.SL.Sem
open Cert.Kernel3Ideal.Block (added)
open Cert.Kernel4Ideal.Block (hid dotp)
open Cert.Reference3Ideal.Line (silu)
open Cert.Reference4Ideal.Line (rowOf who)
open scoped BigOperators

variable (m : (ℓ : Loc nD τ sig) → Buf (Elt Ideal) ℓ)

theorem index0 : ∀ t : Fin cfg0.N, win0_0.index t = ![(grid0.coords t 0).val, min (grid0.coords t 1).val 31, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![(grid0.coords t 0).val, (grid0.coords t 1).val, 0] :=
  (by decide +kernel : ∀ t : Fin grid0.N, _)
theorem index5 : ∀ t : Fin cfg0.N, win0_5.index t = ![16 + (if (grid0.coords t 1).val < 32 then (grid0.coords t 0).val else 4), 0, 0] :=
  (by decide +kernel : ∀ t : Fin grid0.N, _)
theorem index6 : ∀ t : Fin cfg0.N, win0_6.index t = ![24 + (if (grid0.coords t 1).val < 32 then (grid0.coords t 0).val else 4), 0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![(grid0.coords t 1).val, 0] :=
  (by decide +kernel : ∀ t : Fin grid0.N, _)
theorem index12 : ∀ t : Fin cfg0.N, win0_12.index t = ![(grid0.coords t 1).val, 0] :=
  (by decide +kernel : ∀ t : Fin grid0.N, _)
theorem index13 : ∀ t : Fin cfg0.N, win0_13.index t = ![(grid0.coords t 1).val, 0] :=
  (by decide +kernel : ∀ t : Fin grid0.N, _)
theorem index14 : ∀ t : Fin cfg0.N, win0_14.index t = ![(grid0.coords t 0).val, (grid0.coords t 1).val, 0] :=
  (by decide +kernel : ∀ t : Fin grid0.N, _)
theorem index15 : ∀ t : Fin cfg0.N, win0_15.index t = ![(grid0.coords t 0).val, (grid0.coords t 1).val, 0] :=
  (by decide +kernel : ∀ t : Fin grid0.N, _)
theorem index16 : ∀ t : Fin cfg0.N, win0_16.index t = ![(grid0.coords t 0).val, (grid0.coords t 1).val, 0] :=
  (by decide +kernel : ∀ t : Fin grid0.N, _)
theorem index17 : ∀ t : Fin cfg0.N, win0_17.index t = ![(grid0.coords t 0).val, (grid0.coords t 1).val, 0, 0] :=
  (by decide +kernel : ∀ t : Fin grid0.N, _)
theorem index18 : ∀ t : Fin cfg0.N, win0_18.index t = ![(grid0.coords t 0).val, (grid0.coords t 1).val, 0] :=
  (by decide +kernel : ∀ t : Fin grid0.N, _)

/-! ### An input block's element, read off its array -/

theorem rd0 (A : S4x8192x1024.Idx → EReal) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : ((cfg0.win 0).blk t).view.read (Elt Ideal) A j = A i := by
  have : (j 0).val < 1 := (j 0).isLt
  have e : (win0_0.blk t).view.emb j = i := by
    blk_ext [index0, h0, h1, h2]
  subst e
  rfl
theorem read0 (c : Dev nD) (t : Fin cfg0.N) (j : S1x256x1024.Idx) (i : S4x8192x1024.Idx)
    (h0 : (i 0).val = (grid0.coords t 0).val) (h1 : (i 1).val = 256 * min (grid0.coords t 1).val 31 + (j 1).val) (h2 : (i 2).val = (j 2).val) : iblk m c 0 t j = V m c main_arg0 i := by
  unfold iblk
  exact rd0 (V m c main_arg0) t j i h0 h1 h2
theorem rd1 (A : S4x256x1024.Idx → EReal) (t : Fin cfg0.N) (j : S1x256x1024.Idx) (i : S4x256x1024.Idx)
    (h0 : (i 0).val = (grid0.coords t 0).val) (h1 : (i 1).val = (j 1).val) (h2 : (i 2).val = (j 2).val) : ((cfg0.win 1).blk t).view.read (Elt Ideal) A j = A i := by
  have : (j 0).val < 1 := (j 0).isLt
  have e : (win0_1.blk t).view.emb j = i := by
    blk_ext [index1, h0, h1, h2]
  subst e
  rfl
theorem read1 (c : Dev nD) (t : Fin cfg0.N) (j : S1x256x1024.Idx) (i : S4x256x1024.Idx)
    (h0 : (i 0).val = (grid0.coords t 0).val) (h1 : (i 1).val = (j 1).val) (h2 : (i 2).val = (j 2).val) : iblk m c 1 t j = V m c main_arg1 i := by
  unfold iblk
  exact rd1 (V m c main_arg1) t j i h0 h1 h2
theorem rd2 (A : S4x8448x1024.Idx → EReal) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : ((cfg0.win 2).blk t).view.read (Elt Ideal) A j = A i := by
  have : (j 0).val < 1 := (j 0).isLt
  have e : (win0_2.blk t).view.emb j = i := by
    blk_ext [index2, h0, h1, h2]
  subst e
  rfl
theorem read2 (c : Dev nD) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : iblk m c 2 t j = V m c main_v8 i := by
  unfold iblk
  exact rd2 (V m c main_v8) t j i h0 h1 h2
theorem rd3 (A : S1024x1024.Idx → EReal) (t : Fin cfg0.N) (j : S1024x1024.Idx) : ((cfg0.win 3).blk t).view.read (Elt Ideal) A j = A j := by
  have e : (win0_3.blk t).view.emb j = j := by
    blk_ext [index3]
  exact congrArg A e
theorem read3 (c : Dev nD) (t : Fin cfg0.N) (j : S1024x1024.Idx) : iblk m c 3 t j = V m c main_v27 j := by
  unfold iblk
  exact rd3 (V m c main_v27) t j
theorem rd4 (A : S4x8448x1024.Idx → EReal) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : ((cfg0.win 4).blk t).view.read (Elt Ideal) A j = A i := by
  have : (j 0).val < 1 := (j 0).isLt
  have e : (win0_4.blk t).view.emb j = i := by
    blk_ext [index4, h0, h1, h2]
  subst e
  rfl
theorem read4 (c : Dev nD) (t : Fin cfg0.N) (j : S1x256x1024.Idx) (i : S4x8448x1024.Idx)
    (h0 : (i 0).val = (grid0.coords t 0).val) (h1 : (i 1).val = 256 * (grid0.coords t 1).val + (j 1).val) (h2 : (i 2).val = (j 2).val) : iblk m c 4 t j = V m c main_v9 i := by
  unfold iblk
  exact rd4 (V m c main_v9) t j i h0 h1 h2
theorem rd5 (A : S32x3x1024.Idx → EReal) (t : Fin cfg0.N) (j : S1x3x1024.Idx) (i : S32x3x1024.Idx)
    (h0 : (i 0).val = 16 + if (grid0.coords t 1).val < 32 then (grid0.coords t 0).val else 4) (h1 : (i 1).val = (j 1).val) (h2 : (i 2).val = (j 2).val) : ((cfg0.win 5).blk t).view.read (Elt Ideal) A j = A i := by
  have : (j 0).val < 1 := (j 0).isLt
  have e : (win0_5.blk t).view.emb j = i := by
    blk_ext [index5, h0, h1, h2]
  subst e
  rfl
theorem read5 (c : Dev nD) (t : Fin cfg0.N) (j : S1x3x1024.Idx) (i : S32x3x1024.Idx)
    (h0 : (i 0).val = 16 + if (grid0.coords t 1).val < 32 then (grid0.coords t 0).val else 4) (h1 : (i 1).val = (j 1).val) (h2 : (i 2).val = (j 2).val) : iblk m c 5 t j = V m c main_v10 i := by
  unfold iblk
  exact rd5 (V m c main_v10) t j i h0 h1 h2
theorem rd6 (A : S32x3x1024.Idx → EReal) (t : Fin cfg0.N) (j : S1x3x1024.Idx) (i : S32x3x1024.Idx)
    (h0 : (i 0).val = 24 + if (grid0.coords t 1).val < 32 then (grid0.coords t 0).val else 4) (h1 : (i 1).val = (j 1).val) (h2 : (i 2).val = (j 2).val) : ((cfg0.win 6).blk t).view.read (Elt Ideal) A j = A i := by
  have : (j 0).val < 1 := (j 0).isLt
  have e : (win0_6.blk t).view.emb j = i := by
    blk_ext [index6, h0, h1, h2]
  subst e
  rfl
theorem read6 (c : Dev nD) (t : Fin cfg0.N) (j : S1x3x1024.Idx) (i : S32x3x1024.Idx)
    (h0 : (i 0).val = 24 + if (grid0.coords t 1).val < 32 then (grid0.coords t 0).val else 4) (h1 : (i 1).val = (j 1).val) (h2 : (i 2).val = (j 2).val) : iblk m c 6 t j = V m c main_v10 i := by
  unfold iblk
  exact rd6 (V m c main_v10) t j i h0 h1 h2
theorem rd7 (A : S1x1024.Idx → EReal) (t : Fin cfg0.N) (j : S1x1024.Idx) : ((cfg0.win 7).blk t).view.read (Elt Ideal) A j = A j := by
  have e : (win0_7.blk t).view.emb j = j := by
    blk_ext [index7]
  exact congrArg A e
theorem read7 (c : Dev nD) (t : Fin cfg0.N) (j : S1x1024.Idx) : iblk m c 7 t j = V m c main_v28 j := by
  unfold iblk
  exact rd7 (V m c main_v28) t j
theorem rd8 (A : S1024x2560.Idx → EReal) (t : Fin cfg0.N) (j : S1024x2560.Idx) : ((cfg0.win 8).blk t).view.read (Elt Ideal) A j = A j := by
  have e : (win0_8.blk t).view.emb j = j := by
    blk_ext [index8]
  exact congrArg A e
theorem read8 (c : Dev nD) (t : Fin cfg0.N) (j : S1024x2560.Idx) : iblk m c 8 t j = V m c main_v11 j := by
  unfold iblk
  exact rd8 (V m c main_v11) t j
theorem rd9 (A : S1x128.Idx → EReal) (t : Fin cfg0.N) (j : S1x128.Idx) : ((cfg0.win 9).blk t).view.read (Elt Ideal) A j = A j := by
  have e : (win0_9.blk t).view.emb j = j := by
    blk_ext [index9]
  exact congrArg A e
theorem read9 (c : Dev nD) (t : Fin cfg0.N) (j : S1x128.Idx) : iblk m c 9 t j = V m c main_v12 j := by
  unfold iblk
  exact rd9 (V m c main_v12) t j
theorem rd10 (A : S1x128.Idx → EReal) (t : Fin cfg0.N) (j : S1x128.Idx) : ((cfg0.win 10).blk t).view.read (Elt Ideal) A j = A j := by
  have e : (win0_10.blk t).view.emb j = j := by
    blk_ext [index10]
  exact congrArg A e
theorem read10 (c : Dev nD) (t : Fin cfg0.N) (j : S1x128.Idx) : iblk m c 10 t j = V m c main_v13 j := by
  unfold iblk
  exact rd10 (V m c main_v13) t j
theorem rd11 (A : S8448x128.Idx → EReal) (t : Fin cfg0.N) (j : S256x128.Idx) (i : S8448x128.Idx)
    (h0 : (i 0).val = 256 * (grid0.coords t 1).val + (j 0).val) (h1 : (i 1).val = (j 1).val) : ((cfg0.win 11).blk t).view.read (Elt Ideal) A j = A i := by
  have e : (win0_11.blk t).view.emb j = i := by
    blk_ext [index11, h0, h1]
  subst e
  rfl
theorem read11 (c : Dev nD) (t : Fin cfg0.N) (j : S256x128.Idx) (i : S8448x128.Idx)
    (h0 : (i 0).val = 256 * (grid0.coords t 1).val + (j 0).val) (h1 : (i 1).val = (j 1).val) : iblk m c 11 t j = V m c main_v22 i := by
  unfold iblk
  exact rd11 (V m c main_v22) t j i h0 h1
theorem rd12 (A : S8448x128.Idx → EReal) (t : Fin cfg0.N) (j : S256x128.Idx) (i : S8448x128.Idx)
    (h0 : (i 0).val = 256 * (grid0.coords t 1).val + (j 0).val) (h1 : (i 1).val = (j 1).val) : ((cfg0.win 12).blk t).view.read (Elt Ideal) A j = A i := by
  have e : (win0_12.blk t).view.emb j = i := by
    blk_ext [index12, h0, h1]
  subst e
  rfl
theorem read12 (c : Dev nD) (t : Fin cfg0.N) (j : S256x128.Idx) (i : S8448x128.Idx)
    (h0 : (i 0).val = 256 * (grid0.coords t 1).val + (j 0).val) (h1 : (i 1).val = (j 1).val) : iblk m c 12 t j = V m c main_v24 i := by
  unfold iblk
  exact rd12 (V m c main_v24) t j i h0 h1
theorem rd13 (A : S8448x128.Idx → EReal) (t : Fin cfg0.N) (j : S256x128.Idx) (i : S8448x128.Idx)
    (h0 : (i 0).val = 256 * (grid0.coords t 1).val + (j 0).val) (h1 : (i 1).val = (j 1).val) : ((cfg0.win 13).blk t).view.read (Elt Ideal) A j = A i := by
  have e : (win0_13.blk t).view.emb j = i := by
    blk_ext [index13, h0, h1]
  subst e
  rfl
theorem read13 (c : Dev nD) (t : Fin cfg0.N) (j : S256x128.Idx) (i : S8448x128.Idx)
    (h0 : (i 0).val = 256 * (grid0.coords t 1).val + (j 0).val) (h1 : (i 1).val = (j 1).val) : iblk m c 13 t j = V m c main_v26 i := by
  unfold iblk
  exact rd13 (V m c main_v26) t j i h0 h1

/-! ### The results' coordinates of a block's element -/

theorem emb14_0 (t : Fin cfg0.N) (y : S1x256x1024.Idx) : ((win0_14.blk t).view.emb y 0).val = (grid0.coords t 0).val := by
  have : (y 0).val < 1 := (y 0).isLt
  blk_simp [index14]
theorem emb14_1 (t : Fin cfg0.N) (y : S1x256x1024.Idx) : ((win0_14.blk t).view.emb y 1).val = 256 * (grid0.coords t 1).val + (y 1).val := by
  blk_simp [index14]
  simp only [Matrix.cons_val_one, Matrix.cons_val_zero]
  omega
theorem emb14_2 (t : Fin cfg0.N) (y : S1x256x1024.Idx) : ((win0_14.blk t).view.emb y 2).val = (y 2).val := by
  blk_simp [index14]
theorem emb15_0 (t : Fin cfg0.N) (y : S1x256x1024.Idx) : ((win0_15.blk t).view.emb y 0).val = (grid0.coords t 0).val := by
  have : (y 0).val < 1 := (y 0).isLt
  blk_simp [index15]
theorem emb15_1 (t : Fin cfg0.N) (y : S1x256x1024.Idx) : ((win0_15.blk t).view.emb y 1).val = 256 * (grid0.coords t 1).val + (y 1).val := by
  blk_simp [index15]
  simp only [Matrix.cons_val_one, Matrix.cons_val_zero]
  omega
theorem emb15_2 (t : Fin cfg0.N) (y : S1x256x1024.Idx) : ((win0_15.blk t).view.emb y 2).val = (y 2).val := by
  blk_simp [index15]
theorem emb16_0 (t : Fin cfg0.N) (y : S1x256x256.Idx) : ((win0_16.blk t).view.emb y 0).val = (grid0.coords t 0).val := by
  have : (y 0).val < 1 := (y 0).isLt
  blk_simp [index16]
theorem emb16_1 (t : Fin cfg0.N) (y : S1x256x256.Idx) : ((win0_16.blk t).view.emb y 1).val = 256 * (grid0.coords t 1).val + (y 1).val := by
  blk_simp [index16]
  simp only [Matrix.cons_val_one, Matrix.cons_val_zero]
  omega
theorem emb16_2 (t : Fin cfg0.N) (y : S1x256x256.Idx) : ((win0_16.blk t).view.emb y 2).val = (y 2).val := by
  blk_simp [index16]
theorem emb18_0 (t : Fin cfg0.N) (y : S1x256x1024.Idx) : ((win0_18.blk t).view.emb y 0).val = (grid0.coords t 0).val := by
  have : (y 0).val < 1 := (y 0).isLt
  blk_simp [index18]
theorem emb18_1 (t : Fin cfg0.N) (y : S1x256x1024.Idx) : ((win0_18.blk t).view.emb y 1).val = 256 * (grid0.coords t 1).val + (y 1).val := by
  blk_simp [index18]
  simp only [Matrix.cons_val_one, Matrix.cons_val_zero]
  omega
theorem emb18_2 (t : Fin cfg0.N) (y : S1x256x1024.Idx) : ((win0_18.blk t).view.emb y 2).val = (y 2).val := by
  blk_simp [index18]
theorem emb17_0 (t : Fin cfg0.N) (y : S1x1x256x256.Idx) : ((win0_17.blk t).view.emb y 0).val = (grid0.coords t 0).val := by
  have : (y 0).val < 1 := (y 0).isLt
  blk_simp [index17]
theorem emb17_1 (t : Fin cfg0.N) (y : S1x1x256x256.Idx) : ((win0_17.blk t).view.emb y 1).val = (grid0.coords t 1).val := by
  have : (y 1).val < 1 := (y 1).isLt
  blk_simp [index17]
theorem emb17_2 (t : Fin cfg0.N) (y : S1x1x256x256.Idx) : ((win0_17.blk t).view.emb y 2).val = (y 2).val := by
  blk_simp [index17]
theorem emb17_3 (t : Fin cfg0.N) (y : S1x1x256x256.Idx) : ((win0_17.blk t).view.emb y 3).val = (y 3).val := by
  blk_simp [index17]

/-! ### Rows of the arrays -/

section Rows
variable (O : S4x8192x1024.Idx → EReal) (OC : S4x256x1024.Idx → EReal) (G : S4x8448x1024.Idx → EReal) (W : S1024x1024.Idx → EReal) (X : S4x8448x1024.Idx → EReal)
  (M : S32x3x1024.Idx → EReal) (NG : S1x1024.Idx → EReal) (WI : S1024x2560.Idx → EReal) (HG : S1x128.Idx → EReal) (C U D : S8448x128.Idx → EReal)

/-- Row `R` of the stream. -/
def sAt (b : Fin 4) (R : Fin 8448) : Fin 1024 → EReal :=
  added (rowOf O OC b R) (fun k => G (ix3 b R k)) (fun k => X (ix3 b R k)) (fun k => M (ix3 (Fin.ofNat 32 (16 + (who b R).val)) 2 k)) fun k e => W (ix2 k e)

/-- Row `R` after the norm and the modulation. -/
def hAt (b : Fin 4) (R : Fin 8448) : Fin 1024 → EReal :=
  hid (sAt O OC G W X M b R) (fun e => NG (ix2 0 e)) (fun e => M (ix3 (Fin.ofNat 32 (24 + (who b R).val)) 0 e)) (fun e => M (ix3 (Fin.ofNat 32 (24 + (who b R).val)) 1 e))

/-- Row `R` projected onto column `e`. -/
def pAt (b : Fin 4) (R : Fin 8448) (e : Fin 2560) : EReal :=
  dotp (hAt O OC G W X M NG b R) fun k => WI (ix2 k e)

/-- Row `R` of the queries. -/
def qAt (b : Fin 4) (R : Fin 8448) (y : Fin 1024) : EReal :=
  headQ (pAt O OC G W X M NG WI b R) (fun k => HG (ix2 0 k)) (fun k => C (ix2 R k)) (fun k => U (ix2 R k)) (fun k => D (ix2 R k)) y

/-- Row `R` of the keys. -/
def kAt (b : Fin 4) (R : Fin 8448) (y : Fin 256) : EReal :=
  headK (pAt O OC G W X M NG WI b R) (fun k => HG (ix2 0 k)) (fun k => C (ix2 R k)) (fun k => U (ix2 R k)) (fun k => D (ix2 R k)) y

end Rows

theorem which (n : Nat) (hn : n ≤ 24) (t : Fin cfg0.N) (r : Fin 256) (R : Fin 8448) (hR : R.val = 256 * (grid0.coords t 1).val + r.val) :
    (Fin.ofNat 32 (n + (who (grid0.coords t 0) R).val)).val = n + if (grid0.coords t 1).val < 32 then (grid0.coords t 0).val else 4 := by
  have hb : (grid0.coords t 0).val < 4 := (grid0.coords t 0).isLt
  have ht : (grid0.coords t 1).val < 33 := (grid0.coords t 1).isLt
  have hr := r.isLt
  unfold who
  by_cases h : (grid0.coords t 1).val < 32
  · rw [if_pos (by omega), if_pos h]
    show (n + (grid0.coords t 0).val % 8) % 32 = n + (grid0.coords t 0).val
    omega
  · rw [if_neg (by omega), if_neg h]
    show (n + 4) % 32 = n + 4
    omega

theorem mid (c : Dev nD) (t : Fin cfg0.N) (r : Fin 256) (R : Fin 8448) (hR : R.val = 256 * (grid0.coords t 1).val + r.val) :
    srow (grid0.coords t) (iblk m c 0 t) (iblk m c 1 t) (iblk m c 2 t) (iblk m c 3 t) (iblk m c 4 t) (iblk m c 5 t) r
      = sAt (V m c main_arg0) (V m c main_arg1) (V m c main_v8) (V m c main_v27) (V m c main_v9) (V m c main_v10) (grid0.coords t 0) R := by
  have hb : (grid0.coords t 0).val < 4 := (grid0.coords t 0).isLt
  have ht : (grid0.coords t 1).val < 33 := (grid0.coords t 1).isLt
  have hr := r.isLt
  unfold srow stream sAt
  have e2 : (fun k : Fin 1024 => iblk m c 2 t (ix3 0 r k)) = fun k => V m c main_v8 (ix3 (grid0.coords t 0) R k) := funext fun k => read2 m c t _ _ rfl hR rfl
  have e3 : (fun k e : Fin 1024 => iblk m c 3 t (ix2 k e)) = fun k e => V m c main_v27 (ix2 k e) := funext fun k => funext fun e => read3 m c t _
  have e4 : (fun k : Fin 1024 => iblk m c 4 t (ix3 0 r k)) = fun k => V m c main_v9 (ix3 (grid0.coords t 0) R k) := funext fun k => read4 m c t _ _ rfl hR rfl
  have e5 : (fun k : Fin 1024 => iblk m c 5 t (ix3 0 2 k)) = fun k => V m c main_v10 (ix3 (Fin.ofNat 32 (16 + (who (grid0.coords t 0) R).val)) 2 k) :=
    funext fun k => read5 m c t _ _ (which 16 (by omega) t r R hR) rfl rfl
  funext d
  by_cases h : 32 ≤ (grid0.coords t 1).val
  · have hR' : ¬ R.val < 8192 := by omega
    have e1 : (fun k : Fin 1024 => iblk m c 1 t (ix3 0 r k)) = rowOf (V m c main_arg0) (V m c main_arg1) (grid0.coords t 0) R := by
      unfold rowOf
      rw [dif_neg hR']
      exact funext fun k => read1 m c t _ _ rfl (by show R.val - 8192 = r.val; omega) rfl
    rw [if_pos h]
    exact congrFun (congr (congr (congr (congr (congrArg added e1) e2) e4) e5) e3) d
  · have hR' : R.val < 8192 := by omega
    have e1 : (fun k : Fin 1024 => iblk m c 0 t (ix3 0 r k)) = rowOf (V m c main_arg0) (V m c main_arg1) (grid0.coords t 0) R := by
      unfold rowOf
      rw [dif_pos hR']
      exact funext fun k => read0 m c t _ _ rfl (by show R.val = 256 * min (grid0.coords t 1).val 31 + r.val; omega) rfl
    rw [if_neg h]
    exact congrFun (congr (congr (congr (congr (congrArg added e1) e2) e4) e5) e3) d

theorem hidden (c : Dev nD) (t : Fin cfg0.N) (r : Fin 256) (R : Fin 8448) (hR : R.val = 256 * (grid0.coords t 1).val + r.val) :
    hrow (grid0.coords t) (iblk m c 0 t) (iblk m c 1 t) (iblk m c 2 t) (iblk m c 3 t) (iblk m c 4 t) (iblk m c 5 t) (iblk m c 6 t) (iblk m c 7 t) r
      = hAt (V m c main_arg0) (V m c main_arg1) (V m c main_v8) (V m c main_v27) (V m c main_v9) (V m c main_v10) (V m c main_v28) (grid0.coords t 0) R := by
  unfold hrow hAt
  rw [mid m c t r R hR]
  have e6 : ∀ q : Fin 3, (fun k : Fin 1024 => iblk m c 6 t (ix3 0 q k)) = fun k => V m c main_v10 (ix3 (Fin.ofNat 32 (24 + (who (grid0.coords t 0) R).val)) q k) :=
    fun q => funext fun k => read6 m c t _ _ (which 24 (by omega) t r R hR) rfl rfl
  have e7 : (fun k : Fin 1024 => iblk m c 7 t (ix2 0 k)) = fun k => V m c main_v28 (ix2 0 k) := funext fun k => read7 m c t _
  exact congr (congr (congrArg (hid _) e7) (e6 0)) (e6 1)

theorem proj (c : Dev nD) (t : Fin cfg0.N) (r : Fin 256) (R : Fin 8448) (hR : R.val = 256 * (grid0.coords t 1).val + r.val) :
    prow (grid0.coords t) (iblk m c 0 t) (iblk m c 1 t) (iblk m c 2 t) (iblk m c 3 t) (iblk m c 4 t) (iblk m c 5 t) (iblk m c 6 t) (iblk m c 7 t) (iblk m c 8 t) r
      = pAt (V m c main_arg0) (V m c main_arg1) (V m c main_v8) (V m c main_v27) (V m c main_v9) (V m c main_v10) (V m c main_v28) (V m c main_v11) (grid0.coords t 0) R := by
  funext e
  unfold prow pAt
  rw [hidden m c t r R hR]
  have e8 : (fun k : Fin 1024 => iblk m c 8 t (ix2 k e)) = fun k => V m c main_v11 (ix2 k e) := funext fun k => read8 m c t _
  exact congrArg (dotp _) e8

theorem query (c : Dev nD) (t : Fin cfg0.N) (r : Fin 256) (R : Fin 8448) (hR : R.val = 256 * (grid0.coords t 1).val + r.val) :
    qrow (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 12 t) (iblk m c 13 t) r
      = qAt (V m c main_arg0) (V m c main_arg1) (V m c main_v8) (V m c main_v27) (V m c main_v9) (V m c main_v10) (V m c main_v28) (V m c main_v11) (V m c main_v12) (V m c main_v22) (V m c main_v24) (V m c main_v26) (grid0.coords t 0) R := by
  funext y
  unfold qrow qAt
  rw [proj m c t r R hR]
  have e9 : (fun k : Fin 128 => iblk m c 9 t (ix2 0 k)) = fun k => V m c main_v12 (ix2 0 k) := funext fun k => read9 m c t _
  have e11 : (fun k : Fin 128 => iblk m c 11 t (ix2 r k)) = fun k => V m c main_v22 (ix2 R k) := funext fun k => read11 m c t _ _ hR rfl
  have e12 : (fun k : Fin 128 => iblk m c 12 t (ix2 r k)) = fun k => V m c main_v24 (ix2 R k) := funext fun k => read12 m c t _ _ hR rfl
  have e13 : (fun k : Fin 128 => iblk m c 13 t (ix2 r k)) = fun k => V m c main_v26 (ix2 R k) := funext fun k => read13 m c t _ _ hR rfl
  exact congrFun (congr (congr (congr (congrArg (headQ _) e9) e11) e12) e13) y

theorem key (c : Dev nD) (t : Fin cfg0.N) (r : Fin 256) (R : Fin 8448) (hR : R.val = 256 * (grid0.coords t 1).val + r.val) :
    krow (grid0.coords t) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) r
      = kAt (V m c main_arg0) (V m c main_arg1) (V m c main_v8) (V m c main_v27) (V m c main_v9) (V m c main_v10) (V m c main_v28) (V m c main_v11) (V m c main_v13) (V m c main_v22) (V m c main_v24) (V m c main_v26) (grid0.coords t 0) R := by
  funext y
  unfold krow kAt
  rw [proj m c t r R hR]
  have e9 : (fun k : Fin 128 => iblk m c 10 t (ix2 0 k)) = fun k => V m c main_v13 (ix2 0 k) := funext fun k => read10 m c t _
  have e11 : (fun k : Fin 128 => iblk m c 11 t (ix2 r k)) = fun k => V m c main_v22 (ix2 R k) := funext fun k => read11 m c t _ _ hR rfl
  have e12 : (fun k : Fin 128 => iblk m c 12 t (ix2 r k)) = fun k => V m c main_v24 (ix2 R k) := funext fun k => read12 m c t _ _ hR rfl
  have e13 : (fun k : Fin 128 => iblk m c 13 t (ix2 r k)) = fun k => V m c main_v26 (ix2 R k) := funext fun k => read13 m c t _ _ hR rfl
  exact congrFun (congr (congr (congr (congrArg (headK _) e9) e11) e12) e13) y

theorem blk_ix (y : S1x256x1024.Idx) : y = ix3 0 (y 1) (y 2) := by
  refine (eq_ix3 (n0 := 1) (n1 := 256) (n2 := 1024) y).trans ?_
  exact congrArg (fun w => ix3 w (y 1) (y 2)) (Subsingleton.elim (α := Fin 1) _ _)

/-! ### The result arrays -/

theorem final_x (c : Dev nD) : (dats m 0 c).arrAt 14 cfg0.N = fun i : S4x8448x1024.Idx => sAt (V m c main_arg0) (V m c main_arg1) (V m c main_v8) (V m c main_v27) (V m c main_v9) (V m c main_v10) (i 0) (i 1) (i 2) := by
  refine (dats m 0 c).arrAt_eq_of_covers 14 _ (by decide +kernel) fun t hf y => ?_
  blk_simp
  rw [after0_14]
  have e : (win0_14.blk t).view.emb y 0 = grid0.coords t 0 := Fin.ext (emb14_0 t y)
  refine (congrArg _ (blk_ix y)).trans ?_
  refine (blk_x _ _ _ _ _ _ _ _ _ _ _ _ _ _ _ (y 1) (y 2)).trans ?_
  rw [e]
  exact congr (mid m c t (y 1) _ (emb14_1 t y)) (Fin.ext (emb14_2 t y).symm)

theorem final_q (c : Dev nD) : (dats m 0 c).arrAt 15 cfg0.N
    = fun i : S4x8448x1024.Idx => qAt (V m c main_arg0) (V m c main_arg1) (V m c main_v8) (V m c main_v27) (V m c main_v9) (V m c main_v10) (V m c main_v28) (V m c main_v11) (V m c main_v12) (V m c main_v22) (V m c main_v24) (V m c main_v26) (i 0) (i 1) (i 2) := by
  refine (dats m 0 c).arrAt_eq_of_covers 15 _ (by decide +kernel) fun t hf y => ?_
  blk_simp
  rw [after0_15]
  have e : (win0_15.blk t).view.emb y 0 = grid0.coords t 0 := Fin.ext (emb15_0 t y)
  refine (blk_q _ _ _ _ _ _ _ _ _ _ _ _ _ _ _ y).trans ?_
  rw [e]
  exact congr (query m c t (y 1) _ (emb15_1 t y)) (Fin.ext (emb15_2 t y).symm)

theorem final_k (c : Dev nD) : (dats m 0 c).arrAt 16 cfg0.N
    = fun i : S4x8448x256.Idx => kAt (V m c main_arg0) (V m c main_arg1) (V m c main_v8) (V m c main_v27) (V m c main_v9) (V m c main_v10) (V m c main_v28) (V m c main_v11) (V m c main_v13) (V m c main_v22) (V m c main_v24) (V m c main_v26) (i 0) (i 1) (i 2) := by
  refine (dats m 0 c).arrAt_eq_of_covers 16 _ (by decide +kernel) fun t hf y => ?_
  blk_simp
  rw [after0_16]
  have e : (win0_16.blk t).view.emb y 0 = grid0.coords t 0 := Fin.ext (emb16_0 t y)
  refine (blk_k _ _ _ _ _ _ _ _ _ _ _ _ _ _ _ y).trans ?_
  rw [e]
  exact congr (key m c t (y 1) _ (emb16_1 t y)) (Fin.ext (emb16_2 t y).symm)

theorem final_g (c : Dev nD) : (dats m 0 c).arrAt 18 cfg0.N = fun i : S4x8448x1024.Idx => silu (pAt (V m c main_arg0) (V m c main_arg1) (V m c main_v8) (V m c main_v27) (V m c main_v9) (V m c main_v10) (V m c main_v28) (V m c main_v11) (i 0) (i 1) (cg (i 2))) := by
  refine (dats m 0 c).arrAt_eq_of_covers 18 _ (by decide +kernel) fun t hf y => ?_
  blk_simp
  rw [after0_18]
  have e : (win0_18.blk t).view.emb y 0 = grid0.coords t 0 := Fin.ext (emb18_0 t y)
  refine (congrArg _ (blk_ix y)).trans ?_
  refine (blk_g _ _ _ _ _ _ _ _ _ _ _ _ _ _ _ (y 1) (y 2)).trans ?_
  rw [e]
  rw [proj m c t (y 1) _ (emb18_1 t y), show (win0_18.blk t).view.emb y 2 = y 2 from Fin.ext (emb18_2 t y)]

theorem final_v (c : Dev nD) : (dats m 0 c).arrAt 17 cfg0.N
    = fun i : S4x33x256x256.Idx => pAt (V m c main_arg0) (V m c main_arg1) (V m c main_v8) (V m c main_v27) (V m c main_v9) (V m c main_v10) (V m c main_v28) (V m c main_v11) (i 0) (Fin.ofNat 8448 (256 * (i 1).val + (i 3).val)) (cv (i 2)) := by
  refine (dats m 0 c).arrAt_eq_of_covers 17 _ (by decide +kernel) fun t hf y => ?_
  blk_simp
  rw [after0_17]
  have e : (win0_17.blk t).view.emb y 0 = grid0.coords t 0 := Fin.ext (emb17_0 t y)
  have hR : (Fin.ofNat 8448 (256 * ((win0_17.blk t).view.emb y 1).val + ((win0_17.blk t).view.emb y 3).val)).val = 256 * (grid0.coords t 1).val + (y 3).val := by
    have ht : (grid0.coords t 1).val < 33 := (grid0.coords t 1).isLt
    have h3 : (y 3).val < 256 := (y 3).isLt
    rw [emb17_1, emb17_3]
    show (256 * (grid0.coords t 1).val + (y 3).val) % 8448 = _
    omega
  refine (blk_v _ _ _ _ _ _ _ _ _ _ _ _ _ _ _ y).trans ?_
  rw [e]
  rw [proj m c t (y 3) _ hR, show (win0_17.blk t).view.emb y 2 = y 2 from Fin.ext (emb17_2 t y)]
  congr 1
  refine Fin.ext (hR.trans ?_)
  rw [index17]
  have ht : (grid0.coords t 1).val < 33 := (grid0.coords t 1).isLt
  have h3 : (y 3).val < 256 := (y 3).isLt
  show _ = (256 * (grid0.coords t 1).val + (0 * 256 + (y 3).val)) % 8448
  omega

end Cert.Kernel5Ideal.Tile

end
-- ==== Proof.Ref5.lean ====
/- The last layer's projection reference, element by element. -/
module

public import proofs.«01_k».proof.Proof.Gen.Reference5Ideal.Read
public import proofs.«01_k».proof.Proof.Block5
public import proofs.«01_k».proof.Proof.Ref4
public import Idealize.ShloMosaic.Lib.Pointwise

@[expose] public section

set_option maxRecDepth 16384

noncomputable section

namespace Cert.Reference5Ideal.Line

open Cert.Kernel3Ideal.Block (normed added)
open Cert.Kernel4Ideal.Block (hid dotp strip)
open Cert.Kernel5Ideal.Block
open Cert.Reference4Ideal.Line (rowOf who md)
open Cert.Reference3Ideal.Line (silu)
open Cert.Reference5Ideal Cert.Reference5Ideal.Gen Cert.Reference5Ideal.Read Idealize.ShloMosaic Idealize.ShloMosaic.TcCoe Idealize.SL.Sem
open scoped BigOperators

variable (x0 : FVec Ideal S4x8192x1024 .bf16) (x1 : FVec Ideal S4x256x1024 .bf16) (x2 x5 : FVec Ideal S4x8192x1024 .f32) (x3 x6 : FVec Ideal S4x256x1024 .f32)
  (x4 : FVec Ideal S1024x1024 .f32) (x7 : FVec Ideal S4x8x3072 .f32) (x8 : FVec Ideal S1024 .f32) (x9 : FVec Ideal S1024x2560 .f32) (x10 x11 : FVec Ideal S128 .f32) (x12 x13 : FVec Ideal S8192x128 .f32)

/-- One row of the stream. -/
def lineS (o g x : Fin 1024 → EReal) (q : Fin 8) (d : Fin 1024) : EReal :=
  added o (fun k => silu (g k)) x (fun k => md x7 2 q 2 k) (fun k e => x4 (ix2 k e)) d

/-- One row after the norm and the modulation. -/
def lineH (o g x : Fin 1024 → EReal) (q : Fin 8) (d : Fin 1024) : EReal :=
  hid (lineS x4 x7 o g x q) (fun e => x8 (ix1 e)) (fun e => md x7 3 q 0 e) (fun e => md x7 3 q 1 e) d

/-- One row's projection onto column `e`. -/
def lineP (o g x : Fin 1024 → EReal) (q : Fin 8) (e : Fin 2560) : EReal :=
  dotp (lineH x4 x7 x8 o g x q) (fun k => x9 (ix2 k e))

/-! ### The latents -/

theorem gate_at (b : Fin 4) (r : Fin 8192) (y : Fin 1024) : val_main_v16 (F := Ideal) x7 (ix3 b r y) = md x7 2 (Fin.ofNat 8 b) 2 y := by
  rw [val_main_v16_apply, val_main_v8_apply, val_main_v2_apply, val_main_v1_apply, val_main_v0_apply]
  refine congrArg x7 (funext fun a => Fin.ext ?_)
  have := b.isLt
  have := y.isLt
  match a with
  | ⟨0, _⟩ => rfl
  | ⟨1, _⟩ => show (b.val * 3072 + (2048 + y.val)) / 3072 % 4 = b.val % 8; omega
  | ⟨2, _⟩ => show (b.val * 3072 + (2048 + y.val)) % 3072 = (1024 * 2 + y.val) % 3072; omega

theorem shift_at (b : Fin 4) (r : Fin 8192) (y : Fin 1024) : val_main_v36 (F := Ideal) x7 (ix3 b r y) = md x7 3 (Fin.ofNat 8 b) 0 y := by
  rw [val_main_v36_apply, val_main_v9_apply, val_main_v5_apply, val_main_v4_apply, val_main_v3_apply]
  refine congrArg x7 (funext fun a => Fin.ext ?_)
  have := b.isLt
  have := y.isLt
  match a with
  | ⟨0, _⟩ => rfl
  | ⟨1, _⟩ => show (b.val * 3072 + y.val) / 3072 % 4 = b.val % 8; omega
  | ⟨2, _⟩ => show (b.val * 3072 + y.val) % 3072 = (1024 * 0 + y.val) % 3072; omega

theorem scale_at (b : Fin 4) (r : Fin 8192) (y : Fin 1024) : val_main_v34 (F := Ideal) x7 (ix3 b r y) = 1 + md x7 3 (Fin.ofNat 8 b) 1 y := by
  rw [val_main_v34_apply, val_main_v33_apply, val_main_v32_apply, val_main_cst_2_apply, val_main_v10_apply, val_main_v5_apply, val_main_v4_apply, val_main_v3_apply]
  have h1 : (FloatOps.ofBits (F := Ideal) .f32 0x3F800000#32 : EReal) = 1 := Ideal.ofBits_one_f32
  rw [h1]
  refine congrArg (fun i => (1 : EReal) + x7 i) (funext fun a => Fin.ext ?_)
  have := b.isLt
  have := y.isLt
  match a with
  | ⟨0, _⟩ => rfl
  | ⟨1, _⟩ => show (b.val * 3072 + (1024 + y.val)) / 3072 % 4 = b.val % 8; omega
  | ⟨2, _⟩ => show (b.val * 3072 + (1024 + y.val)) % 3072 = (1024 * 1 + y.val) % 3072; omega

theorem silu_at (i : S4x8192x1024.Idx) : val_main_v13 (F := Ideal) x2 i = silu (x2 i) := by
  rw [val_main_v13_apply, val_main_call0_v5_apply, val_main_call0_v4_apply, val_main_call0_v3_apply, val_main_call0_v2_apply, val_main_call0_v1_apply,
    val_main_call0_v0_apply, val_main_call0_cst_apply, val_main_call0_cst_0_apply]
  rfl

theorem stream_at (b : Fin 4) (r : Fin 8192) (y : Fin 1024) :
    val_main_v18 (F := Ideal) x0 x2 x4 x5 x7 (ix3 b r y)
      = lineS x4 x7 (fun k => x0 (ix3 b r k)) (fun k => x2 (ix3 b r k)) (fun k => x5 (ix3 b r k)) (Fin.ofNat 8 b) y := by
  rw [val_main_v18_apply, val_main_v17_apply, gate_at, val_main_v15_apply]
  have hl : ∀ k : Fin 1024, lidx_main_v15 (ix3 b r y) k = ix3 b r k := fun k => funext fun a => match a with
    | ⟨0, _⟩ => rfl
    | ⟨1, _⟩ => rfl
    | ⟨2, _⟩ => rfl
  have hr : ∀ k : Fin 1024, ridx_main_v15 (ix3 b r y) k = ix2 k y := fun k => funext fun a => match a with
    | ⟨0, _⟩ => rfl
    | ⟨1, _⟩ => rfl
  unfold lineS added
  refine congrArg (fun z => x5 (ix3 b r y) + _ * z) (Finset.sum_congr rfl fun k _ => ?_)
  rw [hl, hr, val_main_v14_apply, silu_at, val_main_v12_apply]
  rfl

theorem hidden_at (b : Fin 4) (r : Fin 8192) (y : Fin 1024) :
    val_main_v37 (F := Ideal) x0 x2 x4 x5 x7 x8 (ix3 b r y)
      = lineH x4 x7 x8 (fun k => x0 (ix3 b r k)) (fun k => x2 (ix3 b r k)) (fun k => x5 (ix3 b r k)) (Fin.ofNat 8 b) y := by
  have h20 : ∀ k : Fin 1024, idx_main_v20 (ix2 b r) k = ix3 b r k := fun k => funext fun a => match a with
    | ⟨0, _⟩ => rfl
    | ⟨1, _⟩ => rfl
    | ⟨2, _⟩ => rfl
  have h21 : idx_main_v21 (idx_main_v27 (ix3 b r y)) = ix2 b r := funext fun a => match a with
    | ⟨0, _⟩ => rfl
    | ⟨1, _⟩ => rfl
  have h29 : idx_main_v29 (idx_main_v30 (ix3 b r y)) = ix1 y := funext fun a => match a with
    | ⟨0, _⟩ => rfl
  rw [val_main_v37_apply, shift_at, val_main_v35_apply, scale_at, val_main_v31_apply, val_main_v30_apply, val_main_v29_apply, h29, val_main_v28_apply, val_main_v27_apply,
    val_main_v26_apply, val_main_v25_apply, val_main_v24_apply, val_main_v23_apply, val_main_v22_apply, val_main_v21_apply, h21, val_main_v20_apply,
    val_main_cst_apply, val_main_cst_0_apply, val_main_cst_1_apply]
  simp only [h20, val_main_v19_apply, stream_at]
  unfold lineH
  generalize lineS _ _ _ _ _ _ = v
  have hz : (FloatOps.ofBits (F := Ideal) .f32 0#32 : EReal) = 0 := Ideal.ofBits_zero_f32
  rw [hz, zero_add]
  rfl

theorem proj_at (b : Fin 4) (r : Fin 8192) (e : Fin 2560) :
    val_main_v38 (F := Ideal) x0 x2 x4 x5 x7 x8 x9 (ix3 b r e)
      = lineP x4 x7 x8 x9 (fun k => x0 (ix3 b r k)) (fun k => x2 (ix3 b r k)) (fun k => x5 (ix3 b r k)) (Fin.ofNat 8 b) e := by
  rw [val_main_v38_apply]
  have hl : ∀ k : Fin 1024, lidx_main_v38 (ix3 b r e) k = ix3 b r k := fun k => funext fun a => match a with
    | ⟨0, _⟩ => rfl
    | ⟨1, _⟩ => rfl
    | ⟨2, _⟩ => rfl
  have hr : ∀ k : Fin 1024, ridx_main_v38 (ix3 b r e) k = ix2 k e := fun k => funext fun a => match a with
    | ⟨0, _⟩ => rfl
    | ⟨1, _⟩ => rfl
  unfold lineP dotp
  refine Finset.sum_congr rfl fun k _ => ?_
  rw [hl, hr, hidden_at]

/-! ### The context -/

theorem gate_ctx (b : Fin 4) (r : Fin 256) (y : Fin 1024) : val_main_v86 (F := Ideal) x7 (ix3 b r y) = md x7 2 4 2 y := by
  rw [val_main_v86_apply, val_main_v85_apply, val_main_v77_apply, val_main_v72_apply, val_main_v71_apply]
  refine congrArg x7 (funext fun a => Fin.ext ?_)
  have := y.isLt
  match a with
  | ⟨0, _⟩ => rfl
  | ⟨1, _⟩ => rfl
  | ⟨2, _⟩ => show (2048 + y.val) % 3072 = (1024 * 2 + y.val) % 3072; omega

theorem shift_ctx (b : Fin 4) (r : Fin 256) (y : Fin 1024) : val_main_v108 (F := Ideal) x7 (ix3 b r y) = md x7 3 4 0 y := by
  rw [val_main_v108_apply, val_main_v107_apply, val_main_v78_apply, val_main_v74_apply, val_main_v73_apply]
  refine congrArg x7 (funext fun a => Fin.ext ?_)
  have := y.isLt
  match a with
  | ⟨0, _⟩ => rfl
  | ⟨1, _⟩ => rfl
  | ⟨2, _⟩ => show y.val % 3072 = (1024 * 0 + y.val) % 3072; omega

theorem scale_ctx (b : Fin 4) (r : Fin 256) (y : Fin 1024) : val_main_v105 (F := Ideal) x7 (ix3 b r y) = 1 + md x7 3 4 1 y := by
  rw [val_main_v105_apply, val_main_v104_apply, val_main_v103_apply, val_main_v102_apply, val_main_cst_12_apply, val_main_v79_apply, val_main_v74_apply, val_main_v73_apply]
  have h1 : (FloatOps.ofBits (F := Ideal) .f32 0x3F800000#32 : EReal) = 1 := Ideal.ofBits_one_f32
  rw [h1]
  refine congrArg (fun i => (1 : EReal) + x7 i) (funext fun a => Fin.ext ?_)
  have := y.isLt
  match a with
  | ⟨0, _⟩ => rfl
  | ⟨1, _⟩ => rfl
  | ⟨2, _⟩ => show (1024 + y.val) % 3072 = (1024 * 1 + y.val) % 3072; omega

theorem silu_ctx (i : S4x256x1024.Idx) : val_main_v82 (F := Ideal) x3 i = silu (x3 i) := by
  rw [val_main_v82_apply, val_main_call1_v5_apply, val_main_call1_v4_apply, val_main_call1_v3_apply, val_main_call1_v2_apply, val_main_call1_v1_apply,
    val_main_call1_v0_apply, val_main_call1_cst_apply, val_main_call1_cst_0_apply]
  rfl

theorem stream_ctx (b : Fin 4) (r : Fin 256) (y : Fin 1024) :
    val_main_v88 (F := Ideal) x1 x3 x4 x6 x7 (ix3 b r y)
      = lineS x4 x7 (fun k => x1 (ix3 b r k)) (fun k => x3 (ix3 b r k)) (fun k => x6 (ix3 b r k)) 4 y := by
  rw [val_main_v88_apply, val_main_v87_apply, gate_ctx, val_main_v84_apply]
  have hl : ∀ k : Fin 1024, lidx_main_v84 (ix3 b r y) k = ix3 b r k := fun k => funext fun a => match a with
    | ⟨0, _⟩ => rfl
    | ⟨1, _⟩ => rfl
    | ⟨2, _⟩ => rfl
  have hr : ∀ k : Fin 1024, ridx_main_v84 (ix3 b r y) k = ix2 k y := fun k => funext fun a => match a with
    | ⟨0, _⟩ => rfl
    | ⟨1, _⟩ => rfl
  unfold lineS added
  refine congrArg (fun z => x6 (ix3 b r y) + _ * z) (Finset.sum_congr rfl fun k _ => ?_)
  rw [hl, hr, val_main_v83_apply, silu_ctx, val_main_v81_apply]
  rfl

theorem hidden_ctx (b : Fin 4) (r : Fin 256) (y : Fin 1024) :
    val_main_v109 (F := Ideal) x1 x3 x4 x6 x7 x8 (ix3 b r y)
      = lineH x4 x7 x8 (fun k => x1 (ix3 b r k)) (fun k => x3 (ix3 b r k)) (fun k => x6 (ix3 b r k)) 4 y := by
  have h58 : ∀ k : Fin 1024, idx_main_v90 (ix2 b r) k = ix3 b r k := fun k => funext fun a => match a with
    | ⟨0, _⟩ => rfl
    | ⟨1, _⟩ => rfl
    | ⟨2, _⟩ => rfl
  have h59 : idx_main_v91 (idx_main_v97 (ix3 b r y)) = ix2 b r := funext fun a => match a with
    | ⟨0, _⟩ => rfl
    | ⟨1, _⟩ => rfl
  have h67 : idx_main_v99 (idx_main_v100 (ix3 b r y)) = ix1 y := funext fun a => match a with
    | ⟨0, _⟩ => rfl
  rw [val_main_v109_apply, shift_ctx, val_main_v106_apply, scale_ctx, val_main_v101_apply, val_main_v100_apply, val_main_v99_apply, h67, val_main_v98_apply, val_main_v97_apply,
    val_main_v96_apply, val_main_v95_apply, val_main_v94_apply, val_main_v93_apply, val_main_v92_apply, val_main_v91_apply, h59, val_main_v90_apply,
    val_main_cst_9_apply, val_main_cst_10_apply, val_main_cst_11_apply]
  simp only [h58, val_main_v89_apply, stream_ctx]
  unfold lineH
  generalize lineS _ _ _ _ _ _ = v
  have hz : (FloatOps.ofBits (F := Ideal) .f32 0#32 : EReal) = 0 := Ideal.ofBits_zero_f32
  rw [hz, zero_add]
  rfl

theorem proj_ctx (b : Fin 4) (r : Fin 256) (e : Fin 2560) :
    val_main_v110 (F := Ideal) x1 x3 x4 x6 x7 x8 x9 (ix3 b r e)
      = lineP x4 x7 x8 x9 (fun k => x1 (ix3 b r k)) (fun k => x3 (ix3 b r k)) (fun k => x6 (ix3 b r k)) 4 e := by
  rw [val_main_v110_apply]
  have hl : ∀ k : Fin 1024, lidx_main_v110 (ix3 b r e) k = ix3 b r k := fun k => funext fun a => match a with
    | ⟨0, _⟩ => rfl
    | ⟨1, _⟩ => rfl
    | ⟨2, _⟩ => rfl
  have hr : ∀ k : Fin 1024, ridx_main_v110 (ix3 b r e) k = ix2 k e := fun k => funext fun a => match a with
    | ⟨0, _⟩ => rfl
    | ⟨1, _⟩ => rfl
  unfold lineP dotp
  refine Finset.sum_congr rfl fun k _ => ?_
  rw [hl, hr, hidden_ctx]

/-! ### Heads -/

/-- A head's row rotated by one pair of tables: the quarter across, its sign turned in the first of each two. -/
def rot (h c s : Fin 128 → EReal) (e : Fin 128) : EReal :=
  h e * c e + (if e.val % 64 < 32 then -(h (up e)) else h (down e)) * s e

/-- A head of the queries' row. -/
def headOf (p : Fin 2560 → EReal) (n : Fin 8) : Fin 128 → EReal := fun e => p (cq (strip n e))
/-- A head of the keys' row. -/
def headOf2 (p : Fin 2560 → EReal) (n : Fin 2) : Fin 128 → EReal := fun e => p (ck (half n e))

/-- The index of an element of a head's array. -/
theorem hz : (FloatOps.ofBits (F := Ideal) .f32 0#32 : EReal) = 0 := Ideal.ofBits_zero_f32

theorem ql_cut (b : Fin 4) (r : Fin 8192) (n : Fin 8) (e : Fin 128) : val_main_v43 (F := Ideal) x0 x2 x4 x5 x7 x8 x9 (ix4 b r n e)
    = headOf (lineP x4 x7 x8 x9 (fun k => x0 (ix3 b r k)) (fun k => x2 (ix3 b r k)) (fun k => x5 (ix3 b r k)) (Fin.ofNat 8 b) ) n e := by
  have hi : idx_main_v39 (idx_main_v43 (ix4 b r n e)) = ix3 b r (cq (strip n e)) := funext fun a => Fin.ext <| by
    have := b.isLt
    have := r.isLt
    have := n.isLt
    have := e.isLt
    match a with
    | ⟨0, _⟩ => show (((b.val * 8192 + r.val) * 8 + n.val) * 128 + e.val) / 8388608 = b.val; omega
    | ⟨1, _⟩ => show (((b.val * 8192 + r.val) * 8 + n.val) * 128 + e.val) / 1024 % 8192 = r.val; omega
    | ⟨2, _⟩ => show (((b.val * 8192 + r.val) * 8 + n.val) * 128 + e.val) % 1024 = (128 * n.val + e.val); omega
  rw [val_main_v43_apply, val_main_v39_apply, hi, proj_at]
  rfl

theorem ql_head (b : Fin 4) (r : Fin 8192) (n : Fin 8) (e : Fin 128) : val_main_v56 (F := Ideal) x0 x2 x4 x5 x7 x8 x9 x10 (ix4 b r n e)
    = headed (headOf (lineP x4 x7 x8 x9 (fun k => x0 (ix3 b r k)) (fun k => x2 (ix3 b r k)) (fun k => x5 (ix3 b r k)) (Fin.ofNat 8 b)) n) (fun k => x10 (ix1 k)) e := by
  have hs : ∀ k : Fin 128, idx_main_v45 (ix3 b r n) k = ix4 b r n k := fun k => funext fun a => match a with
    | ⟨0, _⟩ => rfl
    | ⟨1, _⟩ => rfl
    | ⟨2, _⟩ => rfl
    | ⟨3, _⟩ => rfl
  have hk : idx_main_v46 (idx_main_v52 (ix4 b r n e)) = ix3 b r n := funext fun a => match a with
    | ⟨0, _⟩ => rfl
    | ⟨1, _⟩ => rfl
    | ⟨2, _⟩ => rfl
  have hg : idx_main_v54 (idx_main_v55 (ix4 b r n e)) = ix1 e := funext fun a => match a with
    | ⟨0, _⟩ => rfl
  rw [val_main_v56_apply, val_main_v55_apply, val_main_v54_apply, hg, val_main_v53_apply, val_main_v52_apply, val_main_v51_apply, val_main_v50_apply,
    val_main_v49_apply, val_main_v48_apply, val_main_v47_apply, val_main_v46_apply, hk, val_main_v45_apply, val_main_cst_3_apply, val_main_cst_4_apply, val_main_cst_5_apply]
  simp only [hs, val_main_v44_apply, ql_cut]
  generalize headOf _ n = v
  rw [hz, zero_add]
  rfl

theorem kl_cut (b : Fin 4) (r : Fin 8192) (n : Fin 2) (e : Fin 128) : val_main_v57 (F := Ideal) x0 x2 x4 x5 x7 x8 x9 (ix4 b r n e)
    = headOf2 (lineP x4 x7 x8 x9 (fun k => x0 (ix3 b r k)) (fun k => x2 (ix3 b r k)) (fun k => x5 (ix3 b r k)) (Fin.ofNat 8 b) ) n e := by
  have hi : idx_main_v40 (idx_main_v57 (ix4 b r n e)) = ix3 b r (ck (half n e)) := funext fun a => Fin.ext <| by
    have := b.isLt
    have := r.isLt
    have := n.isLt
    have := e.isLt
    match a with
    | ⟨0, _⟩ => show (((b.val * 8192 + r.val) * 2 + n.val) * 128 + e.val) / 2097152 = b.val; omega
    | ⟨1, _⟩ => show (((b.val * 8192 + r.val) * 2 + n.val) * 128 + e.val) / 256 % 8192 = r.val; omega
    | ⟨2, _⟩ => show 1024 + (((b.val * 8192 + r.val) * 2 + n.val) * 128 + e.val) % 256 = 1024 + (128 * n.val + e.val); omega
  rw [val_main_v57_apply, val_main_v40_apply, hi, proj_at]
  rfl

theorem kl_head (b : Fin 4) (r : Fin 8192) (n : Fin 2) (e : Fin 128) : val_main_v70 (F := Ideal) x0 x2 x4 x5 x7 x8 x9 x11 (ix4 b r n e)
    = headed (headOf2 (lineP x4 x7 x8 x9 (fun k => x0 (ix3 b r k)) (fun k => x2 (ix3 b r k)) (fun k => x5 (ix3 b r k)) (Fin.ofNat 8 b)) n) (fun k => x11 (ix1 k)) e := by
  have hs : ∀ k : Fin 128, idx_main_v59 (ix3 b r n) k = ix4 b r n k := fun k => funext fun a => match a with
    | ⟨0, _⟩ => rfl
    | ⟨1, _⟩ => rfl
    | ⟨2, _⟩ => rfl
    | ⟨3, _⟩ => rfl
  have hk : idx_main_v60 (idx_main_v66 (ix4 b r n e)) = ix3 b r n := funext fun a => match a with
    | ⟨0, _⟩ => rfl
    | ⟨1, _⟩ => rfl
    | ⟨2, _⟩ => rfl
  have hg : idx_main_v68 (idx_main_v69 (ix4 b r n e)) = ix1 e := funext fun a => match a with
    | ⟨0, _⟩ => rfl
  rw [val_main_v70_apply, val_main_v69_apply, val_main_v68_apply, hg, val_main_v67_apply, val_main_v66_apply, val_main_v65_apply, val_main_v64_apply,
    val_main_v63_apply, val_main_v62_apply, val_main_v61_apply, val_main_v60_apply, hk, val_main_v59_apply, val_main_cst_6_apply, val_main_cst_7_apply, val_main_cst_8_apply]
  simp only [hs, val_main_v58_apply, kl_cut]
  generalize headOf2 _ n = v
  rw [hz, zero_add]
  rfl

theorem qc_cut (b : Fin 4) (r : Fin 256) (n : Fin 8) (e : Fin 128) : val_main_v115 (F := Ideal) x1 x3 x4 x6 x7 x8 x9 (ix4 b r n e)
    = headOf (lineP x4 x7 x8 x9 (fun k => x1 (ix3 b r k)) (fun k => x3 (ix3 b r k)) (fun k => x6 (ix3 b r k)) 4 ) n e := by
  have hi : idx_main_v111 (idx_main_v115 (ix4 b r n e)) = ix3 b r (cq (strip n e)) := funext fun a => Fin.ext <| by
    have := b.isLt
    have := r.isLt
    have := n.isLt
    have := e.isLt
    match a with
    | ⟨0, _⟩ => show (((b.val * 256 + r.val) * 8 + n.val) * 128 + e.val) / 262144 = b.val; omega
    | ⟨1, _⟩ => show (((b.val * 256 + r.val) * 8 + n.val) * 128 + e.val) / 1024 % 256 = r.val; omega
    | ⟨2, _⟩ => show (((b.val * 256 + r.val) * 8 + n.val) * 128 + e.val) % 1024 = (128 * n.val + e.val); omega
  rw [val_main_v115_apply, val_main_v111_apply, hi, proj_ctx]
  rfl

theorem qc_head (b : Fin 4) (r : Fin 256) (n : Fin 8) (e : Fin 128) : val_main_v128 (F := Ideal) x1 x3 x4 x6 x7 x8 x9 x10 (ix4 b r n e)
    = headed (headOf (lineP x4 x7 x8 x9 (fun k => x1 (ix3 b r k)) (fun k => x3 (ix3 b r k)) (fun k => x6 (ix3 b r k)) 4) n) (fun k => x10 (ix1 k)) e := by
  have hs : ∀ k : Fin 128, idx_main_v117 (ix3 b r n) k = ix4 b r n k := fun k => funext fun a => match a with
    | ⟨0, _⟩ => rfl
    | ⟨1, _⟩ => rfl
    | ⟨2, _⟩ => rfl
    | ⟨3, _⟩ => rfl
  have hk : idx_main_v118 (idx_main_v124 (ix4 b r n e)) = ix3 b r n := funext fun a => match a with
    | ⟨0, _⟩ => rfl
    | ⟨1, _⟩ => rfl
    | ⟨2, _⟩ => rfl
  have hg : idx_main_v126 (idx_main_v127 (ix4 b r n e)) = ix1 e := funext fun a => match a with
    | ⟨0, _⟩ => rfl
  rw [val_main_v128_apply, val_main_v127_apply, val_main_v126_apply, hg, val_main_v125_apply, val_main_v124_apply, val_main_v123_apply, val_main_v122_apply,
    val_main_v121_apply, val_main_v120_apply, val_main_v119_apply, val_main_v118_apply, hk, val_main_v117_apply, val_main_cst_13_apply, val_main_cst_14_apply, val_main_cst_15_apply]
  simp only [hs, val_main_v116_apply, qc_cut]
  generalize headOf _ n = v
  rw [hz, zero_add]
  rfl

theorem kc_cut (b : Fin 4) (r : Fin 256) (n : Fin 2) (e : Fin 128) : val_main_v129 (F := Ideal) x1 x3 x4 x6 x7 x8 x9 (ix4 b r n e)
    = headOf2 (lineP x4 x7 x8 x9 (fun k => x1 (ix3 b r k)) (fun k => x3 (ix3 b r k)) (fun k => x6 (ix3 b r k)) 4 ) n e := by
  have hi : idx_main_v112 (idx_main_v129 (ix4 b r n e)) = ix3 b r (ck (half n e)) := funext fun a => Fin.ext <| by
    have := b.isLt
    have := r.isLt
    have := n.isLt
    have := e.isLt
    match a with
    | ⟨0, _⟩ => show (((b.val * 256 + r.val) * 2 + n.val) * 128 + e.val) / 65536 = b.val; omega
    | ⟨1, _⟩ => show (((b.val * 256 + r.val) * 2 + n.val) * 128 + e.val) / 256 % 256 = r.val; omega
    | ⟨2, _⟩ => show 1024 + (((b.val * 256 + r.val) * 2 + n.val) * 128 + e.val) % 256 = 1024 + (128 * n.val + e.val); omega
  rw [val_main_v129_apply, val_main_v112_apply, hi, proj_ctx]
  rfl

theorem kc_head (b : Fin 4) (r : Fin 256) (n : Fin 2) (e : Fin 128) : val_main_v142 (F := Ideal) x1 x3 x4 x6 x7 x8 x9 x11 (ix4 b r n e)
    = headed (headOf2 (lineP x4 x7 x8 x9 (fun k => x1 (ix3 b r k)) (fun k => x3 (ix3 b r k)) (fun k => x6 (ix3 b r k)) 4) n) (fun k => x11 (ix1 k)) e := by
  have hs : ∀ k : Fin 128, idx_main_v131 (ix3 b r n) k = ix4 b r n k := fun k => funext fun a => match a with
    | ⟨0, _⟩ => rfl
    | ⟨1, _⟩ => rfl
    | ⟨2, _⟩ => rfl
    | ⟨3, _⟩ => rfl
  have hk : idx_main_v132 (idx_main_v138 (ix4 b r n e)) = ix3 b r n := funext fun a => match a with
    | ⟨0, _⟩ => rfl
    | ⟨1, _⟩ => rfl
    | ⟨2, _⟩ => rfl
  have hg : idx_main_v140 (idx_main_v141 (ix4 b r n e)) = ix1 e := funext fun a => match a with
    | ⟨0, _⟩ => rfl
  rw [val_main_v142_apply, val_main_v141_apply, val_main_v140_apply, hg, val_main_v139_apply, val_main_v138_apply, val_main_v137_apply, val_main_v136_apply,
    val_main_v135_apply, val_main_v134_apply, val_main_v133_apply, val_main_v132_apply, hk, val_main_v131_apply, val_main_cst_16_apply, val_main_cst_17_apply, val_main_cst_18_apply]
  simp only [hs, val_main_v130_apply, kc_cut]
  generalize headOf2 _ n = v
  rw [hz, zero_add]
  rfl

theorem ql_turned (b : Fin 4) (r : Fin 8192) (n : Fin 8) (e : Fin 128) : val_main_v153 (F := Ideal) x0 x2 x4 x5 x7 x8 x9 x10 (ix4 b r n e)
    = if e.val % 64 < 32 then -(val_main_v56 (F := Ideal) x0 x2 x4 x5 x7 x8 x9 x10 (ix4 b r n (up e))) else val_main_v56 (F := Ideal) x0 x2 x4 x5 x7 x8 x9 x10 (ix4 b r n (down e)) := by
  have h1 : ∀ z : Fin 32, val_main_v151 (F := Ideal) x0 x2 x4 x5 x7 x8 x9 x10 (ix4 b r n z) = -(val_main_v56 (F := Ideal) x0 x2 x4 x5 x7 x8 x9 x10 (ix4 b r n ⟨32 + z.val, by omega⟩)) := fun z => by
    rw [val_main_v151_apply, val_main_v144_apply]
    exact congrArg (fun i => -(val_main_v56 (F := Ideal) x0 x2 x4 x5 x7 x8 x9 x10 i)) (funext fun a => match a with
      | ⟨0, _⟩ => rfl
      | ⟨1, _⟩ => rfl
      | ⟨2, _⟩ => rfl
      | ⟨3, _⟩ => rfl)
  have h2 : ∀ z : Fin 32, val_main_v143 (F := Ideal) x0 x2 x4 x5 x7 x8 x9 x10 (ix4 b r n z) = val_main_v56 (F := Ideal) x0 x2 x4 x5 x7 x8 x9 x10 (ix4 b r n ⟨z.val, by omega⟩) := fun z => by
    rw [val_main_v143_apply]
    exact congrArg (val_main_v56 (F := Ideal) x0 x2 x4 x5 x7 x8 x9 x10) (funext fun a => match a with
      | ⟨0, _⟩ => rfl
      | ⟨1, _⟩ => rfl
      | ⟨2, _⟩ => rfl
      | ⟨3, _⟩ => rfl)
  have h3 : ∀ z : Fin 32, val_main_v152 (F := Ideal) x0 x2 x4 x5 x7 x8 x9 x10 (ix4 b r n z) = -(val_main_v56 (F := Ideal) x0 x2 x4 x5 x7 x8 x9 x10 (ix4 b r n ⟨96 + z.val, by omega⟩)) := fun z => by
    rw [val_main_v152_apply, val_main_v146_apply]
    exact congrArg (fun i => -(val_main_v56 (F := Ideal) x0 x2 x4 x5 x7 x8 x9 x10 i)) (funext fun a => match a with
      | ⟨0, _⟩ => rfl
      | ⟨1, _⟩ => rfl
      | ⟨2, _⟩ => rfl
      | ⟨3, _⟩ => rfl)
  have h4 : ∀ z : Fin 32, val_main_v145 (F := Ideal) x0 x2 x4 x5 x7 x8 x9 x10 (ix4 b r n z) = val_main_v56 (F := Ideal) x0 x2 x4 x5 x7 x8 x9 x10 (ix4 b r n ⟨64 + z.val, by omega⟩) := fun z => by
    rw [val_main_v145_apply]
    exact congrArg (val_main_v56 (F := Ideal) x0 x2 x4 x5 x7 x8 x9 x10) (funext fun a => match a with
      | ⟨0, _⟩ => rfl
      | ⟨1, _⟩ => rfl
      | ⟨2, _⟩ => rfl
      | ⟨3, _⟩ => rfl)
  unfold val_main_v153
  generalize val_main_v151 (F := Ideal) x0 x2 x4 x5 x7 x8 x9 x10 = p1 at h1 ⊢
  generalize val_main_v143 (F := Ideal) x0 x2 x4 x5 x7 x8 x9 x10 = p2 at h2 ⊢
  generalize val_main_v152 (F := Ideal) x0 x2 x4 x5 x7 x8 x9 x10 = p3 at h3 ⊢
  generalize val_main_v145 (F := Ideal) x0 x2 x4 x5 x7 x8 x9 x10 = p4 at h4 ⊢
  generalize val_main_v56 (F := Ideal) x0 x2 x4 x5 x7 x8 x9 x10 = h at h1 h2 h3 h4 ⊢
  have he := e.isLt
  pointwise
  have at4 : ∀ i j : Fin 128, i = j → h (ix4 b r n i) = h (ix4 b r n j) := fun i j hij => by rw [hij]
  by_cases c1 : e.val < 32
  · rw [dif_pos c1]
    exact (h1 _).trans ((congrArg (fun z => -z) (at4 _ _ (Fin.ext (by show 32 + e.val = (e.val + 32) % 128; omega)))).trans (if_pos (by omega)).symm)
  rw [dif_neg c1]
  by_cases c2 : e.val - 32 < 32
  · rw [dif_pos c2]
    exact (h2 _).trans ((at4 _ _ (Fin.ext (by show e.val - 32 = (e.val + 96) % 128; omega))).trans (if_neg (by omega)).symm)
  rw [dif_neg c2]
  by_cases c3 : e.val - 32 - 32 < 32
  · rw [dif_pos c3]
    exact (h3 _).trans ((congrArg (fun z => -z) (at4 _ _ (Fin.ext (by show 96 + (e.val - 32 - 32) = (e.val + 32) % 128; omega)))).trans (if_pos (by omega)).symm)
  rw [dif_neg c3]
  exact (h4 _).trans ((at4 _ _ (Fin.ext (by show 64 + (e.val - 32 - 32 - 32) = (e.val + 96) % 128; omega))).trans (if_neg (by omega)).symm)

theorem ql_rot (b : Fin 4) (r : Fin 8192) (n : Fin 8) (e : Fin 128) : val_main_v158 (F := Ideal) x0 x2 x4 x5 x7 x8 x9 x10 x12 x13 (ix4 b r n e)
    = rot (headed (headOf (lineP x4 x7 x8 x9 (fun k => x0 (ix3 b r k)) (fun k => x2 (ix3 b r k)) (fun k => x5 (ix3 b r k)) (Fin.ofNat 8 b)) n) (fun k => x10 (ix1 k))) (fun k => x12 (ix2 r k)) (fun k => x13 (ix2 r k)) e := by
  have hc : idx_main_v147 (idx_main_v148 (idx_main_v149 (ix4 b r n e))) = ix2 r e := funext fun a => match a with
    | ⟨0, _⟩ => rfl
    | ⟨1, _⟩ => rfl
  have hs : idx_main_v154 (idx_main_v155 (idx_main_v156 (ix4 b r n e))) = ix2 r e := funext fun a => match a with
    | ⟨0, _⟩ => rfl
    | ⟨1, _⟩ => rfl
  rw [val_main_v158_apply, val_main_v157_apply, val_main_v156_apply, val_main_v155_apply, val_main_v154_apply, hs, ql_turned,
    val_main_v150_apply, val_main_v149_apply, val_main_v148_apply, val_main_v147_apply, hc]
  simp only [ql_head]
  rfl

theorem kl_turned (b : Fin 4) (r : Fin 8192) (n : Fin 2) (e : Fin 128) : val_main_v171 (F := Ideal) x0 x2 x4 x5 x7 x8 x9 x11 (ix4 b r n e)
    = if e.val % 64 < 32 then -(val_main_v70 (F := Ideal) x0 x2 x4 x5 x7 x8 x9 x11 (ix4 b r n (up e))) else val_main_v70 (F := Ideal) x0 x2 x4 x5 x7 x8 x9 x11 (ix4 b r n (down e)) := by
  have h1 : ∀ z : Fin 32, val_main_v169 (F := Ideal) x0 x2 x4 x5 x7 x8 x9 x11 (ix4 b r n z) = -(val_main_v70 (F := Ideal) x0 x2 x4 x5 x7 x8 x9 x11 (ix4 b r n ⟨32 + z.val, by omega⟩)) := fun z => by
    rw [val_main_v169_apply, val_main_v162_apply]
    exact congrArg (fun i => -(val_main_v70 (F := Ideal) x0 x2 x4 x5 x7 x8 x9 x11 i)) (funext fun a => match a with
      | ⟨0, _⟩ => rfl
      | ⟨1, _⟩ => rfl
      | ⟨2, _⟩ => rfl
      | ⟨3, _⟩ => rfl)
  have h2 : ∀ z : Fin 32, val_main_v161 (F := Ideal) x0 x2 x4 x5 x7 x8 x9 x11 (ix4 b r n z) = val_main_v70 (F := Ideal) x0 x2 x4 x5 x7 x8 x9 x11 (ix4 b r n ⟨z.val, by omega⟩) := fun z => by
    rw [val_main_v161_apply]
    exact congrArg (val_main_v70 (F := Ideal) x0 x2 x4 x5 x7 x8 x9 x11) (funext fun a => match a with
      | ⟨0, _⟩ => rfl
      | ⟨1, _⟩ => rfl
      | ⟨2, _⟩ => rfl
      | ⟨3, _⟩ => rfl)
  have h3 : ∀ z : Fin 32, val_main_v170 (F := Ideal) x0 x2 x4 x5 x7 x8 x9 x11 (ix4 b r n z) = -(val_main_v70 (F := Ideal) x0 x2 x4 x5 x7 x8 x9 x11 (ix4 b r n ⟨96 + z.val, by omega⟩)) := fun z => by
    rw [val_main_v170_apply, val_main_v164_apply]
    exact congrArg (fun i => -(val_main_v70 (F := Ideal) x0 x2 x4 x5 x7 x8 x9 x11 i)) (funext fun a => match a with
      | ⟨0, _⟩ => rfl
      | ⟨1, _⟩ => rfl
      | ⟨2, _⟩ => rfl
      | ⟨3, _⟩ => rfl)
  have h4 : ∀ z : Fin 32, val_main_v163 (F := Ideal) x0 x2 x4 x5 x7 x8 x9 x11 (ix4 b r n z) = val_main_v70 (F := Ideal) x0 x2 x4 x5 x7 x8 x9 x11 (ix4 b r n ⟨64 + z.val, by omega⟩) := fun z => by
    rw [val_main_v163_apply]
    exact congrArg (val_main_v70 (F := Ideal) x0 x2 x4 x5 x7 x8 x9 x11) (funext fun a => match a with
      | ⟨0, _⟩ => rfl
      | ⟨1, _⟩ => rfl
      | ⟨2, _⟩ => rfl
      | ⟨3, _⟩ => rfl)
  unfold val_main_v171
  generalize val_main_v169 (F := Ideal) x0 x2 x4 x5 x7 x8 x9 x11 = p1 at h1 ⊢
  generalize val_main_v161 (F := Ideal) x0 x2 x4 x5 x7 x8 x9 x11 = p2 at h2 ⊢
  generalize val_main_v170 (F := Ideal) x0 x2 x4 x5 x7 x8 x9 x11 = p3 at h3 ⊢
  generalize val_main_v163 (F := Ideal) x0 x2 x4 x5 x7 x8 x9 x11 = p4 at h4 ⊢
  generalize val_main_v70 (F := Ideal) x0 x2 x4 x5 x7 x8 x9 x11 = h at h1 h2 h3 h4 ⊢
  have he := e.isLt
  pointwise
  have at4 : ∀ i j : Fin 128, i = j → h (ix4 b r n i) = h (ix4 b r n j) := fun i j hij => by rw [hij]
  by_cases c1 : e.val < 32
  · rw [dif_pos c1]
    exact (h1 _).trans ((congrArg (fun z => -z) (at4 _ _ (Fin.ext (by show 32 + e.val = (e.val + 32) % 128; omega)))).trans (if_pos (by omega)).symm)
  rw [dif_neg c1]
  by_cases c2 : e.val - 32 < 32
  · rw [dif_pos c2]
    exact (h2 _).trans ((at4 _ _ (Fin.ext (by show e.val - 32 = (e.val + 96) % 128; omega))).trans (if_neg (by omega)).symm)
  rw [dif_neg c2]
  by_cases c3 : e.val - 32 - 32 < 32
  · rw [dif_pos c3]
    exact (h3 _).trans ((congrArg (fun z => -z) (at4 _ _ (Fin.ext (by show 96 + (e.val - 32 - 32) = (e.val + 32) % 128; omega)))).trans (if_pos (by omega)).symm)
  rw [dif_neg c3]
  exact (h4 _).trans ((at4 _ _ (Fin.ext (by show 64 + (e.val - 32 - 32 - 32) = (e.val + 96) % 128; omega))).trans (if_neg (by omega)).symm)

theorem kl_rot (b : Fin 4) (r : Fin 8192) (n : Fin 2) (e : Fin 128) : val_main_v176 (F := Ideal) x0 x2 x4 x5 x7 x8 x9 x11 x12 x13 (ix4 b r n e)
    = rot (headed (headOf2 (lineP x4 x7 x8 x9 (fun k => x0 (ix3 b r k)) (fun k => x2 (ix3 b r k)) (fun k => x5 (ix3 b r k)) (Fin.ofNat 8 b)) n) (fun k => x11 (ix1 k))) (fun k => x12 (ix2 r k)) (fun k => x13 (ix2 r k)) e := by
  have hc : idx_main_v165 (idx_main_v166 (idx_main_v167 (ix4 b r n e))) = ix2 r e := funext fun a => match a with
    | ⟨0, _⟩ => rfl
    | ⟨1, _⟩ => rfl
  have hs : idx_main_v172 (idx_main_v173 (idx_main_v174 (ix4 b r n e))) = ix2 r e := funext fun a => match a with
    | ⟨0, _⟩ => rfl
    | ⟨1, _⟩ => rfl
  rw [val_main_v176_apply, val_main_v175_apply, val_main_v174_apply, val_main_v173_apply, val_main_v172_apply, hs, kl_turned,
    val_main_v168_apply, val_main_v167_apply, val_main_v166_apply, val_main_v165_apply, hc]
  simp only [kl_head]
  rfl

/-! ### Latents and context joined -/

/-- A row's head, rotated where the row is a latent's. -/
def posed (C S : S8192x128.Idx → EReal) (R : Fin 8448) (h : Fin 128 → EReal) : Fin 128 → EReal :=
  if hR : R.val < 8192 then rot h (fun k => C (ix2 ⟨R.val, hR⟩ k)) (fun k => S (ix2 ⟨R.val, hR⟩ k)) else h

/-- Row `R` of the projection onto column `e`. -/
def projR (b : Fin 4) (R : Fin 8448) (e : Fin 2560) : EReal :=
  lineP x4 x7 x8 x9 (rowOf x0 x1 b R) (rowOf x2 x3 b R) (rowOf x5 x6 b R) (who b R) e

theorem stream_res (b : Fin 4) (R : Fin 8448) (y : Fin 1024) :
    val_main_v181 (F := Ideal) x0 x1 x2 x3 x4 x5 x6 x7 (ix3 b R y)
      = lineS x4 x7 (rowOf x0 x1 b R) (rowOf x2 x3 b R) (rowOf x5 x6 b R) (who b R) y := by
  unfold val_main_v181
  have hl := fun h : R.val < 8192 => stream_at x0 x2 x5 x4 x7 b ⟨R.val, h⟩ y
  have hc := fun h : ¬ R.val < 8192 => stream_ctx x1 x3 x6 x4 x7 b ⟨R.val - 8192, by omega⟩ y
  generalize val_main_v18 (F := Ideal) x0 x2 x4 x5 x7 = p at hl ⊢
  generalize val_main_v88 (F := Ideal) x1 x3 x4 x6 x7 = q at hc ⊢
  pointwise
  unfold rowOf who
  by_cases h : R.val < 8192
  · simp only [dif_pos h, if_pos h]
    exact hl h
  · simp only [dif_neg h, if_neg h]
    exact hc h

theorem v_join (b : Fin 4) (R : Fin 8448) (y : Fin 256) :
    val_main_v179 (F := Ideal) x0 x1 x2 x3 x4 x5 x6 x7 x8 x9 (ix3 b R y) = projR x0 x1 x2 x5 x3 x6 x4 x7 x8 x9 b R (cv y) := by
  unfold val_main_v179
  have hl : ∀ h : R.val < 8192, val_main_v41 (F := Ideal) x0 x2 x4 x5 x7 x8 x9 (ix3 b ⟨R.val, h⟩ y) = _ := fun h => by
    have hi : idx_main_v41 (ix3 b ⟨R.val, h⟩ y) = ix3 b ⟨R.val, h⟩ (cv y) := funext fun a => match a with
      | ⟨0, _⟩ => rfl
      | ⟨1, _⟩ => rfl
      | ⟨2, _⟩ => rfl
    rw [val_main_v41_apply, hi, proj_at]
  have hc : ∀ h : ¬ R.val < 8192, val_main_v113 (F := Ideal) x1 x3 x4 x6 x7 x8 x9 (ix3 b ⟨R.val - 8192, by omega⟩ y) = _ := fun h => by
    have hi : idx_main_v113 (ix3 b ⟨R.val - 8192, by omega⟩ y) = ix3 b ⟨R.val - 8192, by omega⟩ (cv y) := funext fun a => match a with
      | ⟨0, _⟩ => rfl
      | ⟨1, _⟩ => rfl
      | ⟨2, _⟩ => rfl
    rw [val_main_v113_apply, hi, proj_ctx]
  generalize val_main_v41 (F := Ideal) x0 x2 x4 x5 x7 x8 x9 = p at hl ⊢
  generalize val_main_v113 (F := Ideal) x1 x3 x4 x6 x7 x8 x9 = q at hc ⊢
  pointwise
  unfold projR rowOf who
  by_cases h : R.val < 8192
  · simp only [dif_pos h, if_pos h]
    exact hl h
  · simp only [dif_neg h, if_neg h]
    exact hc h

theorem g_join (b : Fin 4) (R : Fin 8448) (y : Fin 1024) :
    val_main_v188 (F := Ideal) x0 x1 x2 x3 x4 x5 x6 x7 x8 x9 (ix3 b R y) = projR x0 x1 x2 x5 x3 x6 x4 x7 x8 x9 b R (cg y) := by
  unfold val_main_v188
  have hl : ∀ h : R.val < 8192, val_main_v42 (F := Ideal) x0 x2 x4 x5 x7 x8 x9 (ix3 b ⟨R.val, h⟩ y) = _ := fun h => by
    have hi : idx_main_v42 (ix3 b ⟨R.val, h⟩ y) = ix3 b ⟨R.val, h⟩ (cg y) := funext fun a => match a with
      | ⟨0, _⟩ => rfl
      | ⟨1, _⟩ => rfl
      | ⟨2, _⟩ => rfl
    rw [val_main_v42_apply, hi, proj_at]
  have hc : ∀ h : ¬ R.val < 8192, val_main_v114 (F := Ideal) x1 x3 x4 x6 x7 x8 x9 (ix3 b ⟨R.val - 8192, by omega⟩ y) = _ := fun h => by
    have hi : idx_main_v114 (ix3 b ⟨R.val - 8192, by omega⟩ y) = ix3 b ⟨R.val - 8192, by omega⟩ (cg y) := funext fun a => match a with
      | ⟨0, _⟩ => rfl
      | ⟨1, _⟩ => rfl
      | ⟨2, _⟩ => rfl
    rw [val_main_v114_apply, hi, proj_ctx]
  generalize val_main_v42 (F := Ideal) x0 x2 x4 x5 x7 x8 x9 = p at hl ⊢
  generalize val_main_v114 (F := Ideal) x1 x3 x4 x6 x7 x8 x9 = q at hc ⊢
  pointwise
  unfold projR rowOf who
  by_cases h : R.val < 8192
  · simp only [dif_pos h, if_pos h]
    exact hl h
  · simp only [dif_neg h, if_neg h]
    exact hc h

theorem q_join (b : Fin 4) (R : Fin 8448) (n : Fin 8) (e : Fin 128) :
    val_main_v159 (F := Ideal) x0 x1 x2 x3 x4 x5 x6 x7 x8 x9 x10 x12 x13 (ix4 b R n e)
      = posed x12 x13 R (headed (headOf (projR x0 x1 x2 x5 x3 x6 x4 x7 x8 x9 b R) n) (fun k => x10 (ix1 k))) e := by
  unfold val_main_v159
  have hl := fun h : R.val < 8192 => ql_rot x0 x2 x5 x4 x7 x8 x9 x10 x12 x13 b ⟨R.val, h⟩ n e
  have hc := fun h : ¬ R.val < 8192 => qc_head x1 x3 x6 x4 x7 x8 x9 x10 b ⟨R.val - 8192, by omega⟩ n e
  generalize val_main_v158 (F := Ideal) x0 x2 x4 x5 x7 x8 x9 x10 x12 x13 = p at hl ⊢
  generalize val_main_v128 (F := Ideal) x1 x3 x4 x6 x7 x8 x9 x10 = q at hc ⊢
  pointwise
  unfold projR rowOf who posed
  by_cases h : R.val < 8192
  · simp only [dif_pos h, if_pos h]
    exact hl h
  · simp only [dif_neg h, if_neg h]
    exact hc h

theorem k_join (b : Fin 4) (R : Fin 8448) (n : Fin 2) (e : Fin 128) :
    val_main_v177 (F := Ideal) x0 x1 x2 x3 x4 x5 x6 x7 x8 x9 x11 x12 x13 (ix4 b R n e)
      = posed x12 x13 R (headed (headOf2 (projR x0 x1 x2 x5 x3 x6 x4 x7 x8 x9 b R) n) (fun k => x11 (ix1 k))) e := by
  unfold val_main_v177
  have hl := fun h : R.val < 8192 => kl_rot x0 x2 x5 x4 x7 x8 x9 x11 x12 x13 b ⟨R.val, h⟩ n e
  have hc := fun h : ¬ R.val < 8192 => kc_head x1 x3 x6 x4 x7 x8 x9 x11 b ⟨R.val - 8192, by omega⟩ n e
  generalize val_main_v176 (F := Ideal) x0 x2 x4 x5 x7 x8 x9 x11 x12 x13 = p at hl ⊢
  generalize val_main_v142 (F := Ideal) x1 x3 x4 x6 x7 x8 x9 x11 = q at hc ⊢
  pointwise
  unfold projR rowOf who posed
  by_cases h : R.val < 8192
  · simp only [dif_pos h, if_pos h]
    exact hl h
  · simp only [dif_neg h, if_neg h]
    exact hc h

theorem q_res (b : Fin 4) (R : Fin 8448) (y : Fin 1024) : val_main_v184 (F := Ideal) x0 x1 x2 x3 x4 x5 x6 x7 x8 x9 x10 x12 x13 (ix3 b R y)
    = posed x12 x13 R (headed (headOf (projR x0 x1 x2 x5 x3 x6 x4 x7 x8 x9 b R) (hd y)) (fun k => x10 (ix1 k))) (lane y) * Ideal.ofBits .f32 0x3E0293EE#32 := by
  have hi : idx_main_v160 (ix3 b R y) = ix4 b R (hd y) (lane y) := funext fun a => Fin.ext <| by
    have := b.isLt
    have := R.isLt
    have := y.isLt
    match a with
    | ⟨0, _⟩ => show ((b.val * 8448 + R.val) * 1024 + y.val) / 8650752 = b.val; omega
    | ⟨1, _⟩ => show ((b.val * 8448 + R.val) * 1024 + y.val) / 1024 % 8448 = R.val; omega
    | ⟨2, _⟩ => show ((b.val * 8448 + R.val) * 1024 + y.val) / 128 % 8 = y.val / 128; omega
    | ⟨3, _⟩ => show ((b.val * 8448 + R.val) * 1024 + y.val) % 128 = y.val % 128; omega
  rw [val_main_v184_apply, val_main_v183_apply, val_main_v182_apply, val_main_cst_19_apply, val_main_v160_apply, hi, q_join]
  rfl

theorem k_res (b : Fin 4) (R : Fin 8448) (y : Fin 256) : val_main_v185 (F := Ideal) x0 x1 x2 x3 x4 x5 x6 x7 x8 x9 x11 x12 x13 (ix3 b R y)
    = posed x12 x13 R (headed (headOf2 (projR x0 x1 x2 x5 x3 x6 x4 x7 x8 x9 b R) (hd2 y)) (fun k => x11 (ix1 k))) (lane2 y) := by
  have hi : idx_main_v178 (ix3 b R y) = ix4 b R (hd2 y) (lane2 y) := funext fun a => Fin.ext <| by
    have := b.isLt
    have := R.isLt
    have := y.isLt
    match a with
    | ⟨0, _⟩ => show ((b.val * 8448 + R.val) * 256 + y.val) / 2162688 = b.val; omega
    | ⟨1, _⟩ => show ((b.val * 8448 + R.val) * 256 + y.val) / 256 % 8448 = R.val; omega
    | ⟨2, _⟩ => show ((b.val * 8448 + R.val) * 256 + y.val) / 128 % 2 = y.val / 128; omega
    | ⟨3, _⟩ => show ((b.val * 8448 + R.val) * 256 + y.val) % 128 = y.val % 128; omega
  rw [val_main_v185_apply, val_main_v178_apply, hi, k_join]
  rfl

theorem v_res (b : Fin 4) (t : Fin 33) (y : Fin 256) (r : Fin 256) :
    val_main_v187 (F := Ideal) x0 x1 x2 x3 x4 x5 x6 x7 x8 x9 (ix4 b t y r)
      = projR x0 x1 x2 x5 x3 x6 x4 x7 x8 x9 b ⟨256 * t.val + r.val, by omega⟩ (cv y) := by
  have hi : idx_main_v180 (idx_main_v186 (ix4 b t y r)) = ix3 b ⟨256 * t.val + r.val, by omega⟩ y := funext fun a => Fin.ext <| by
    have := b.isLt
    have := t.isLt
    have := y.isLt
    have := r.isLt
    match a with
    | ⟨0, _⟩ => show (((b.val * 33 + t.val) * 256 + r.val) * 256 + y.val) / 2162688 = b.val; omega
    | ⟨1, _⟩ => show (((b.val * 33 + t.val) * 256 + r.val) * 256 + y.val) / 256 % 8448 = 256 * t.val + r.val; omega
    | ⟨2, _⟩ => show (((b.val * 33 + t.val) * 256 + r.val) * 256 + y.val) % 256 = y.val; omega
  rw [val_main_v187_apply, val_main_v186_apply, val_main_v180_apply, hi, v_join]
  rfl

theorem g_res (b : Fin 4) (R : Fin 8448) (y : Fin 1024) :
    val_main_v190 (F := Ideal) x0 x1 x2 x3 x4 x5 x6 x7 x8 x9 (ix3 b R y) = silu (projR x0 x1 x2 x5 x3 x6 x4 x7 x8 x9 b R (cg y)) := by
  rw [val_main_v190_apply, val_main_v189_apply, val_main_call2_v5_apply, val_main_call2_v4_apply, val_main_call2_v3_apply, val_main_call2_v2_apply, val_main_call2_v1_apply,
    val_main_call2_v0_apply, val_main_call2_cst_apply, val_main_call2_cst_0_apply, g_join]
  rfl

end Cert.Reference5Ideal.Line
end
-- ==== Proof.Meet5.lean ====
/- The grouped-query projections of the last layer: the call's arrays in terms of the program's arguments, and its results against the reference's. -/
module

public import proofs.«01_k».proof.Proof.Tile5
public import proofs.«01_k».proof.Proof.Ref5
public import proofs.«01_k».proof.Proof.Meet4
public import Idealize.ShloMosaic.Lib.StableHlo.RunRead

@[expose] public section

set_option maxRecDepth 16384

noncomputable section

namespace Cert.Kernel5Ideal.Host

open Cert.Kernel5Ideal Cert.Kernel5Ideal.Gen Cert.Kernel5Ideal.Block Cert.Kernel5Ideal.Tile Idealize.ShloMosaic Idealize.ShloMosaic.TcCoe Idealize.SL.Sem
open Cert.Kernel3Ideal.Host (cat act act_apply)
open Cert.Kernel4Ideal.Host (cat_row mod_apply gain_apply)
open Cert.Kernel3Ideal.Block (added)
open Cert.Kernel4Ideal.Block (hid dotp strip)
open Cert.Reference3Ideal.Line (silu)
open Cert.Reference4Ideal.Line (rowOf who md)
open Cert.Reference5Ideal.Line (lineS lineH lineP projR posed headOf headOf2)
open scoped BigOperators

section Entry
variable (m : (ℓ : Loc nD τ sig) → Buf (Elt Ideal) ℓ) (c : Dev nD)
theorem V_g : V m c main_v8 = act (cat (m ((c : Thread nD τ).loc main_arg2)) (m ((c : Thread nD τ).loc main_arg3))) := by
  entry_read
  rfl
theorem V_x : V m c main_v9 = cat (m ((c : Thread nD τ).loc main_arg5)) (m ((c : Thread nD τ).loc main_arg6)) := by
  entry_read
  rfl
theorem V_m : V m c main_v10 = shapeCast S32x3x1024 (m ((c : Thread nD τ).loc main_arg7)) shapeCasts_S4x8x3072_S32x3x1024 := by
  entry_read
  rfl
theorem V_wi : V m c main_v11 = m ((c : Thread nD τ).loc main_arg9) := by
  entry_read
  rfl
theorem V_w : V m c main_v27 = m ((c : Thread nD τ).loc main_arg4) := by
  entry_read
  rfl
theorem V_n : V m c main_v28 = shapeCast S1x1024 (m ((c : Thread nD τ).loc main_arg8)) shapeCasts_S1024_S1x1024 := by
  entry_read
  rfl
theorem V_q : V m c main_v12 = shapeCast S1x128 (m ((c : Thread nD τ).loc main_arg10)) shapeCasts_S128_S1x128 := by
  entry_read
  rfl
theorem V_k : V m c main_v13 = shapeCast S1x128 (m ((c : Thread nD τ).loc main_arg11)) shapeCasts_S128_S1x128 := by
  entry_read
  rfl
/-- The divisor the lanes are reduced by: a half head, guarded against nought. -/
def wide : IVec S_ 32 :=
  select (cmpi .eq (constantI S_ 32 64#32) (constantI S_ 32 0#32)) (constantI S_ 32 1#32) (constantI S_ 32 64#32)
/-- The remainder of every lane of a head by a half head, as the division leaves it. -/
def left0 : IVec S128 32 :=
  Host.remsi (iotaInDim S128 32 0) (broadcastInDim S128 ![] bcast_S_S128 wide)
/-- The same with its sign put right. -/
def left1 : IVec S128 32 :=
  select (andi (cmpi .ne (cmpi .slt left0 (broadcastInDim S128 ![] bcast_S_S128 (constantI S_ 32 0#32)))
      (broadcastInDim S128 ![] bcast_S_S128 (cmpi .slt wide (constantI S_ 32 0#32))))
    (cmpi .ne left0 (broadcastInDim S128 ![] bcast_S_S128 (constantI S_ 32 0#32))))
    (addi left0 (broadcastInDim S128 ![] bcast_S_S128 wide)) left0
/-- The lanes that lie in the first quarter of their half. -/
def first : IVec S128 1 :=
  cmpi .slt left1 (broadcastInDim S128 ![] bcast_S_S128 (constantI S_ 32 32#32))
/-- A table with rows for the context put under it. -/
def under (z : FVec Ideal S_ .f32) (x : FVec Ideal S8192x128 .f32) : FVec Ideal S8448x128 .f32 :=
  pad S8448x128 ![0, 0] ![256, 0] ![0, 0]
    (pad S8192x128 ![0, 0] ![0, 0] ![0, 0] x z pads_S8192x128_S8192x128_000_000 h_S_) z pads_S8192x128_S8448x128_02560_000 h_S_
/-- The sines, turned round and kept in the first quarters only. -/
def sinU (x : FVec Ideal S8192x128 .f32) : FVec Ideal S8192x128 .f32 :=
  select (broadcastInDim S8192x128 ![1] bcast_S128_S8192x128_1 first) (Host.negf x)
    (broadcastInDim S8192x128 ![] bcast_S_S8192x128 (constant S_ .f32 0x00000000#32))
/-- The sines kept in the second quarters only. -/
def sinD (x : FVec Ideal S8192x128 .f32) : FVec Ideal S8192x128 .f32 :=
  select (broadcastInDim S8192x128 ![1] bcast_S128_S8192x128_1 first)
    (broadcastInDim S8192x128 ![] bcast_S_S8192x128 (constant S_ .f32 0x00000000#32)) x
theorem V_c : V m c main_v22 = under (constant S_ .f32 0x3F800000#32) (m ((c : Thread nD τ).loc main_arg12)) := by
  entry_read
  rfl
theorem V_u : V m c main_v24 = under (constant S_ .f32 0x00000000#32) (sinU (m ((c : Thread nD τ).loc main_arg13))) := by
  unfold V
  after_reads_simp
  simp -implicitDefEqProofs only [StableHlo.TRef.toBuf, StableHlo.TRef.ofBuf, cast_cast, cast_eq, id]
  unfold under sinU first left1 left0 wide
  rfl
theorem V_d : V m c main_v26 = under (constant S_ .f32 0x00000000#32) (sinD (m ((c : Thread nD τ).loc main_arg13))) := by
  unfold V
  after_reads_simp
  simp -implicitDefEqProofs only [StableHlo.TRef.toBuf, StableHlo.TRef.ofBuf, cast_cast, cast_eq, id]
  unfold under sinD first left1 left0 wide
  with_reducible rfl
end Entry

theorem first_apply (e : Fin 128) : first (ix1 e) = if e.val % 64 < 32 then 1#1 else 0#1 := by
  revert e
  decide +kernel
theorem under_in (z : FVec Ideal S_ .f32) (x : FVec Ideal S8192x128 .f32) (R : Fin 8448) (e : Fin 128) (h : R.val < 8192) :
    under z x (ix2 R e) = x (ix2 ⟨R.val, h⟩ e) := by
  unfold under
  rw [pad_apply_of_inside _ _ _ _ _ _ _ (ix2 R e) (ix2 ⟨R.val, h⟩ e) (fun a => by
    fin_cases a
    · show R.val = 0 + R.val * 1; omega
    · show e.val = 0 + e.val * 1; omega)]
  exact pad_apply_of_inside _ _ _ _ _ _ _ _ _ (fun a => by
    fin_cases a
    · show R.val = 0 + R.val * 1; omega
    · show e.val = 0 + e.val * 1; omega)
theorem under_out (w : BitVec 32) (x : FVec Ideal S8192x128 .f32) (R : Fin 8448) (e : Fin 128) (h : ¬ R.val < 8192) :
    under (constant S_ .f32 w) x (ix2 R e) = Ideal.ofBits .f32 w := by
  unfold under
  rw [pad_apply_of_not_inside _ _ _ _ _ _ _ (ix2 R e) (0 : Fin 2) (fun hh => h (by
    have := hh.2.2
    have e1 : (R.val - 0) / (0 + 1) < 8192 := this
    simpa using e1))]
  rfl
theorem sinU_apply (x : FVec Ideal S8192x128 .f32) (R : Fin 8192) (e : Fin 128) :
    sinU x (ix2 R e) = if e.val % 64 < 32 then -(x (ix2 R e)) else 0 := by
  have hf : (broadcastInDim S8192x128 ![1] bcast_S128_S8192x128_1 first) (ix2 R e) = first (ix1 e) := by
    pointwise
  unfold sinU select Scalar.select
  rw [hf, first_apply]
  by_cases h : e.val % 64 < 32
  · rw [if_pos h, if_pos h]
    rfl
  · rw [if_neg h, if_neg h]
    exact Ideal.ofBits_zero_f32
theorem sinD_apply (x : FVec Ideal S8192x128 .f32) (R : Fin 8192) (e : Fin 128) :
    sinD x (ix2 R e) = if e.val % 64 < 32 then 0 else x (ix2 R e) := by
  have hf : (broadcastInDim S8192x128 ![1] bcast_S128_S8192x128_1 first) (ix2 R e) = first (ix1 e) := by
    pointwise
  unfold sinD select Scalar.select
  rw [hf, first_apply]
  by_cases h : e.val % 64 < 32
  · rw [if_pos h, if_pos h]
    exact Ideal.ofBits_zero_f32
  · rw [if_neg h, if_neg h]
    rfl
/-- A head turned by the padded tables is the head turned by its position. -/
theorem turn_posed (C S : FVec Ideal S8192x128 .f32) (R : Fin 8448) (h : Fin 128 → EReal) (e : Fin 128) :
    turn h (fun k => under (constant S_ .f32 0x3F800000#32) C (ix2 R k))
      (fun k => under (constant S_ .f32 0x00000000#32) (sinU S) (ix2 R k))
      (fun k => under (constant S_ .f32 0x00000000#32) (sinD S) (ix2 R k)) e
      = Cert.Reference5Ideal.Line.posed C S R h e := by
  unfold turn Cert.Reference5Ideal.Line.posed
  beta_reduce
  by_cases hR : R.val < 8192
  · rw [dif_pos hR, under_in _ _ _ _ hR, under_in _ _ _ _ hR, under_in _ _ _ _ hR, sinU_apply, sinD_apply]
    unfold Cert.Reference5Ideal.Line.rot
    by_cases he : e.val % 64 < 32
    · rw [if_pos he, if_pos he, if_pos he, mul_zero, add_zero, mul_neg, neg_mul]
    · rw [if_neg he, if_neg he, if_neg he, mul_zero, add_zero]
  · rw [dif_neg hR, under_out _ _ _ _ hR, under_out _ _ _ _ hR, under_out _ _ _ _ hR, Ideal.ofBits_one_f32,
      Ideal.ofBits_zero_f32, mul_zero, mul_zero, mul_one, add_zero, add_zero]

theorem lane_gain (x : FVec Ideal S128 .f32) (k : Fin 128) : shapeCast S1x128 x shapeCasts_S128_S1x128 (ix2 0 k) = x (ix1 k) := by
  pointwise

section Meet
variable (x0 : FVec Ideal S4x8192x1024 .bf16) (x1 : FVec Ideal S4x256x1024 .bf16) (x2 x5 : FVec Ideal S4x8192x1024 .f32) (x3 x6 : FVec Ideal S4x256x1024 .f32)
  (x4 : FVec Ideal S1024x1024 .f32) (x7 : FVec Ideal S4x8x3072 .f32) (x8 : FVec Ideal S1024 .f32) (x9 : FVec Ideal S1024x2560 .f32)
  (xg : FVec Ideal S128 .f32) (x12 x13 : FVec Ideal S8192x128 .f32)

theorem meet_s (b : Fin 4) (R : Fin 8448) :
    sAt x0 x1 (act (cat x2 x3)) x4 (cat x5 x6) (shapeCast S32x3x1024 x7 shapeCasts_S4x8x3072_S32x3x1024) b R
      = lineS x4 x7 (rowOf x0 x1 b R) (rowOf x2 x3 b R) (rowOf x5 x6 b R) (who b R) := by
  funext d
  unfold sAt lineS
  simp only [act_apply, cat_row, fun k => mod_apply x7 2 (who b R) (16 + (who b R).val) (by simp) 2 k]

theorem meet_h (b : Fin 4) (R : Fin 8448) :
    hAt x0 x1 (act (cat x2 x3)) x4 (cat x5 x6) (shapeCast S32x3x1024 x7 shapeCasts_S4x8x3072_S32x3x1024) (shapeCast S1x1024 x8 shapeCasts_S1024_S1x1024) b R
      = lineH x4 x7 x8 (rowOf x0 x1 b R) (rowOf x2 x3 b R) (rowOf x5 x6 b R) (who b R) := by
  funext d
  unfold hAt lineH
  rw [meet_s]
  simp only [gain_apply, fun j k => mod_apply x7 3 (who b R) (24 + (who b R).val) (by simp) j k]

theorem meet_p (b : Fin 4) (R : Fin 8448) (e : Fin 2560) :
    pAt x0 x1 (act (cat x2 x3)) x4 (cat x5 x6) (shapeCast S32x3x1024 x7 shapeCasts_S4x8x3072_S32x3x1024) (shapeCast S1x1024 x8 shapeCasts_S1024_S1x1024) x9 b R e
      = projR x0 x1 x2 x5 x3 x6 x4 x7 x8 x9 b R e := by
  unfold pAt projR lineP
  rw [meet_h]

theorem meet_q (b : Fin 4) (R : Fin 8448) (y : Fin 1024) :
    qAt x0 x1 (act (cat x2 x3)) x4 (cat x5 x6) (shapeCast S32x3x1024 x7 shapeCasts_S4x8x3072_S32x3x1024) (shapeCast S1x1024 x8 shapeCasts_S1024_S1x1024) x9
        (shapeCast S1x128 xg shapeCasts_S128_S1x128) (under (constant S_ .f32 0x3F800000#32) x12) (under (constant S_ .f32 0x00000000#32) (sinU x13))
        (under (constant S_ .f32 0x00000000#32) (sinD x13)) b R y
      = posed x12 x13 R (headed (headOf (projR x0 x1 x2 x5 x3 x6 x4 x7 x8 x9 b R) (hd y)) (fun k => xg (ix1 k))) (lane y) * Ideal.ofBits .f32 0x3E0293EE#32 := by
  unfold qAt headQ headOf
  rw [turn_posed]
  simp only [meet_p, lane_gain]

theorem meet_k (b : Fin 4) (R : Fin 8448) (y : Fin 256) :
    kAt x0 x1 (act (cat x2 x3)) x4 (cat x5 x6) (shapeCast S32x3x1024 x7 shapeCasts_S4x8x3072_S32x3x1024) (shapeCast S1x1024 x8 shapeCasts_S1024_S1x1024) x9
        (shapeCast S1x128 xg shapeCasts_S128_S1x128) (under (constant S_ .f32 0x3F800000#32) x12) (under (constant S_ .f32 0x00000000#32) (sinU x13))
        (under (constant S_ .f32 0x00000000#32) (sinD x13)) b R y
      = posed x12 x13 R (headed (headOf2 (projR x0 x1 x2 x5 x3 x6 x4 x7 x8 x9 b R) (hd2 y)) (fun k => xg (ix1 k))) (lane2 y) := by
  unfold kAt headK headOf2
  rw [turn_posed]
  simp only [meet_p, lane_gain]

theorem whole_q : (fun i : S4x8448x1024.Idx => qAt x0 x1 (act (cat x2 x3)) x4 (cat x5 x6) (shapeCast S32x3x1024 x7 shapeCasts_S4x8x3072_S32x3x1024) (shapeCast S1x1024 x8 shapeCasts_S1024_S1x1024) x9
        (shapeCast S1x128 xg shapeCasts_S128_S1x128) (under (constant S_ .f32 0x3F800000#32) x12) (under (constant S_ .f32 0x00000000#32) (sinU x13))
        (under (constant S_ .f32 0x00000000#32) (sinD x13)) (i 0) (i 1) (i 2))
      = Cert.Reference5Ideal.Read.val_main_v184 (F := Ideal) x0 x1 x2 x3 x4 x5 x6 x7 x8 x9 xg x12 x13 := by
  funext i
  obtain ⟨b, R, y, rfl⟩ : ∃ (b : Fin 4) (R : Fin 8448) (y : Fin 1024), i = ix3 b R y := ⟨i 0, i 1, i 2, (ix3_eta i).symm⟩
  exact (meet_q x0 x1 x2 x5 x3 x6 x4 x7 x8 x9 xg x12 x13 b R y).trans (Cert.Reference5Ideal.Line.q_res x0 x1 x2 x5 x3 x6 x4 x7 x8 x9 xg x12 x13 b R y).symm

theorem whole_k : (fun i : S4x8448x256.Idx => kAt x0 x1 (act (cat x2 x3)) x4 (cat x5 x6) (shapeCast S32x3x1024 x7 shapeCasts_S4x8x3072_S32x3x1024) (shapeCast S1x1024 x8 shapeCasts_S1024_S1x1024) x9
        (shapeCast S1x128 xg shapeCasts_S128_S1x128) (under (constant S_ .f32 0x3F800000#32) x12) (under (constant S_ .f32 0x00000000#32) (sinU x13))
        (under (constant S_ .f32 0x00000000#32) (sinD x13)) (i 0) (i 1) (i 2))
      = Cert.Reference5Ideal.Read.val_main_v185 (F := Ideal) x0 x1 x2 x3 x4 x5 x6 x7 x8 x9 xg x12 x13 := by
  funext i
  obtain ⟨b, R, y, rfl⟩ : ∃ (b : Fin 4) (R : Fin 8448) (y : Fin 256), i = ix3 b R y := ⟨i 0, i 1, i 2, (ix3_eta i).symm⟩
  exact (meet_k x0 x1 x2 x5 x3 x6 x4 x7 x8 x9 xg x12 x13 b R y).trans (Cert.Reference5Ideal.Line.k_res x0 x1 x2 x5 x3 x6 x4 x7 x8 x9 xg x12 x13 b R y).symm

end Meet

end Cert.Kernel5Ideal.Host

end
-- ==== Proof.Finite.lean ====
/- What the precondition says of the arguments: the queries, the keys and the two gains hold reals. -/
module

public import proofs.«01_k».proof.Proof.Gen.Pre_finite
public import proofs.«01_k».proof.Proof.Gen.Pre_finite2
public import proofs.«01_k».proof.Proof.Softmax
public import Idealize.ShloMosaic.Lib.ReduceAll
public import Idealize.ShloMosaic.Lib.Pointwise

@[expose] public section

noncomputable section

namespace Cert.Finite

open Cert.Pre_finite Idealize.ShloMosaic

/-- A test of every element against infinity that holds says every element is a real. -/
theorem all_real {S : Shape} (x : FVec Ideal S .f32) (c : FVec Ideal S .f32) (hc : ∀ i, c i = ⊤) (axes : List (Fin S.rank)) (h : S.ReducesTo axes S_)
    (hu : 0 < S_.numel) (init : IVec S_ 1) (j : S_.Idx)
    (e : Host.reduce IntOp.andi (cmpf .olt (Host.absf x) c) init h hu j = 1#1) (i : S.Idx) : ∃ r : ℝ, x i = r := by
  have hss : Subsingleton S_.Idx := ⟨fun a b => funext fun k => k.elim0⟩
  have h1 := Host.reduce_andi_all (cmpf .olt (Host.absf x) c) init h hu j e i
  have h2 : Ideal.cmp .olt (max (x i) (-(x i))) (c i) = 1#1 := h1
  rw [hc] at h2
  refine Softmax.real_of_abs _ ?_
  by_contra hn
  simp [Ideal.cmp, hn] at h2

/-- The precondition's test, read: queries, keys and gains hold reals. -/
theorem args (a0 : FVec Ideal S4x8192x2x4x128 .f32) (a1 a2 : FVec Ideal S4x8192x2x128 .f32) (a3 : FVec Ideal S4x256x2x4x128 .f32)
    (a4 a5 : FVec Ideal S4x256x2x128 .f32) (a6 a7 : FVec Ideal S128 .f32)
    (h : fn (F := Ideal) a0 a1 a2 a3 a4 a5 a6 a7 = fun _ => 1#1) :
    (∀ i, ∃ r : ℝ, a0 i = r) ∧ (∀ i, ∃ r : ℝ, a1 i = r) ∧ (∀ i, ∃ r : ℝ, a4 i = r) ∧ (∀ i, ∃ r : ℝ, a6 i = r) ∧ (∀ i, ∃ r : ℝ, a7 i = r) := by
  have hj := congrFun h (fun k => k.elim0)
  unfold fn at hj
  dsimp only at hj
  unfold fn_part1 at hj
  dsimp only at hj
  obtain ⟨hj, h7⟩ := IntOp.andi_eq_one.1 hj
  obtain ⟨hj, h6⟩ := IntOp.andi_eq_one.1 hj
  obtain ⟨hj, h4⟩ := IntOp.andi_eq_one.1 hj
  obtain ⟨h0, h1⟩ := IntOp.andi_eq_one.1 hj
  exact ⟨all_real a0 _ (fun _ => Softmax.ofBits_top) _ _ _ _ _ h0, all_real a1 _ (fun _ => Softmax.ofBits_top) _ _ _ _ _ h1,
    all_real a4 _ (fun _ => Softmax.ofBits_top) _ _ _ _ _ h4, all_real a6 _ (fun _ => Softmax.ofBits_top) _ _ _ _ _ h6,
    all_real a7 _ (fun _ => Softmax.ofBits_top) _ _ _ _ _ h7⟩

/-- The latent attention's test, read: queries and keys hold reals. -/
theorem args2 (a0 a1 : FVec Ideal Cert.Pre_finite2.S4x8192x8x192 .f32) (a2 : FVec Ideal Cert.Pre_finite2.S4x8192x8x128 .f32)
    (a3 a4 : FVec Ideal Cert.Pre_finite2.S4x256x8x192 .f32) (a5 : FVec Ideal Cert.Pre_finite2.S4x256x8x128 .f32)
    (h : Cert.Pre_finite2.fn (F := Ideal) a0 a1 a2 a3 a4 a5 = fun _ => 1#1) :
    (∀ i, ∃ r : ℝ, a0 i = r) ∧ (∀ i, ∃ r : ℝ, a1 i = r) ∧ (∀ i, ∃ r : ℝ, a3 i = r) ∧ (∀ i, ∃ r : ℝ, a4 i = r) := by
  have hj := congrFun h (fun k => k.elim0)
  unfold Cert.Pre_finite2.fn at hj
  dsimp only at hj
  unfold Cert.Pre_finite2.fn_part1 at hj
  dsimp only at hj
  obtain ⟨hj, h4⟩ := IntOp.andi_eq_one.1 hj
  obtain ⟨hj, h3⟩ := IntOp.andi_eq_one.1 hj
  obtain ⟨h0, h1⟩ := IntOp.andi_eq_one.1 hj
  exact ⟨all_real a0 _ (fun _ => Softmax.ofBits_top) _ _ _ _ _ h0, all_real a1 _ (fun _ => Softmax.ofBits_top) _ _ _ _ _ h1,
    all_real a3 _ (fun _ => Softmax.ofBits_top) _ _ _ _ _ h3, all_real a4 _ (fun _ => Softmax.ofBits_top) _ _ _ _ _ h4⟩

end Cert.Finite
end
-- ==== Proof.lean ====
/- The claims of this certificate, put together from the modules under Proof/: the frames, the idealization, and
   the equality of the call's result with the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read

public import proofs.«01_k».proof.Proof.Meet
public import proofs.«01_k».proof.Proof.Meet2
public import proofs.«01_k».proof.Proof.Meet3
public import proofs.«01_k».proof.Proof.Meet4
public import proofs.«01_k».proof.Proof.Meet5
public import proofs.«01_k».proof.Proof.Finite
public import Idealize.ShloMosaic.Adequacy
public import Idealize.ShloMosaic.Init
public import Idealize.ShloMosaic.Lib.Quiescent
public import Idealize.ShloMosaic.Lib.Claim

@[expose] public section

noncomputable section

namespace Cert.Proof

open Idealize.ShloMosaic Idealize.SL.Sem

/-- The reference runs, keeps its arguments and ends with every counter at zero. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.KernelIdeal Cert.KernelIdeal.Gen in
/-- What the call leaves in its result, from reals in the queries, keys and gains, is the reference's term of the same arguments. -/
theorem value (m : (ℓ : Loc nD τ sig) → Buf (Elt Ideal) ℓ) (hm : Cert.Pre_KernelIdeal_finite m) (c : Dev nD) :
    (dats m 0 c).arrAt 4 cfg0.N
      = Cert.ReferenceIdeal.Read.val_main_v21 (F := Ideal) (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5)) := by
  obtain ⟨h0, h1, h4, h6, h7⟩ := Cert.Finite.args _ _ _ _ _ _ _ _ (hm c)
  rw [Cert.KernelIdeal.Tile.final_o, Cert.KernelIdeal.Host.V_q, Cert.KernelIdeal.Host.V_k, Cert.KernelIdeal.Host.V_v, Cert.KernelIdeal.Host.V_b]
  funext i
  rw [Cert.Meet.meet _ _ _ _ _ _ _ _ h0 h1 h4 h6 h7 (i 0) (i 1) (i 2)]
  exact congrArg _ (ix3_eta i)

/-- The call and the reference end with the same result. -/
theorem equal : Cert.algebraic_KernelIdeal_ReferenceIdeal_pre_finite := by
  intro m g m' g' hpre hagree
  refine ⟨fun c => Cert.ReferenceIdeal.Read.val_main_v21 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine θ_run_mono (Cert.KernelIdeal.Value.run_blocks m g) fun r h c => ?_
    exact ⟨(h c).1.trans (value m hpre c), (h c).2⟩
  · refine θ_run_mono (Cert.ReferenceIdeal.Value.run m' g') fun r h c => ?_
    obtain ⟨e0, e1, e2, _, e4, e5, _⟩ := hagree c
    refine ⟨(h c).1.trans ((Cert.ReferenceIdeal.Read.val_main_v21_eq _ _ _ _ _).trans ?_), (h c).2⟩
    rw [e0, e1, e2, e4, e5]

/-- The latent attention's reference runs, keeps its arguments and ends with every counter at zero. -/
theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Kernel2Ideal Cert.Kernel2Ideal.Gen in
/-- What the latent attention's call leaves in its result, from reals in the queries and keys, is the reference's term of the same arguments. -/
theorem value2 (m : (ℓ : Loc nD τ sig) → Buf (Elt Ideal) ℓ) (hm : Cert.Pre_Kernel2Ideal_finite2 m) (c : Dev nD) :
    (dats m 0 c).arrAt 4 cfg0.N
      = Cert.Reference2Ideal.Read.val_main_v20 (F := Ideal) (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5)) := by
  obtain ⟨h0, h1, h3, h4⟩ := Cert.Finite.args2 _ _ _ _ _ _ (hm c)
  rw [Cert.Kernel2Ideal.Tile.final_o, Cert.Kernel2Ideal.Host.V_q, Cert.Kernel2Ideal.Host.V_k, Cert.Kernel2Ideal.Host.V_v, Cert.Kernel2Ideal.Host.V_b]
  funext i
  rw [Cert.Meet2.meet _ _ _ _ _ _ h0 h1 h3 h4 (i 0) (i 1) (i 2)]
  exact congrArg _ (ix3_eta i)

/-- The latent attention's call and its reference end with the same result. -/
theorem equal2 : Cert.algebraic_Kernel2Ideal_Reference2Ideal_pre_finite2 := by
  intro m g m' g' hpre hagree
  refine ⟨fun c => Cert.Reference2Ideal.Read.val_main_v20 (F := Ideal) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)), ?_, ?_⟩
  · refine θ_run_mono (Cert.Kernel2Ideal.Value.run_blocks m g) fun r h c => ?_
    exact ⟨(h c).1.trans (value2 m hpre c), (h c).2⟩
  · refine θ_run_mono (Cert.Reference2Ideal.Value.run m' g') fun r h c => ?_
    obtain ⟨e0, e1, e2, _, e4, e5⟩ := hagree c
    refine ⟨(h c).1.trans ((Cert.Reference2Ideal.Read.val_main_v20_eq _ _ _ _ _).trans ?_), (h c).2⟩
    rw [e0, e1, e2, e4, e5]

/-- The last output projection's reference runs, keeps its arguments and ends with every counter at zero. -/
theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Kernel3Ideal Cert.Kernel3Ideal.Gen in
/-- What the last output projection leaves in its result is the reference's term of the same arguments. -/
theorem value3 (m : (ℓ : Loc nD τ sig) → Buf (Elt Ideal) ℓ) (c : Dev nD) :
    (dats m 0 c).arrAt 6 cfg0.N
      = Cert.Reference3Ideal.Read.val_main_v25 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) := by
  rw [Cert.Kernel3Ideal.Tile.final_y, V_main_arg0, Cert.Kernel3Ideal.Host.V_g, Cert.Kernel3Ideal.Host.V_w, Cert.Kernel3Ideal.Host.V_x, Cert.Kernel3Ideal.Host.V_m, Cert.Kernel3Ideal.Host.V_n]
  funext i
  refine (Cert.Kernel3Ideal.Host.meet _ _ _ _ _ _ _ _ (i 0) (i 1) (i 2)).trans ?_
  exact congrArg _ (ix3_eta i)

/-- The last output projection and its reference end with the same result. -/
theorem equal3 : Cert.algebraic_Kernel3Ideal_Reference3Ideal := by
  intro m g m' g' _ hagree
  refine ⟨fun c => Cert.Reference3Ideal.Read.val_main_v25 (F := Ideal) (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7)), ?_, ?_⟩
  · refine θ_run_mono (Cert.Kernel3Ideal.Value.run_blocks m g) fun r h c => ?_
    exact ⟨(h c).1.trans (value3 m c), (h c).2⟩
  · refine θ_run_mono (Cert.Reference3Ideal.Value.run m' g') fun r h c => ?_
    obtain ⟨e0, e1, _, e3, e4, _, e6, e7⟩ := hagree c
    refine ⟨(h c).1.trans ((Cert.Reference3Ideal.Read.val_main_v25_eq _ _ _ _ _ _).trans ?_), (h c).2⟩
    rw [e0, e1, e3, e4, e6, e7]

/-- The neighbourhood layer's projection reference runs, keeps its arguments and ends with every counter at zero. -/
theorem frame_r4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

section Four
open Cert.Kernel4Ideal Cert.Kernel4Ideal.Gen Cert.Kernel4Ideal.Host
variable (m : (ℓ : Loc nD τ sig) → Buf (Elt Ideal) ℓ) (c : Dev nD)

/-- What the neighbourhood layer's projection call leaves of the stream is the reference's term of the same arguments. -/
theorem value4_x : (dats m 0 c).arrAt 10 cfg0.N
    = Cert.Reference4Ideal.Read.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.Kernel4Ideal.Tile.final_x, V_main_arg0, V_main_arg1, V_main_arg5, V_main_arg6, V_g, V_w, V_m]
  funext i
  refine (congrFun (meet_s _ _ _ _ _ _ _ _ (i 0) (i 1)) (i 2)).trans ?_
  refine (Cert.Reference4Ideal.Line.stream_res _ _ _ _ _ _ _ _ (i 0) (i 1) (i 2)).symm.trans ?_
  exact congrArg _ (ix3_eta i)

/-- What the neighbourhood layer's projection call leaves of the queries is the reference's term of the same arguments. -/
theorem value4_q : (dats m 0 c).arrAt 11 cfg0.N
    = Cert.Reference4Ideal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel4Ideal.Tile.final_q, V_main_arg0, V_main_arg1, V_main_arg5, V_main_arg6, V_g, V_w, V_m, V_n, V_wi]
  funext i
  refine (congrArg (· * _) (meet_p _ _ _ _ _ _ _ _ _ _ (i 0) (i 1) _)).trans ?_
  refine (Cert.Reference4Ideal.Line.q_res _ _ _ _ _ _ _ _ _ _ (i 0) (i 1) (i 2)).symm.trans ?_
  exact congrArg _ (ix3_eta i)

/-- What the neighbourhood layer's projection call leaves of the keys is the reference's term of the same arguments. -/
theorem value4_k : (dats m 0 c).arrAt 12 cfg0.N
    = Cert.Reference4Ideal.Read.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel4Ideal.Tile.final_k, V_main_arg0, V_main_arg1, V_main_arg5, V_main_arg6, V_g, V_w, V_m, V_n, V_wi]
  funext i
  refine (meet_p _ _ _ _ _ _ _ _ _ _ (i 0) (i 1) _).trans ?_
  refine (Cert.Reference4Ideal.Line.k_res _ _ _ _ _ _ _ _ _ _ (i 0) (i 1) (i 2)).symm.trans ?_
  exact congrArg _ (ix3_eta i)

/-- What the neighbourhood layer's projection call leaves of the values is the reference's term of the same arguments. -/
theorem value4_v : (dats m 0 c).arrAt 13 cfg0.N
    = Cert.Reference4Ideal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel4Ideal.Tile.final_v, V_main_arg0, V_main_arg1, V_main_arg5, V_main_arg6, V_g, V_w, V_m, V_n, V_wi]
  funext i
  refine (meet_p _ _ _ _ _ _ _ _ _ _ (i 0) _ _).trans ?_
  refine Eq.trans ?_ ((Cert.Reference4Ideal.Line.v_res _ _ _ _ _ _ _ _ _ _ (i 0) (i 1) (i 2) (i 3)).symm.trans (congrArg _ (ix4_eta i)))
  have h1 : (i 1).val < 33 := (i 1).isLt
  have h3 : (i 3).val < 256 := (i 3).isLt
  exact congrArg (fun R => Cert.Reference4Ideal.Line.projR _ _ _ _ _ _ _ _ _ _ (i 0) R _) (Fin.ext (Nat.mod_eq_of_lt (by omega)))

/-- What the neighbourhood layer's projection call leaves of the gate is the reference's term of the same arguments. -/
theorem value4_g : (dats m 0 c).arrAt 14 cfg0.N
    = Cert.Reference4Ideal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel4Ideal.Tile.final_g, V_main_arg0, V_main_arg1, V_main_arg5, V_main_arg6, V_g, V_w, V_m, V_n, V_wi]
  funext i
  refine (congrArg _ (meet_p _ _ _ _ _ _ _ _ _ _ (i 0) (i 1) _)).trans ?_
  refine (Cert.Reference4Ideal.Line.g_res _ _ _ _ _ _ _ _ _ _ (i 0) (i 1) (i 2)).symm.trans ?_
  exact congrArg _ (ix3_eta i)

end Four

/-- The neighbourhood layer's projection call and its reference end with the same results. -/
theorem equal4 : Cert.algebraic_Kernel4Ideal_Reference4Ideal := by
  intro m g m' g' _ hagree
  refine ⟨fun c => Cert.Reference4Ideal.Read.val_main_v85 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    fun c => Cert.Reference4Ideal.Read.val_main_v88 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)),
    fun c => Cert.Reference4Ideal.Read.val_main_v89 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)),
    fun c => Cert.Reference4Ideal.Read.val_main_v91 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)),
    fun c => Cert.Reference4Ideal.Read.val_main_v93 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)), ?_, ?_⟩
  · refine θ_run_mono (Cert.Kernel4Ideal.Value.run_blocks m g) fun r h c => ?_
    obtain ⟨h0, h1, h2, h3, h4, _, hk⟩ := h c
    exact ⟨h0.trans (value4_x m c), h1.trans (value4_q m c), h2.trans (value4_k m c), h3.trans (value4_v m c), h4.trans (value4_g m c), hk⟩
  · refine θ_run_mono (Cert.Reference4Ideal.Value.run m' g') fun r h c => ?_
    obtain ⟨e0, e1, e2, e3, e4, e5, e6, e7, e8, e9⟩ := hagree c
    obtain ⟨h0, h1, h2, h3, h4, hk⟩ := h c
    refine ⟨(h0.trans (Cert.Reference4Ideal.Read.val_main_v85_eq _ _ _ _ _ _ _ _)).trans ?_, (h1.trans (Cert.Reference4Ideal.Read.val_main_v88_eq m' c)).trans ?_,
      (h2.trans (Cert.Reference4Ideal.Read.val_main_v89_eq m' c)).trans ?_, (h3.trans (Cert.Reference4Ideal.Read.val_main_v91_eq m' c)).trans ?_,
      (h4.trans (Cert.Reference4Ideal.Read.val_main_v93_eq m' c)).trans ?_, hk⟩
    · rw [e0, e1, e2, e3, e4, e5, e6, e7]
    · rw [e0, e1, e2, e3, e4, e5, e6, e7, e8, e9]
    · rw [e0, e1, e2, e3, e4, e5, e6, e7, e8, e9]
    · rw [e0, e1, e2, e3, e4, e5, e6, e7, e8, e9]
    · rw [e0, e1, e2, e3, e4, e5, e6, e7, e8, e9]

theorem frame_r5 : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

section Five
open Cert.Kernel5Ideal Cert.Kernel5Ideal.Gen Cert.Kernel5Ideal.Host
variable (m : (ℓ : Loc nD τ sig) → Buf (Elt Ideal) ℓ) (c : Dev nD)

/-- What the last layer's projection call leaves of the stream is the reference's term of the same arguments. -/
theorem value5_x : (dats m 0 c).arrAt 14 cfg0.N
    = Cert.Reference5Ideal.Read.val_main_v181 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.Kernel5Ideal.Tile.final_x, V_main_arg0, V_main_arg1, V_x, V_g, V_w, V_m]
  funext i
  refine (congrFun (meet_s _ _ _ _ _ _ _ _ (i 0) (i 1)) (i 2)).trans ?_
  refine (Cert.Reference5Ideal.Line.stream_res _ _ _ _ _ _ _ _ (i 0) (i 1) (i 2)).symm.trans ?_
  exact congrArg _ (ix3_eta i)

set_option maxHeartbeats 4000000 in
/-- What the last layer's projection call leaves of the queries is the reference's term of the same arguments. -/
theorem value5_q : (dats m 0 c).arrAt 15 cfg0.N
    = Cert.Reference5Ideal.Read.val_main_v184 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13)) := by
  rw [Cert.Kernel5Ideal.Tile.final_q, V_main_arg0, V_main_arg1, V_x, V_g, V_w, V_m, V_n, V_wi, V_q, V_c, V_u, V_d]
  exact whole_q (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg3)) (m ((c.tc : Thread nD τ).loc main_arg6)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) (m ((c.tc : Thread nD τ).loc main_arg13))

set_option maxHeartbeats 4000000 in
/-- What the last layer's projection call leaves of the keys is the reference's term of the same arguments. -/
theorem value5_k : (dats m 0 c).arrAt 16 cfg0.N
    = Cert.Reference5Ideal.Read.val_main_v185 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13)) := by
  rw [Cert.Kernel5Ideal.Tile.final_k, V_main_arg0, V_main_arg1, V_x, V_g, V_w, V_m, V_n, V_wi, V_k, V_c, V_u, V_d]
  exact whole_k (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg3)) (m ((c.tc : Thread nD τ).loc main_arg6)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg11)) (m ((c.tc : Thread nD τ).loc main_arg12)) (m ((c.tc : Thread nD τ).loc main_arg13))

/-- What the last layer's projection call leaves of the values is the reference's term of the same arguments. -/
theorem value5_v : (dats m 0 c).arrAt 17 cfg0.N
    = Cert.Reference5Ideal.Read.val_main_v187 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel5Ideal.Tile.final_v, V_main_arg0, V_main_arg1, V_x, V_g, V_w, V_m, V_n, V_wi]
  funext i
  refine (meet_p _ _ _ _ _ _ _ _ _ _ (i 0) _ _).trans ?_
  refine Eq.trans ?_ ((Cert.Reference5Ideal.Line.v_res _ _ _ _ _ _ _ _ _ _ (i 0) (i 1) (i 2) (i 3)).symm.trans (congrArg _ (ix4_eta i)))
  have h1 : (i 1).val < 33 := (i 1).isLt
  have h3 : (i 3).val < 256 := (i 3).isLt
  exact congrArg (fun R => Cert.Reference5Ideal.Line.projR _ _ _ _ _ _ _ _ _ _ (i 0) R _) (Fin.ext (Nat.mod_eq_of_lt (by omega)))

/-- What the last layer's projection call leaves of the gate is the reference's term of the same arguments. -/
theorem value5_g : (dats m 0 c).arrAt 18 cfg0.N
    = Cert.Reference5Ideal.Read.val_main_v190 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [Cert.Kernel5Ideal.Tile.final_g, V_main_arg0, V_main_arg1, V_x, V_g, V_w, V_m, V_n, V_wi]
  funext i
  refine (congrArg _ (meet_p _ _ _ _ _ _ _ _ _ _ (i 0) (i 1) _)).trans ?_
  refine (Cert.Reference5Ideal.Line.g_res _ _ _ _ _ _ _ _ _ _ (i 0) (i 1) (i 2)).symm.trans ?_
  exact congrArg _ (ix3_eta i)

end Five

set_option maxHeartbeats 4000000 in
/-- The last layer's projection call and its reference end with the same results. -/
theorem equal5 : Cert.algebraic_Kernel5Ideal_Reference5Ideal := by
  intro m g m' g' _ hagree
  refine ⟨fun c => Cert.Reference5Ideal.Read.val_main_v181 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)),
    fun c => Cert.Reference5Ideal.Read.val_main_v184 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)),
    fun c => Cert.Reference5Ideal.Read.val_main_v185 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)),
    fun c => Cert.Reference5Ideal.Read.val_main_v187 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)),
    fun c => Cert.Reference5Ideal.Read.val_main_v190 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)), ?_, ?_⟩
  · refine θ_run_mono (Cert.Kernel5Ideal.Value.run_blocks m g) fun r h c => ?_
    obtain ⟨h0, h1, h2, h3, h4, hk⟩ := h c
    exact ⟨h0.trans (value5_x m c), h1.trans (value5_q m c), h2.trans (value5_k m c), h3.trans (value5_v m c), h4.trans (value5_g m c), hk⟩
  · refine θ_run_mono (Cert.Reference5Ideal.Value.run m' g') fun r h c => ?_
    obtain ⟨e0, e1, e2, e3, e4, e5, e6, e7, e8, e9, e10, e11, e12, e13⟩ := hagree c
    obtain ⟨h0, h1, h2, h3, h4, hk⟩ := h c
    have at' : ∀ b : Ref Cert.Reference5Ideal.sig .tc, StableHlo.launchContents m' c (Proc.devRef .tc b) = m' ((c.tc : Thread Cert.Reference5Ideal.nD Cert.Reference5Ideal.τ).loc b) := fun _ => rfl
    refine ⟨(h0.trans (Cert.Reference5Ideal.Read.val_main_v181_eq _)).trans ?_, (h1.trans (Cert.Reference5Ideal.Read.val_main_v184_eq _)).trans ?_,
      (h2.trans (Cert.Reference5Ideal.Read.val_main_v185_eq _)).trans ?_, (h3.trans (Cert.Reference5Ideal.Read.val_main_v187_eq _)).trans ?_,
      (h4.trans (Cert.Reference5Ideal.Read.val_main_v190_eq _)).trans ?_, hk⟩
    · rw [at', at', at', at', at', at', at', at', e0, e1, e2, e3, e4, e5, e6, e7]
    · rw [at', at', at', at', at', at', at', at', at', at', at', at', at', e0, e1, e2, e3, e4, e5, e6, e7, e8, e9, e10, e12, e13]
    · rw [at', at', at', at', at', at', at', at', at', at', at', at', at', e0, e1, e2, e3, e4, e5, e6, e7, e8, e9, e11, e12, e13]
    · rw [at', at', at', at', at', at', at', at', at', at', e0, e1, e2, e3, e4, e5, e6, e7, e8, e9]
    · rw [at', at', at', at', at', at', at', at', at', at', e0, e1, e2, e3, e4, e5, e6, e7, e8, e9]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.Kernel2.Gen.frame m ρ, fun m ρ _ => Cert.Kernel2Ideal.Gen.frame m ρ, fun m ρ _ => Cert.Kernel2Ideal.Gen.frame m ρ,
    frame_r2, fun m ρ _ => frame_r2 m ρ trivial,
    fun m ρ _ => Cert.Kernel3.Gen.frame m ρ, fun m ρ _ => Cert.Kernel3Ideal.Gen.frame m ρ, frame_r3,
    fun m ρ _ => Cert.Kernel4.Gen.frame m ρ, fun m ρ _ => Cert.Kernel4Ideal.Gen.frame m ρ, frame_r4,
    fun m ρ _ => Cert.Kernel5.Gen.frame m ρ, fun m ρ _ => Cert.Kernel5Ideal.Gen.frame m ρ, frame_r5,
    trivial, equal, trivial, equal2, trivial, equal3, trivial, equal4, trivial, equal5⟩

end Cert.Proof

end
